-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_LastHop (m : (ℓ : Loc Cert.LastHop.nD Cert.LastHop.τ Cert.LastHop.sig) → Buf (Elt Bits) ℓ) : Prop :=
  True

def Pre_LastHopIdeal (m : (ℓ : Loc Cert.LastHopIdeal.nD Cert.LastHopIdeal.τ Cert.LastHopIdeal.sig) → Buf (Elt Ideal) ℓ) : Prop :=
  True

def Pre_LastHopReferenceIdeal (m : (ℓ : Loc Cert.LastHopReferenceIdeal.nD Cert.LastHopReferenceIdeal.τ Cert.LastHopReferenceIdeal.sig) → Buf (Elt Ideal) ℓ) : Prop :=
  True

def Pre_PatchEmbed (m : (ℓ : Loc Cert.PatchEmbed.nD Cert.PatchEmbed.τ Cert.PatchEmbed.sig) → Buf (Elt Bits) ℓ) : Prop :=
  True

def Pre_PatchEmbedIdeal (m : (ℓ : Loc Cert.PatchEmbedIdeal.nD Cert.PatchEmbedIdeal.τ Cert.PatchEmbedIdeal.sig) → Buf (Elt Ideal) ℓ) : Prop :=
  True

def Pre_PatchEmbedIdeal_finite [hPre_finite : Cert.Pre_finite.Facts] (m : (ℓ : Loc Cert.PatchEmbedIdeal.nD Cert.PatchEmbedIdeal.τ Cert.PatchEmbedIdeal.sig) → Buf (Elt Ideal) ℓ) : Prop :=
  ∀ c : Dev Cert.PatchEmbedIdeal.nD,
    (Cert.Pre_finite.fn (F := Ideal) (m ((c.tc : Thread Cert.PatchEmbedIdeal.nD Cert.PatchEmbedIdeal.τ).loc Cert.PatchEmbedIdeal.main_arg0)) (m ((c.tc : Thread Cert.PatchEmbedIdeal.nD Cert.PatchEmbedIdeal.τ).loc Cert.PatchEmbedIdeal.main_arg1)) (m ((c.tc : Thread Cert.PatchEmbedIdeal.nD Cert.PatchEmbedIdeal.τ).loc Cert.PatchEmbedIdeal.main_arg2)) (m ((c.tc : Thread Cert.PatchEmbedIdeal.nD Cert.PatchEmbedIdeal.τ).loc Cert.PatchEmbedIdeal.main_arg3)) (m ((c.tc : Thread Cert.PatchEmbedIdeal.nD Cert.PatchEmbedIdeal.τ).loc Cert.PatchEmbedIdeal.main_arg4))) = (fun _ => 1#1)

def Pre_PatchEmbedReferenceIdeal (m : (ℓ : Loc Cert.PatchEmbedReferenceIdeal.nD Cert.PatchEmbedReferenceIdeal.τ Cert.PatchEmbedReferenceIdeal.sig) → Buf (Elt Ideal) ℓ) : Prop :=
  True

def Pre_PatchEmbedReferenceIdeal_finite [hPre_finite : Cert.Pre_finite.Facts] (m : (ℓ : Loc Cert.PatchEmbedReferenceIdeal.nD Cert.PatchEmbedReferenceIdeal.τ Cert.PatchEmbedReferenceIdeal.sig) → Buf (Elt Ideal) ℓ) : Prop :=
  ∀ c : Dev Cert.PatchEmbedReferenceIdeal.nD,
    (Cert.Pre_finite.fn (F := Ideal) (m ((c.tc : Thread Cert.PatchEmbedReferenceIdeal.nD Cert.PatchEmbedReferenceIdeal.τ).loc Cert.PatchEmbedReferenceIdeal.main_arg0)) (m ((c.tc : Thread Cert.PatchEmbedReferenceIdeal.nD Cert.PatchEmbedReferenceIdeal.τ).loc Cert.PatchEmbedReferenceIdeal.main_arg1)) (m ((c.tc : Thread Cert.PatchEmbedReferenceIdeal.nD Cert.PatchEmbedReferenceIdeal.τ).loc Cert.PatchEmbedReferenceIdeal.main_arg2)) (m ((c.tc : Thread Cert.PatchEmbedReferenceIdeal.nD Cert.PatchEmbedReferenceIdeal.τ).loc Cert.PatchEmbedReferenceIdeal.main_arg3)) (m ((c.tc : Thread Cert.PatchEmbedReferenceIdeal.nD Cert.PatchEmbedReferenceIdeal.τ).loc Cert.PatchEmbedReferenceIdeal.main_arg4))) = (fun _ => 1#1)

def Pre_Combine [hPre_slots : Cert.Pre_slots.Facts] (m : (ℓ : Loc Cert.Combine.nD Cert.Combine.τ Cert.Combine.sig) → Buf (Elt Bits) ℓ) : Prop :=
  ∀ c : Dev Cert.Combine.nD,
    (Cert.Pre_slots.fn (F := Bits) (m ((c.tc : Thread Cert.Combine.nD Cert.Combine.τ).loc Cert.Combine.main_arg0)) (m ((c.tc : Thread Cert.Combine.nD Cert.Combine.τ).loc Cert.Combine.main_arg1)) (m ((c.tc : Thread Cert.Combine.nD Cert.Combine.τ).loc Cert.Combine.main_arg2)) (m ((c.tc : Thread Cert.Combine.nD Cert.Combine.τ).loc Cert.Combine.main_arg3)) (m ((c.tc : Thread Cert.Combine.nD Cert.Combine.τ).loc Cert.Combine.main_arg4)) (m ((c.tc : Thread Cert.Combine.nD Cert.Combine.τ).loc Cert.Combine.main_arg5)) (m ((c.tc : Thread Cert.Combine.nD Cert.Combine.τ).loc Cert.Combine.main_arg6))) = (fun _ => 1#1)

def Pre_CombineIdeal [hPre_slots : Cert.Pre_slots.Facts] (m : (ℓ : Loc Cert.CombineIdeal.nD Cert.CombineIdeal.τ Cert.CombineIdeal.sig) → Buf (Elt Ideal) ℓ) : Prop :=
  ∀ c : Dev Cert.CombineIdeal.nD,
    (Cert.Pre_slots.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3)) (m ((c.tc : Thread Cert.CombineIdeal.nD Cert.CombineIdeal.τ).loc Cert.CombineIdeal.main_arg4)) (m ((c.tc : Thread Cert.CombineIdeal.nD Cert.CombineIdeal.τ).loc Cert.CombineIdeal.main_arg5)) (m ((c.tc : Thread Cert.CombineIdeal.nD Cert.CombineIdeal.τ).loc Cert.CombineIdeal.main_arg6))) = (fun _ => 1#1)

def Pre_CombineIdeal_finite_slots [hPre_finite_slots : Cert.Pre_finite_slots.Facts] (m : (ℓ : Loc Cert.CombineIdeal.nD Cert.CombineIdeal.τ Cert.CombineIdeal.sig) → Buf (Elt Ideal) ℓ) : Prop :=
  ∀ c : Dev Cert.CombineIdeal.nD,
    (Cert.Pre_finite_slots.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3)) (m ((c.tc : Thread Cert.CombineIdeal.nD Cert.CombineIdeal.τ).loc Cert.CombineIdeal.main_arg4)) (m ((c.tc : Thread Cert.CombineIdeal.nD Cert.CombineIdeal.τ).loc Cert.CombineIdeal.main_arg5)) (m ((c.tc : Thread Cert.CombineIdeal.nD Cert.CombineIdeal.τ).loc Cert.CombineIdeal.main_arg6))) = (fun _ => 1#1)

def Pre_CombineReferenceIdeal (m : (ℓ : Loc Cert.CombineReferenceIdeal.nD Cert.CombineReferenceIdeal.τ Cert.CombineReferenceIdeal.sig) → Buf (Elt Ideal) ℓ) : Prop :=
  True

def Pre_CombineReferenceIdeal_finite_slots [hPre_finite_slots : Cert.Pre_finite_slots.Facts] (m : (ℓ : Loc Cert.CombineReferenceIdeal.nD Cert.CombineReferenceIdeal.τ Cert.CombineReferenceIdeal.sig) → Buf (Elt Ideal) ℓ) : Prop :=
  ∀ c : Dev Cert.CombineReferenceIdeal.nD,
    (Cert.Pre_finite_slots.fn (F := Ideal) (m ((c.tc : Thread Cert.CombineReferenceIdeal.nD Cert.CombineReferenceIdeal.τ).loc Cert.CombineReferenceIdeal.main_arg0)) (m ((c.tc : Thread Cert.CombineReferenceIdeal.nD Cert.CombineReferenceIdeal.τ).loc Cert.CombineReferenceIdeal.main_arg1)) (m ((c.tc : Thread Cert.CombineReferenceIdeal.nD Cert.CombineReferenceIdeal.τ).loc Cert.CombineReferenceIdeal.main_arg2)) (m ((c.tc : Thread Cert.CombineReferenceIdeal.nD Cert.CombineReferenceIdeal.τ).loc Cert.CombineReferenceIdeal.main_arg3)) (m ((c.tc : Thread Cert.CombineReferenceIdeal.nD Cert.CombineReferenceIdeal.τ).loc Cert.CombineReferenceIdeal.main_arg4)) (m ((c.tc : Thread Cert.CombineReferenceIdeal.nD Cert.CombineReferenceIdeal.τ).loc Cert.CombineReferenceIdeal.main_arg5)) (m ((c.tc : Thread Cert.CombineReferenceIdeal.nD Cert.CombineReferenceIdeal.τ).loc Cert.CombineReferenceIdeal.main_arg6))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_LastHop [hLastHop : Cert.LastHop.Facts] : Prop :=
  ∀ (m : (ℓ : Loc Cert.LastHop.nD Cert.LastHop.τ Cert.LastHop.sig) → Buf (Elt Bits) ℓ) (g : Dev Cert.LastHop.nD → PrngReg), Pre_LastHop m →
    θ_run (Cert.LastHop.defs (F := Bits)) (onTc (τ := Cert.LastHop.τ) (Cert.LastHop.main (F := Bits))) ⟨m, fun _ => 0, g⟩ (fun r => (∀ c : Dev Cert.LastHop.nD,
      r.2.mem ((c.tc : Thread Cert.LastHop.nD Cert.LastHop.τ).loc Cert.LastHop.main_arg0) = m ((c.tc : Thread Cert.LastHop.nD Cert.LastHop.τ).loc Cert.LastHop.main_arg0)
      ∧ r.2.mem ((c.tc : Thread Cert.LastHop.nD Cert.LastHop.τ).loc Cert.LastHop.main_arg1) = m ((c.tc : Thread Cert.LastHop.nD Cert.LastHop.τ).loc Cert.LastHop.main_arg1)
      ∧ r.2.mem ((c.tc : Thread Cert.LastHop.nD Cert.LastHop.τ).loc Cert.LastHop.main_arg2) = m ((c.tc : Thread Cert.LastHop.nD Cert.LastHop.τ).loc Cert.LastHop.main_arg2)
      ∧ r.2.mem ((c.tc : Thread Cert.LastHop.nD Cert.LastHop.τ).loc Cert.LastHop.main_arg3) = m ((c.tc : Thread Cert.LastHop.nD Cert.LastHop.τ).loc Cert.LastHop.main_arg3)
      ∧ r.2.mem ((c.tc : Thread Cert.LastHop.nD Cert.LastHop.τ).loc Cert.LastHop.main_arg4) = m ((c.tc : Thread Cert.LastHop.nD Cert.LastHop.τ).loc Cert.LastHop.main_arg4)
      ∧ r.2.mem ((c.tc : Thread Cert.LastHop.nD Cert.LastHop.τ).loc Cert.LastHop.main_arg5) = m ((c.tc : Thread Cert.LastHop.nD Cert.LastHop.τ).loc Cert.LastHop.main_arg5)
      ∧ r.2.mem ((c.tc : Thread Cert.LastHop.nD Cert.LastHop.τ).loc Cert.LastHop.main_arg6) = m ((c.tc : Thread Cert.LastHop.nD Cert.LastHop.τ).loc Cert.LastHop.main_arg6)
      ∧ r.2.mem ((c.tc : Thread Cert.LastHop.nD Cert.LastHop.τ).loc Cert.LastHop.main_arg7) = m ((c.tc : Thread Cert.LastHop.nD Cert.LastHop.τ).loc Cert.LastHop.main_arg7)
      ∧ r.2.mem ((c.tc : Thread Cert.LastHop.nD Cert.LastHop.τ).loc Cert.LastHop.main_arg8) = m ((c.tc : Thread Cert.LastHop.nD Cert.LastHop.τ).loc Cert.LastHop.main_arg8))
      ∧ r.2.sem = fun _ => 0)

def quiescent_LastHopIdeal [hLastHopIdeal : Cert.LastHopIdeal.Facts] : Prop :=
  ∀ (m : (ℓ : Loc Cert.LastHopIdeal.nD Cert.LastHopIdeal.τ Cert.LastHopIdeal.sig) → Buf (Elt Ideal) ℓ) (g : Dev Cert.LastHopIdeal.nD → PrngReg), Pre_LastHopIdeal m →
    θ_run (Cert.LastHopIdeal.defs (F := Ideal)) (onTc (τ := Cert.LastHopIdeal.τ) (Cert.LastHopIdeal.main (F := Ideal))) ⟨m, fun _ => 0, g⟩ (fun r => (∀ c : Dev Cert.LastHopIdeal.nD,
      r.2.mem ((c.tc : Thread Cert.LastHopIdeal.nD Cert.LastHopIdeal.τ).loc Cert.LastHopIdeal.main_arg0) = m ((c.tc : Thread Cert.LastHopIdeal.nD Cert.LastHopIdeal.τ).loc Cert.LastHopIdeal.main_arg0)
      ∧ r.2.mem ((c.tc : Thread Cert.LastHopIdeal.nD Cert.LastHopIdeal.τ).loc Cert.LastHopIdeal.main_arg1) = m ((c.tc : Thread Cert.LastHopIdeal.nD Cert.LastHopIdeal.τ).loc Cert.LastHopIdeal.main_arg1)
      ∧ r.2.mem ((c.tc : Thread Cert.LastHopIdeal.nD Cert.LastHopIdeal.τ).loc Cert.LastHopIdeal.main_arg2) = m ((c.tc : Thread Cert.LastHopIdeal.nD Cert.LastHopIdeal.τ).loc Cert.LastHopIdeal.main_arg2)
      ∧ r.2.mem ((c.tc : Thread Cert.LastHopIdeal.nD Cert.LastHopIdeal.τ).loc Cert.LastHopIdeal.main_arg3) = m ((c.tc : Thread Cert.LastHopIdeal.nD Cert.LastHopIdeal.τ).loc Cert.LastHopIdeal.main_arg3)
      ∧ r.2.mem ((c.tc : Thread Cert.LastHopIdeal.nD Cert.LastHopIdeal.τ).loc Cert.LastHopIdeal.main_arg4) = m ((c.tc : Thread Cert.LastHopIdeal.nD Cert.LastHopIdeal.τ).loc Cert.LastHopIdeal.main_arg4)
      ∧ r.2.mem ((c.tc : Thread Cert.LastHopIdeal.nD Cert.LastHopIdeal.τ).loc Cert.LastHopIdeal.main_arg5) = m ((c.tc : Thread Cert.LastHopIdeal.nD Cert.LastHopIdeal.τ).loc Cert.LastHopIdeal.main_arg5)
      ∧ r.2.mem ((c.tc : Thread Cert.LastHopIdeal.nD Cert.LastHopIdeal.τ).loc Cert.LastHopIdeal.main_arg6) = m ((c.tc : Thread Cert.LastHopIdeal.nD Cert.LastHopIdeal.τ).loc Cert.LastHopIdeal.main_arg6)
      ∧ r.2.mem ((c.tc : Thread Cert.LastHopIdeal.nD Cert.LastHopIdeal.τ).loc Cert.LastHopIdeal.main_arg7) = m ((c.tc : Thread Cert.LastHopIdeal.nD Cert.LastHopIdeal.τ).loc Cert.LastHopIdeal.main_arg7)
      ∧ r.2.mem ((c.tc : Thread Cert.LastHopIdeal.nD Cert.LastHopIdeal.τ).loc Cert.LastHopIdeal.main_arg8) = m ((c.tc : Thread Cert.LastHopIdeal.nD Cert.LastHopIdeal.τ).loc Cert.LastHopIdeal.main_arg8))
      ∧ r.2.sem = fun _ => 0)

def quiescent_LastHopReferenceIdeal [hLastHopReferenceIdeal : Cert.LastHopReferenceIdeal.Facts] : Prop :=
  ∀ (m : (ℓ : Loc Cert.LastHopReferenceIdeal.nD Cert.LastHopReferenceIdeal.τ Cert.LastHopReferenceIdeal.sig) → Buf (Elt Ideal) ℓ) (g : Dev Cert.LastHopReferenceIdeal.nD → PrngReg), Pre_LastHopReferenceIdeal m →
    θ_run (Cert.LastHopReferenceIdeal.defs (F := Ideal)) (onTc (τ := Cert.LastHopReferenceIdeal.τ) (Cert.LastHopReferenceIdeal.main (F := Ideal))) ⟨m, fun _ => 0, g⟩ (fun r => (∀ c : Dev Cert.LastHopReferenceIdeal.nD,
      r.2.mem ((c.tc : Thread Cert.LastHopReferenceIdeal.nD Cert.LastHopReferenceIdeal.τ).loc Cert.LastHopReferenceIdeal.main_arg0) = m ((c.tc : Thread Cert.LastHopReferenceIdeal.nD Cert.LastHopReferenceIdeal.τ).loc Cert.LastHopReferenceIdeal.main_arg0)
      ∧ r.2.mem ((c.tc : Thread Cert.LastHopReferenceIdeal.nD Cert.LastHopReferenceIdeal.τ).loc Cert.LastHopReferenceIdeal.main_arg1) = m ((c.tc : Thread Cert.LastHopReferenceIdeal.nD Cert.LastHopReferenceIdeal.τ).loc Cert.LastHopReferenceIdeal.main_arg1)
      ∧ r.2.mem ((c.tc : Thread Cert.LastHopReferenceIdeal.nD Cert.LastHopReferenceIdeal.τ).loc Cert.LastHopReferenceIdeal.main_arg2) = m ((c.tc : Thread Cert.LastHopReferenceIdeal.nD Cert.LastHopReferenceIdeal.τ).loc Cert.LastHopReferenceIdeal.main_arg2)
      ∧ r.2.mem ((c.tc : Thread Cert.LastHopReferenceIdeal.nD Cert.LastHopReferenceIdeal.τ).loc Cert.LastHopReferenceIdeal.main_arg3) = m ((c.tc : Thread Cert.LastHopReferenceIdeal.nD Cert.LastHopReferenceIdeal.τ).loc Cert.LastHopReferenceIdeal.main_arg3)
      ∧ r.2.mem ((c.tc : Thread Cert.LastHopReferenceIdeal.nD Cert.LastHopReferenceIdeal.τ).loc Cert.LastHopReferenceIdeal.main_arg4) = m ((c.tc : Thread Cert.LastHopReferenceIdeal.nD Cert.LastHopReferenceIdeal.τ).loc Cert.LastHopReferenceIdeal.main_arg4)
      ∧ r.2.mem ((c.tc : Thread Cert.LastHopReferenceIdeal.nD Cert.LastHopReferenceIdeal.τ).loc Cert.LastHopReferenceIdeal.main_arg5) = m ((c.tc : Thread Cert.LastHopReferenceIdeal.nD Cert.LastHopReferenceIdeal.τ).loc Cert.LastHopReferenceIdeal.main_arg5)
      ∧ r.2.mem ((c.tc : Thread Cert.LastHopReferenceIdeal.nD Cert.LastHopReferenceIdeal.τ).loc Cert.LastHopReferenceIdeal.main_arg6) = m ((c.tc : Thread Cert.LastHopReferenceIdeal.nD Cert.LastHopReferenceIdeal.τ).loc Cert.LastHopReferenceIdeal.main_arg6)
      ∧ r.2.mem ((c.tc : Thread Cert.LastHopReferenceIdeal.nD Cert.LastHopReferenceIdeal.τ).loc Cert.LastHopReferenceIdeal.main_arg7) = m ((c.tc : Thread Cert.LastHopReferenceIdeal.nD Cert.LastHopReferenceIdeal.τ).loc Cert.LastHopReferenceIdeal.main_arg7)
      ∧ r.2.mem ((c.tc : Thread Cert.LastHopReferenceIdeal.nD Cert.LastHopReferenceIdeal.τ).loc Cert.LastHopReferenceIdeal.main_arg8) = m ((c.tc : Thread Cert.LastHopReferenceIdeal.nD Cert.LastHopReferenceIdeal.τ).loc Cert.LastHopReferenceIdeal.main_arg8))
      ∧ r.2.sem = fun _ => 0)

def quiescent_PatchEmbed [hPatchEmbed : Cert.PatchEmbed.Facts] : Prop :=
  ∀ (m : (ℓ : Loc Cert.PatchEmbed.nD Cert.PatchEmbed.τ Cert.PatchEmbed.sig) → Buf (Elt Bits) ℓ) (g : Dev Cert.PatchEmbed.nD → PrngReg), Pre_PatchEmbed m →
    θ_run (Cert.PatchEmbed.defs (F := Bits)) (onTc (τ := Cert.PatchEmbed.τ) (Cert.PatchEmbed.main (F := Bits))) ⟨m, fun _ => 0, g⟩ (fun r => (∀ c : Dev Cert.PatchEmbed.nD,
      r.2.mem ((c.tc : Thread Cert.PatchEmbed.nD Cert.PatchEmbed.τ).loc Cert.PatchEmbed.main_arg0) = m ((c.tc : Thread Cert.PatchEmbed.nD Cert.PatchEmbed.τ).loc Cert.PatchEmbed.main_arg0)
      ∧ r.2.mem ((c.tc : Thread Cert.PatchEmbed.nD Cert.PatchEmbed.τ).loc Cert.PatchEmbed.main_arg1) = m ((c.tc : Thread Cert.PatchEmbed.nD Cert.PatchEmbed.τ).loc Cert.PatchEmbed.main_arg1)
      ∧ r.2.mem ((c.tc : Thread Cert.PatchEmbed.nD Cert.PatchEmbed.τ).loc Cert.PatchEmbed.main_arg2) = m ((c.tc : Thread Cert.PatchEmbed.nD Cert.PatchEmbed.τ).loc Cert.PatchEmbed.main_arg2)
      ∧ r.2.mem ((c.tc : Thread Cert.PatchEmbed.nD Cert.PatchEmbed.τ).loc Cert.PatchEmbed.main_arg3) = m ((c.tc : Thread Cert.PatchEmbed.nD Cert.PatchEmbed.τ).loc Cert.PatchEmbed.main_arg3)
      ∧ r.2.mem ((c.tc : Thread Cert.PatchEmbed.nD Cert.PatchEmbed.τ).loc Cert.PatchEmbed.main_arg4) = m ((c.tc : Thread Cert.PatchEmbed.nD Cert.PatchEmbed.τ).loc Cert.PatchEmbed.main_arg4))
      ∧ r.2.sem = fun _ => 0)

def quiescent_PatchEmbedIdeal [hPatchEmbedIdeal : Cert.PatchEmbedIdeal.Facts] : Prop :=
  ∀ (m : (ℓ : Loc Cert.PatchEmbedIdeal.nD Cert.PatchEmbedIdeal.τ Cert.PatchEmbedIdeal.sig) → Buf (Elt Ideal) ℓ) (g : Dev Cert.PatchEmbedIdeal.nD → PrngReg), Pre_PatchEmbedIdeal m →
    θ_run (Cert.PatchEmbedIdeal.defs (F := Ideal)) (onTc (τ := Cert.PatchEmbedIdeal.τ) (Cert.PatchEmbedIdeal.main (F := Ideal))) ⟨m, fun _ => 0, g⟩ (fun r => (∀ c : Dev Cert.PatchEmbedIdeal.nD,
      r.2.mem ((c.tc : Thread Cert.PatchEmbedIdeal.nD Cert.PatchEmbedIdeal.τ).loc Cert.PatchEmbedIdeal.main_arg0) = m ((c.tc : Thread Cert.PatchEmbedIdeal.nD Cert.PatchEmbedIdeal.τ).loc Cert.PatchEmbedIdeal.main_arg0)
      ∧ r.2.mem ((c.tc : Thread Cert.PatchEmbedIdeal.nD Cert.PatchEmbedIdeal.τ).loc Cert.PatchEmbedIdeal.main_arg1) = m ((c.tc : Thread Cert.PatchEmbedIdeal.nD Cert.PatchEmbedIdeal.τ).loc Cert.PatchEmbedIdeal.main_arg1)
      ∧ r.2.mem ((c.tc : Thread Cert.PatchEmbedIdeal.nD Cert.PatchEmbedIdeal.τ).loc Cert.PatchEmbedIdeal.main_arg2) = m ((c.tc : Thread Cert.PatchEmbedIdeal.nD Cert.PatchEmbedIdeal.τ).loc Cert.PatchEmbedIdeal.main_arg2)
      ∧ r.2.mem ((c.tc : Thread Cert.PatchEmbedIdeal.nD Cert.PatchEmbedIdeal.τ).loc Cert.PatchEmbedIdeal.main_arg3) = m ((c.tc : Thread Cert.PatchEmbedIdeal.nD Cert.PatchEmbedIdeal.τ).loc Cert.PatchEmbedIdeal.main_arg3)
      ∧ r.2.mem ((c.tc : Thread Cert.PatchEmbedIdeal.nD Cert.PatchEmbedIdeal.τ).loc Cert.PatchEmbedIdeal.main_arg4) = m ((c.tc : Thread Cert.PatchEmbedIdeal.nD Cert.PatchEmbedIdeal.τ).loc Cert.PatchEmbedIdeal.main_arg4))
      ∧ r.2.sem = fun _ => 0)

def quiescent_PatchEmbedIdeal_pre_finite [hPatchEmbedIdeal : Cert.PatchEmbedIdeal.Facts] [hPre_finite : Cert.Pre_finite.Facts] : Prop :=
  ∀ (m : (ℓ : Loc Cert.PatchEmbedIdeal.nD Cert.PatchEmbedIdeal.τ Cert.PatchEmbedIdeal.sig) → Buf (Elt Ideal) ℓ) (g : Dev Cert.PatchEmbedIdeal.nD → PrngReg), Pre_PatchEmbedIdeal_finite m →
    θ_run (Cert.PatchEmbedIdeal.defs (F := Ideal)) (onTc (τ := Cert.PatchEmbedIdeal.τ) (Cert.PatchEmbedIdeal.main (F := Ideal))) ⟨m, fun _ => 0, g⟩ (fun r => (∀ c : Dev Cert.PatchEmbedIdeal.nD,
      r.2.mem ((c.tc : Thread Cert.PatchEmbedIdeal.nD Cert.PatchEmbedIdeal.τ).loc Cert.PatchEmbedIdeal.main_arg0) = m ((c.tc : Thread Cert.PatchEmbedIdeal.nD Cert.PatchEmbedIdeal.τ).loc Cert.PatchEmbedIdeal.main_arg0)
      ∧ r.2.mem ((c.tc : Thread Cert.PatchEmbedIdeal.nD Cert.PatchEmbedIdeal.τ).loc Cert.PatchEmbedIdeal.main_arg1) = m ((c.tc : Thread Cert.PatchEmbedIdeal.nD Cert.PatchEmbedIdeal.τ).loc Cert.PatchEmbedIdeal.main_arg1)
      ∧ r.2.mem ((c.tc : Thread Cert.PatchEmbedIdeal.nD Cert.PatchEmbedIdeal.τ).loc Cert.PatchEmbedIdeal.main_arg2) = m ((c.tc : Thread Cert.PatchEmbedIdeal.nD Cert.PatchEmbedIdeal.τ).loc Cert.PatchEmbedIdeal.main_arg2)
      ∧ r.2.mem ((c.tc : Thread Cert.PatchEmbedIdeal.nD Cert.PatchEmbedIdeal.τ).loc Cert.PatchEmbedIdeal.main_arg3) = m ((c.tc : Thread Cert.PatchEmbedIdeal.nD Cert.PatchEmbedIdeal.τ).loc Cert.PatchEmbedIdeal.main_arg3)
      ∧ r.2.mem ((c.tc : Thread Cert.PatchEmbedIdeal.nD Cert.PatchEmbedIdeal.τ).loc Cert.PatchEmbedIdeal.main_arg4) = m ((c.tc : Thread Cert.PatchEmbedIdeal.nD Cert.PatchEmbedIdeal.τ).loc Cert.PatchEmbedIdeal.main_arg4))
      ∧ r.2.sem = fun _ => 0)

def quiescent_PatchEmbedReferenceIdeal [hPatchEmbedReferenceIdeal : Cert.PatchEmbedReferenceIdeal.Facts] : Prop :=
  ∀ (m : (ℓ : Loc Cert.PatchEmbedReferenceIdeal.nD Cert.PatchEmbedReferenceIdeal.τ Cert.PatchEmbedReferenceIdeal.sig) → Buf (Elt Ideal) ℓ) (g : Dev Cert.PatchEmbedReferenceIdeal.nD → PrngReg), Pre_PatchEmbedReferenceIdeal m →
    θ_run (Cert.PatchEmbedReferenceIdeal.defs (F := Ideal)) (onTc (τ := Cert.PatchEmbedReferenceIdeal.τ) (Cert.PatchEmbedReferenceIdeal.main (F := Ideal))) ⟨m, fun _ => 0, g⟩ (fun r => (∀ c : Dev Cert.PatchEmbedReferenceIdeal.nD,
      r.2.mem ((c.tc : Thread Cert.PatchEmbedReferenceIdeal.nD Cert.PatchEmbedReferenceIdeal.τ).loc Cert.PatchEmbedReferenceIdeal.main_arg0) = m ((c.tc : Thread Cert.PatchEmbedReferenceIdeal.nD Cert.PatchEmbedReferenceIdeal.τ).loc Cert.PatchEmbedReferenceIdeal.main_arg0)
      ∧ r.2.mem ((c.tc : Thread Cert.PatchEmbedReferenceIdeal.nD Cert.PatchEmbedReferenceIdeal.τ).loc Cert.PatchEmbedReferenceIdeal.main_arg1) = m ((c.tc : Thread Cert.PatchEmbedReferenceIdeal.nD Cert.PatchEmbedReferenceIdeal.τ).loc Cert.PatchEmbedReferenceIdeal.main_arg1)
      ∧ r.2.mem ((c.tc : Thread Cert.PatchEmbedReferenceIdeal.nD Cert.PatchEmbedReferenceIdeal.τ).loc Cert.PatchEmbedReferenceIdeal.main_arg2) = m ((c.tc : Thread Cert.PatchEmbedReferenceIdeal.nD Cert.PatchEmbedReferenceIdeal.τ).loc Cert.PatchEmbedReferenceIdeal.main_arg2)
      ∧ r.2.mem ((c.tc : Thread Cert.PatchEmbedReferenceIdeal.nD Cert.PatchEmbedReferenceIdeal.τ).loc Cert.PatchEmbedReferenceIdeal.main_arg3) = m ((c.tc : Thread Cert.PatchEmbedReferenceIdeal.nD Cert.PatchEmbedReferenceIdeal.τ).loc Cert.PatchEmbedReferenceIdeal.main_arg3)
      ∧ r.2.mem ((c.tc : Thread Cert.PatchEmbedReferenceIdeal.nD Cert.PatchEmbedReferenceIdeal.τ).loc Cert.PatchEmbedReferenceIdeal.main_arg4) = m ((c.tc : Thread Cert.PatchEmbedReferenceIdeal.nD Cert.PatchEmbedReferenceIdeal.τ).loc Cert.PatchEmbedReferenceIdeal.main_arg4))
      ∧ r.2.sem = fun _ => 0)

def quiescent_PatchEmbedReferenceIdeal_pre_finite [hPatchEmbedReferenceIdeal : Cert.PatchEmbedReferenceIdeal.Facts] [hPre_finite : Cert.Pre_finite.Facts] : Prop :=
  ∀ (m : (ℓ : Loc Cert.PatchEmbedReferenceIdeal.nD Cert.PatchEmbedReferenceIdeal.τ Cert.PatchEmbedReferenceIdeal.sig) → Buf (Elt Ideal) ℓ) (g : Dev Cert.PatchEmbedReferenceIdeal.nD → PrngReg), Pre_PatchEmbedReferenceIdeal_finite m →
    θ_run (Cert.PatchEmbedReferenceIdeal.defs (F := Ideal)) (onTc (τ := Cert.PatchEmbedReferenceIdeal.τ) (Cert.PatchEmbedReferenceIdeal.main (F := Ideal))) ⟨m, fun _ => 0, g⟩ (fun r => (∀ c : Dev Cert.PatchEmbedReferenceIdeal.nD,
      r.2.mem ((c.tc : Thread Cert.PatchEmbedReferenceIdeal.nD Cert.PatchEmbedReferenceIdeal.τ).loc Cert.PatchEmbedReferenceIdeal.main_arg0) = m ((c.tc : Thread Cert.PatchEmbedReferenceIdeal.nD Cert.PatchEmbedReferenceIdeal.τ).loc Cert.PatchEmbedReferenceIdeal.main_arg0)
      ∧ r.2.mem ((c.tc : Thread Cert.PatchEmbedReferenceIdeal.nD Cert.PatchEmbedReferenceIdeal.τ).loc Cert.PatchEmbedReferenceIdeal.main_arg1) = m ((c.tc : Thread Cert.PatchEmbedReferenceIdeal.nD Cert.PatchEmbedReferenceIdeal.τ).loc Cert.PatchEmbedReferenceIdeal.main_arg1)
      ∧ r.2.mem ((c.tc : Thread Cert.PatchEmbedReferenceIdeal.nD Cert.PatchEmbedReferenceIdeal.τ).loc Cert.PatchEmbedReferenceIdeal.main_arg2) = m ((c.tc : Thread Cert.PatchEmbedReferenceIdeal.nD Cert.PatchEmbedReferenceIdeal.τ).loc Cert.PatchEmbedReferenceIdeal.main_arg2)
      ∧ r.2.mem ((c.tc : Thread Cert.PatchEmbedReferenceIdeal.nD Cert.PatchEmbedReferenceIdeal.τ).loc Cert.PatchEmbedReferenceIdeal.main_arg3) = m ((c.tc : Thread Cert.PatchEmbedReferenceIdeal.nD Cert.PatchEmbedReferenceIdeal.τ).loc Cert.PatchEmbedReferenceIdeal.main_arg3)
      ∧ r.2.mem ((c.tc : Thread Cert.PatchEmbedReferenceIdeal.nD Cert.PatchEmbedReferenceIdeal.τ).loc Cert.PatchEmbedReferenceIdeal.main_arg4) = m ((c.tc : Thread Cert.PatchEmbedReferenceIdeal.nD Cert.PatchEmbedReferenceIdeal.τ).loc Cert.PatchEmbedReferenceIdeal.main_arg4))
      ∧ r.2.sem = fun _ => 0)

def quiescent_Combine [hCombine : Cert.Combine.Facts] [hPre_slots : Cert.Pre_slots.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5)
      ∧ r.2.mem ((c.tc : Thread Cert.Combine.nD Cert.Combine.τ).loc Cert.Combine.main_arg6) = m ((c.tc : Thread Cert.Combine.nD Cert.Combine.τ).loc Cert.Combine.main_arg6))
      ∧ r.2.sem = fun _ => 0)

def quiescent_CombineIdeal [hCombineIdeal : Cert.CombineIdeal.Facts] [hPre_slots : Cert.Pre_slots.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
      ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6))
      ∧ r.2.sem = fun _ => 0)

def quiescent_CombineIdeal_pre_finite_slots [hCombineIdeal : Cert.CombineIdeal.Facts] [hPre_finite_slots : Cert.Pre_finite_slots.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal_finite_slots m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
      ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3)
      ∧ r.2.mem ((c.tc : Thread Cert.CombineReferenceIdeal.nD Cert.CombineReferenceIdeal.τ).loc Cert.CombineReferenceIdeal.main_arg4) = m ((c.tc : Thread Cert.CombineReferenceIdeal.nD Cert.CombineReferenceIdeal.τ).loc Cert.CombineReferenceIdeal.main_arg4)
      ∧ r.2.mem ((c.tc : Thread Cert.CombineReferenceIdeal.nD Cert.CombineReferenceIdeal.τ).loc Cert.CombineReferenceIdeal.main_arg5) = m ((c.tc : Thread Cert.CombineReferenceIdeal.nD Cert.CombineReferenceIdeal.τ).loc Cert.CombineReferenceIdeal.main_arg5)
      ∧ r.2.mem ((c.tc : Thread Cert.CombineReferenceIdeal.nD Cert.CombineReferenceIdeal.τ).loc Cert.CombineReferenceIdeal.main_arg6) = m ((c.tc : Thread Cert.CombineReferenceIdeal.nD Cert.CombineReferenceIdeal.τ).loc Cert.CombineReferenceIdeal.main_arg6))
      ∧ r.2.sem = fun _ => 0)

def quiescent_CombineReferenceIdeal_pre_finite_slots [hCombineReferenceIdeal : Cert.CombineReferenceIdeal.Facts] [hPre_finite_slots : Cert.Pre_finite_slots.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal_finite_slots m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3)
      ∧ r.2.mem ((c.tc : Thread Cert.CombineReferenceIdeal.nD Cert.CombineReferenceIdeal.τ).loc Cert.CombineReferenceIdeal.main_arg4) = m ((c.tc : Thread Cert.CombineReferenceIdeal.nD Cert.CombineReferenceIdeal.τ).loc Cert.CombineReferenceIdeal.main_arg4)
      ∧ r.2.mem ((c.tc : Thread Cert.CombineReferenceIdeal.nD Cert.CombineReferenceIdeal.τ).loc Cert.CombineReferenceIdeal.main_arg5) = m ((c.tc : Thread Cert.CombineReferenceIdeal.nD Cert.CombineReferenceIdeal.τ).loc Cert.CombineReferenceIdeal.main_arg5)
      ∧ r.2.mem ((c.tc : Thread Cert.CombineReferenceIdeal.nD Cert.CombineReferenceIdeal.τ).loc Cert.CombineReferenceIdeal.main_arg6) = m ((c.tc : Thread Cert.CombineReferenceIdeal.nD Cert.CombineReferenceIdeal.τ).loc Cert.CombineReferenceIdeal.main_arg6))
      ∧ r.2.sem = fun _ => 0)

def preserves_Kernel_KernelIdeal : Prop :=
  IdealRules.named_const.Statement Cert.KernelIdeal.κ "gelu_cubic" .bf16 0x3D37#16 ((12003091 / 268435456 : ℝ) : EReal)
  ∧ IdealRules.named_const.Statement Cert.KernelIdeal.κ "gelu_scale" .bf16 0x3F4C#16 ((6693141 / 8388608 : ℝ) : EReal)

def algebraic_KernelIdeal_ReferenceIdeal_on_active [hKernelIdeal : Cert.KernelIdeal.Facts] [hReferenceIdeal : Cert.ReferenceIdeal.Facts] [hPre_in_range : Cert.Pre_in_range.Facts] [hOn_active : Cert.On_active.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![152, 196, 768]⟩ : Shape).Idx, (Cert.On_active.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) i = 1#1 → r.2.mem ((c.tc : Thread Cert.KernelIdeal.nD Cert.KernelIdeal.τ).loc Cert.KernelIdeal.main_v7) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![152, 196, 768]⟩ : Shape).Idx, (Cert.On_active.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) i = 1#1 → r.2.mem ((c.tc : Thread Cert.ReferenceIdeal.nD Cert.ReferenceIdeal.τ).loc Cert.ReferenceIdeal.main_v57) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_LastHop_LastHopIdeal : Prop :=
  IdealRules.named_const.Statement Cert.LastHopIdeal.κ "gelu_cubic" .bf16 0x3D37#16 ((12003091 / 268435456 : ℝ) : EReal)
  ∧ IdealRules.named_const.Statement Cert.LastHopIdeal.κ "gelu_scale" .bf16 0x3F4C#16 ((6693141 / 8388608 : ℝ) : EReal)

def algebraic_LastHopIdeal_LastHopReferenceIdeal [hLastHopIdeal : Cert.LastHopIdeal.Facts] [hLastHopReferenceIdeal : Cert.LastHopReferenceIdeal.Facts] : Prop :=
  ∀ (m : (ℓ : Loc Cert.LastHopIdeal.nD Cert.LastHopIdeal.τ Cert.LastHopIdeal.sig) → Buf (Elt Ideal) ℓ) (g : Dev Cert.LastHopIdeal.nD → PrngReg)
    (m' : (ℓ : Loc Cert.LastHopReferenceIdeal.nD Cert.LastHopReferenceIdeal.τ Cert.LastHopReferenceIdeal.sig) → Buf (Elt Ideal) ℓ) (g' : Dev Cert.LastHopReferenceIdeal.nD → PrngReg), Pre_LastHopIdeal m →
    (∀ c : Dev Cert.LastHopIdeal.nD,
      m' ((c.tc : Thread Cert.LastHopReferenceIdeal.nD Cert.LastHopReferenceIdeal.τ).loc Cert.LastHopReferenceIdeal.main_arg0) = m ((c.tc : Thread Cert.LastHopIdeal.nD Cert.LastHopIdeal.τ).loc Cert.LastHopIdeal.main_arg0)
      ∧ m' ((c.tc : Thread Cert.LastHopReferenceIdeal.nD Cert.LastHopReferenceIdeal.τ).loc Cert.LastHopReferenceIdeal.main_arg1) = m ((c.tc : Thread Cert.LastHopIdeal.nD Cert.LastHopIdeal.τ).loc Cert.LastHopIdeal.main_arg1)
      ∧ m' ((c.tc : Thread Cert.LastHopReferenceIdeal.nD Cert.LastHopReferenceIdeal.τ).loc Cert.LastHopReferenceIdeal.main_arg2) = m ((c.tc : Thread Cert.LastHopIdeal.nD Cert.LastHopIdeal.τ).loc Cert.LastHopIdeal.main_arg2)
      ∧ m' ((c.tc : Thread Cert.LastHopReferenceIdeal.nD Cert.LastHopReferenceIdeal.τ).loc Cert.LastHopReferenceIdeal.main_arg3) = m ((c.tc : Thread Cert.LastHopIdeal.nD Cert.LastHopIdeal.τ).loc Cert.LastHopIdeal.main_arg3)
      ∧ m' ((c.tc : Thread Cert.LastHopReferenceIdeal.nD Cert.LastHopReferenceIdeal.τ).loc Cert.LastHopReferenceIdeal.main_arg4) = m ((c.tc : Thread Cert.LastHopIdeal.nD Cert.LastHopIdeal.τ).loc Cert.LastHopIdeal.main_arg4)
      ∧ m' ((c.tc : Thread Cert.LastHopReferenceIdeal.nD Cert.LastHopReferenceIdeal.τ).loc Cert.LastHopReferenceIdeal.main_arg5) = m ((c.tc : Thread Cert.LastHopIdeal.nD Cert.LastHopIdeal.τ).loc Cert.LastHopIdeal.main_arg5)
      ∧ m' ((c.tc : Thread Cert.LastHopReferenceIdeal.nD Cert.LastHopReferenceIdeal.τ).loc Cert.LastHopReferenceIdeal.main_arg6) = m ((c.tc : Thread Cert.LastHopIdeal.nD Cert.LastHopIdeal.τ).loc Cert.LastHopIdeal.main_arg6)
      ∧ m' ((c.tc : Thread Cert.LastHopReferenceIdeal.nD Cert.LastHopReferenceIdeal.τ).loc Cert.LastHopReferenceIdeal.main_arg7) = m ((c.tc : Thread Cert.LastHopIdeal.nD Cert.LastHopIdeal.τ).loc Cert.LastHopIdeal.main_arg7)
      ∧ m' ((c.tc : Thread Cert.LastHopReferenceIdeal.nD Cert.LastHopReferenceIdeal.τ).loc Cert.LastHopReferenceIdeal.main_arg8) = m ((c.tc : Thread Cert.LastHopIdeal.nD Cert.LastHopIdeal.τ).loc Cert.LastHopIdeal.main_arg8)) →
    ∃ (v0 : (c : Dev Cert.LastHopIdeal.nD) → Buf (Elt Ideal) ((c.tc : Thread Cert.LastHopIdeal.nD Cert.LastHopIdeal.τ).loc Cert.LastHopIdeal.main_v114)),
      θ_run (Cert.LastHopIdeal.defs (F := Ideal)) (onTc (τ := Cert.LastHopIdeal.τ) (Cert.LastHopIdeal.main (F := Ideal))) ⟨m, fun _ => 0, g⟩ (fun r => ∀ c : Dev Cert.LastHopIdeal.nD,
          r.2.mem ((c.tc : Thread Cert.LastHopIdeal.nD Cert.LastHopIdeal.τ).loc Cert.LastHopIdeal.main_v114) = v0 c
          ∧ r.2.mem ((c.tc : Thread Cert.LastHopIdeal.nD Cert.LastHopIdeal.τ).loc Cert.LastHopIdeal.main_arg0) = m ((c.tc : Thread Cert.LastHopIdeal.nD Cert.LastHopIdeal.τ).loc Cert.LastHopIdeal.main_arg0)
          ∧ r.2.mem ((c.tc : Thread Cert.LastHopIdeal.nD Cert.LastHopIdeal.τ).loc Cert.LastHopIdeal.main_arg1) = m ((c.tc : Thread Cert.LastHopIdeal.nD Cert.LastHopIdeal.τ).loc Cert.LastHopIdeal.main_arg1)
          ∧ r.2.mem ((c.tc : Thread Cert.LastHopIdeal.nD Cert.LastHopIdeal.τ).loc Cert.LastHopIdeal.main_arg2) = m ((c.tc : Thread Cert.LastHopIdeal.nD Cert.LastHopIdeal.τ).loc Cert.LastHopIdeal.main_arg2)
          ∧ r.2.mem ((c.tc : Thread Cert.LastHopIdeal.nD Cert.LastHopIdeal.τ).loc Cert.LastHopIdeal.main_arg3) = m ((c.tc : Thread Cert.LastHopIdeal.nD Cert.LastHopIdeal.τ).loc Cert.LastHopIdeal.main_arg3)
          ∧ r.2.mem ((c.tc : Thread Cert.LastHopIdeal.nD Cert.LastHopIdeal.τ).loc Cert.LastHopIdeal.main_arg4) = m ((c.tc : Thread Cert.LastHopIdeal.nD Cert.LastHopIdeal.τ).loc Cert.LastHopIdeal.main_arg4)
          ∧ r.2.mem ((c.tc : Thread Cert.LastHopIdeal.nD Cert.LastHopIdeal.τ).loc Cert.LastHopIdeal.main_arg5) = m ((c.tc : Thread Cert.LastHopIdeal.nD Cert.LastHopIdeal.τ).loc Cert.LastHopIdeal.main_arg5)
          ∧ r.2.mem ((c.tc : Thread Cert.LastHopIdeal.nD Cert.LastHopIdeal.τ).loc Cert.LastHopIdeal.main_arg6) = m ((c.tc : Thread Cert.LastHopIdeal.nD Cert.LastHopIdeal.τ).loc Cert.LastHopIdeal.main_arg6)
          ∧ r.2.mem ((c.tc : Thread Cert.LastHopIdeal.nD Cert.LastHopIdeal.τ).loc Cert.LastHopIdeal.main_arg7) = m ((c.tc : Thread Cert.LastHopIdeal.nD Cert.LastHopIdeal.τ).loc Cert.LastHopIdeal.main_arg7)
          ∧ r.2.mem ((c.tc : Thread Cert.LastHopIdeal.nD Cert.LastHopIdeal.τ).loc Cert.LastHopIdeal.main_arg8) = m ((c.tc : Thread Cert.LastHopIdeal.nD Cert.LastHopIdeal.τ).loc Cert.LastHopIdeal.main_arg8))
      ∧ θ_run (Cert.LastHopReferenceIdeal.defs (F := Ideal)) (onTc (τ := Cert.LastHopReferenceIdeal.τ) (Cert.LastHopReferenceIdeal.main (F := Ideal))) ⟨m', fun _ => 0, g'⟩ (fun r => ∀ c : Dev Cert.LastHopReferenceIdeal.nD,
          r.2.mem ((c.tc : Thread Cert.LastHopReferenceIdeal.nD Cert.LastHopReferenceIdeal.τ).loc Cert.LastHopReferenceIdeal.main_v70) = v0 c
          ∧ r.2.mem ((c.tc : Thread Cert.LastHopReferenceIdeal.nD Cert.LastHopReferenceIdeal.τ).loc Cert.LastHopReferenceIdeal.main_arg0) = m' ((c.tc : Thread Cert.LastHopReferenceIdeal.nD Cert.LastHopReferenceIdeal.τ).loc Cert.LastHopReferenceIdeal.main_arg0)
          ∧ r.2.mem ((c.tc : Thread Cert.LastHopReferenceIdeal.nD Cert.LastHopReferenceIdeal.τ).loc Cert.LastHopReferenceIdeal.main_arg1) = m' ((c.tc : Thread Cert.LastHopReferenceIdeal.nD Cert.LastHopReferenceIdeal.τ).loc Cert.LastHopReferenceIdeal.main_arg1)
          ∧ r.2.mem ((c.tc : Thread Cert.LastHopReferenceIdeal.nD Cert.LastHopReferenceIdeal.τ).loc Cert.LastHopReferenceIdeal.main_arg2) = m' ((c.tc : Thread Cert.LastHopReferenceIdeal.nD Cert.LastHopReferenceIdeal.τ).loc Cert.LastHopReferenceIdeal.main_arg2)
          ∧ r.2.mem ((c.tc : Thread Cert.LastHopReferenceIdeal.nD Cert.LastHopReferenceIdeal.τ).loc Cert.LastHopReferenceIdeal.main_arg3) = m' ((c.tc : Thread Cert.LastHopReferenceIdeal.nD Cert.LastHopReferenceIdeal.τ).loc Cert.LastHopReferenceIdeal.main_arg3)
          ∧ r.2.mem ((c.tc : Thread Cert.LastHopReferenceIdeal.nD Cert.LastHopReferenceIdeal.τ).loc Cert.LastHopReferenceIdeal.main_arg4) = m' ((c.tc : Thread Cert.LastHopReferenceIdeal.nD Cert.LastHopReferenceIdeal.τ).loc Cert.LastHopReferenceIdeal.main_arg4)
          ∧ r.2.mem ((c.tc : Thread Cert.LastHopReferenceIdeal.nD Cert.LastHopReferenceIdeal.τ).loc Cert.LastHopReferenceIdeal.main_arg5) = m' ((c.tc : Thread Cert.LastHopReferenceIdeal.nD Cert.LastHopReferenceIdeal.τ).loc Cert.LastHopReferenceIdeal.main_arg5)
          ∧ r.2.mem ((c.tc : Thread Cert.LastHopReferenceIdeal.nD Cert.LastHopReferenceIdeal.τ).loc Cert.LastHopReferenceIdeal.main_arg6) = m' ((c.tc : Thread Cert.LastHopReferenceIdeal.nD Cert.LastHopReferenceIdeal.τ).loc Cert.LastHopReferenceIdeal.main_arg6)
          ∧ r.2.mem ((c.tc : Thread Cert.LastHopReferenceIdeal.nD Cert.LastHopReferenceIdeal.τ).loc Cert.LastHopReferenceIdeal.main_arg7) = m' ((c.tc : Thread Cert.LastHopReferenceIdeal.nD Cert.LastHopReferenceIdeal.τ).loc Cert.LastHopReferenceIdeal.main_arg7)
          ∧ r.2.mem ((c.tc : Thread Cert.LastHopReferenceIdeal.nD Cert.LastHopReferenceIdeal.τ).loc Cert.LastHopReferenceIdeal.main_arg8) = m' ((c.tc : Thread Cert.LastHopReferenceIdeal.nD Cert.LastHopReferenceIdeal.τ).loc Cert.LastHopReferenceIdeal.main_arg8))

def preserves_PatchEmbed_PatchEmbedIdeal : Prop :=
  True

def algebraic_PatchEmbedIdeal_PatchEmbedReferenceIdeal_pre_finite [hPatchEmbedIdeal : Cert.PatchEmbedIdeal.Facts] [hPatchEmbedReferenceIdeal : Cert.PatchEmbedReferenceIdeal.Facts] [hPre_finite : Cert.Pre_finite.Facts] : Prop :=
  ∀ (m : (ℓ : Loc Cert.PatchEmbedIdeal.nD Cert.PatchEmbedIdeal.τ Cert.PatchEmbedIdeal.sig) → Buf (Elt Ideal) ℓ) (g : Dev Cert.PatchEmbedIdeal.nD → PrngReg)
    (m' : (ℓ : Loc Cert.PatchEmbedReferenceIdeal.nD Cert.PatchEmbedReferenceIdeal.τ Cert.PatchEmbedReferenceIdeal.sig) → Buf (Elt Ideal) ℓ) (g' : Dev Cert.PatchEmbedReferenceIdeal.nD → PrngReg), Pre_PatchEmbedIdeal_finite m →
    (∀ c : Dev Cert.PatchEmbedIdeal.nD,
      m' ((c.tc : Thread Cert.PatchEmbedReferenceIdeal.nD Cert.PatchEmbedReferenceIdeal.τ).loc Cert.PatchEmbedReferenceIdeal.main_arg0) = m ((c.tc : Thread Cert.PatchEmbedIdeal.nD Cert.PatchEmbedIdeal.τ).loc Cert.PatchEmbedIdeal.main_arg0)
      ∧ m' ((c.tc : Thread Cert.PatchEmbedReferenceIdeal.nD Cert.PatchEmbedReferenceIdeal.τ).loc Cert.PatchEmbedReferenceIdeal.main_arg1) = m ((c.tc : Thread Cert.PatchEmbedIdeal.nD Cert.PatchEmbedIdeal.τ).loc Cert.PatchEmbedIdeal.main_arg1)
      ∧ m' ((c.tc : Thread Cert.PatchEmbedReferenceIdeal.nD Cert.PatchEmbedReferenceIdeal.τ).loc Cert.PatchEmbedReferenceIdeal.main_arg2) = m ((c.tc : Thread Cert.PatchEmbedIdeal.nD Cert.PatchEmbedIdeal.τ).loc Cert.PatchEmbedIdeal.main_arg2)
      ∧ m' ((c.tc : Thread Cert.PatchEmbedReferenceIdeal.nD Cert.PatchEmbedReferenceIdeal.τ).loc Cert.PatchEmbedReferenceIdeal.main_arg3) = m ((c.tc : Thread Cert.PatchEmbedIdeal.nD Cert.PatchEmbedIdeal.τ).loc Cert.PatchEmbedIdeal.main_arg3)
      ∧ m' ((c.tc : Thread Cert.PatchEmbedReferenceIdeal.nD Cert.PatchEmbedReferenceIdeal.τ).loc Cert.PatchEmbedReferenceIdeal.main_arg4) = m ((c.tc : Thread Cert.PatchEmbedIdeal.nD Cert.PatchEmbedIdeal.τ).loc Cert.PatchEmbedIdeal.main_arg4)) →
    ∃ (v0 : (c : Dev Cert.PatchEmbedIdeal.nD) → Buf (Elt Ideal) ((c.tc : Thread Cert.PatchEmbedIdeal.nD Cert.PatchEmbedIdeal.τ).loc Cert.PatchEmbedIdeal.main_v4_0)) (v1 : (c : Dev Cert.PatchEmbedIdeal.nD) → Buf (Elt Ideal) ((c.tc : Thread Cert.PatchEmbedIdeal.nD Cert.PatchEmbedIdeal.τ).loc Cert.PatchEmbedIdeal.main_v4_1)),
      θ_run (Cert.PatchEmbedIdeal.defs (F := Ideal)) (onTc (τ := Cert.PatchEmbedIdeal.τ) (Cert.PatchEmbedIdeal.main (F := Ideal))) ⟨m, fun _ => 0, g⟩ (fun r => ∀ c : Dev Cert.PatchEmbedIdeal.nD,
          r.2.mem ((c.tc : Thread Cert.PatchEmbedIdeal.nD Cert.PatchEmbedIdeal.τ).loc Cert.PatchEmbedIdeal.main_v4_0) = v0 c
          ∧ r.2.mem ((c.tc : Thread Cert.PatchEmbedIdeal.nD Cert.PatchEmbedIdeal.τ).loc Cert.PatchEmbedIdeal.main_v4_1) = v1 c
          ∧ r.2.mem ((c.tc : Thread Cert.PatchEmbedIdeal.nD Cert.PatchEmbedIdeal.τ).loc Cert.PatchEmbedIdeal.main_arg0) = m ((c.tc : Thread Cert.PatchEmbedIdeal.nD Cert.PatchEmbedIdeal.τ).loc Cert.PatchEmbedIdeal.main_arg0)
          ∧ r.2.mem ((c.tc : Thread Cert.PatchEmbedIdeal.nD Cert.PatchEmbedIdeal.τ).loc Cert.PatchEmbedIdeal.main_arg1) = m ((c.tc : Thread Cert.PatchEmbedIdeal.nD Cert.PatchEmbedIdeal.τ).loc Cert.PatchEmbedIdeal.main_arg1)
          ∧ r.2.mem ((c.tc : Thread Cert.PatchEmbedIdeal.nD Cert.PatchEmbedIdeal.τ).loc Cert.PatchEmbedIdeal.main_arg2) = m ((c.tc : Thread Cert.PatchEmbedIdeal.nD Cert.PatchEmbedIdeal.τ).loc Cert.PatchEmbedIdeal.main_arg2)
          ∧ r.2.mem ((c.tc : Thread Cert.PatchEmbedIdeal.nD Cert.PatchEmbedIdeal.τ).loc Cert.PatchEmbedIdeal.main_arg3) = m ((c.tc : Thread Cert.PatchEmbedIdeal.nD Cert.PatchEmbedIdeal.τ).loc Cert.PatchEmbedIdeal.main_arg3)
          ∧ r.2.mem ((c.tc : Thread Cert.PatchEmbedIdeal.nD Cert.PatchEmbedIdeal.τ).loc Cert.PatchEmbedIdeal.main_arg4) = m ((c.tc : Thread Cert.PatchEmbedIdeal.nD Cert.PatchEmbedIdeal.τ).loc Cert.PatchEmbedIdeal.main_arg4))
      ∧ θ_run (Cert.PatchEmbedReferenceIdeal.defs (F := Ideal)) (onTc (τ := Cert.PatchEmbedReferenceIdeal.τ) (Cert.PatchEmbedReferenceIdeal.main (F := Ideal))) ⟨m', fun _ => 0, g'⟩ (fun r => ∀ c : Dev Cert.PatchEmbedReferenceIdeal.nD,
          r.2.mem ((c.tc : Thread Cert.PatchEmbedReferenceIdeal.nD Cert.PatchEmbedReferenceIdeal.τ).loc Cert.PatchEmbedReferenceIdeal.main_v8) = v0 c
          ∧ r.2.mem ((c.tc : Thread Cert.PatchEmbedReferenceIdeal.nD Cert.PatchEmbedReferenceIdeal.τ).loc Cert.PatchEmbedReferenceIdeal.main_v13) = v1 c
          ∧ r.2.mem ((c.tc : Thread Cert.PatchEmbedReferenceIdeal.nD Cert.PatchEmbedReferenceIdeal.τ).loc Cert.PatchEmbedReferenceIdeal.main_arg0) = m' ((c.tc : Thread Cert.PatchEmbedReferenceIdeal.nD Cert.PatchEmbedReferenceIdeal.τ).loc Cert.PatchEmbedReferenceIdeal.main_arg0)
          ∧ r.2.mem ((c.tc : Thread Cert.PatchEmbedReferenceIdeal.nD Cert.PatchEmbedReferenceIdeal.τ).loc Cert.PatchEmbedReferenceIdeal.main_arg1) = m' ((c.tc : Thread Cert.PatchEmbedReferenceIdeal.nD Cert.PatchEmbedReferenceIdeal.τ).loc Cert.PatchEmbedReferenceIdeal.main_arg1)
          ∧ r.2.mem ((c.tc : Thread Cert.PatchEmbedReferenceIdeal.nD Cert.PatchEmbedReferenceIdeal.τ).loc Cert.PatchEmbedReferenceIdeal.main_arg2) = m' ((c.tc : Thread Cert.PatchEmbedReferenceIdeal.nD Cert.PatchEmbedReferenceIdeal.τ).loc Cert.PatchEmbedReferenceIdeal.main_arg2)
          ∧ r.2.mem ((c.tc : Thread Cert.PatchEmbedReferenceIdeal.nD Cert.PatchEmbedReferenceIdeal.τ).loc Cert.PatchEmbedReferenceIdeal.main_arg3) = m' ((c.tc : Thread Cert.PatchEmbedReferenceIdeal.nD Cert.PatchEmbedReferenceIdeal.τ).loc Cert.PatchEmbedReferenceIdeal.main_arg3)
          ∧ r.2.mem ((c.tc : Thread Cert.PatchEmbedReferenceIdeal.nD Cert.PatchEmbedReferenceIdeal.τ).loc Cert.PatchEmbedReferenceIdeal.main_arg4) = m' ((c.tc : Thread Cert.PatchEmbedReferenceIdeal.nD Cert.PatchEmbedReferenceIdeal.τ).loc Cert.PatchEmbedReferenceIdeal.main_arg4))

def preserves_Combine_CombineIdeal : Prop :=
  True

def algebraic_CombineIdeal_CombineReferenceIdeal_pre_finite_slots [hCombineIdeal : Cert.CombineIdeal.Facts] [hCombineReferenceIdeal : Cert.CombineReferenceIdeal.Facts] [hPre_finite_slots : Cert.Pre_finite_slots.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal_finite_slots m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)
      ∧ m' ((c.tc : Thread Cert.CombineReferenceIdeal.nD Cert.CombineReferenceIdeal.τ).loc Cert.CombineReferenceIdeal.main_arg3) = m ((c.tc : Thread Cert.CombineIdeal.nD Cert.CombineIdeal.τ).loc Cert.CombineIdeal.main_arg3)
      ∧ m' ((c.tc : Thread Cert.CombineReferenceIdeal.nD Cert.CombineReferenceIdeal.τ).loc Cert.CombineReferenceIdeal.main_arg4) = m ((c.tc : Thread Cert.CombineIdeal.nD Cert.CombineIdeal.τ).loc Cert.CombineIdeal.main_arg4)
      ∧ m' ((c.tc : Thread Cert.CombineReferenceIdeal.nD Cert.CombineReferenceIdeal.τ).loc Cert.CombineReferenceIdeal.main_arg5) = m ((c.tc : Thread Cert.CombineIdeal.nD Cert.CombineIdeal.τ).loc Cert.CombineIdeal.main_arg5)
      ∧ m' ((c.tc : Thread Cert.CombineReferenceIdeal.nD Cert.CombineReferenceIdeal.τ).loc Cert.CombineReferenceIdeal.main_arg6) = m ((c.tc : Thread Cert.CombineIdeal.nD Cert.CombineIdeal.τ).loc Cert.CombineIdeal.main_arg6)) →
    ∃ (v0 : (c : Dev Cert.CombineIdeal.nD) → Buf (Elt Ideal) ((c.tc : Thread Cert.CombineIdeal.nD Cert.CombineIdeal.τ).loc Cert.CombineIdeal.main_v0_0)) (v1 : (c : Dev Cert.CombineIdeal.nD) → Buf (Elt Ideal) ((c.tc : Thread Cert.CombineIdeal.nD Cert.CombineIdeal.τ).loc Cert.CombineIdeal.main_v0_1)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v0_0) = v0 c
          ∧ r.2.mem ((c.tc : Thread Cert.CombineIdeal.nD Cert.CombineIdeal.τ).loc Cert.CombineIdeal.main_v0_1) = v1 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
          ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v22) = v0 c
          ∧ r.2.mem ((c.tc : Thread Cert.CombineReferenceIdeal.nD Cert.CombineReferenceIdeal.τ).loc Cert.CombineReferenceIdeal.main_v27) = v1 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3)
          ∧ r.2.mem ((c.tc : Thread Cert.CombineReferenceIdeal.nD Cert.CombineReferenceIdeal.τ).loc Cert.CombineReferenceIdeal.main_arg4) = m' ((c.tc : Thread Cert.CombineReferenceIdeal.nD Cert.CombineReferenceIdeal.τ).loc Cert.CombineReferenceIdeal.main_arg4)
          ∧ r.2.mem ((c.tc : Thread Cert.CombineReferenceIdeal.nD Cert.CombineReferenceIdeal.τ).loc Cert.CombineReferenceIdeal.main_arg5) = m' ((c.tc : Thread Cert.CombineReferenceIdeal.nD Cert.CombineReferenceIdeal.τ).loc Cert.CombineReferenceIdeal.main_arg5)
          ∧ r.2.mem ((c.tc : Thread Cert.CombineReferenceIdeal.nD Cert.CombineReferenceIdeal.τ).loc Cert.CombineReferenceIdeal.main_arg6) = m' ((c.tc : Thread Cert.CombineReferenceIdeal.nD Cert.CombineReferenceIdeal.τ).loc Cert.CombineReferenceIdeal.main_arg6))

def Claim : Prop :=
  ∃ (hKernel : Cert.Kernel.Facts) (hKernelIdeal : Cert.KernelIdeal.Facts) (hReferenceIdeal : Cert.ReferenceIdeal.Facts) (hLastHop : Cert.LastHop.Facts) (hLastHopIdeal : Cert.LastHopIdeal.Facts) (hLastHopReferenceIdeal : Cert.LastHopReferenceIdeal.Facts) (hPatchEmbed : Cert.PatchEmbed.Facts) (hPatchEmbedIdeal : Cert.PatchEmbedIdeal.Facts) (hPatchEmbedReferenceIdeal : Cert.PatchEmbedReferenceIdeal.Facts) (hCombine : Cert.Combine.Facts) (hCombineIdeal : Cert.CombineIdeal.Facts) (hCombineReferenceIdeal : Cert.CombineReferenceIdeal.Facts) (hPre_in_range : Cert.Pre_in_range.Facts) (hPre_finite : Cert.Pre_finite.Facts) (hPre_slots : Cert.Pre_slots.Facts) (hPre_finite_slots : Cert.Pre_finite_slots.Facts) (hOn_active : Cert.On_active.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_LastHop (hLastHop := hLastHop)
    ∧ quiescent_LastHopIdeal (hLastHopIdeal := hLastHopIdeal)
    ∧ quiescent_LastHopReferenceIdeal (hLastHopReferenceIdeal := hLastHopReferenceIdeal)
    ∧ quiescent_PatchEmbed (hPatchEmbed := hPatchEmbed)
    ∧ quiescent_PatchEmbedIdeal (hPatchEmbedIdeal := hPatchEmbedIdeal)
    ∧ quiescent_PatchEmbedIdeal_pre_finite (hPatchEmbedIdeal := hPatchEmbedIdeal) (hPre_finite := hPre_finite)
    ∧ quiescent_PatchEmbedReferenceIdeal (hPatchEmbedReferenceIdeal := hPatchEmbedReferenceIdeal)
    ∧ quiescent_PatchEmbedReferenceIdeal_pre_finite (hPatchEmbedReferenceIdeal := hPatchEmbedReferenceIdeal) (hPre_finite := hPre_finite)
    ∧ quiescent_Combine (hCombine := hCombine) (hPre_slots := hPre_slots)
    ∧ quiescent_CombineIdeal (hCombineIdeal := hCombineIdeal) (hPre_slots := hPre_slots)
    ∧ quiescent_CombineIdeal_pre_finite_slots (hCombineIdeal := hCombineIdeal) (hPre_finite_slots := hPre_finite_slots)
    ∧ quiescent_CombineReferenceIdeal (hCombineReferenceIdeal := hCombineReferenceIdeal)
    ∧ quiescent_CombineReferenceIdeal_pre_finite_slots (hCombineReferenceIdeal := hCombineReferenceIdeal) (hPre_finite_slots := hPre_finite_slots)
    ∧ preserves_Kernel_KernelIdeal
    ∧ algebraic_KernelIdeal_ReferenceIdeal_on_active (hKernelIdeal := hKernelIdeal) (hReferenceIdeal := hReferenceIdeal) (hPre_in_range := hPre_in_range) (hOn_active := hOn_active)
    ∧ preserves_LastHop_LastHopIdeal
    ∧ algebraic_LastHopIdeal_LastHopReferenceIdeal (hLastHopIdeal := hLastHopIdeal) (hLastHopReferenceIdeal := hLastHopReferenceIdeal)
    ∧ preserves_PatchEmbed_PatchEmbedIdeal
    ∧ algebraic_PatchEmbedIdeal_PatchEmbedReferenceIdeal_pre_finite (hPatchEmbedIdeal := hPatchEmbedIdeal) (hPatchEmbedReferenceIdeal := hPatchEmbedReferenceIdeal) (hPre_finite := hPre_finite)
    ∧ preserves_Combine_CombineIdeal
    ∧ algebraic_CombineIdeal_CombineReferenceIdeal_pre_finite_slots (hCombineIdeal := hCombineIdeal) (hCombineReferenceIdeal := hCombineReferenceIdeal) (hPre_finite_slots := hPre_finite_slots)
-- ==== On_active.lean ====
abbrev S152 : Shape := ⟨1, ![152]⟩
abbrev S38 : Shape := ⟨1, ![38]⟩
abbrev S64x196x768 : Shape := ⟨3, ![64, 196, 768]⟩
abbrev S8x768 : Shape := ⟨2, ![8, 768]⟩
abbrev S8x768x3072 : Shape := ⟨3, ![8, 768, 3072]⟩
abbrev S8x3072 : Shape := ⟨2, ![8, 3072]⟩
abbrev S8x3072x768 : Shape := ⟨3, ![8, 3072, 768]⟩
abbrev S38x4 : Shape := ⟨2, ![38, 4]⟩
abbrev S152x1x1 : Shape := ⟨3, ![152, 1, 1]⟩
abbrev S_ : Shape := ⟨0, ![]⟩
abbrev S152x196x768 : Shape := ⟨3, ![152, 196, 768]⟩

class Facts : Prop where
  bcast_S38_S38x4_0 : S38.BroadcastsInDim S38x4 (![0] : Fin 1 → Fin S38x4.rank)
  shapeCasts_S38x4_S152 : S38x4.ShapeCasts S152
  bcast_S152_S152x1x1_0 : S152.BroadcastsInDim S152x1x1 (![0] : Fin 1 → Fin S152x1x1.rank)
  bcast_S_S152x1x1 : S_.BroadcastsInDim S152x1x1 (![] : Fin 0 → Fin S152x1x1.rank)
  bcast_S152x1x1_S152x196x768_0_1_2 : S152x1x1.BroadcastsInDim S152x196x768 (![0, 1, 2] : Fin 3 → Fin S152x196x768.rank)

variable [Facts]

def fn {F : FTy → Type} [FloatOps F] (main_arg0 : IVec S152 32) (main_arg1 : IVec S38 32) (main_arg2 : IVec S38 32) (main_arg3 : FVec F S64x196x768 .f32) (main_arg4 : FVec F S8x768 .f32) (main_arg5 : FVec F S8x768 .f32) (main_arg6 : FVec F S8x768x3072 .f32) (main_arg7 : FVec F S8x3072 .f32) (main_arg8 : FVec F S8x3072x768 .f32) (main_arg9 : FVec F S8x768 .f32) : IVec S152x196x768 1 :=
  let main_v0 : IVec S38x4 32 := broadcastInDim S38x4 ![0] bcast_S38_S38x4_0 main_arg2
  let main_v1 : IVec S152 32 := shapeCast S152 main_v0 shapeCasts_S38x4_S152
  let main_v2 : IVec S152x1x1 32 := broadcastInDim S152x1x1 ![0] bcast_S152_S152x1x1_0 main_v1
  let main_c : IVec S_ 32 := constantI S_ 32 0#32
  let main_v3 : IVec S152x1x1 32 := broadcastInDim S152x1x1 ![] bcast_S_S152x1x1 main_c
  let main_v4 : IVec S152x1x1 1 := cmpi .ne main_v2 main_v3
  let main_v5 : IVec S152x196x768 1 := broadcastInDim S152x196x768 ![0, 1, 2] bcast_S152x1x1_S152x196x768_0_1_2 main_v4
  main_v5
-- ==== Pre_finite.lean ====
abbrev S64x3x224x224 : Shape := ⟨4, ![64, 3, 224, 224]⟩
abbrev S768x768 : Shape := ⟨2, ![768, 768]⟩
abbrev S768 : Shape := ⟨1, ![768]⟩
abbrev S1x196x768 : Shape := ⟨3, ![1, 196, 768]⟩
abbrev S768x8 : Shape := ⟨2, ![768, 8]⟩
abbrev S_ : Shape := ⟨0, ![]⟩

class Facts : Prop where
  bcast_S_S64x3x224x224 : S_.BroadcastsInDim S64x3x224x224 (![] : Fin 0 → Fin S64x3x224x224.rank)
  reducesTo_S64x3x224x224_S_d0_1_2_3 : S64x3x224x224.ReducesTo [0, 1, 2, 3] S_
  h_S_ : 0 < S_.numel
  bcast_S_S768x768 : S_.BroadcastsInDim S768x768 (![] : Fin 0 → Fin S768x768.rank)
  reducesTo_S768x768_S_d0_1 : S768x768.ReducesTo [0, 1] S_
  bcast_S_S1x196x768 : S_.BroadcastsInDim S1x196x768 (![] : Fin 0 → Fin S1x196x768.rank)
  reducesTo_S1x196x768_S_d0_1_2 : S1x196x768.ReducesTo [0, 1, 2] S_
  bcast_S_S768x8 : S_.BroadcastsInDim S768x8 (![] : Fin 0 → Fin S768x8.rank)
  reducesTo_S768x8_S_d0_1 : S768x8.ReducesTo [0, 1] S_

variable [Facts]

def fn_part1 {F : FTy → Type} [FloatOps F] (main_v13 : IVec S_ 1) (main_v16 : IVec S768x8 1) : IVec S_ 1 :=
  let main_c_5 : IVec S_ 1 := constantI S_ 1 1#1
  let main_v17 : IVec S_ 1 := (fun x v => Host.reduce IntOp.andi x v reducesTo_S768x8_S_d0_1 h_S_) main_v16 main_c_5
  let main_v18 : IVec S_ 1 := andi main_v13 main_v17
  main_v18

def fn {F : FTy → Type} [FloatOps F] (main_arg0 : FVec F S64x3x224x224 .f32) (main_arg1 : FVec F S768x768 .f32) (main_arg2 : FVec F S768 .f32) (main_arg3 : FVec F S1x196x768 .f32) (main_arg4 : FVec F S768x8 .f32) : IVec S_ 1 :=
  let main_v0 : FVec F S64x3x224x224 .f32 := Host.absf main_arg0
  let main_cst : FVec F S_ .f32 := constant S_ .f32 0x7F800000#32
  let main_v1 : FVec F S64x3x224x224 .f32 := broadcastInDim S64x3x224x224 ![] bcast_S_S64x3x224x224 main_cst
  let main_v2 : IVec S64x3x224x224 1 := cmpf .olt main_v0 main_v1
  let main_c : IVec S_ 1 := constantI S_ 1 1#1
  let main_v3 : IVec S_ 1 := (fun x v => Host.reduce IntOp.andi x v reducesTo_S64x3x224x224_S_d0_1_2_3 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S1x196x768 .f32 := Host.absf main_arg3
  let main_cst_2 : FVec F S_ .f32 := constant S_ .f32 0x7F800000#32
  let main_v10 : FVec F S1x196x768 .f32 := broadcastInDim S1x196x768 ![] bcast_S_S1x196x768 main_cst_2
  let main_v11 : IVec S1x196x768 1 := cmpf .olt main_v9 main_v10
  let main_c_3 : IVec S_ 1 := constantI S_ 1 1#1
  let main_v12 : IVec S_ 1 := (fun x v => Host.reduce IntOp.andi x v reducesTo_S1x196x768_S_d0_1_2 h_S_) main_v11 main_c_3
  let main_v13 : IVec S_ 1 := andi main_v8 main_v12
  let main_v14 : FVec F S768x8 .f32 := Host.absf main_arg4
  let main_cst_4 : FVec F S_ .f32 := constant S_ .f32 0x7F800000#32
  let main_v15 : FVec F S768x8 .f32 := broadcastInDim S768x8 ![] bcast_S_S768x8 main_cst_4
  let main_v16 : IVec S768x8 1 := cmpf .olt main_v14 main_v15
  fn_part1 (F := F) main_v13 main_v16
-- ==== Pre_finite_slots.lean ====
abbrev S64 : Shape := ⟨1, ![64]⟩
abbrev S64x196x768 : Shape := ⟨3, ![64, 196, 768]⟩
abbrev S152x196x768 : Shape := ⟨3, ![152, 196, 768]⟩
abbrev S64x1x1 : Shape := ⟨3, ![64, 1, 1]⟩
abbrev S768x8 : Shape := ⟨2, ![768, 8]⟩
abbrev S_ : Shape := ⟨0, ![]⟩
abbrev S64x1 : Shape := ⟨2, ![64, 1]⟩

class Facts : Prop where
  bcast_S_S64 : S_.BroadcastsInDim S64 (![] : Fin 0 → Fin S64.rank)
  reducesTo_S64_S_d0 : S64.ReducesTo [0] S_
  h_S_ : 0 < S_.numel
  bcast_S_S64x196x768 : S_.BroadcastsInDim S64x196x768 (![] : Fin 0 → Fin S64x196x768.rank)
  reducesTo_S64x196x768_S_d0_1_2 : S64x196x768.ReducesTo [0, 1, 2] S_
  bcast_S64_S64x1_0 : S64.BroadcastsInDim S64x1 (![0] : Fin 1 → Fin S64x1.rank)
  bcast_S_S64x1x1 : S_.BroadcastsInDim S64x1x1 (![] : Fin 0 → Fin S64x1x1.rank)
  reducesTo_S64x1x1_S_d0_1_2 : S64x1x1.ReducesTo [0, 1, 2] S_
  bcast_S_S768x8 : S_.BroadcastsInDim S768x8 (![] : Fin 0 → Fin S768x8.rank)
  reducesTo_S768x8_S_d0_1 : S768x8.ReducesTo [0, 1] S_
  gather_S152x196x768_S64x1_S64x196x768_12_0_n_n_0_1_1196768_wf : GatherDims.WF S152x196x768 S64x1 S64x196x768 [1, 2] [0] [] [0] [] 1 ![1, 196, 768]

variable [Facts]

def gather_S152x196x768_S64x1_S64x196x768_12_0_n_n_0_1_1196768 : GatherDims S152x196x768 S64x1 S64x196x768 where
  offsetDims := [1, 2]
  collapsedSliceDims := [0]
  operandBatchingDims := []
  startIndicesBatchingDims := []
  startIndexMap := [0]
  indexVectorDim := 1
  sliceSizes := ![1, 196, 768]
  wf := gather_S152x196x768_S64x1_S64x196x768_12_0_n_n_0_1_1196768_wf
def fn_part3 {F : FTy → Type} [FloatOps F] (main_arg6 : FVec F S768x8 .f32) (main_v51 : IVec S_ 1) : IVec S_ 1 :=
  let main_v52 : FVec F S768x8 .f32 := Host.absf main_arg6
  let main_cst_18 : FVec F S_ .f32 := constant S_ .f32 0x7F800000#32
  let main_v53 : FVec F S768x8 .f32 := broadcastInDim S768x8 ![] bcast_S_S768x8 main_cst_18
  let main_v54 : IVec S768x8 1 := cmpf .olt main_v52 main_v53
  let main_c_19 : IVec S_ 1 := constantI S_ 1 1#1
  let main_v55 : IVec S_ 1 := (fun x v => Host.reduce IntOp.andi x v reducesTo_S768x8_S_d0_1 h_S_) main_v54 main_c_19
  let main_v56 : IVec S_ 1 := andi main_v51 main_v55
  main_v56

def fn_part2 {F : FTy → Type} [FloatOps F] (main_arg1 : IVec S64 32) (main_arg3 : FVec F S152x196x768 .bf16) (main_arg4 : FVec F S64x1x1 .f32) (main_arg5 : FVec F S64x1x1 .f32) (main_arg6 : FVec F S768x8 .f32) (main_v29 : IVec S_ 1) (main_v31 : IVec S64 1) (main_v33 : IVec S64 32) : IVec S_ 1 :=
  let main_v34 : IVec S64 32 := select main_v31 main_v33 main_arg1
  let main_v35 : IVec S64x1 32 := broadcastInDim S64x1 ![0] bcast_S64_S64x1_0 main_v34
  let main_v36 : FVec F S64x196x768 .bf16 := (fun x i => Host.gather gather_S152x196x768_S64x1_S64x196x768_12_0_n_n_0_1_1196768 x i) main_arg3 main_v35
  let main_v37 : FVec F S64x196x768 .bf16 := Host.absf main_v36
  let main_cst_12 : FVec F S_ .bf16 := constant S_ .bf16 0x7F80#16
  let main_v38 : FVec F S64x196x768 .bf16 := broadcastInDim S64x196x768 ![] bcast_S_S64x196x768 main_cst_12
  let main_v39 : IVec S64x196x768 1 := cmpf .olt main_v37 main_v38
  let main_c_13 : IVec S_ 1 := constantI S_ 1 1#1
  let main_v40 : IVec S_ 1 := (fun x v => Host.reduce IntOp.andi x v reducesTo_S64x196x768_S_d0_1_2 h_S_) main_v39 main_c_13
  let main_v41 : IVec S_ 1 := andi main_v29 main_v40
  let main_v42 : FVec F S64x1x1 .f32 := Host.absf main_arg4
  let main_cst_14 : FVec F S_ .f32 := constant S_ .f32 0x7F800000#32
  let main_v43 : FVec F S64x1x1 .f32 := broadcastInDim S64x1x1 ![] bcast_S_S64x1x1 main_cst_14
  let main_v44 : IVec S64x1x1 1 := cmpf .olt main_v42 main_v43
  let main_c_15 : IVec S_ 1 := constantI S_ 1 1#1
  let main_v45 : IVec S_ 1 := (fun x v => Host.reduce IntOp.andi x v reducesTo_S64x1x1_S_d0_1_2 h_S_) main_v44 main_c_15
  let main_v46 : IVec S_ 1 := andi main_v41 main_v45
  let main_v47 : FVec F S64x1x1 .f32 := Host.absf main_arg5
  let main_cst_16 : FVec F S_ .f32 := constant S_ .f32 0x7F800000#32
  let main_v48 : FVec F S64x1x1 .f32 := broadcastInDim S64x1x1 ![] bcast_S_S64x1x1 main_cst_16
  let main_v49 : IVec S64x1x1 1 := cmpf .olt main_v47 main_v48
  let main_c_17 : IVec S_ 1 := constantI S_ 1 1#1
  let main_v50 : IVec S_ 1 := (fun x v => Host.reduce IntOp.andi x v reducesTo_S64x1x1_S_d0_1_2 h_S_) main_v49 main_c_17
  let main_v51 : IVec S_ 1 := andi main_v46 main_v50
  fn_part3 (F := F) main_arg6 main_v51

def fn_part1 {F : FTy → Type} [FloatOps F] (main_arg0 : IVec S64 32) (main_arg1 : IVec S64 32) (main_arg3 : FVec F S152x196x768 .bf16) (main_arg4 : FVec F S64x1x1 .f32) (main_arg5 : FVec F S64x1x1 .f32) (main_arg6 : FVec F S768x8 .f32) (main_v12 : IVec S_ 1) (main_v15 : IVec S64x196x768 1) (main_c_5 : IVec S_ 1) : IVec S_ 1 :=
  let main_v16 : IVec S_ 1 := (fun x v => Host.reduce IntOp.andi x v reducesTo_S64x196x768_S_d0_1_2 h_S_) main_v15 main_c_5
  let main_v17 : IVec S_ 1 := andi main_v12 main_v16
  let main_c_6 : IVec S_ 32 := constantI S_ 32 0#32
  let main_v18 : IVec S64 32 := broadcastInDim S64 ![] bcast_S_S64 main_c_6
  let main_v19 : IVec S64 1 := cmpi .slt main_arg0 main_v18
  let main_c_7 : IVec S_ 32 := constantI S_ 32 152#32
  let main_v20 : IVec S64 32 := broadcastInDim S64 ![] bcast_S_S64 main_c_7
  let main_v21 : IVec S64 32 := addi main_arg0 main_v20
  let main_v22 : IVec S64 32 := select main_v19 main_v21 main_arg0
  let main_v23 : IVec S64x1 32 := broadcastInDim S64x1 ![0] bcast_S64_S64x1_0 main_v22
  let main_v24 : FVec F S64x196x768 .bf16 := (fun x i => Host.gather gather_S152x196x768_S64x1_S64x196x768_12_0_n_n_0_1_1196768 x i) main_arg3 main_v23
  let main_v25 : FVec F S64x196x768 .bf16 := Host.absf main_v24
  let main_cst_8 : FVec F S_ .bf16 := constant S_ .bf16 0x7F80#16
  let main_v26 : FVec F S64x196x768 .bf16 := broadcastInDim S64x196x768 ![] bcast_S_S64x196x768 main_cst_8
  let main_v27 : IVec S64x196x768 1 := cmpf .olt main_v25 main_v26
  let main_c_9 : IVec S_ 1 := constantI S_ 1 1#1
  let main_v28 : IVec S_ 1 := (fun x v => Host.reduce IntOp.andi x v reducesTo_S64x196x768_S_d0_1_2 h_S_) main_v27 main_c_9
  let main_v29 : IVec S_ 1 := andi main_v17 main_v28
  let main_c_10 : IVec S_ 32 := constantI S_ 32 0#32
  let main_v30 : IVec S64 32 := broadcastInDim S64 ![] bcast_S_S64 main_c_10
  let main_v31 : IVec S64 1 := cmpi .slt main_arg1 main_v30
  let main_c_11 : IVec S_ 32 := constantI S_ 32 152#32
  let main_v32 : IVec S64 32 := broadcastInDim S64 ![] bcast_S_S64 main_c_11
  let main_v33 : IVec S64 32 := addi main_arg1 main_v32
  fn_part2 (F := F) main_arg1 main_arg3 main_arg4 main_arg5 main_arg6 main_v29 main_v31 main_v33

def fn {F : FTy → Type} [FloatOps F] (main_arg0 : IVec S64 32) (main_arg1 : IVec S64 32) (main_arg2 : FVec F S64x196x768 .f32) (main_arg3 : FVec F S152x196x768 .bf16) (main_arg4 : FVec F S64x1x1 .f32) (main_arg5 : FVec F S64x1x1 .f32) (main_arg6 : FVec F S768x8 .f32) : IVec S_ 1 :=
  let main_c : IVec S_ 32 := constantI S_ 32 0#32
  let main_v0 : IVec S64 32 := broadcastInDim S64 ![] bcast_S_S64 main_c
  let main_v1 : IVec S64 1 := cmpi .sge main_arg0 main_v0
  let main_c_0 : IVec S_ 32 := constantI S_ 32 152#32
  let main_v2 : IVec S64 32 := broadcastInDim S64 ![] bcast_S_S64 main_c_0
  let main_v3 : IVec S64 1 := cmpi .slt main_arg0 main_v2
  let main_v4 : IVec S64 1 := andi main_v1 main_v3
  let main_c_1 : IVec S_ 1 := constantI S_ 1 1#1
  let main_v5 : IVec S_ 1 := (fun x v => Host.reduce IntOp.andi x v reducesTo_S64_S_d0 h_S_) main_v4 main_c_1
  let main_c_2 : IVec S_ 32 := constantI S_ 32 0#32
  let main_v6 : IVec S64 32 := broadcastInDim S64 ![] bcast_S_S64 main_c_2
  let main_v7 : IVec S64 1 := cmpi .sge main_arg1 main_v6
  let main_c_3 : IVec S_ 32 := constantI S_ 32 152#32
  let main_v8 : IVec S64 32 := broadcastInDim S64 ![] bcast_S_S64 main_c_3
  let main_v9 : IVec S64 1 := cmpi .slt main_arg1 main_v8
  let main_v10 : IVec S64 1 := andi main_v7 main_v9
  let main_c_4 : IVec S_ 1 := constantI S_ 1 1#1
  let main_v11 : IVec S_ 1 := (fun x v => Host.reduce IntOp.andi x v reducesTo_S64_S_d0 h_S_) main_v10 main_c_4
  let main_v12 : IVec S_ 1 := andi main_v5 main_v11
  let main_v13 : FVec F S64x196x768 .f32 := Host.absf main_arg2
  let main_cst : FVec F S_ .f32 := constant S_ .f32 0x7F800000#32
  let main_v14 : FVec F S64x196x768 .f32 := broadcastInDim S64x196x768 ![] bcast_S_S64x196x768 main_cst
  let main_v15 : IVec S64x196x768 1 := cmpf .olt main_v13 main_v14
  let main_c_5 : IVec S_ 1 := constantI S_ 1 1#1
  fn_part1 (F := F) main_arg0 main_arg1 main_arg3 main_arg4 main_arg5 main_arg6 main_v12 main_v15 main_c_5
-- ==== Pre_in_range.lean ====
abbrev S152 : Shape := ⟨1, ![152]⟩
abbrev S38 : Shape := ⟨1, ![38]⟩
abbrev S64x196x768 : Shape := ⟨3, ![64, 196, 768]⟩
abbrev S8x768 : Shape := ⟨2, ![8, 768]⟩
abbrev S8x768x3072 : Shape := ⟨3, ![8, 768, 3072]⟩
abbrev S8x3072 : Shape := ⟨2, ![8, 3072]⟩
abbrev S8x3072x768 : Shape := ⟨3, ![8, 3072, 768]⟩
abbrev S_ : Shape := ⟨0, ![]⟩

class Facts : Prop where
  bcast_S_S152 : S_.BroadcastsInDim S152 (![] : Fin 0 → Fin S152.rank)
  reducesTo_S152_S_d0 : S152.ReducesTo [0] S_
  h_S_ : 0 < S_.numel
  bcast_S_S38 : S_.BroadcastsInDim S38 (![] : Fin 0 → Fin S38.rank)
  reducesTo_S38_S_d0 : S38.ReducesTo [0] S_

variable [Facts]

def fn {F : FTy → Type} [FloatOps F] (main_arg0 : IVec S152 32) (main_arg1 : IVec S38 32) (main_arg2 : IVec S38 32) (main_arg3 : FVec F S64x196x768 .f32) (main_arg4 : FVec F S8x768 .f32) (main_arg5 : FVec F S8x768 .f32) (main_arg6 : FVec F S8x768x3072 .f32) (main_arg7 : FVec F S8x3072 .f32) (main_arg8 : FVec F S8x3072x768 .f32) (main_arg9 : FVec F S8x768 .f32) : IVec S_ 1 :=
  let main_c : IVec S_ 32 := constantI S_ 32 0#32
  let main_v0 : IVec S152 32 := broadcastInDim S152 ![] bcast_S_S152 main_c
  let main_v1 : IVec S152 1 := cmpi .sge main_arg0 main_v0
  let main_c_0 : IVec S_ 32 := constantI S_ 32 64#32
  let main_v2 : IVec S152 32 := broadcastInDim S152 ![] bcast_S_S152 main_c_0
  let main_v3 : IVec S152 1 := cmpi .slt main_arg0 main_v2
  let main_v4 : IVec S152 1 := andi main_v1 main_v3
  let main_c_1 : IVec S_ 1 := constantI S_ 1 1#1
  let main_v5 : IVec S_ 1 := (fun x v => Host.reduce IntOp.andi x v reducesTo_S152_S_d0 h_S_) main_v4 main_c_1
  let main_c_2 : IVec S_ 32 := constantI S_ 32 0#32
  let main_v6 : IVec S38 32 := broadcastInDim S38 ![] bcast_S_S38 main_c_2
  let main_v7 : IVec S38 1 := cmpi .sge main_arg1 main_v6
  let main_c_3 : IVec S_ 32 := constantI S_ 32 8#32
  let main_v8 : IVec S38 32 := broadcastInDim S38 ![] bcast_S_S38 main_c_3
  let main_v9 : IVec S38 1 := cmpi .slt main_arg1 main_v8
  let main_v10 : IVec S38 1 := andi main_v7 main_v9
  let main_c_4 : IVec S_ 1 := constantI S_ 1 1#1
  let main_v11 : IVec S_ 1 := (fun x v => Host.reduce IntOp.andi x v reducesTo_S38_S_d0 h_S_) main_v10 main_c_4
  let main_v12 : IVec S_ 1 := andi main_v5 main_v11
  main_v12
-- ==== Pre_slots.lean ====
abbrev S64 : Shape := ⟨1, ![64]⟩
abbrev S64x196x768 : Shape := ⟨3, ![64, 196, 768]⟩
abbrev S152x196x768 : Shape := ⟨3, ![152, 196, 768]⟩
abbrev S64x1x1 : Shape := ⟨3, ![64, 1, 1]⟩
abbrev S768x8 : Shape := ⟨2, ![768, 8]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel

variable [Facts]

def fn {F : FTy → Type} [FloatOps F] (main_arg0 : IVec S64 32) (main_arg1 : IVec S64 32) (main_arg2 : FVec F S64x196x768 .f32) (main_arg3 : FVec F S152x196x768 .bf16) (main_arg4 : FVec F S64x1x1 .f32) (main_arg5 : FVec F S64x1x1 .f32) (main_arg6 : FVec F S768x8 .f32) : IVec S_ 1 :=
  let main_c : IVec S_ 32 := constantI S_ 32 0#32
  let main_v0 : IVec S64 32 := broadcastInDim S64 ![] bcast_S_S64 main_c
  let main_v1 : IVec S64 1 := cmpi .sge main_arg0 main_v0
  let main_c_0 : IVec S_ 32 := constantI S_ 32 152#32
  let main_v2 : IVec S64 32 := broadcastInDim S64 ![] bcast_S_S64 main_c_0
  let main_v3 : IVec S64 1 := cmpi .slt main_arg0 main_v2
  let main_v4 : IVec S64 1 := andi main_v1 main_v3
  let main_c_1 : IVec S_ 1 := constantI S_ 1 1#1
  let main_v5 : IVec S_ 1 := (fun x v => Host.reduce IntOp.andi x v reducesTo_S64_S_d0 h_S_) main_v4 main_c_1
  let main_c_2 : IVec S_ 32 := constantI S_ 32 0#32
  let main_v6 : IVec S64 32 := broadcastInDim S64 ![] bcast_S_S64 main_c_2
  let main_v7 : IVec S64 1 := cmpi .sge main_arg1 main_v6
  let main_c_3 : IVec S_ 32 := constantI S_ 32 152#32
  let main_v8 : IVec S64 32 := broadcastInDim S64 ![] bcast_S_S64 main_c_3
  let main_v9 : IVec S64 1 := cmpi .slt main_arg1 main_v8
  let main_v10 : IVec S64 1 := andi main_v7 main_v9
  let main_c_4 : IVec S_ 1 := constantI S_ 1 1#1
  let main_v11 : IVec S_ 1 := (fun x v => Host.reduce IntOp.andi x v reducesTo_S64_S_d0 h_S_) main_v10 main_c_4
  let main_v12 : IVec S_ 1 := andi main_v5 main_v11
  main_v12
-- ==== Kernel.lean ====
abbrev S152 : Shape := ⟨1, ![152]⟩
abbrev S38 : Shape := ⟨1, ![38]⟩
abbrev S64x196x768 : Shape := ⟨3, ![64, 196, 768]⟩
abbrev S8x768 : Shape := ⟨2, ![8, 768]⟩
abbrev S8x768x3072 : Shape := ⟨3, ![8, 768, 3072]⟩
abbrev S8x3072 : Shape := ⟨2, ![8, 3072]⟩
abbrev S8x3072x768 : Shape := ⟨3, ![8, 3072, 768]⟩
abbrev S8x1x768 : Shape := ⟨3, ![8, 1, 768]⟩
abbrev S8x1x3072 : Shape := ⟨3, ![8, 1, 3072]⟩
abbrev S152x196x768 : Shape := ⟨3, ![152, 196, 768]⟩
abbrev S1x196x768 : Shape := ⟨3, ![1, 196, 768]⟩
abbrev S1 : Shape := ⟨1, ![1]⟩
abbrev S1x1x768 : Shape := ⟨3, ![1, 1, 768]⟩
abbrev S1x768x3072 : Shape := ⟨3, ![1, 768, 3072]⟩
abbrev S1x1x3072 : Shape := ⟨3, ![1, 1, 3072]⟩
abbrev S1x3072x768 : Shape := ⟨3, ![1, 3072, 768]⟩
abbrev S4x196x768 : Shape := ⟨3, ![4, 196, 768]⟩
abbrev S196x768 : Shape := ⟨2, ![196, 768]⟩
abbrev S196 : Shape := ⟨1, ![196]⟩
abbrev S196x1 : Shape := ⟨2, ![196, 1]⟩
abbrev S1x768 : Shape := ⟨2, ![1, 768]⟩
abbrev S768x3072 : Shape := ⟨2, ![768, 3072]⟩
abbrev S196x3072 : Shape := ⟨2, ![196, 3072]⟩
abbrev S1x3072 : Shape := ⟨2, ![1, 3072]⟩
abbrev S3072x768 : Shape := ⟨2, ![3072, 768]⟩

abbrev nBuf : Space → Nat
  | .hbm => 15
  | .vmem => 22
  | .smem => 3
  | _ => 0

abbrev bufTy : (tb : Table) → Fin (tcTables nBuf tb) → BufTy
  | .hbm, ⟨0, _⟩ => ⟨S64x196x768, .f32⟩
  | .hbm, ⟨1, _⟩ => ⟨S8x768, .f32⟩
  | .hbm, ⟨2, _⟩ => ⟨S8x768, .f32⟩
  | .hbm, ⟨3, _⟩ => ⟨S8x768x3072, .f32⟩
  | .hbm, ⟨4, _⟩ => ⟨S8x3072, .f32⟩
  | .hbm, ⟨5, _⟩ => ⟨S8x3072x768, .f32⟩
  | .hbm, ⟨6, _⟩ => ⟨S8x768, .f32⟩
  | .hbm, ⟨7, _⟩ => ⟨S8x1x768, .f32⟩
  | .hbm, ⟨8, _⟩ => ⟨S8x1x768, .f32⟩
  | .hbm, ⟨9, _⟩ => ⟨S8x1x3072, .f32⟩
  | .hbm, ⟨10, _⟩ => ⟨S8x1x3072, .bf16⟩
  | .hbm, ⟨11, _⟩ => ⟨S8x1x768, .f32⟩
  | .hbm, ⟨12, _⟩ => ⟨S8x768x3072, .bf16⟩
  | .hbm, ⟨13, _⟩ => ⟨S8x3072x768, .bf16⟩
  | .hbm, ⟨14, _⟩ => ⟨S152x196x768, .bf16⟩
  | .local _ .vmem, ⟨0, _⟩ => ⟨S1x196x768, .f32⟩
  | .local _ .vmem, ⟨1, _⟩ => ⟨S1x196x768, .f32⟩
  | .local _ .vmem, ⟨2, _⟩ => ⟨S1x196x768, .f32⟩
  | .local _ .vmem, ⟨3, _⟩ => ⟨S1x196x768, .f32⟩
  | .local _ .vmem, ⟨4, _⟩ => ⟨S1x196x768, .f32⟩
  | .local _ .vmem, ⟨5, _⟩ => ⟨S1x196x768, .f32⟩
  | .local _ .vmem, ⟨6, _⟩ => ⟨S1x196x768, .f32⟩
  | .local _ .vmem, ⟨7, _⟩ => ⟨S1x196x768, .f32⟩
  | .local _ .vmem, ⟨8, _⟩ => ⟨S1x1x768, .f32⟩
  | .local _ .vmem, ⟨9, _⟩ => ⟨S1x1x768, .f32⟩
  | .local _ .vmem, ⟨10, _⟩ => ⟨S1x1x768, .f32⟩
  | .local _ .vmem, ⟨11, _⟩ => ⟨S1x1x768, .f32⟩
  | .local _ .vmem, ⟨12, _⟩ => ⟨S1x768x3072, .bf16⟩
  | .local _ .vmem, ⟨13, _⟩ => ⟨S1x768x3072, .bf16⟩
  | .local _ .vmem, ⟨14, _⟩ => ⟨S1x1x3072, .bf16⟩
  | .local _ .vmem, ⟨15, _⟩ => ⟨S1x1x3072, .bf16⟩
  | .local _ .vmem, ⟨16, _⟩ => ⟨S1x3072x768, .bf16⟩
  | .local _ .vmem, ⟨17, _⟩ => ⟨S1x3072x768, .bf16⟩
  | .local _ .vmem, ⟨18, _⟩ => ⟨S1x1x768, .f32⟩
  | .local _ .vmem, ⟨19, _⟩ => ⟨S1x1x768, .f32⟩
  | .local _ .vmem, ⟨20, _⟩ => ⟨S4x196x768, .bf16⟩
  | .local _ .vmem, ⟨21, _⟩ => ⟨S4x196x768, .bf16⟩
  | .local _ .smem, ⟨0, _⟩ => ⟨S152, .i32⟩
  | .local _ .smem, ⟨1, _⟩ => ⟨S38, .i32⟩
  | .local _ .smem, ⟨2, _⟩ => ⟨S38, .i32⟩
  | _, _ => ⟨S64x196x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_arg8 : Ref sig .tc := ⟨.hbm, 5, rfl⟩
abbrev main_arg9 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![38], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) (c0_i32 : BitVec 32) : Fin 1 → Nat :=
  let c4_i32 : BitVec 32 := 4#32
  let arg0 : BitVec 32 := BitVec.ofNat 32 (i 0).val
  let v0 : BitVec 32 := Scalar.muli c4_i32 arg0
  let v1 : BitVec 32 := Scalar.addi v0 c0_i32
  let v2 : Index := Scalar.indexCast v1
  ![v2.toNat]
def k0_off2 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v2 : BitVec 1 := Scalar.cmpi .ne v1 c0_i32
  let v3 : BitVec 32 := Scalar.extui v2
  let c0_i32_0 : BitVec 32 := 0#32
  let v4 : BitVec 1 := Scalar.cmpi .ne v3 c0_i32_0
  v4

def cc0_transform_0 (k0_off1_inb : ∀ i : grid0.Coords, ∀ (r : Fin 4), ∀ a, (k0_off1 i (BitVec.ofNat 32 r.val)) a + S1.size a ≤ S152.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let v2 : Index := Scalar.indexCast v1
  let v3 : BitVec 32 := pf.at 0 (Rect.unit (s := S152) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_1 (k0_off1_inb : ∀ i : grid0.Coords, ∀ (r : Fin 4), ∀ a, (k0_off1 i (BitVec.ofNat 32 r.val)) a + S1.size a ≤ S152.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let v2 : Index := Scalar.indexCast v1
  let v3 : BitVec 32 := pf.at 0 (Rect.unit (s := S152) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_2 (k0_off1_inb : ∀ i : grid0.Coords, ∀ (r : Fin 4), ∀ a, (k0_off1 i (BitVec.ofNat 32 r.val)) a + S1.size a ≤ S152.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let v2 : Index := Scalar.indexCast v1
  let v3 : BitVec 32 := pf.at 0 (Rect.unit (s := S152) ![v2.toNat] S1.size (k0_off1_inb i 2)) numel1_S1
  let c0_i32 : BitVec 32 := 0#32
  let c0_i32_0 : BitVec 32 := 0#32
  let c0_i32_1 : BitVec 32 := 0#32
  ![v3.toNat, c0_i32.toNat, c0_i32_0.toNat]

def cc0_transform_3 (k0_off1_inb : ∀ i : grid0.Coords, ∀ (r : Fin 4), ∀ a, (k0_off1 i (BitVec.ofNat 32 r.val)) a + S1.size a ≤ S152.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let v2 : Index := Scalar.indexCast v1
  let v3 : BitVec 32 := pf.at 0 (Rect.unit (s := S152) ![v2.toNat] S1.size (k0_off1_inb i 3)) numel1_S1
  let c0_i32 : BitVec 32 := 0#32
  let c0_i32_0 : BitVec 32 := 0#32
  let c0_i32_1 : BitVec 32 := 0#32
  ![v3.toNat, c0_i32.toNat, c0_i32_0.toNat]

def cc0_transform_4 (k0_off2_inb : ∀ i : grid0.Coords, ∀ a, (k0_off2 i) a + S1.size a ≤ S38.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S38) ![v0.toNat] S1.size (k0_off2_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off2_inb : ∀ i : grid0.Coords, ∀ a, (k0_off2 i) a + S1.size a ≤ S38.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S38) ![v0.toNat] S1.size (k0_off2_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off2_inb : ∀ i : grid0.Coords, ∀ a, (k0_off2 i) a + S1.size a ≤ S38.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S38) ![v0.toNat] S1.size (k0_off2_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (k0_off2_inb : ∀ i : grid0.Coords, ∀ a, (k0_off2 i) a + S1.size a ≤ S38.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S38) ![v0.toNat] S1.size (k0_off2_inb i)) numel1_S1
  let c0_i32 : BitVec 32 := 0#32
  let c0_i32_0 : BitVec 32 := 0#32
  let c0_i32_1 : BitVec 32 := 0#32
  ![v1.toNat, c0_i32.toNat, c0_i32_0.toNat]

def cc0_transform_8 (k0_off2_inb : ∀ i : grid0.Coords, ∀ a, (k0_off2 i) a + S1.size a ≤ S38.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S38) ![v0.toNat] S1.size (k0_off2_inb i)) numel1_S1
  let c0_i32 : BitVec 32 := 0#32
  let c0_i32_0 : BitVec 32 := 0#32
  let c0_i32_1 : BitVec 32 := 0#32
  ![v1.toNat, c0_i32.toNat, c0_i32_0.toNat]

def cc0_transform_9 (k0_off2_inb : ∀ i : grid0.Coords, ∀ a, (k0_off2 i) a + S1.size a ≤ S38.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S38) ![v0.toNat] S1.size (k0_off2_inb i)) numel1_S1
  let c0_i32 : BitVec 32 := 0#32
  let c0_i32_0 : BitVec 32 := 0#32
  let c0_i32_1 : BitVec 32 := 0#32
  ![v1.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x196x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x196x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x196x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x196x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x768x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x3072x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x196x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "gelu_cubic" => some ((12003091 / 268435456 : ℝ) : EReal)
  | "gelu_scale" => some ((6693141 / 8388608 : ℝ) : EReal)
  | _ => none
-- ==== ReferenceIdeal.lean ====
abbrev S152 : Shape := ⟨1, ![152]⟩
abbrev S38 : Shape := ⟨1, ![38]⟩
abbrev S64x196x768 : Shape := ⟨3, ![64, 196, 768]⟩
abbrev S8x768 : Shape := ⟨2, ![8, 768]⟩
abbrev S8x768x3072 : Shape := ⟨3, ![8, 768, 3072]⟩
abbrev S8x3072 : Shape := ⟨2, ![8, 3072]⟩
abbrev S8x3072x768 : Shape := ⟨3, ![8, 3072, 768]⟩
abbrev S_ : Shape := ⟨0, ![]⟩
abbrev S64x196 : Shape := ⟨2, ![64, 196]⟩
abbrev S64x196x1 : Shape := ⟨3, ![64, 196, 1]⟩
abbrev S8x1x1x768 : Shape := ⟨4, ![8, 1, 1, 768]⟩
abbrev S1x64x196x768 : Shape := ⟨4, ![1, 64, 196, 768]⟩
abbrev S8x64x196x768 : Shape := ⟨4, ![8, 64, 196, 768]⟩
abbrev S8x64x196x3072 : Shape := ⟨4, ![8, 64, 196, 3072]⟩
abbrev S8x1x1x3072 : Shape := ⟨4, ![8, 1, 1, 3072]⟩
abbrev S38x4 : Shape := ⟨2, ![38, 4]⟩
abbrev S152x1 : Shape := ⟨2, ![152, 1]⟩
abbrev S152x2 : Shape := ⟨2, ![152, 2]⟩
abbrev S152x196x768 : Shape := ⟨3, ![152, 196, 768]⟩

abbrev nBuf : Space → Nat
  | .hbm => 102
  | .vmem => 0
  | .smem => 0
  | _ => 0

abbrev bufTy : (tb : Table) → Fin (tcTables nBuf tb) → BufTy
  | .hbm, ⟨0, _⟩ => ⟨S152, .i32⟩
  | .hbm, ⟨1, _⟩ => ⟨S38, .i32⟩
  | .hbm, ⟨2, _⟩ => ⟨S38, .i32⟩
  | .hbm, ⟨3, _⟩ => ⟨S64x196x768, .f32⟩
  | .hbm, ⟨4, _⟩ => ⟨S8x768, .f32⟩
  | .hbm, ⟨5, _⟩ => ⟨S8x768, .f32⟩
  | .hbm, ⟨6, _⟩ => ⟨S8x768x3072, .f32⟩
  | .hbm, ⟨7, _⟩ => ⟨S8x3072, .f32⟩
  | .hbm, ⟨8, _⟩ => ⟨S8x3072x768, .f32⟩
  | .hbm, ⟨9, _⟩ => ⟨S8x768, .f32⟩
  | .hbm, ⟨10, _⟩ => ⟨S_, .f32⟩
  | .hbm, ⟨11, _⟩ => ⟨S64x196, .f32⟩
  | .hbm, ⟨12, _⟩ => ⟨S64x196x1, .f32⟩
  | .hbm, ⟨13, _⟩ => ⟨S_, .f32⟩
  | .hbm, ⟨14, _⟩ => ⟨S64x196x1, .f32⟩
  | .hbm, ⟨15, _⟩ => ⟨S64x196x1, .f32⟩
  | .hbm, ⟨16, _⟩ => ⟨S_, .i32⟩
  | .hbm, ⟨17, _⟩ => ⟨S_, .f32⟩
  | .hbm, ⟨18, _⟩ => ⟨S64x196, .f32⟩
  | .hbm, ⟨19, _⟩ => ⟨S64x196x1, .f32⟩
  | .hbm, ⟨20, _⟩ => ⟨S_, .f32⟩
  | .hbm, ⟨21, _⟩ => ⟨S64x196x1, .f32⟩
  | .hbm, ⟨22, _⟩ => ⟨S64x196x1, .f32⟩
  | .hbm, ⟨23, _⟩ => ⟨S64x196x768, .f32⟩
  | .hbm, ⟨24, _⟩ => ⟨S64x196x768, .f32⟩
  | .hbm, ⟨25, _⟩ => ⟨S64x196x768, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S64x196, .f32⟩
  | .hbm, ⟨31, _⟩ => ⟨S64x196x1, .f32⟩
  | .hbm, ⟨32, _⟩ => ⟨S64x196x1, .f32⟩
  | .hbm, ⟨33, _⟩ => ⟨S64x196x1, .f32⟩
  | .hbm, ⟨34, _⟩ => ⟨S_, .f32⟩
  | .hbm, ⟨35, _⟩ => ⟨S_, .i1⟩
  | .hbm, ⟨36, _⟩ => ⟨S_, .f32⟩
  | .hbm, ⟨37, _⟩ => ⟨S_, .f32⟩
  | .hbm, ⟨38, _⟩ => ⟨S64x196x1, .f32⟩
  | .hbm, ⟨39, _⟩ => ⟨S64x196x1, .f32⟩
  | .hbm, ⟨40, _⟩ => ⟨S64x196x768, .f32⟩
  | .hbm, ⟨41, _⟩ => ⟨S64x196x768, .f32⟩
  | .hbm, ⟨42, _⟩ => ⟨S_, .f32⟩
  | .hbm, ⟨43, _⟩ => ⟨S64x196x1, .f32⟩
  | .hbm, ⟨44, _⟩ => ⟨S64x196x1, .f32⟩
  | .hbm, ⟨45, _⟩ => ⟨S64x196x1, .f32⟩
  | .hbm, ⟨46, _⟩ => ⟨S64x196x768, .f32⟩
  | .hbm, ⟨47, _⟩ => ⟨S64x196x768, .f32⟩
  | .hbm, ⟨48, _⟩ => ⟨S8x1x1x768, .f32⟩
  | .hbm, ⟨49, _⟩ => ⟨S1x64x196x768, .f32⟩
  | .hbm, ⟨50, _⟩ => ⟨S8x64x196x768, .f32⟩
  | .hbm, ⟨51, _⟩ => ⟨S8x64x196x768, .f32⟩
  | .hbm, ⟨52, _⟩ => ⟨S8x64x196x768, .f32⟩
  | .hbm, ⟨53, _⟩ => ⟨S8x1x1x768, .f32⟩
  | .hbm, ⟨54, _⟩ => ⟨S8x64x196x768, .f32⟩
  | .hbm, ⟨55, _⟩ => ⟨S8x64x196x768, .f32⟩
  | .hbm, ⟨56, _⟩ => ⟨S8x64x196x3072, .f32⟩
  | .hbm, ⟨57, _⟩ => ⟨S8x1x1x3072, .f32⟩
  | .hbm, ⟨58, _⟩ => ⟨S8x64x196x3072, .f32⟩
  | .hbm, ⟨59, _⟩ => ⟨S8x64x196x3072, .f32⟩
  | .hbm, ⟨60, _⟩ => ⟨S8x64x196x3072, .f32⟩
  | .hbm, ⟨61, _⟩ => ⟨S8x64x196x3072, .f32⟩
  | .hbm, ⟨62, _⟩ => ⟨S_, .f32⟩
  | .hbm, ⟨63, _⟩ => ⟨S8x64x196x3072, .f32⟩
  | .hbm, ⟨64, _⟩ => ⟨S8x64x196x3072, .f32⟩
  | .hbm, ⟨65, _⟩ => ⟨S8x64x196x3072, .f32⟩
  | .hbm, ⟨66, _⟩ => ⟨S_, .f32⟩
  | .hbm, ⟨67, _⟩ => ⟨S8x64x196x3072, .f32⟩
  | .hbm, ⟨68, _⟩ => ⟨S8x64x196x3072, .f32⟩
  | .hbm, ⟨69, _⟩ => ⟨S8x64x196x3072, .f32⟩
  | .hbm, ⟨70, _⟩ => ⟨S_, .f32⟩
  | .hbm, ⟨71, _⟩ => ⟨S8x64x196x3072, .f32⟩
  | .hbm, ⟨72, _⟩ => ⟨S8x64x196x3072, .f32⟩
  | .hbm, ⟨73, _⟩ => ⟨S_, .f32⟩
  | .hbm, ⟨74, _⟩ => ⟨S8x64x196x3072, .f32⟩
  | .hbm, ⟨75, _⟩ => ⟨S8x64x196x3072, .f32⟩
  | .hbm, ⟨76, _⟩ => ⟨S8x64x196x3072, .f32⟩
  | .hbm, ⟨77, _⟩ => ⟨S8x64x196x768, .f32⟩
  | .hbm, ⟨78, _⟩ => ⟨S8x1x1x768, .f32⟩
  | .hbm, ⟨79, _⟩ => ⟨S8x64x196x768, .f32⟩
  | .hbm, ⟨80, _⟩ => ⟨S8x64x196x768, .f32⟩
  | .hbm, ⟨81, _⟩ => ⟨S38x4, .i32⟩
  | .hbm, ⟨82, _⟩ => ⟨S152, .i32⟩
  | .hbm, ⟨83, _⟩ => ⟨S_, .i32⟩
  | .hbm, ⟨84, _⟩ => ⟨S152, .i32⟩
  | .hbm, ⟨85, _⟩ => ⟨S152, .i1⟩
  | .hbm, ⟨86, _⟩ => ⟨S_, .i32⟩
  | .hbm, ⟨87, _⟩ => ⟨S152, .i32⟩
  | .hbm, ⟨88, _⟩ => ⟨S152, .i32⟩
  | .hbm, ⟨89, _⟩ => ⟨S152, .i32⟩
  | .hbm, ⟨90, _⟩ => ⟨S_, .i32⟩
  | .hbm, ⟨91, _⟩ => ⟨S152, .i32⟩
  | .hbm, ⟨92, _⟩ => ⟨S152, .i1⟩
  | .hbm, ⟨93, _⟩ => ⟨S_, .i32⟩
  | .hbm, ⟨94, _⟩ => ⟨S152, .i32⟩
  | .hbm, ⟨95, _⟩ => ⟨S152, .i32⟩
  | .hbm, ⟨96, _⟩ => ⟨S152, .i32⟩
  | .hbm, ⟨97, _⟩ => ⟨S152x1, .i32⟩
  | .hbm, ⟨98, _⟩ => ⟨S152x1, .i32⟩
  | .hbm, ⟨99, _⟩ => ⟨S152x2, .i32⟩
  | .hbm, ⟨100, _⟩ => ⟨S152x196x768, .f32⟩
  | .hbm, ⟨101, _⟩ => ⟨S152x196x768, .bf16⟩
  | _, _ => ⟨S152, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_cst_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_cst_1 : Ref sig .tc := ⟨.hbm, 27, rfl⟩
abbrev main_call0_v8 : Ref sig .tc := ⟨.hbm, 28, rfl⟩
abbrev main_call0_cst_2 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_cst_3 : Ref sig .tc := ⟨.hbm, 34, rfl⟩
abbrev main_call0_v13 : Ref sig .tc := ⟨.hbm, 35, rfl⟩
abbrev main_call0_cst_4 : Ref sig .tc := ⟨.hbm, 36, rfl⟩
abbrev main_call0_call0_v0 : Ref sig .tc := ⟨.hbm, 37, rfl⟩
abbrev main_call0_call0_v1 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_cst_1 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_cst_2 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_cst_3 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_cst_4 : Ref sig .tc := ⟨.hbm, 70, rfl⟩
abbrev main_v32 : Ref sig .tc := ⟨.hbm, 71, rfl⟩
abbrev main_v33 : Ref sig .tc := ⟨.hbm, 72, rfl⟩
abbrev main_cst_5 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_c_6 : Ref sig .tc := ⟨.hbm, 83, rfl⟩
abbrev main_v43 : Ref sig .tc := ⟨.hbm, 84, rfl⟩
abbrev main_v44 : Ref sig .tc := ⟨.hbm, 85, rfl⟩
abbrev main_c_7 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_c_8 : Ref sig .tc := ⟨.hbm, 90, rfl⟩
abbrev main_v48 : Ref sig .tc := ⟨.hbm, 91, rfl⟩
abbrev main_v49 : Ref sig .tc := ⟨.hbm, 92, rfl⟩
abbrev main_c_9 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩

abbrev nD : Nat := 1
abbrev τ : Topo := Topo.v7x

variable {F : FTy → Type} [FloatOps F]
-- ==== LastHop.lean ====
abbrev S64x196x768 : Shape := ⟨3, ![64, 196, 768]⟩
abbrev S64x1x8 : Shape := ⟨3, ![64, 1, 8]⟩
abbrev S8x768 : Shape := ⟨2, ![8, 768]⟩
abbrev S8x768x3072 : Shape := ⟨3, ![8, 768, 3072]⟩
abbrev S8x3072 : Shape := ⟨2, ![8, 3072]⟩
abbrev S8x3072x768 : Shape := ⟨3, ![8, 3072, 768]⟩
abbrev S768x1000 : Shape := ⟨2, ![768, 1000]⟩
abbrev S8x1x768 : Shape := ⟨3, ![8, 1, 768]⟩
abbrev S8x1x3072 : Shape := ⟨3, ![8, 1, 3072]⟩
abbrev S64x8 : Shape := ⟨2, ![64, 8]⟩
abbrev S_ : Shape := ⟨0, ![]⟩
abbrev S64 : Shape := ⟨1, ![64]⟩
abbrev S64x1 : Shape := ⟨2, ![64, 1]⟩
abbrev S64x2 : Shape := ⟨2, ![64, 2]⟩
abbrev S128 : Shape := ⟨1, ![128]⟩
abbrev S128x1 : Shape := ⟨2, ![128, 1]⟩
abbrev S8 : Shape := ⟨1, ![8]⟩
abbrev S152 : Shape := ⟨1, ![152]⟩
abbrev S38 : Shape := ⟨1, ![38]⟩
abbrev S1x8 : Shape := ⟨2, ![1, 8]⟩
abbrev S38x1 : Shape := ⟨2, ![38, 1]⟩
abbrev S38x8 : Shape := ⟨2, ![38, 8]⟩
abbrev S1 : Shape := ⟨1, ![1]⟩
abbrev S64x1x1 : Shape := ⟨3, ![64, 1, 1]⟩
abbrev S152x196x768 : Shape := ⟨3, ![152, 196, 768]⟩
abbrev S1x196x768 : Shape := ⟨3, ![1, 196, 768]⟩
abbrev S1x1x768 : Shape := ⟨3, ![1, 1, 768]⟩
abbrev S1x768x3072 : Shape := ⟨3, ![1, 768, 3072]⟩
abbrev S1x1x3072 : Shape := ⟨3, ![1, 1, 3072]⟩
abbrev S1x3072x768 : Shape := ⟨3, ![1, 3072, 768]⟩
abbrev S4x196x768 : Shape := ⟨3, ![4, 196, 768]⟩
abbrev S196x768 : Shape := ⟨2, ![196, 768]⟩
abbrev S196 : Shape := ⟨1, ![196]⟩
abbrev S196x1 : Shape := ⟨2, ![196, 1]⟩
abbrev S1x768 : Shape := ⟨2, ![1, 768]⟩
abbrev S768x3072 : Shape := ⟨2, ![768, 3072]⟩
abbrev S196x3072 : Shape := ⟨2, ![196, 3072]⟩
abbrev S1x3072 : Shape := ⟨2, ![1, 3072]⟩
abbrev S3072x768 : Shape := ⟨2, ![3072, 768]⟩
abbrev S64x1x1000 : Shape := ⟨3, ![64, 1, 1000]⟩
abbrev S1x1x1 : Shape := ⟨3, ![1, 1, 1]⟩
abbrev S1x1x1000 : Shape := ⟨3, ![1, 1, 1000]⟩
abbrev S768 : Shape := ⟨1, ![768]⟩
abbrev S1x1000 : Shape := ⟨2, ![1, 1000]⟩
abbrev S64x1000 : Shape := ⟨2, ![64, 1000]⟩

abbrev nBuf : Space → Nat
  | .hbm => 213
  | .vmem => 35
  | .smem => 5
  | _ => 0

abbrev hbmTy0_0 (i : Nat) : BufTy := match i % 128 with
  | 0 => ⟨S64x196x768, .f32⟩
  | 1 => ⟨S64x1x8, .f32⟩
  | 2 => ⟨S8x768, .f32⟩
  | 3 => ⟨S8x768, .f32⟩
  | 4 => ⟨S8x768x3072, .f32⟩
  | 5 => ⟨S8x3072, .f32⟩
  | 6 => ⟨S8x3072x768, .f32⟩
  | 7 => ⟨S8x768, .f32⟩
  | 8 => ⟨S768x1000, .f32⟩
  | 9 => ⟨S8x1x768, .f32⟩
  | 10 => ⟨S8x1x768, .f32⟩
  | 11 => ⟨S8x1x3072, .f32⟩
  | 12 => ⟨S8x1x3072, .bf16⟩
  | 13 => ⟨S8x1x768, .f32⟩
  | 14 => ⟨S8x768x3072, .bf16⟩
  | 15 => ⟨S8x3072x768, .bf16⟩
  | 16 => ⟨S64x8, .f32⟩
  | 17 => ⟨S_, .f32⟩
  | 18 => ⟨S64, .f32⟩
  | 19 => ⟨S_, .f32⟩
  | 20 => ⟨S64, .f32⟩
  | 21 => ⟨S64, .f32⟩
  | 22 => ⟨S64x1, .f32⟩
  | 23 => ⟨S64x8, .f32⟩
  | 24 => ⟨S64x8, .f32⟩
  | 25 => ⟨S64x8, .f32⟩
  | 26 => ⟨S_, .f32⟩
  | 27 => ⟨S64, .f32⟩
  | 28 => ⟨S64x1, .f32⟩
  | 29 => ⟨S64x8, .f32⟩
  | 30 => ⟨S64x8, .f32⟩
  | 31 => ⟨S64x2, .f32⟩
  | 32 => ⟨S64x2, .i32⟩
  | 33 => ⟨S_, .f32⟩
  | 34 => ⟨S64, .f32⟩
  | 35 => ⟨S64x1, .f32⟩
  | 36 => ⟨S_, .f32⟩
  | 37 => ⟨S64x1, .f32⟩
  | 38 => ⟨S64x1, .f32⟩
  | 39 => ⟨S64x2, .f32⟩
  | 40 => ⟨S64x2, .f32⟩
  | 41 => ⟨S128, .i32⟩
  | 42 => ⟨S128, .i32⟩
  | 43 => ⟨S128, .i32⟩
  | 44 => ⟨S128, .i32⟩
  | 45 => ⟨S_, .i32⟩
  | 46 => ⟨S_, .i32⟩
  | 47 => ⟨S128, .i32⟩
  | 48 => ⟨S128, .i32⟩
  | 49 => ⟨S128, .i32⟩
  | 50 => ⟨S_, .i32⟩
  | 51 => ⟨S128, .i32⟩
  | 52 => ⟨S128, .i1⟩
  | 53 => ⟨S128, .i32⟩
  | 54 => ⟨S128, .i32⟩
  | 55 => ⟨S_, .i32⟩
  | 56 => ⟨S128, .i32⟩
  | 57 => ⟨S128, .i1⟩
  | 58 => ⟨S128, .i1⟩
  | 59 => ⟨S_, .i32⟩
  | 60 => ⟨S128, .i32⟩
  | 61 => ⟨S128, .i32⟩
  | 62 => ⟨S128, .i32⟩
  | 63 => ⟨S_, .i32⟩
  | 64 => ⟨S128, .i32⟩
  | 65 => ⟨S128, .i1⟩
  | 66 => ⟨S_, .i32⟩
  | 67 => ⟨S128, .i32⟩
  | 68 => ⟨S128, .i32⟩
  | 69 => ⟨S128, .i32⟩
  | 70 => ⟨S128x1, .i32⟩
  | 71 => ⟨S128, .i32⟩
  | 72 => ⟨S_, .i32⟩
  | 73 => ⟨S8, .i32⟩
  | 74 => ⟨S_, .i32⟩
  | 75 => ⟨S_, .i32⟩
  | 76 => ⟨S128, .i32⟩
  | 77 => ⟨S128, .i32⟩
  | 78 => ⟨S_, .i32⟩
  | 79 => ⟨S128, .i32⟩
  | 80 => ⟨S128, .i1⟩
  | 81 => ⟨S_, .i32⟩
  | 82 => ⟨S128, .i32⟩
  | 83 => ⟨S128, .i32⟩
  | 84 => ⟨S128, .i32⟩
  | 85 => ⟨S128x1, .i32⟩
  | 86 => ⟨S_, .i32⟩
  | 87 => ⟨S128, .i32⟩
  | 88 => ⟨S8, .i32⟩
  | 89 => ⟨S_, .i32⟩
  | 90 => ⟨S8, .i32⟩
  | 91 => ⟨S8, .i32⟩
  | 92 => ⟨S_, .i32⟩
  | 93 => ⟨S8, .i32⟩
  | 94 => ⟨S8, .i32⟩
  | 95 => ⟨S_, .i32⟩
  | 96 => ⟨S_, .i32⟩
  | 97 => ⟨S8, .i32⟩
  | 98 => ⟨S8, .i32⟩
  | 99 => ⟨S8, .i32⟩
  | 100 => ⟨S_, .i32⟩
  | 101 => ⟨S8, .i32⟩
  | 102 => ⟨S8, .i1⟩
  | 103 => ⟨S8, .i32⟩
  | 104 => ⟨S8, .i32⟩
  | 105 => ⟨S_, .i32⟩
  | 106 => ⟨S8, .i32⟩
  | 107 => ⟨S8, .i1⟩
  | 108 => ⟨S8, .i1⟩
  | 109 => ⟨S_, .i32⟩
  | 110 => ⟨S8, .i32⟩
  | 111 => ⟨S8, .i32⟩
  | 112 => ⟨S8, .i32⟩
  | 113 => ⟨S_, .i32⟩
  | 114 => ⟨S8, .i32⟩
  | 115 => ⟨S8, .i32⟩
  | 116 => ⟨S_, .i32⟩
  | 117 => ⟨S_, .i32⟩
  | 118 => ⟨S8, .i32⟩
  | 119 => ⟨S8, .i32⟩
  | 120 => ⟨S_, .i32⟩
  | 121 => ⟨S_, .i32⟩
  | 122 => ⟨S8, .i32⟩
  | 123 => ⟨S8, .i32⟩
  | 124 => ⟨S128, .i32⟩
  | 125 => ⟨S_, .i32⟩
  | 126 => ⟨S128, .i32⟩
  | 127 => ⟨S128, .i1⟩
  | _ => ⟨S64x196x768, .f32⟩

abbrev hbmTy0_1 (i : Nat) : BufTy := match i % 128 with
  | 0 => ⟨S_, .i32⟩
  | 1 => ⟨S128, .i32⟩
  | 2 => ⟨S128, .i32⟩
  | 3 => ⟨S128, .i32⟩
  | 4 => ⟨S128x1, .i32⟩
  | 5 => ⟨S128, .i32⟩
  | 6 => ⟨S_, .i32⟩
  | 7 => ⟨S128, .i32⟩
  | 8 => ⟨S128, .i1⟩
  | 9 => ⟨S_, .i32⟩
  | 10 => ⟨S128, .i32⟩
  | 11 => ⟨S128, .i32⟩
  | 12 => ⟨S128, .i32⟩
  | 13 => ⟨S128x1, .i32⟩
  | 14 => ⟨S128, .i32⟩
  | 15 => ⟨S128, .i32⟩
  | 16 => ⟨S128, .i32⟩
  | 17 => ⟨S_, .i32⟩
  | 18 => ⟨S152, .i32⟩
  | 19 => ⟨S_, .i32⟩
  | 20 => ⟨S128, .i32⟩
  | 21 => ⟨S128, .i1⟩
  | 22 => ⟨S_, .i32⟩
  | 23 => ⟨S128, .i32⟩
  | 24 => ⟨S128, .i32⟩
  | 25 => ⟨S128, .i32⟩
  | 26 => ⟨S128x1, .i32⟩
  | 27 => ⟨S_, .i32⟩
  | 28 => ⟨S_, .i32⟩
  | 29 => ⟨S8, .i32⟩
  | 30 => ⟨S8, .i32⟩
  | 31 => ⟨S8, .i32⟩
  | 32 => ⟨S_, .i32⟩
  | 33 => ⟨S8, .i32⟩
  | 34 => ⟨S8, .i1⟩
  | 35 => ⟨S8, .i32⟩
  | 36 => ⟨S8, .i32⟩
  | 37 => ⟨S_, .i32⟩
  | 38 => ⟨S8, .i32⟩
  | 39 => ⟨S8, .i1⟩
  | 40 => ⟨S8, .i1⟩
  | 41 => ⟨S_, .i32⟩
  | 42 => ⟨S8, .i32⟩
  | 43 => ⟨S8, .i32⟩
  | 44 => ⟨S8, .i32⟩
  | 45 => ⟨S38, .i32⟩
  | 46 => ⟨S1x8, .i32⟩
  | 47 => ⟨S38x1, .i32⟩
  | 48 => ⟨S38x8, .i32⟩
  | 49 => ⟨S38x8, .i32⟩
  | 50 => ⟨S38x8, .i1⟩
  | 51 => ⟨S38x8, .i32⟩
  | 52 => ⟨S_, .i32⟩
  | 53 => ⟨S38, .i32⟩
  | 54 => ⟨S_, .i32⟩
  | 55 => ⟨S_, .i32⟩
  | 56 => ⟨S_, .i32⟩
  | 57 => ⟨S38, .i32⟩
  | 58 => ⟨S38, .i32⟩
  | 59 => ⟨S_, .i32⟩
  | 60 => ⟨S38, .i32⟩
  | 61 => ⟨S1, .i32⟩
  | 62 => ⟨S_, .i32⟩
  | 63 => ⟨S38, .i32⟩
  | 64 => ⟨S38, .i1⟩
  | 65 => ⟨S_, .i32⟩
  | 66 => ⟨S128, .i32⟩
  | 67 => ⟨S_, .i32⟩
  | 68 => ⟨S128, .i32⟩
  | 69 => ⟨S128, .i1⟩
  | 70 => ⟨S_, .i32⟩
  | 71 => ⟨S128, .i32⟩
  | 72 => ⟨S128, .i32⟩
  | 73 => ⟨S128, .i32⟩
  | 74 => ⟨S128x1, .i32⟩
  | 75 => ⟨S128, .i32⟩
  | 76 => ⟨S64x1, .f32⟩
  | 77 => ⟨S64, .f32⟩
  | 78 => ⟨S64x1x1, .f32⟩
  | 79 => ⟨S64x1, .f32⟩
  | 80 => ⟨S64, .f32⟩
  | 81 => ⟨S64x1x1, .f32⟩
  | 82 => ⟨S152x196x768, .bf16⟩
  | 83 => ⟨S64x1x1000, .f32⟩
  | 84 => ⟨S64x1000, .f32⟩
  | _ => ⟨S64x196x768, .f32⟩

abbrev hbmTy (i : Nat) : BufTy := match i / 128 with
  | 0 => hbmTy0_0 i
  | 1 => hbmTy0_1 i
  | _ => ⟨S64x196x768, .f32⟩

abbrev bufTy : (tb : Table) → Fin (tcTables nBuf tb) → BufTy
  | .hbm, ⟨i, _⟩ => hbmTy i
  | .local _ .vmem, ⟨0, _⟩ => ⟨S1x196x768, .f32⟩
  | .local _ .vmem, ⟨1, _⟩ => ⟨S1x196x768, .f32⟩
  | .local _ .vmem, ⟨2, _⟩ => ⟨S1x196x768, .f32⟩
  | .local _ .vmem, ⟨3, _⟩ => ⟨S1x196x768, .f32⟩
  | .local _ .vmem, ⟨4, _⟩ => ⟨S1x196x768, .f32⟩
  | .local _ .vmem, ⟨5, _⟩ => ⟨S1x196x768, .f32⟩
  | .local _ .vmem, ⟨6, _⟩ => ⟨S1x196x768, .f32⟩
  | .local _ .vmem, ⟨7, _⟩ => ⟨S1x196x768, .f32⟩
  | .local _ .vmem, ⟨8, _⟩ => ⟨S1x1x768, .f32⟩
  | .local _ .vmem, ⟨9, _⟩ => ⟨S1x1x768, .f32⟩
  | .local _ .vmem, ⟨10, _⟩ => ⟨S1x1x768, .f32⟩
  | .local _ .vmem, ⟨11, _⟩ => ⟨S1x1x768, .f32⟩
  | .local _ .vmem, ⟨12, _⟩ => ⟨S1x768x3072, .bf16⟩
  | .local _ .vmem, ⟨13, _⟩ => ⟨S1x768x3072, .bf16⟩
  | .local _ .vmem, ⟨14, _⟩ => ⟨S1x1x3072, .bf16⟩
  | .local _ .vmem, ⟨15, _⟩ => ⟨S1x1x3072, .bf16⟩
  | .local _ .vmem, ⟨16, _⟩ => ⟨S1x3072x768, .bf16⟩
  | .local _ .vmem, ⟨17, _⟩ => ⟨S1x3072x768, .bf16⟩
  | .local _ .vmem, ⟨18, _⟩ => ⟨S1x1x768, .f32⟩
  | .local _ .vmem, ⟨19, _⟩ => ⟨S1x1x768, .f32⟩
  | .local _ .vmem, ⟨20, _⟩ => ⟨S4x196x768, .bf16⟩
  | .local _ .vmem, ⟨21, _⟩ => ⟨S4x196x768, .bf16⟩
  | .local _ .vmem, ⟨22, _⟩ => ⟨S1x196x768, .f32⟩
  | .local _ .vmem, ⟨23, _⟩ => ⟨S1x196x768, .f32⟩
  | .local _ .vmem, ⟨24, _⟩ => ⟨S1x196x768, .bf16⟩
  | .local _ .vmem, ⟨25, _⟩ => ⟨S1x196x768, .bf16⟩
  | .local _ .vmem, ⟨26, _⟩ => ⟨S1x196x768, .bf16⟩
  | .local _ .vmem, ⟨27, _⟩ => ⟨S1x196x768, .bf16⟩
  | .local _ .vmem, ⟨28, _⟩ => ⟨S1x1x1, .f32⟩
  | .local _ .vmem, ⟨29, _⟩ => ⟨S1x1x1, .f32⟩
  | .local _ .vmem, ⟨30, _⟩ => ⟨S1x1x1, .f32⟩
  | .local _ .vmem, ⟨31, _⟩ => ⟨S1x1x1, .f32⟩
  | .local _ .vmem, ⟨32, _⟩ => ⟨S768x1000, .f32⟩
  | .local _ .vmem, ⟨33, _⟩ => ⟨S1x1x1000, .f32⟩
  | .local _ .vmem, ⟨34, _⟩ => ⟨S1x1x1000, .f32⟩
  | .local _ .smem, ⟨0, _⟩ => ⟨S152, .i32⟩
  | .local _ .smem, ⟨1, _⟩ => ⟨S38, .i32⟩
  | .local _ .smem, ⟨2, _⟩ => ⟨S38, .i32⟩
  | .local _ .smem, ⟨3, _⟩ => ⟨S64, .i32⟩
  | .local _ .smem, ⟨4, _⟩ => ⟨S64, .i32⟩
  | _, _ => ⟨S64x196x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_values : Ref sig .tc := ⟨.hbm, 31, rfl⟩
abbrev main_indices : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call0_v0 : Ref sig .tc := ⟨.hbm, 42, rfl⟩
abbrev main_call0_v1_0 : Ref sig .tc := ⟨.hbm, 43, rfl⟩
abbrev main_v26 : Ref sig .tc := ⟨.hbm, 44, rfl⟩
abbrev main_c : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_c : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_0 : Ref sig .tc := ⟨.hbm, 59, rfl⟩
abbrev main_call1_v12 : Ref sig .tc := ⟨.hbm, 60, rfl⟩
abbrev main_call1_v13 : Ref sig .tc := ⟨.hbm, 61, rfl⟩
abbrev main_v27 : Ref sig .tc := ⟨.hbm, 62, rfl⟩
abbrev main_c_4 : Ref sig .tc := ⟨.hbm, 63, rfl⟩
abbrev main_v28 : Ref sig .tc := ⟨.hbm, 64, rfl⟩
abbrev main_v29 : Ref sig .tc := ⟨.hbm, 65, rfl⟩
abbrev main_c_5 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_c_6 : Ref sig .tc := ⟨.hbm, 72, rfl⟩
abbrev main_v35 : Ref sig .tc := ⟨.hbm, 73, rfl⟩
abbrev main_c_7 : Ref sig .tc := ⟨.hbm, 74, rfl⟩
abbrev main_call2_v0 : Ref sig .tc := ⟨.hbm, 75, rfl⟩
abbrev main_call2_v1 : Ref sig .tc := ⟨.hbm, 76, rfl⟩
abbrev main_v36 : Ref sig .tc := ⟨.hbm, 77, rfl⟩
abbrev main_c_8 : Ref sig .tc := ⟨.hbm, 78, rfl⟩
abbrev main_v37 : Ref sig .tc := ⟨.hbm, 79, rfl⟩
abbrev main_v38 : Ref sig .tc := ⟨.hbm, 80, rfl⟩
abbrev main_c_9 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_c_10 : Ref sig .tc := ⟨.hbm, 86, rfl⟩
abbrev main_v43 : Ref sig .tc := ⟨.hbm, 87, rfl⟩
abbrev main_v44 : Ref sig .tc := ⟨.hbm, 88, rfl⟩
abbrev main_c_11 : Ref sig .tc := ⟨.hbm, 89, rfl⟩
abbrev main_v45 : Ref sig .tc := ⟨.hbm, 90, rfl⟩
abbrev main_v46 : Ref sig .tc := ⟨.hbm, 91, rfl⟩
abbrev main_c_12 : Ref sig .tc := ⟨.hbm, 92, rfl⟩
abbrev main_v47 : Ref sig .tc := ⟨.hbm, 93, rfl⟩
abbrev main_v48 : Ref sig .tc := ⟨.hbm, 94, rfl⟩
abbrev main_c_13 : Ref sig .tc := ⟨.hbm, 95, rfl⟩
abbrev main_call3_v0 : Ref sig .tc := ⟨.hbm, 96, rfl⟩
abbrev main_call3_v1 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_call3_v5 : Ref sig .tc := ⟨.hbm, 101, rfl⟩
abbrev main_call3_v6 : Ref sig .tc := ⟨.hbm, 102, rfl⟩
abbrev main_call3_v7 : Ref sig .tc := ⟨.hbm, 103, rfl⟩
abbrev main_call3_v8 : Ref sig .tc := ⟨.hbm, 104, rfl⟩
abbrev main_call3_c : Ref sig .tc := ⟨.hbm, 105, rfl⟩
abbrev main_call3_v9 : Ref sig .tc := ⟨.hbm, 106, rfl⟩
abbrev main_call3_v10 : Ref sig .tc := ⟨.hbm, 107, rfl⟩
abbrev main_call3_v11 : Ref sig .tc := ⟨.hbm, 108, rfl⟩
abbrev main_call3_c_0 : Ref sig .tc := ⟨.hbm, 109, rfl⟩
abbrev main_call3_v12 : Ref sig .tc := ⟨.hbm, 110, rfl⟩
abbrev main_call3_v13 : Ref sig .tc := ⟨.hbm, 111, rfl⟩
abbrev main_v49 : Ref sig .tc := ⟨.hbm, 112, rfl⟩
abbrev main_c_14 : Ref sig .tc := ⟨.hbm, 113, rfl⟩
abbrev main_v50 : Ref sig .tc := ⟨.hbm, 114, rfl⟩
abbrev main_v51 : Ref sig .tc := ⟨.hbm, 115, rfl⟩
abbrev main_call4_call0_c : Ref sig .tc := ⟨.hbm, 116, rfl⟩
abbrev main_call4_call0_v0 : Ref sig .tc := ⟨.hbm, 117, rfl⟩
abbrev main_v52 : Ref sig .tc := ⟨.hbm, 118, rfl⟩
abbrev main_v53 : Ref sig .tc := ⟨.hbm, 119, rfl⟩
abbrev main_call5_call0_c : Ref sig .tc := ⟨.hbm, 120, rfl⟩
abbrev main_call5_call0_v0 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_c_15 : Ref sig .tc := ⟨.hbm, 125, rfl⟩
abbrev main_v57 : Ref sig .tc := ⟨.hbm, 126, rfl⟩
abbrev main_v58 : Ref sig .tc := ⟨.hbm, 127, rfl⟩
abbrev main_c_16 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_v62 : Ref sig .tc := ⟨.hbm, 132, rfl⟩
abbrev main_v63 : Ref sig .tc := ⟨.hbm, 133, rfl⟩
abbrev main_c_17 : Ref sig .tc := ⟨.hbm, 134, rfl⟩
abbrev main_v64 : Ref sig .tc := ⟨.hbm, 135, rfl⟩
abbrev main_v65 : Ref sig .tc := ⟨.hbm, 136, rfl⟩
abbrev main_c_18 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_v71 : Ref sig .tc := ⟨.hbm, 143, rfl⟩
abbrev main_v72 : Ref sig .tc := ⟨.hbm, 144, rfl⟩
abbrev main_c_19 : Ref sig .tc := ⟨.hbm, 145, rfl⟩
abbrev main_v73 : Ref sig .tc := ⟨.hbm, 146, rfl⟩
abbrev main_c_20 : Ref sig .tc := ⟨.hbm, 147, rfl⟩
abbrev main_v74 : Ref sig .tc := ⟨.hbm, 148, rfl⟩
abbrev main_v75 : Ref sig .tc := ⟨.hbm, 149, rfl⟩
abbrev main_c_21 : Ref sig .tc := ⟨.hbm, 150, rfl⟩
abbrev main_v76 : Ref sig .tc := ⟨.hbm, 151, rfl⟩
abbrev main_v77 : Ref sig .tc := ⟨.hbm, 152, rfl⟩
abbrev main_v78 : Ref sig .tc := ⟨.hbm, 153, rfl⟩
abbrev main_v79 : Ref sig .tc := ⟨.hbm, 154, rfl⟩
abbrev main_c_22 : Ref sig .tc := ⟨.hbm, 155, rfl⟩
abbrev main_call6_v0 : Ref sig .tc := ⟨.hbm, 156, rfl⟩
abbrev main_call6_v1 : Ref sig .tc := ⟨.hbm, 157, rfl⟩
abbrev main_call6_v2 : Ref sig .tc := ⟨.hbm, 158, rfl⟩
abbrev main_call6_v3 : Ref sig .tc := ⟨.hbm, 159, rfl⟩
abbrev main_call6_v4 : Ref sig .tc := ⟨.hbm, 160, rfl⟩
abbrev main_call6_v5 : Ref sig .tc := ⟨.hbm, 161, rfl⟩
abbrev main_call6_v6 : Ref sig .tc := ⟨.hbm, 162, rfl⟩
abbrev main_call6_v7 : Ref sig .tc := ⟨.hbm, 163, rfl⟩
abbrev main_call6_v8 : Ref sig .tc := ⟨.hbm, 164, rfl⟩
abbrev main_call6_c : Ref sig .tc := ⟨.hbm, 165, rfl⟩
abbrev main_call6_v9 : Ref sig .tc := ⟨.hbm, 166, rfl⟩
abbrev main_call6_v10 : Ref sig .tc := ⟨.hbm, 167, rfl⟩
abbrev main_call6_v11 : Ref sig .tc := ⟨.hbm, 168, rfl⟩
abbrev main_call6_c_0 : Ref sig .tc := ⟨.hbm, 169, rfl⟩
abbrev main_call6_v12 : Ref sig .tc := ⟨.hbm, 170, rfl⟩
abbrev main_call6_v13 : Ref sig .tc := ⟨.hbm, 171, rfl⟩
abbrev main_v81 : Ref sig .tc := ⟨.hbm, 172, rfl⟩
abbrev main_v82 : Ref sig .tc := ⟨.hbm, 173, rfl⟩
abbrev main_v83 : Ref sig .tc := ⟨.hbm, 174, rfl⟩
abbrev main_v84 : Ref sig .tc := ⟨.hbm, 175, rfl⟩
abbrev main_v85 : Ref sig .tc := ⟨.hbm, 176, rfl⟩
abbrev main_v86 : Ref sig .tc := ⟨.hbm, 177, rfl⟩
abbrev main_v87 : Ref sig .tc := ⟨.hbm, 178, rfl⟩
abbrev main_v88 : Ref sig .tc := ⟨.hbm, 179, rfl⟩
abbrev main_c_23 : Ref sig .tc := ⟨.hbm, 180, rfl⟩
abbrev main_v89 : Ref sig .tc := ⟨.hbm, 181, rfl⟩
abbrev main_c_24 : Ref sig .tc := ⟨.hbm, 182, rfl⟩
abbrev main_c_25 : Ref sig .tc := ⟨.hbm, 183, rfl⟩
abbrev main_call7_v0 : Ref sig .tc := ⟨.hbm, 184, rfl⟩
abbrev main_call7_v1 : Ref sig .tc := ⟨.hbm, 185, rfl⟩
abbrev main_call7_v2 : Ref sig .tc := ⟨.hbm, 186, rfl⟩
abbrev main_call7_v3 : Ref sig .tc := ⟨.hbm, 187, rfl⟩
abbrev main_call7_v4 : Ref sig .tc := ⟨.hbm, 188, rfl⟩
abbrev main_v91 : Ref sig .tc := ⟨.hbm, 189, rfl⟩
abbrev main_v92 : Ref sig .tc := ⟨.hbm, 190, rfl⟩
abbrev main_v93 : Ref sig .tc := ⟨.hbm, 191, rfl⟩
abbrev main_v94 : Ref sig .tc := ⟨.hbm, 192, rfl⟩
abbrev main_c_26 : Ref sig .tc := ⟨.hbm, 193, rfl⟩
abbrev main_v96 : Ref sig .tc := ⟨.hbm, 194, rfl⟩
abbrev main_c_27 : Ref sig .tc := ⟨.hbm, 195, rfl⟩
abbrev main_v97 : Ref sig .tc := ⟨.hbm, 196, rfl⟩
abbrev main_v98 : Ref sig .tc := ⟨.hbm, 197, rfl⟩
abbrev main_c_28 : Ref sig .tc := ⟨.hbm, 198, rfl⟩
abbrev main_v99 : Ref sig .tc := ⟨.hbm, 199, rfl⟩
abbrev main_v100 : Ref sig .tc := ⟨.hbm, 200, rfl⟩
abbrev main_v101 : Ref sig .tc := ⟨.hbm, 201, rfl⟩
abbrev main_v102 : Ref sig .tc := ⟨.hbm, 202, rfl⟩
abbrev main_v103 : Ref sig .tc := ⟨.hbm, 203, rfl⟩
abbrev main_v106 : Ref sig .tc := ⟨.hbm, 204, rfl⟩
abbrev main_v107 : Ref sig .tc := ⟨.hbm, 205, rfl⟩
abbrev main_v108 : Ref sig .tc := ⟨.hbm, 206, rfl⟩
abbrev main_v109 : Ref sig .tc := ⟨.hbm, 207, rfl⟩
abbrev main_v110 : Ref sig .tc := ⟨.hbm, 208, rfl⟩
abbrev main_v111 : Ref sig .tc := ⟨.hbm, 209, rfl⟩
abbrev main_v112 : Ref sig .tc := ⟨.hbm, 210, rfl⟩
abbrev main_v113 : Ref sig .tc := ⟨.hbm, 211, rfl⟩
abbrev main_v114 : Ref sig .tc := ⟨.hbm, 212, rfl⟩
abbrev main_v80 : Ref sig .tc := ⟨.smem, 0, rfl⟩
abbrev main_v90 : Ref sig .tc := ⟨.smem, 1, rfl⟩
abbrev main_v95 : Ref sig .tc := ⟨.smem, 2, rfl⟩
abbrev main_v104 : Ref sig .tc := ⟨.smem, 3, rfl⟩
abbrev main_v105 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg4_1 : Ref sig .tc := ⟨.vmem, 31, rfl⟩
abbrev cc1_stg5_0 : Ref sig .tc := ⟨.vmem, 32, rfl⟩
abbrev cc1_stg6_0 : Ref sig .tc := ⟨.vmem, 33, rfl⟩
abbrev cc1_stg6_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem4_1 : DmaSem sig := 31
abbrev cc1_sem5_0 : DmaSem sig := 32
abbrev cc1_sem6_0 : DmaSem sig := 33
abbrev cc1_sem6_1 : DmaSem sig := 34

abbrev nD : Nat := 1
abbrev τ : Topo := Topo.v7x

variable {F : FTy → Type} [FloatOps F]

abbrev grid0 : Pipeline.Grid := ⟨1, ![38], ![false]⟩

abbrev pre0 : Pipeline.Prefetch sig := ⟨3, ![main_v80.idx, main_v90.idx, main_v95.idx], fun | 0 => main_v80.names | 1 => main_v90.names | 2 => main_v95.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) (c0_i32 : BitVec 32) : Fin 1 → Nat :=
  let c4_i32 : BitVec 32 := 4#32
  let arg0 : BitVec 32 := BitVec.ofNat 32 (i 0).val
  let v0 : BitVec 32 := Scalar.muli c4_i32 arg0
  let v1 : BitVec 32 := Scalar.addi v0 c0_i32
  let v2 : Index := Scalar.indexCast v1
  ![v2.toNat]
def k0_off2 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v2 : BitVec 1 := Scalar.cmpi .ne v1 c0_i32
  let v3 : BitVec 32 := Scalar.extui v2
  let c0_i32_0 : BitVec 32 := 0#32
  let v4 : BitVec 1 := Scalar.cmpi .ne v3 c0_i32_0
  v4

def cc0_transform_0 (k0_off1_inb : ∀ i : grid0.Coords, ∀ (r : Fin 4), ∀ a, (k0_off1 i (BitVec.ofNat 32 r.val)) a + S1.size a ≤ S152.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let v2 : Index := Scalar.indexCast v1
  let v3 : BitVec 32 := pf.at 0 (Rect.unit (s := S152) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_1 (k0_off1_inb : ∀ i : grid0.Coords, ∀ (r : Fin 4), ∀ a, (k0_off1 i (BitVec.ofNat 32 r.val)) a + S1.size a ≤ S152.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let v2 : Index := Scalar.indexCast v1
  let v3 : BitVec 32 := pf.at 0 (Rect.unit (s := S152) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_2 (k0_off1_inb : ∀ i : grid0.Coords, ∀ (r : Fin 4), ∀ a, (k0_off1 i (BitVec.ofNat 32 r.val)) a + S1.size a ≤ S152.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let v2 : Index := Scalar.indexCast v1
  let v3 : BitVec 32 := pf.at 0 (Rect.unit (s := S152) ![v2.toNat] S1.size (k0_off1_inb i 2)) numel1_S1
  let c0_i32 : BitVec 32 := 0#32
  let c0_i32_0 : BitVec 32 := 0#32
  let c0_i32_1 : BitVec 32 := 0#32
  ![v3.toNat, c0_i32.toNat, c0_i32_0.toNat]

def cc0_transform_3 (k0_off1_inb : ∀ i : grid0.Coords, ∀ (r : Fin 4), ∀ a, (k0_off1 i (BitVec.ofNat 32 r.val)) a + S1.size a ≤ S152.size a) (numel1_S1 : S1.numel = 1) (pf : pre0.Contents (Elt F)) (i : grid0.Coords) : Fin 3 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let v2 : Index := Scalar.indexCast v1
  let v3 : BitVec 32 := pf.at 0 (Rect.unit (s := S152) ![v2.toNat] S1.size (k0_off1_inb i 3)) numel1_S1
  let c0_i32 : BitVec 32 := 0#32
  let c0_i32_0 : BitVec 32 := 0#32
  let c0_i32_1 : BitVec 32 := 0#32
  ![v3.toNat, c0_i32.toNat, c0_i32_0.toNat]

def cc0_transform_4 (k0_off2_inb : ∀ i : grid0.Coords, ∀ a, (k0_off2 i) a + S1.size a ≤ S38.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S38) ![v0.toNat] S1.size (k0_off2_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off2_inb : ∀ i : grid0.Coords, ∀ a, (k0_off2 i) a + S1.size a ≤ S38.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S38) ![v0.toNat] S1.size (k0_off2_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off2_inb : ∀ i : grid0.Coords, ∀ a, (k0_off2 i) a + S1.size a ≤ S38.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S38) ![v0.toNat] S1.size (k0_off2_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (k0_off2_inb : ∀ i : grid0.Coords, ∀ a, (k0_off2 i) a + S1.size a ≤ S38.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S38) ![v0.toNat] S1.size (k0_off2_inb i)) numel1_S1
  let c0_i32 : BitVec 32 := 0#32
  let c0_i32_0 : BitVec 32 := 0#32
  let c0_i32_1 : BitVec 32 := 0#32
  ![v1.toNat, c0_i32.toNat, c0_i32_0.toNat]

def cc0_transform_8 (k0_off2_inb : ∀ i : grid0.Coords, ∀ a, (k0_off2 i) a + S1.size a ≤ S38.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S38) ![v0.toNat] S1.size (k0_off2_inb i)) numel1_S1
  let c0_i32 : BitVec 32 := 0#32
  let c0_i32_0 : BitVec 32 := 0#32
  let c0_i32_1 : BitVec 32 := 0#32
  ![v1.toNat, c0_i32.toNat, c0_i32_0.toNat]

def cc0_transform_9 (k0_off2_inb : ∀ i : grid0.Coords, ∀ a, (k0_off2 i) a + S1.size a ≤ S38.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S38) ![v0.toNat] S1.size (k0_off2_inb i)) numel1_S1
  let c0_i32 : BitVec 32 := 0#32
  let c0_i32_0 : BitVec 32 := 0#32
  let c0_i32_1 : BitVec 32 := 0#32
  ![v1.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x196x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x196x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x196x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x196x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x768x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x3072x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x196x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![64], ![false]⟩

abbrev pre1 : Pipeline.Prefetch sig := ⟨2, ![main_v104.idx, main_v105.idx], fun | 0 => main_v104.names | 1 => main_v105.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (k1_off1_inb : ∀ i : grid1.Coords, ∀ a, (k1_off1 i) a + S1.size a ≤ S64.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S64) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_2 (k1_off1_inb : ∀ i : grid1.Coords, ∀ a, (k1_off1 i) a + S1.size a ≤ S64.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 1 (Rect.unit (s := S64) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x196x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x196x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x196x768 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S768x1000 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1x1x1000 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== LastHopIdeal.lean ====
variable {F : FTy → Type} [FloatOps F] [Named F]
def κ : String → Option EReal := fun
  | "gelu_cubic" => some ((12003091 / 268435456 : ℝ) : EReal)
  | "gelu_scale" => some ((6693141 / 8388608 : ℝ) : EReal)
  | _ => none
-- ==== LastHopReferenceIdeal.lean ====
abbrev S64x196x768 : Shape := ⟨3, ![64, 196, 768]⟩
abbrev S64x1x8 : Shape := ⟨3, ![64, 1, 8]⟩
abbrev S8x768 : Shape := ⟨2, ![8, 768]⟩
abbrev S8x768x3072 : Shape := ⟨3, ![8, 768, 3072]⟩
abbrev S8x3072 : Shape := ⟨2, ![8, 3072]⟩
abbrev S8x3072x768 : Shape := ⟨3, ![8, 3072, 768]⟩
abbrev S768x1000 : Shape := ⟨2, ![768, 1000]⟩
abbrev S64x8 : Shape := ⟨2, ![64, 8]⟩
abbrev S_ : Shape := ⟨0, ![]⟩
abbrev S64 : Shape := ⟨1, ![64]⟩
abbrev S64x1 : Shape := ⟨2, ![64, 1]⟩
abbrev S64x2 : Shape := ⟨2, ![64, 2]⟩
abbrev S64x196 : Shape := ⟨2, ![64, 196]⟩
abbrev S64x196x1 : Shape := ⟨3, ![64, 196, 1]⟩
abbrev S8x1x1x768 : Shape := ⟨4, ![8, 1, 1, 768]⟩
abbrev S1x64x196x768 : Shape := ⟨4, ![1, 64, 196, 768]⟩
abbrev S8x64x196x768 : Shape := ⟨4, ![8, 64, 196, 768]⟩
abbrev S8x64x196x3072 : Shape := ⟨4, ![8, 64, 196, 3072]⟩
abbrev S8x1x1x3072 : Shape := ⟨4, ![8, 1, 1, 3072]⟩
abbrev S64x2x1 : Shape := ⟨3, ![64, 2, 1]⟩
abbrev S1x1x8 : Shape := ⟨3, ![1, 1, 8]⟩
abbrev S64x2x8 : Shape := ⟨3, ![64, 2, 8]⟩
abbrev S64x768 : Shape := ⟨2, ![64, 768]⟩
abbrev S64x1000 : Shape := ⟨2, ![64, 1000]⟩

abbrev nBuf : Space → Nat
  | .hbm => 125
  | .vmem => 0
  | .smem => 0
  | _ => 0

abbrev bufTy : (tb : Table) → Fin (tcTables nBuf tb) → BufTy
  | .hbm, ⟨0, _⟩ => ⟨S64x196x768, .f32⟩
  | .hbm, ⟨1, _⟩ => ⟨S64x1x8, .f32⟩
  | .hbm, ⟨2, _⟩ => ⟨S8x768, .f32⟩
  | .hbm, ⟨3, _⟩ => ⟨S8x768, .f32⟩
  | .hbm, ⟨4, _⟩ => ⟨S8x768x3072, .f32⟩
  | .hbm, ⟨5, _⟩ => ⟨S8x3072, .f32⟩
  | .hbm, ⟨6, _⟩ => ⟨S8x3072x768, .f32⟩
  | .hbm, ⟨7, _⟩ => ⟨S8x768, .f32⟩
  | .hbm, ⟨8, _⟩ => ⟨S768x1000, .f32⟩
  | .hbm, ⟨9, _⟩ => ⟨S64x8, .f32⟩
  | .hbm, ⟨10, _⟩ => ⟨S_, .f32⟩
  | .hbm, ⟨11, _⟩ => ⟨S64x8, .f32⟩
  | .hbm, ⟨12, _⟩ => ⟨S64x8, .f32⟩
  | .hbm, ⟨13, _⟩ => ⟨S_, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S64x1, .f32⟩
  | .hbm, ⟨19, _⟩ => ⟨S64x8, .f32⟩
  | .hbm, ⟨20, _⟩ => ⟨S64x8, .f32⟩
  | .hbm, ⟨21, _⟩ => ⟨S64x8, .f32⟩
  | .hbm, ⟨22, _⟩ => ⟨S_, .f32⟩
  | .hbm, ⟨23, _⟩ => ⟨S64, .f32⟩
  | .hbm, ⟨24, _⟩ => ⟨S64x1, .f32⟩
  | .hbm, ⟨25, _⟩ => ⟨S64x8, .f32⟩
  | .hbm, ⟨26, _⟩ => ⟨S64x8, .f32⟩
  | .hbm, ⟨27, _⟩ => ⟨S64x2, .f32⟩
  | .hbm, ⟨28, _⟩ => ⟨S64x2, .i32⟩
  | .hbm, ⟨29, _⟩ => ⟨S_, .f32⟩
  | .hbm, ⟨30, _⟩ => ⟨S64, .f32⟩
  | .hbm, ⟨31, _⟩ => ⟨S64x1, .f32⟩
  | .hbm, ⟨32, _⟩ => ⟨S_, .f32⟩
  | .hbm, ⟨33, _⟩ => ⟨S64x1, .f32⟩
  | .hbm, ⟨34, _⟩ => ⟨S64x1, .f32⟩
  | .hbm, ⟨35, _⟩ => ⟨S64x2, .f32⟩
  | .hbm, ⟨36, _⟩ => ⟨S64x2, .f32⟩
  | .hbm, ⟨37, _⟩ => ⟨S_, .f32⟩
  | .hbm, ⟨38, _⟩ => ⟨S64x196, .f32⟩
  | .hbm, ⟨39, _⟩ => ⟨S64x196x1, .f32⟩
  | .hbm, ⟨40, _⟩ => ⟨S_, .f32⟩
  | .hbm, ⟨41, _⟩ => ⟨S64x196x1, .f32⟩
  | .hbm, ⟨42, _⟩ => ⟨S64x196x1, .f32⟩
  | .hbm, ⟨43, _⟩ => ⟨S_, .i32⟩
  | .hbm, ⟨44, _⟩ => ⟨S_, .f32⟩
  | .hbm, ⟨45, _⟩ => ⟨S64x196, .f32⟩
  | .hbm, ⟨46, _⟩ => ⟨S64x196x1, .f32⟩
  | .hbm, ⟨47, _⟩ => ⟨S_, .f32⟩
  | .hbm, ⟨48, _⟩ => ⟨S64x196x1, .f32⟩
  | .hbm, ⟨49, _⟩ => ⟨S64x196x1, .f32⟩
  | .hbm, ⟨50, _⟩ => ⟨S64x196x768, .f32⟩
  | .hbm, ⟨51, _⟩ => ⟨S64x196x768, .f32⟩
  | .hbm, ⟨52, _⟩ => ⟨S64x196x768, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S64x196, .f32⟩
  | .hbm, ⟨58, _⟩ => ⟨S64x196x1, .f32⟩
  | .hbm, ⟨59, _⟩ => ⟨S64x196x1, .f32⟩
  | .hbm, ⟨60, _⟩ => ⟨S64x196x1, .f32⟩
  | .hbm, ⟨61, _⟩ => ⟨S_, .f32⟩
  | .hbm, ⟨62, _⟩ => ⟨S_, .i1⟩
  | .hbm, ⟨63, _⟩ => ⟨S_, .f32⟩
  | .hbm, ⟨64, _⟩ => ⟨S_, .f32⟩
  | .hbm, ⟨65, _⟩ => ⟨S64x196x1, .f32⟩
  | .hbm, ⟨66, _⟩ => ⟨S64x196x1, .f32⟩
  | .hbm, ⟨67, _⟩ => ⟨S64x196x768, .f32⟩
  | .hbm, ⟨68, _⟩ => ⟨S64x196x768, .f32⟩
  | .hbm, ⟨69, _⟩ => ⟨S_, .f32⟩
  | .hbm, ⟨70, _⟩ => ⟨S64x196x1, .f32⟩
  | .hbm, ⟨71, _⟩ => ⟨S64x196x1, .f32⟩
  | .hbm, ⟨72, _⟩ => ⟨S64x196x1, .f32⟩
  | .hbm, ⟨73, _⟩ => ⟨S64x196x768, .f32⟩
  | .hbm, ⟨74, _⟩ => ⟨S64x196x768, .f32⟩
  | .hbm, ⟨75, _⟩ => ⟨S8x1x1x768, .f32⟩
  | .hbm, ⟨76, _⟩ => ⟨S1x64x196x768, .f32⟩
  | .hbm, ⟨77, _⟩ => ⟨S8x64x196x768, .f32⟩
  | .hbm, ⟨78, _⟩ => ⟨S8x64x196x768, .f32⟩
  | .hbm, ⟨79, _⟩ => ⟨S8x64x196x768, .f32⟩
  | .hbm, ⟨80, _⟩ => ⟨S8x1x1x768, .f32⟩
  | .hbm, ⟨81, _⟩ => ⟨S8x64x196x768, .f32⟩
  | .hbm, ⟨82, _⟩ => ⟨S8x64x196x768, .f32⟩
  | .hbm, ⟨83, _⟩ => ⟨S8x64x196x3072, .f32⟩
  | .hbm, ⟨84, _⟩ => ⟨S8x1x1x3072, .f32⟩
  | .hbm, ⟨85, _⟩ => ⟨S8x64x196x3072, .f32⟩
  | .hbm, ⟨86, _⟩ => ⟨S8x64x196x3072, .f32⟩
  | .hbm, ⟨87, _⟩ => ⟨S8x64x196x3072, .f32⟩
  | .hbm, ⟨88, _⟩ => ⟨S8x64x196x3072, .f32⟩
  | .hbm, ⟨89, _⟩ => ⟨S_, .f32⟩
  | .hbm, ⟨90, _⟩ => ⟨S8x64x196x3072, .f32⟩
  | .hbm, ⟨91, _⟩ => ⟨S8x64x196x3072, .f32⟩
  | .hbm, ⟨92, _⟩ => ⟨S8x64x196x3072, .f32⟩
  | .hbm, ⟨93, _⟩ => ⟨S_, .f32⟩
  | .hbm, ⟨94, _⟩ => ⟨S8x64x196x3072, .f32⟩
  | .hbm, ⟨95, _⟩ => ⟨S8x64x196x3072, .f32⟩
  | .hbm, ⟨96, _⟩ => ⟨S8x64x196x3072, .f32⟩
  | .hbm, ⟨97, _⟩ => ⟨S_, .f32⟩
  | .hbm, ⟨98, _⟩ => ⟨S8x64x196x3072, .f32⟩
  | .hbm, ⟨99, _⟩ => ⟨S8x64x196x3072, .f32⟩
  | .hbm, ⟨100, _⟩ => ⟨S_, .f32⟩
  | .hbm, ⟨101, _⟩ => ⟨S8x64x196x3072, .f32⟩
  | .hbm, ⟨102, _⟩ => ⟨S8x64x196x3072, .f32⟩
  | .hbm, ⟨103, _⟩ => ⟨S8x64x196x3072, .f32⟩
  | .hbm, ⟨104, _⟩ => ⟨S8x64x196x768, .f32⟩
  | .hbm, ⟨105, _⟩ => ⟨S8x1x1x768, .f32⟩
  | .hbm, ⟨106, _⟩ => ⟨S8x64x196x768, .f32⟩
  | .hbm, ⟨107, _⟩ => ⟨S8x64x196x768, .f32⟩
  | .hbm, ⟨108, _⟩ => ⟨S1x64x196x768, .f32⟩
  | .hbm, ⟨109, _⟩ => ⟨S8x64x196x768, .f32⟩
  | .hbm, ⟨110, _⟩ => ⟨S8x64x196x768, .f32⟩
  | .hbm, ⟨111, _⟩ => ⟨S64x2x1, .i32⟩
  | .hbm, ⟨112, _⟩ => ⟨S1x1x8, .i32⟩
  | .hbm, ⟨113, _⟩ => ⟨S64x2x8, .i32⟩
  | .hbm, ⟨114, _⟩ => ⟨S64x2x8, .i32⟩
  | .hbm, ⟨115, _⟩ => ⟨S64x2x8, .i1⟩
  | .hbm, ⟨116, _⟩ => ⟨S64x2x8, .f32⟩
  | .hbm, ⟨117, _⟩ => ⟨S64x8, .f32⟩
  | .hbm, ⟨118, _⟩ => ⟨S64x196x768, .f32⟩
  | .hbm, ⟨119, _⟩ => ⟨S_, .f32⟩
  | .hbm, ⟨120, _⟩ => ⟨S64x768, .f32⟩
  | .hbm, ⟨121, _⟩ => ⟨S_, .f32⟩
  | .hbm, ⟨122, _⟩ => ⟨S64x768, .f32⟩
  | .hbm, ⟨123, _⟩ => ⟨S64x768, .f32⟩
  | .hbm, ⟨124, _⟩ => ⟨S64x1000, .f32⟩
  | _, _ => ⟨S64x196x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_values : Ref sig .tc := ⟨.hbm, 27, rfl⟩
abbrev main_indices : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_5 : Ref sig .tc := ⟨.hbm, 37, rfl⟩
abbrev main_v20 : Ref sig .tc := ⟨.hbm, 38, rfl⟩
abbrev main_v21 : Ref sig .tc := ⟨.hbm, 39, rfl⟩
abbrev main_cst_6 : Ref sig .tc := ⟨.hbm, 40, rfl⟩
abbrev main_v22 : Ref sig .tc := ⟨.hbm, 41, rfl⟩
abbrev main_v23 : Ref sig .tc := ⟨.hbm, 42, rfl⟩
abbrev main_c : Ref sig .tc := ⟨.hbm, 43, rfl⟩
abbrev main_call0_cst : Ref sig .tc := ⟨.hbm, 44, rfl⟩
abbrev main_call0_v0 : Ref sig .tc := ⟨.hbm, 45, rfl⟩
abbrev main_call0_v1 : Ref sig .tc := ⟨.hbm, 46, rfl⟩
abbrev main_call0_cst_0 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_v6 : Ref sig .tc := ⟨.hbm, 52, rfl⟩
abbrev main_call0_v7 : Ref sig .tc := ⟨.hbm, 53, rfl⟩
abbrev main_call0_cst_1 : Ref sig .tc := ⟨.hbm, 54, rfl⟩
abbrev main_call0_v8 : Ref sig .tc := ⟨.hbm, 55, rfl⟩
abbrev main_call0_cst_2 : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_call0_v12 : Ref sig .tc := ⟨.hbm, 60, rfl⟩
abbrev main_call0_cst_3 : Ref sig .tc := ⟨.hbm, 61, rfl⟩
abbrev main_call0_v13 : Ref sig .tc := ⟨.hbm, 62, rfl⟩
abbrev main_call0_cst_4 : Ref sig .tc := ⟨.hbm, 63, rfl⟩
abbrev main_call0_call0_v0 : Ref sig .tc := ⟨.hbm, 64, rfl⟩
abbrev main_call0_call0_v1 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_cst_7 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_cst_8 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_cst_9 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_cst_10 : Ref sig .tc := ⟨.hbm, 97, rfl⟩
abbrev main_v52 : Ref sig .tc := ⟨.hbm, 98, rfl⟩
abbrev main_v53 : Ref sig .tc := ⟨.hbm, 99, rfl⟩
abbrev main_cst_11 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_call1_v0 : Ref sig .tc := ⟨.hbm, 111, rfl⟩
abbrev main_call1_v1 : Ref sig .tc := ⟨.hbm, 112, rfl⟩
abbrev main_call1_v2 : Ref sig .tc := ⟨.hbm, 113, rfl⟩
abbrev main_call1_v3 : Ref sig .tc := ⟨.hbm, 114, rfl⟩
abbrev main_call1_v4 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_cst_12 : Ref sig .tc := ⟨.hbm, 119, rfl⟩
abbrev main_v67 : Ref sig .tc := ⟨.hbm, 120, rfl⟩
abbrev main_cst_13 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩

abbrev nD : Nat := 1
abbrev τ : Topo := Topo.v7x

variable {F : FTy → Type} [FloatOps F]
-- ==== PatchEmbed.lean ====
abbrev S64x3x224x224 : Shape := ⟨4, ![64, 3, 224, 224]⟩
abbrev S768x768 : Shape := ⟨2, ![768, 768]⟩
abbrev S768 : Shape := ⟨1, ![768]⟩
abbrev S1x196x768 : Shape := ⟨3, ![1, 196, 768]⟩
abbrev S768x8 : Shape := ⟨2, ![768, 8]⟩
abbrev S64x3x14x16x14x16 : Shape := ⟨6, ![64, 3, 14, 16, 14, 16]⟩
abbrev S64x14x14x3x16x16 : Shape := ⟨6, ![64, 14, 14, 3, 16, 16]⟩
abbrev S64x196x768 : Shape := ⟨3, ![64, 196, 768]⟩
abbrev S1x768 : Shape := ⟨2, ![1, 768]⟩
abbrev S64x1x8 : Shape := ⟨3, ![64, 1, 8]⟩
abbrev S1x1x8 : Shape := ⟨3, ![1, 1, 8]⟩
abbrev S196x768 : Shape := ⟨2, ![196, 768]⟩
abbrev S1x8 : Shape := ⟨2, ![1, 8]⟩

abbrev nBuf : Space → Nat
  | .hbm => 11
  | .vmem => 10
  | .smem => 0
  | _ => 0

abbrev bufTy : (tb : Table) → Fin (tcTables nBuf tb) → BufTy
  | .hbm, ⟨0, _⟩ => ⟨S64x3x224x224, .f32⟩
  | .hbm, ⟨1, _⟩ => ⟨S768x768, .f32⟩
  | .hbm, ⟨2, _⟩ => ⟨S768, .f32⟩
  | .hbm, ⟨3, _⟩ => ⟨S1x196x768, .f32⟩
  | .hbm, ⟨4, _⟩ => ⟨S768x8, .f32⟩
  | .hbm, ⟨5, _⟩ => ⟨S64x3x14x16x14x16, .f32⟩
  | .hbm, ⟨6, _⟩ => ⟨S64x14x14x3x16x16, .f32⟩
  | .hbm, ⟨7, _⟩ => ⟨S64x196x768, .f32⟩
  | .hbm, ⟨8, _⟩ => ⟨S1x768, .f32⟩
  | .hbm, ⟨9, _⟩ => ⟨S64x196x768, .f32⟩
  | .hbm, ⟨10, _⟩ => ⟨S64x1x8, .f32⟩
  | .local _ .vmem, ⟨0, _⟩ => ⟨S1x196x768, .f32⟩
  | .local _ .vmem, ⟨1, _⟩ => ⟨S1x196x768, .f32⟩
  | .local _ .vmem, ⟨2, _⟩ => ⟨S768x768, .f32⟩
  | .local _ .vmem, ⟨3, _⟩ => ⟨S1x768, .f32⟩
  | .local _ .vmem, ⟨4, _⟩ => ⟨S1x196x768, .f32⟩
  | .local _ .vmem, ⟨5, _⟩ => ⟨S768x8, .f32⟩
  | .local _ .vmem, ⟨6, _⟩ => ⟨S1x196x768, .f32⟩
  | .local _ .vmem, ⟨7, _⟩ => ⟨S1x196x768, .f32⟩
  | .local _ .vmem, ⟨8, _⟩ => ⟨S1x1x8, .f32⟩
  | .local _ .vmem, ⟨9, _⟩ => ⟨S1x1x8, .f32⟩
  | _, _ => ⟨S64x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x196x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x196x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x196x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PatchEmbedReferenceIdeal.lean ====
abbrev S64x3x224x224 : Shape := ⟨4, ![64, 3, 224, 224]⟩
abbrev S768x768 : Shape := ⟨2, ![768, 768]⟩
abbrev S768 : Shape := ⟨1, ![768]⟩
abbrev S1x196x768 : Shape := ⟨3, ![1, 196, 768]⟩
abbrev S768x8 : Shape := ⟨2, ![768, 8]⟩
abbrev S64x3x14x16x14x16 : Shape := ⟨6, ![64, 3, 14, 16, 14, 16]⟩
abbrev S64x14x14x3x16x16 : Shape := ⟨6, ![64, 14, 14, 3, 16, 16]⟩
abbrev S64x196x768 : Shape := ⟨3, ![64, 196, 768]⟩
abbrev S1x1x768 : Shape := ⟨3, ![1, 1, 768]⟩
abbrev S64x196x8 : Shape := ⟨3, ![64, 196, 8]⟩
abbrev S_ : Shape := ⟨0, ![]⟩
abbrev S64x8 : Shape := ⟨2, ![64, 8]⟩
abbrev S64x1x8 : Shape := ⟨3, ![64, 1, 8]⟩

abbrev nBuf : Space → Nat
  | .hbm => 21
  | .vmem => 0
  | .smem => 0
  | _ => 0

abbrev bufTy : (tb : Table) → Fin (tcTables nBuf tb) → BufTy
  | .hbm, ⟨0, _⟩ => ⟨S64x3x224x224, .f32⟩
  | .hbm, ⟨1, _⟩ => ⟨S768x768, .f32⟩
  | .hbm, ⟨2, _⟩ => ⟨S768, .f32⟩
  | .hbm, ⟨3, _⟩ => ⟨S1x196x768, .f32⟩
  | .hbm, ⟨4, _⟩ => ⟨S768x8, .f32⟩
  | .hbm, ⟨5, _⟩ => ⟨S64x3x14x16x14x16, .f32⟩
  | .hbm, ⟨6, _⟩ => ⟨S64x14x14x3x16x16, .f32⟩
  | .hbm, ⟨7, _⟩ => ⟨S64x196x768, .f32⟩
  | .hbm, ⟨8, _⟩ => ⟨S64x196x768, .f32⟩
  | .hbm, ⟨9, _⟩ => ⟨S1x1x768, .f32⟩
  | .hbm, ⟨10, _⟩ => ⟨S64x196x768, .f32⟩
  | .hbm, ⟨11, _⟩ => ⟨S64x196x768, .f32⟩
  | .hbm, ⟨12, _⟩ => ⟨S64x196x768, .f32⟩
  | .hbm, ⟨13, _⟩ => ⟨S64x196x768, .f32⟩
  | .hbm, ⟨14, _⟩ => ⟨S64x196x8, .f32⟩
  | .hbm, ⟨15, _⟩ => ⟨S_, .f32⟩
  | .hbm, ⟨16, _⟩ => ⟨S64x8, .f32⟩
  | .hbm, ⟨17, _⟩ => ⟨S_, .f32⟩
  | .hbm, ⟨18, _⟩ => ⟨S64x8, .f32⟩
  | .hbm, ⟨19, _⟩ => ⟨S64x8, .f32⟩
  | .hbm, ⟨20, _⟩ => ⟨S64x1x8, .f32⟩
  | _, _ => ⟨S64x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]
-- ==== Combine.lean ====
abbrev S64 : Shape := ⟨1, ![64]⟩
abbrev S64x196x768 : Shape := ⟨3, ![64, 196, 768]⟩
abbrev S152x196x768 : Shape := ⟨3, ![152, 196, 768]⟩
abbrev S64x1x1 : Shape := ⟨3, ![64, 1, 1]⟩
abbrev S768x8 : Shape := ⟨2, ![768, 8]⟩
abbrev S64x1x8 : Shape := ⟨3, ![64, 1, 8]⟩
abbrev S1x196x768 : Shape := ⟨3, ![1, 196, 768]⟩
abbrev S1 : Shape := ⟨1, ![1]⟩
abbrev S1x1x1 : Shape := ⟨3, ![1, 1, 1]⟩
abbrev S1x1x8 : Shape := ⟨3, ![1, 1, 8]⟩
abbrev S196x768 : Shape := ⟨2, ![196, 768]⟩
abbrev S768 : Shape := ⟨1, ![768]⟩
abbrev S1x768 : Shape := ⟨2, ![1, 768]⟩
abbrev S1x8 : Shape := ⟨2, ![1, 8]⟩

abbrev nBuf : Space → Nat
  | .hbm => 7
  | .vmem => 15
  | .smem => 2
  | _ => 0

abbrev bufTy : (tb : Table) → Fin (tcTables nBuf tb) → BufTy
  | .hbm, ⟨0, _⟩ => ⟨S64x196x768, .f32⟩
  | .hbm, ⟨1, _⟩ => ⟨S152x196x768, .bf16⟩
  | .hbm, ⟨2, _⟩ => ⟨S64x1x1, .f32⟩
  | .hbm, ⟨3, _⟩ => ⟨S64x1x1, .f32⟩
  | .hbm, ⟨4, _⟩ => ⟨S768x8, .f32⟩
  | .hbm, ⟨5, _⟩ => ⟨S64x196x768, .f32⟩
  | .hbm, ⟨6, _⟩ => ⟨S64x1x8, .f32⟩
  | .local _ .vmem, ⟨0, _⟩ => ⟨S1x196x768, .f32⟩
  | .local _ .vmem, ⟨1, _⟩ => ⟨S1x196x768, .f32⟩
  | .local _ .vmem, ⟨2, _⟩ => ⟨S1x196x768, .bf16⟩
  | .local _ .vmem, ⟨3, _⟩ => ⟨S1x196x768, .bf16⟩
  | .local _ .vmem, ⟨4, _⟩ => ⟨S1x196x768, .bf16⟩
  | .local _ .vmem, ⟨5, _⟩ => ⟨S1x196x768, .bf16⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | .local _ .vmem, ⟨9, _⟩ => ⟨S1x1x1, .f32⟩
  | .local _ .vmem, ⟨10, _⟩ => ⟨S768x8, .f32⟩
  | .local _ .vmem, ⟨11, _⟩ => ⟨S1x196x768, .f32⟩
  | .local _ .vmem, ⟨12, _⟩ => ⟨S1x196x768, .f32⟩
  | .local _ .vmem, ⟨13, _⟩ => ⟨S1x1x8, .f32⟩
  | .local _ .vmem, ⟨14, _⟩ => ⟨S1x1x8, .f32⟩
  | .local _ .smem, ⟨0, _⟩ => ⟨S64, .i32⟩
  | .local _ .smem, ⟨1, _⟩ => ⟨S64, .i32⟩
  | _, _ => ⟨S64x196x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0_0 : Ref sig .tc := ⟨.hbm, 5, rfl⟩
abbrev main_v0_1 : Ref sig .tc := ⟨.hbm, 6, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![64], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x196x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x196x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x196x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S768x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x196x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== CombineReferenceIdeal.lean ====
abbrev S64 : Shape := ⟨1, ![64]⟩
abbrev S64x196x768 : Shape := ⟨3, ![64, 196, 768]⟩
abbrev S152x196x768 : Shape := ⟨3, ![152, 196, 768]⟩
abbrev S64x1x1 : Shape := ⟨3, ![64, 1, 1]⟩
abbrev S768x8 : Shape := ⟨2, ![768, 8]⟩
abbrev S_ : Shape := ⟨0, ![]⟩
abbrev S64x1 : Shape := ⟨2, ![64, 1]⟩
abbrev S64x196x8 : Shape := ⟨3, ![64, 196, 8]⟩
abbrev S64x8 : Shape := ⟨2, ![64, 8]⟩
abbrev S64x1x8 : Shape := ⟨3, ![64, 1, 8]⟩

abbrev nBuf : Space → Nat
  | .hbm => 41
  | .vmem => 0
  | .smem => 0
  | _ => 0

abbrev bufTy : (tb : Table) → Fin (tcTables nBuf tb) → BufTy
  | .hbm, ⟨0, _⟩ => ⟨S64, .i32⟩
  | .hbm, ⟨1, _⟩ => ⟨S64, .i32⟩
  | .hbm, ⟨2, _⟩ => ⟨S64x196x768, .f32⟩
  | .hbm, ⟨3, _⟩ => ⟨S152x196x768, .bf16⟩
  | .hbm, ⟨4, _⟩ => ⟨S64x1x1, .f32⟩
  | .hbm, ⟨5, _⟩ => ⟨S64x1x1, .f32⟩
  | .hbm, ⟨6, _⟩ => ⟨S768x8, .f32⟩
  | .hbm, ⟨7, _⟩ => ⟨S_, .i32⟩
  | .hbm, ⟨8, _⟩ => ⟨S64, .i32⟩
  | .hbm, ⟨9, _⟩ => ⟨S64, .i1⟩
  | .hbm, ⟨10, _⟩ => ⟨S_, .i32⟩
  | .hbm, ⟨11, _⟩ => ⟨S64, .i32⟩
  | .hbm, ⟨12, _⟩ => ⟨S64, .i32⟩
  | .hbm, ⟨13, _⟩ => ⟨S64, .i32⟩
  | .hbm, ⟨14, _⟩ => ⟨S64x1, .i32⟩
  | .hbm, ⟨15, _⟩ => ⟨S64x196x768, .bf16⟩
  | .hbm, ⟨16, _⟩ => ⟨S64x196x768, .f32⟩
  | .hbm, ⟨17, _⟩ => ⟨S64x196x768, .f32⟩
  | .hbm, ⟨18, _⟩ => ⟨S64x196x768, .f32⟩
  | .hbm, ⟨19, _⟩ => ⟨S64x196x768, .f32⟩
  | .hbm, ⟨20, _⟩ => ⟨S_, .i32⟩
  | .hbm, ⟨21, _⟩ => ⟨S64, .i32⟩
  | .hbm, ⟨22, _⟩ => ⟨S64, .i1⟩
  | .hbm, ⟨23, _⟩ => ⟨S_, .i32⟩
  | .hbm, ⟨24, _⟩ => ⟨S64, .i32⟩
  | .hbm, ⟨25, _⟩ => ⟨S64, .i32⟩
  | .hbm, ⟨26, _⟩ => ⟨S64, .i32⟩
  | .hbm, ⟨27, _⟩ => ⟨S64x1, .i32⟩
  | .hbm, ⟨28, _⟩ => ⟨S64x196x768, .bf16⟩
  | .hbm, ⟨29, _⟩ => ⟨S64x196x768, .f32⟩
  | .hbm, ⟨30, _⟩ => ⟨S64x196x768, .f32⟩
  | .hbm, ⟨31, _⟩ => ⟨S64x196x768, .f32⟩
  | .hbm, ⟨32, _⟩ => ⟨S64x196x768, .f32⟩
  | .hbm, ⟨33, _⟩ => ⟨S64x196x768, .f32⟩
  | .hbm, ⟨34, _⟩ => ⟨S64x196x8, .f32⟩
  | .hbm, ⟨35, _⟩ => ⟨S_, .f32⟩
  | .hbm, ⟨36, _⟩ => ⟨S64x8, .f32⟩
  | .hbm, ⟨37, _⟩ => ⟨S_, .f32⟩
  | .hbm, ⟨38, _⟩ => ⟨S64x8, .f32⟩
  | .hbm, ⟨39, _⟩ => ⟨S64x8, .f32⟩
  | .hbm, ⟨40, _⟩ => ⟨S64x1x8, .f32⟩
  | _, _ => ⟨S64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Proof.Range.lean ====
/-
  The precondition read element by element: every word of the slots' table is below 64, every word of the experts' table below 8.
-/
module

public import proofs.«01_k».proof.Proof.Gen.Pre_in_range
public import Idealize.ShloMosaic.Lib.ReduceAll
public import Idealize.ShloMosaic.Lib.Affine
public import Idealize.ShloMosaic.Lib.WordArith

@[expose] public section

namespace Cert.Range

open Idealize.ShloMosaic Cert.Pre_in_range

variable {F : FTy → Type} [FloatOps F] [Facts]

theorem word_lt {w : BitVec 32} {n : ℕ} (hn : n < 2 ^ 31) (h0 : IntOp.cmpi .sge w 0#32 = 1#1) (h1 : IntOp.cmpi .slt w (BitVec.ofNat 32 n) = 1#1) :
    w.toNat < n := by
  rw [IntOp.cmpi_sge] at h0
  rw [IntOp.cmpi_slt] at h1
  have e0 : (0#32 : BitVec 32).toInt = 0 := by decide
  have en : (BitVec.ofNat 32 n).toNat = n := by rw [BitVec.toNat_ofNat]; omega
  have hn' := BitVec.toInt_eq_toNat_cond (BitVec.ofNat 32 n)
  have hw := BitVec.toInt_eq_toNat_cond w
  rw [en] at hn'
  split_ifs at hn' hw <;> omega

/-- Both tables in range. -/
theorem decode {a0 : IVec S152 32} {a1 a2 : IVec S38 32} {a3 : FVec F S64x196x768 .f32} {a4 a5 : FVec F S8x768 .f32} {a6 : FVec F S8x768x3072 .f32}
    {a7 : FVec F S8x3072 .f32} {a8 : FVec F S8x3072x768 .f32} {a9 : FVec F S8x768 .f32} (h : fn a0 a1 a2 a3 a4 a5 a6 a7 a8 a9 = fun _ => 1#1) :
    (∀ x, (a0 x).toNat < 64) ∧ ∀ x, (a1 x).toNat < 8 := by
  have h0 := congrFun h (fun a => a.elim0)
  dsimp only [fn] at h0
  have hand : ∀ p q : BitVec 1, IntOp.andi p q = 1#1 → p = 1#1 ∧ q = 1#1 := by decide
  obtain ⟨hb, he⟩ := hand _ _ h0
  refine ⟨fun x => ?_, fun x => ?_⟩
  · obtain ⟨p, q⟩ := hand _ _ (Host.reduce_andi_all _ _ _ _ _ hb x)
    exact word_lt (by decide) p q
  · obtain ⟨p, q⟩ := hand _ _ (Host.reduce_andi_all _ _ _ _ _ he x)
    exact word_lt (by decide) p q

end Cert.Range
-- ==== Proof.KernelIdeal.Body.lean ====
/-
  The kernel body at one grid point. A point is one chunk of four slots. If the chunk's word in the activity table is nonzero the body
  runs the expert's two-layer network on the four blocks of tokens that the windows hold, and stores the four results as the four rows of
  its output block; else it stores nothing. `expert` is what it computes for one slot.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.Value
public import Idealize.ShloMosaic.Lib.Pipeline.ValueKit
public import Idealize.ShloMosaic.Lib.Tactic
public import Idealize.ShloMosaic.Lib.WordCmp

@[expose] public section

set_option maxRecDepth 16384

noncomputable section

namespace Cert.KernelIdeal.Slots

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

/-- One slot: layer norm of the tokens `x`, the first layer, the activation, the second layer. -/
def expert (x : Vec F S1x196x768 .f32) (lg lb : Vec F S1x1x768 .f32) (w1 : Vec F S1x768x3072 .bf16) (b1 : Vec F S1x1x3072 .bf16)
    (w2 : Vec F S1x3072x768 .bf16) (b2 : Vec F S1x1x768 .f32) : Vec F S1x196x768 .bf16 :=
  k0_pay4 (k0_pay2 x lg lb w1 b1) (k0_pay3 x lg lb w1 b1) (Named.named κ "gelu_cubic" 0x3D37#16) w2 b2

theorem slot1_eq (x : Vec F S1x196x768 .f32) (lg lb : Vec F S1x1x768 .f32) (w1 : Vec F S1x768x3072 .bf16) (b1 : Vec F S1x1x3072 .bf16)
    (w2 : Vec F S1x3072x768 .bf16) (b2 : Vec F S1x1x768 .f32) :
    k0_pay8 (k0_pay7 (k0_pay5 x) (k0_pay6 x) lg lb w1 b1 w2) b2 = expert x lg lb w1 b1 w2 b2 := rfl

theorem slot2_eq (x : Vec F S1x196x768 .f32) (lg lb : Vec F S1x1x768 .f32) (w1 : Vec F S1x768x3072 .bf16) (b1 : Vec F S1x1x3072 .bf16)
    (w2 : Vec F S1x3072x768 .bf16) (b2 : Vec F S1x1x768 .f32) :
    k0_pay10 (k0_pay9 x lg lb w1) b1 w2 b2 = expert x lg lb w1 b1 w2 b2 := rfl

theorem slot3_eq (x : Vec F S1x196x768 .f32) (lg lb : Vec F S1x1x768 .f32) (w1 : Vec F S1x768x3072 .bf16) (b1 : Vec F S1x1x3072 .bf16)
    (w2 : Vec F S1x3072x768 .bf16) (b2 : Vec F S1x1x768 .f32) :
    k0_pay1 (k0_pay13 (k0_pay11 x) (k0_pay12 x) lg lb w1 b1) (k0_pay14 (k0_pay11 x) (k0_pay12 x) lg lb w1 b1) k0_pay15 w2 b2
      = expert x lg lb w1 b1 w2 b2 := rfl

/-- The table offset of a chunk is the chunk's own number. -/
theorem off2_eq (i : grid0.Coords) : k0_off2 i 0 = (i 0).val :=
  (by decide : ∀ n : Fin 38, (Scalar.indexCast (BitVec.ofNat 32 n.val) : Index).toNat = n.val) (i 0)

/-- A table's buffer held at half the full share at the contents `f`: the pipeline keeps the other half. -/
abbrev table (c : Dev nD) {S : Shape} {e : EltTy} (M : Memref sig .tc .smem S e) (f : Buf (Elt F) (M.view.loc (c : Thread nD τ))) : sProp 𝕄 :=
  M.view.loc (c : Thread nD τ) ↦{fullShare.right} f

/-- The row `r` of an output block, as the body's stores address it. -/
abbrev row (r : Fin 4) : Rect S4x196x768 := Rect.unit (s := S4x196x768) ![r.val, 0, 0] S1x196x768.size (by
  intro a; have := r.isLt; fin_cases a <;> simp <;> omega)

/-- Four stores, one to each row: an element of row `r` reads what the store to that row put there. -/
theorem read_rows {sig' : RefSig} {κ : Kind} {sp : Space} (v : View sig' κ sp S4x196x768 .bf16) (f : v.ty.Contents (Elt F))
    (p : Fin 4 → Vec F S1x196x768 .bf16) (r : Fin 4) (y : S1x196x768.Idx) :
    v.read (Elt F) (v.writes (Elt F) f [⟨row 3, p 3⟩, ⟨row 2, p 2⟩, ⟨row 1, p 1⟩, ⟨row 0, p 0⟩]) ((row r).emb y) = p r y := by
  refine View.read_writes_of_unique v f (⟨row r, p r⟩ : View.Piece (Elt F) S4x196x768 .bf16) y _ ?_ ?_
  · fin_cases r <;> simp
  · have key : ∀ k : Fin 4, (row r).emb y ∈ (row k).set → k = r := fun k hk => by
      obtain ⟨z, hz⟩ := (row k).exists_idx_of_mem hk
      have h0 : k.val + 1 * (z 0).val = r.val + 1 * (y 0).val := congrArg (fun q : S4x196x768.Idx => (q 0).val) hz
      have hz0 : (z 0).val < 1 := (z 0).isLt
      have hy0 : (y 0).val < 1 := (y 0).isLt
      exact Fin.ext (by omega)
    intro q hq hm
    simp only [List.mem_cons, List.not_mem_nil, _root_.or_false] at hq
    rcases hq with rfl | rfl | rfl | rfl
    all_goals (obtain rfl := key _ hm; rfl)

section Run

variable (c : Dev nD) (i : grid0.Coords)
  (arg4 : Memref sig .tc .vmem S1x196x768 .f32) (harg4 : arg4.IsWhole) (arg5 : Memref sig .tc .vmem S1x196x768 .f32) (harg5 : arg5.IsWhole)
  (arg6 : Memref sig .tc .vmem S1x196x768 .f32) (harg6 : arg6.IsWhole) (arg7 : Memref sig .tc .vmem S1x196x768 .f32) (harg7 : arg7.IsWhole)
  (arg8 : Memref sig .tc .vmem S1x1x768 .f32) (harg8 : arg8.IsWhole) (arg9 : Memref sig .tc .vmem S1x1x768 .f32) (harg9 : arg9.IsWhole)
  (arg10 : Memref sig .tc .vmem S1x768x3072 .bf16) (harg10 : arg10.IsWhole) (arg11 : Memref sig .tc .vmem S1x1x3072 .bf16) (harg11 : arg11.IsWhole)
  (arg12 : Memref sig .tc .vmem S1x3072x768 .bf16) (harg12 : arg12.IsWhole) (arg13 : Memref sig .tc .vmem S1x1x768 .f32) (harg13 : arg13.IsWhole)
  (arg14 : Memref sig .tc .vmem S4x196x768 .bf16) (harg14 : arg14.IsWhole)
  (x : Fin 4 → Vec F S1x196x768 .f32) (lg lb : Vec F S1x1x768 .f32) (w1 : Vec F S1x768x3072 .bf16) (b1 : Vec F S1x1x3072 .bf16)
  (w2 : Vec F S1x3072x768 .bf16) (b2 : Vec F S1x1x768 .f32)
  (af : Buf (Elt F) ((Memref.whole main_arg2).view.loc (c : Thread nD τ)))

/-- The input windows' buffers, at their contents, and the activity table. -/
def held : sProp 𝕄 :=
  iprop(owns (c : Thread nD τ) arg4 fullShare (x 0) ∗ owns (c : Thread nD τ) arg5 fullShare (x 1) ∗ owns (c : Thread nD τ) arg6 fullShare (x 2)
    ∗ owns (c : Thread nD τ) arg7 fullShare (x 3) ∗ owns (c : Thread nD τ) arg8 fullShare lg ∗ owns (c : Thread nD τ) arg9 fullShare lb
    ∗ owns (c : Thread nD τ) arg10 fullShare w1 ∗ owns (c : Thread nD τ) arg11 fullShare b1 ∗ owns (c : Thread nD τ) arg12 fullShare w2
    ∗ owns (c : Thread nD τ) arg13 fullShare b2 ∗ table c (Memref.whole main_arg2) af)

/-- The chunk's word of the activity table. -/
def word (c : Dev nD) (i : grid0.Coords) (af : Buf (Elt F) ((Memref.whole main_arg2).view.loc (c : Thread nD τ))) : BitVec 32 :=
  af ((fun a => (i 0).cast (by obtain rfl : a = 0 := Subsingleton.elim (α := Fin 1) _ _; rfl)) : S38.Idx)

/-- The word the body loads is the chunk's own. -/
theorem read_word (inb : ∀ a, k0_off2 i a + S1.size a ≤ S38.size a) (h1 : 0 < S1.numel) :
    View.readAt (Elt F) (Memref.whole main_arg2).view (Rect.unit (s := S38) (k0_off2 i) S1.size inb).toLoadRect af (Shape.Idx.first h1) = word c i af := by
  refine congrArg af (funext fun a => Fin.ext ?_)
  obtain rfl : a = 0 := Subsingleton.elim (α := Fin 1) _ _
  show k0_off2 i 0 + 1 * (Shape.Idx.first h1 0).val = (i 0).val
  have h0 : (Shape.Idx.first h1 0).val < 1 := (Shape.Idx.first h1 0).isLt
  rw [off2_eq]; omega

set_option maxHeartbeats 2000000 in
/-- The body's triple: the inputs and the table end as they were; where the chunk's word is nonzero, row `r` of the output block ends at
    `expert` of the `r`-th block of tokens. -/
theorem run (E : Set ℕ) (K : PUnit → sProp 𝕄) :
    iprop(held c arg4 arg5 arg6 arg7 arg8 arg9 arg10 arg11 arg12 arg13 x lg lb w1 b1 w2 b2 af
        ∗ (∃ d, owns (c : Thread nD τ) arg14 fullShare d)
        ∗ (iprop(held c arg4 arg5 arg6 arg7 arg8 arg9 arg10 arg11 arg12 arg13 x lg lb w1 b1 w2 b2 af
            ∗ (∃ X, ⌜k0_cond1 (word c i af) = 1#1 → ∀ r y, X ((row r).emb y) = expert (x r) lg lb w1 b1 w2 b2 y⌝ ∗ owns (c : Thread nD τ) arg14 fullShare X)) -∗ K ⟨⟩))
      ⊢ wp frame (wpE (defs₀ (F := F)) Variants.none c none) E
          (cc0__expert_body i (Memref.whole main_arg0) (Memref.isWhole_whole _) (Memref.whole main_arg1) (Memref.isWhole_whole _)
            (Memref.whole main_arg2) (Memref.isWhole_whole _) arg4 harg4 arg5 harg5 arg6 harg6 arg7 harg7 arg8 harg8 arg9 harg9
            arg10 harg10 arg11 harg11 arg12 harg12 arg13 harg13 arg14 harg14) K := by
  unfold held owns
  simp only [cc0__expert_body_eq_skeleton]; unfold cc0__expert_body_skel
  simp only [k0_part1_eq_skeleton, k0_part2_eq_skeleton, k0_part3_eq_skeleton, k0_part4_eq_skeleton, k0_part5_eq_skeleton, k0_part6_eq_skeleton]
  iintro ⟨⟨⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, HT⟩, ⟨%d14, %f14, -, H14⟩, Hk⟩
  obtain rfl := harg4.eq_unread hf4; obtain rfl := harg5.eq_unread hf5; obtain rfl := harg6.eq_unread hf6; obtain rfl := harg7.eq_unread hf7
  obtain rfl := harg8.eq_unread hf8; obtain rfl := harg9.eq_unread hf9; obtain rfl := harg10.eq_unread hf10; obtain rfl := harg11.eq_unread hf11
  obtain rfl := harg12.eq_unread hf12; obtain rfl := harg13.eq_unread hf13
  sl_exec
  sl_step
  iapply Hk
  isplitr [H14]
  · isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    iexact HT
  · iexists _; isplitr; swap
    · iexists _; isplitr; swap; · iexact H14
      ipureintro; rfl
    · ipureintro
      intro h r y
      have hw : run.sl.r c i af = word c i af := by
        sl_unfold_words
        exact read_word c i af _ _
      rw [dif_pos (hw ▸ h)]
      sl_unfold_words
      simp (disch := decide) only [View.readAt_eq_ld, Memref.IsWhole.read_unread, View.ld_unit_lit']
      exact read_rows arg14.view f14 (fun r => expert (x r) lg lb w1 b1 w2 b2) r y

end Run

end Cert.KernelIdeal.Slots

end
-- ==== Proof.KernelIdeal.Launch.lean ====
/-
  The launch. Seven host operations bring the parameters into the shapes and types that the kernel takes; then one pipeline runs over the 38
  chunks. The blocks of tokens and the expert's parameters are picked by words of two tables, so the pipeline runs under the condition that
  those blocks lie inside their arrays (`Ok`). Of the output block the proof data say what the body does only where the chunk is active.
-/
module

public import proofs.«01_k».proof.Proof.KernelIdeal.Body
public import Idealize.ShloMosaic.Lib.Claim
public import Idealize.ShloMosaic.Lib.Pipeline.DatRel
public import Idealize.ShloMosaic.Lib.Pipeline.ArrRel

@[expose] public section

set_option maxRecDepth 16384

noncomputable section

namespace Cert.KernelIdeal.Slots

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffers when the pipeline is entered: as launched, with the seven operations' results. -/
abbrev V (c : Dev nD) (b : Ref sig .tc) : Buf (Elt F) ((c : Thread nD τ).loc b) :=
  StableHlo.after hostOps0 (fun b => m (c, b)) b

theorem hmain : Pipeline.HMainP (Ix := Unit) (Name := ℕ) (U := UR sig nD τ) (Lvl := ℕ) pcfgs 0 defs₀ Variants.none m (main (F := F)) (V m) :=
  Pipeline.hmainP_prefix pcfgs 0 defs₀ Variants.none m main hostOps0 hostOps0_sub (StableHlo.forall_fresh_of_map rfl) main_chain

theorem V_main_arg0 (c : Dev nD) : V m c main_arg0 = m ((c : Thread nD τ).loc main_arg0) := by
  unfold_abbrev_sides; after_results
theorem V_main_arg1 (c : Dev nD) : V m c main_arg1 = m ((c : Thread nD τ).loc main_arg1) := by
  unfold_abbrev_sides; after_results
theorem V_main_arg2 (c : Dev nD) : V m c main_arg2 = m ((c : Thread nD τ).loc main_arg2) := by
  unfold_abbrev_sides; after_results
theorem V_main_arg3 (c : Dev nD) : V m c main_arg3 = m ((c : Thread nD τ).loc main_arg3) := by
  unfold_abbrev_sides; after_results
theorem V_main_arg4 (c : Dev nD) : V m c main_arg4 = m ((c : Thread nD τ).loc main_arg4) := by
  unfold_abbrev_sides; after_results
theorem V_main_arg5 (c : Dev nD) : V m c main_arg5 = m ((c : Thread nD τ).loc main_arg5) := by
  unfold_abbrev_sides; after_results
theorem V_main_arg6 (c : Dev nD) : V m c main_arg6 = m ((c : Thread nD τ).loc main_arg6) := by
  unfold_abbrev_sides; after_results
theorem V_main_arg7 (c : Dev nD) : V m c main_arg7 = m ((c : Thread nD τ).loc main_arg7) := by
  unfold_abbrev_sides; after_results
theorem V_main_arg8 (c : Dev nD) : V m c main_arg8 = m ((c : Thread nD τ).loc main_arg8) := by
  unfold_abbrev_sides; after_results
theorem V_main_arg9 (c : Dev nD) : V m c main_arg9 = m ((c : Thread nD τ).loc main_arg9) := by
  unfold_abbrev_sides; after_results

/-- The three tables' words (there is one device). -/
def tbl : pre0.Contents (Elt F) := fun j => V m (0 : Dev nD) (pre0.ref j)

theorem V_pre (c : Dev nD) (j : Fin 3) : V m c (pre0.ref j) = tbl m j := by
  obtain rfl : c = 0 := Subsingleton.elim _ _; rfl

/-- The blocks that the tables pick lie inside their arrays. -/
abbrev Ok : Prop := ok0 (F := F) (tbl m)
abbrev adm (hO : Ok m) : (pcfg0 (F := F)).Adm := ⟨tbl m, hO⟩
abbrev cfgM (hO : Ok m) : Cfg sig Λ₀ := cfg0 (adm m hO)

/-- The tables' halves, table by table. -/
theorem tables_eq (c : Dev nD) : (Pipeline.ΦT pre0 (tbl m) c : sProp 𝕄)
    = iprop(table c (Memref.whole main_arg0) (tbl m 0) ∗ table c (Memref.whole main_arg1) (tbl m 1) ∗ table c (Memref.whole main_arg2) (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

variable (hO : Ok m)

/-- Window `w`'s block at point `t`, read off its array. -/
def blk (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- The proof data: every input's buffer holds its block. -/
def dat (c : Dev nD) : Dat τ (Elt F) Unit ℕ (UR sig nD τ) ℕ (cfgM m hO) c where
  A w := V m c (Pipeline.arrRef spec0 w)
  after w t := ((cfgM m hO).win w).fill ((cfgM m hO).grid.coords t) (fun _ => Classical.arbitrary _) (blk m hO c w t)
  Φ _ := iprop(Pipeline.ΦA spec0 c ∗ Pipeline.ΦT pre0 (tbl m) c)
  q := Pipeline.shareOf spec0
  owed _ := 0

theorem A_eq (c : Dev nD) (w : Fin (cfgM m hO).W) : (dat m hO c).A w = V m c (Pipeline.arrRef spec0 w) := by
  dsimp only [dat]

/-- The window whose contents the relation speaks of: the output. -/
def marked : Fin 11 → Bool := fun w => w.val == 10

/-- The four token blocks of chunk `t`. -/
def tokens (c : Dev nD) (t : Fin (cfgM m hO).N) : Fin 4 → Vec F S1x196x768 .f32
  | 0 => blk m hO c 0 t
  | 1 => blk m hO c 1 t
  | 2 => blk m hO c 2 t
  | 3 => blk m hO c 3 t

/-- Where chunk `t` is active, row `r` of its output block is `expert` of the `r`-th block of tokens. -/
def Out (c : Dev nD) (t : Fin (cfgM m hO).N) (X : Vec F S4x196x768 .bf16) : Prop :=
  k0_cond1 (word c (grid0.coords t) (tbl m 2)) = 1#1 → ∀ r y, X ((row r).emb y)
    = expert (tokens m hO c t r) (blk m hO c 4 t) (blk m hO c 5 t) (blk m hO c 6 t) (blk m hO c 7 t) (blk m hO c 8 t) (blk m hO c 9 t) y

def Rel (c : Dev nD) (w : Fin (cfgM m hO).W) (t : Fin (cfgM m hO).N) (X : ((cfgM m hO).win w).block.Idx → Elt F ((cfgM m hO).win w).elt) : Prop :=
  match w, X with
  | ⟨10, _⟩, X => Out m hO c t X
  | _, _ => True

theorem before_0 (c : Dev nD) (t : Fin (cfgM m hO).N) (d) : (dat m hO c).before 0 t d = blk m hO c 0 t :=
  ((dat m hO c).before_in_eq_fetched 0 rfl (fun _ => rfl) (fun _ _ _ => rfl) (fun _ => rfl) t d).trans rfl
theorem after_0 (c : Dev nD) (t : Fin (cfgM m hO).N) : (dat m hO c).after 0 t = blk m hO c 0 t := rfl
theorem before_1 (c : Dev nD) (t : Fin (cfgM m hO).N) (d) : (dat m hO c).before 1 t d = blk m hO c 1 t :=
  ((dat m hO c).before_in_eq_fetched 1 rfl (fun _ => rfl) (fun _ _ _ => rfl) (fun _ => rfl) t d).trans rfl
theorem after_1 (c : Dev nD) (t : Fin (cfgM m hO).N) : (dat m hO c).after 1 t = blk m hO c 1 t := rfl
theorem before_2 (c : Dev nD) (t : Fin (cfgM m hO).N) (d) : (dat m hO c).before 2 t d = blk m hO c 2 t :=
  ((dat m hO c).before_in_eq_fetched 2 rfl (fun _ => rfl) (fun _ _ _ => rfl) (fun _ => rfl) t d).trans rfl
theorem after_2 (c : Dev nD) (t : Fin (cfgM m hO).N) : (dat m hO c).after 2 t = blk m hO c 2 t := rfl
theorem before_3 (c : Dev nD) (t : Fin (cfgM m hO).N) (d) : (dat m hO c).before 3 t d = blk m hO c 3 t :=
  ((dat m hO c).before_in_eq_fetched 3 rfl (fun _ => rfl) (fun _ _ _ => rfl) (fun _ => rfl) t d).trans rfl
theorem after_3 (c : Dev nD) (t : Fin (cfgM m hO).N) : (dat m hO c).after 3 t = blk m hO c 3 t := rfl
theorem before_4 (c : Dev nD) (t : Fin (cfgM m hO).N) (d) : (dat m hO c).before 4 t d = blk m hO c 4 t :=
  ((dat m hO c).before_in_eq_fetched 4 rfl (fun _ => rfl) (fun _ _ _ => rfl) (fun _ => rfl) t d).trans rfl
theorem after_4 (c : Dev nD) (t : Fin (cfgM m hO).N) : (dat m hO c).after 4 t = blk m hO c 4 t := rfl
theorem before_5 (c : Dev nD) (t : Fin (cfgM m hO).N) (d) : (dat m hO c).before 5 t d = blk m hO c 5 t :=
  ((dat m hO c).before_in_eq_fetched 5 rfl (fun _ => rfl) (fun _ _ _ => rfl) (fun _ => rfl) t d).trans rfl
theorem after_5 (c : Dev nD) (t : Fin (cfgM m hO).N) : (dat m hO c).after 5 t = blk m hO c 5 t := rfl
theorem before_6 (c : Dev nD) (t : Fin (cfgM m hO).N) (d) : (dat m hO c).before 6 t d = blk m hO c 6 t :=
  ((dat m hO c).before_in_eq_fetched 6 rfl (fun _ => rfl) (fun _ _ _ => rfl) (fun _ => rfl) t d).trans rfl
theorem after_6 (c : Dev nD) (t : Fin (cfgM m hO).N) : (dat m hO c).after 6 t = blk m hO c 6 t := rfl
theorem before_7 (c : Dev nD) (t : Fin (cfgM m hO).N) (d) : (dat m hO c).before 7 t d = blk m hO c 7 t :=
  ((dat m hO c).before_in_eq_fetched 7 rfl (fun _ => rfl) (fun _ _ _ => rfl) (fun _ => rfl) t d).trans rfl
theorem after_7 (c : Dev nD) (t : Fin (cfgM m hO).N) : (dat m hO c).after 7 t = blk m hO c 7 t := rfl
theorem before_8 (c : Dev nD) (t : Fin (cfgM m hO).N) (d) : (dat m hO c).before 8 t d = blk m hO c 8 t :=
  ((dat m hO c).before_in_eq_fetched 8 rfl (fun _ => rfl) (fun _ _ _ => rfl) (fun _ => rfl) t d).trans rfl
theorem after_8 (c : Dev nD) (t : Fin (cfgM m hO).N) : (dat m hO c).after 8 t = blk m hO c 8 t := rfl
theorem before_9 (c : Dev nD) (t : Fin (cfgM m hO).N) (d) : (dat m hO c).before 9 t d = blk m hO c 9 t :=
  ((dat m hO c).before_in_eq_fetched 9 rfl (fun _ => rfl) (fun _ _ _ => rfl) (fun _ => rfl) t d).trans rfl
theorem after_9 (c : Dev nD) (t : Fin (cfgM m hO).N) : (dat m hO c).after 9 t = blk m hO c 9 t := rfl

/-- The windows' buffers at point `t` and the tables, as the body takes them and hands them back: `Y` says what holds of the output's. -/
def shell (c : Dev nD) (t : Fin (cfgM m hO).N) (Y : Vec F S4x196x768 .bf16 → Prop) : sProp 𝕄 :=
  iprop((Pipeline.ΦA spec0 c ∗ Pipeline.ΦT pre0 (tbl m) c) ∗ (dat m hO c).owesAt () t.castSucc
    ∗ owns (c : Thread nD τ) (spec0_0.stage ((cfgM m hO).slots t 0)) fullShare (blk m hO c 0 t)
    ∗ owns (c : Thread nD τ) (spec0_1.stage ((cfgM m hO).slots t 1)) fullShare (blk m hO c 1 t)
    ∗ owns (c : Thread nD τ) (spec0_2.stage ((cfgM m hO).slots t 2)) fullShare (blk m hO c 2 t)
    ∗ owns (c : Thread nD τ) (spec0_3.stage ((cfgM m hO).slots t 3)) fullShare (blk m hO c 3 t)
    ∗ owns (c : Thread nD τ) (spec0_4.stage ((cfgM m hO).slots t 4)) fullShare (blk m hO c 4 t)
    ∗ owns (c : Thread nD τ) (spec0_5.stage ((cfgM m hO).slots t 5)) fullShare (blk m hO c 5 t)
    ∗ owns (c : Thread nD τ) (spec0_6.stage ((cfgM m hO).slots t 6)) fullShare (blk m hO c 6 t)
    ∗ owns (c : Thread nD τ) (spec0_7.stage ((cfgM m hO).slots t 7)) fullShare (blk m hO c 7 t)
    ∗ owns (c : Thread nD τ) (spec0_8.stage ((cfgM m hO).slots t 8)) fullShare (blk m hO c 8 t)
    ∗ owns (c : Thread nD τ) (spec0_9.stage ((cfgM m hO).slots t 9)) fullShare (blk m hO c 9 t)
    ∗ (∃ X, ⌜Y X⌝ ∗ owns (c : Thread nD τ) (spec0_10.stage ((cfgM m hO).slots t 10)) fullShare X))

set_option maxHeartbeats 1600000 in
/-- The body at point `t`. -/
theorem sound (c : Dev nD) (t : Fin (cfgM m hO).N) :
    shell m hO c t (fun _ => True) ⊢ wp frame (wpE (defs₀ (F := F)) Variants.none c none) Set.univ
      (defs₀ (F := F) .tc (cfgM m hO).body ((cfgM m hO).bodyArgs t ((cfgM m hO).slots t))) (fun _ => shell m hO c t (Out m hO c t)) := by
  rw [show defs₀ (F := F) .tc (cfgM m hO).body ((cfgM m hO).bodyArgs t ((cfgM m hO).slots t))
    = cc0__expert_body (grid0.coords t) (Memref.whole main_arg0) (Memref.isWhole_whole _) (Memref.whole main_arg1) (Memref.isWhole_whole _) (Memref.whole main_arg2) (Memref.isWhole_whole _)
        (spec0_0.stage ((cfgM m hO).slots t 0)) (hstage0_0 (((cfgM m hO).slots t 0).cast nbuf0_0))
        (spec0_1.stage ((cfgM m hO).slots t 1)) (hstage0_1 (((cfgM m hO).slots t 1).cast nbuf0_1))
        (spec0_2.stage ((cfgM m hO).slots t 2)) (hstage0_2 (((cfgM m hO).slots t 2).cast nbuf0_2))
        (spec0_3.stage ((cfgM m hO).slots t 3)) (hstage0_3 (((cfgM m hO).slots t 3).cast nbuf0_3))
        (spec0_4.stage ((cfgM m hO).slots t 4)) (hstage0_4 (((cfgM m hO).slots t 4).cast nbuf0_4))
        (spec0_5.stage ((cfgM m hO).slots t 5)) (hstage0_5 (((cfgM m hO).slots t 5).cast nbuf0_5))
        (spec0_6.stage ((cfgM m hO).slots t 6)) (hstage0_6 (((cfgM m hO).slots t 6).cast nbuf0_6))
        (spec0_7.stage ((cfgM m hO).slots t 7)) (hstage0_7 (((cfgM m hO).slots t 7).cast nbuf0_7))
        (spec0_8.stage ((cfgM m hO).slots t 8)) (hstage0_8 (((cfgM m hO).slots t 8).cast nbuf0_8))
        (spec0_9.stage ((cfgM m hO).slots t 9)) (hstage0_9 (((cfgM m hO).slots t 9).cast nbuf0_9))
        (spec0_10.stage ((cfgM m hO).slots t 10)) (hstage0_10 (((cfgM m hO).slots t 10).cast nbuf0_10)) from by
    unfold defs₀; rw [Defs.onTc_tc]]
  unfold shell
  rw [tables_eq]
  iintro ⟨⟨HA, HT0, HT1, HT2⟩, Ho, H0, H1, H2, H3, H4, H5, H6, H7, H8, H9, ⟨%X, -, H10⟩⟩
  iapply (run c (grid0.coords t) _ (hstage0_0 (((cfgM m hO).slots t 0).cast nbuf0_0)) _ (hstage0_1 (((cfgM m hO).slots t 1).cast nbuf0_1)) _ (hstage0_2 (((cfgM m hO).slots t 2).cast nbuf0_2)) _ (hstage0_3 (((cfgM m hO).slots t 3).cast nbuf0_3)) _ (hstage0_4 (((cfgM m hO).slots t 4).cast nbuf0_4)) _ (hstage0_5 (((cfgM m hO).slots t 5).cast nbuf0_5)) _ (hstage0_6 (((cfgM m hO).slots t 6).cast nbuf0_6)) _ (hstage0_7 (((cfgM m hO).slots t 7).cast nbuf0_7)) _ (hstage0_8 (((cfgM m hO).slots t 8).cast nbuf0_8)) _ (hstage0_9 (((cfgM m hO).slots t 9).cast nbuf0_9)) _ (hstage0_10 (((cfgM m hO).slots t 10).cast nbuf0_10))
    (tokens m hO c t) (blk m hO c 4 t) (blk m hO c 5 t) (blk m hO c 6 t) (blk m hO c 7 t) (blk m hO c 8 t) (blk m hO c 9 t) (tbl m 2) Set.univ _)
  unfold held
  isplitl [H0 H1 H2 H3 H4 H5 H6 H7 H8 H9 HT2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact HT2
  isplitl [H10]; · iexists _; iexact H10
  iintro ⟨⟨H0, H1, H2, H3, H4, H5, H6, H7, H8, H9, HT2⟩, ⟨%X', %hX, H10⟩⟩
  isplitl [HA HT0 HT1 HT2]
  · isplitl [HA]; · iexact HA
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists X'
  isplitr; · ipureintro; exact hX
  iexact H10

/-- The relational proof data of the one pipeline. -/
abbrev rdat (c : Dev nD) : Pipeline.RDat τ (Elt F) Unit ℕ (UR sig nD τ) ℕ ((Pipeline.pin pcfgs fun _ => adm m hO) 0) c :=
  (dat m hO c).toRRel marked (Rel m hO c)

theorem body_obligation (c : Dev nD) :
    Pipeline.BodyObligationRel (dat (F := F) m hO c) (defs₀ (F := F)) Variants.none () Set.univ marked (Rel m hO c) := fun t => by
  rw [bigSep_W0, bigSep_W0]
  refine triple_restated (sound m hO c t) rfl ?_ fun _ => .rfl
  refine (show _ ⊢ iprop((Pipeline.ΦA spec0 c ∗ Pipeline.ΦT pre0 (tbl m) c) ∗ (dat m hO c).owesAt () t.castSucc
    ∗ (∃ d, owns (c : Thread nD τ) (spec0_0.stage ((cfgM m hO).slots t 0)) fullShare ((dat m hO c).before 0 t d))
    ∗ (∃ d, owns (c : Thread nD τ) (spec0_1.stage ((cfgM m hO).slots t 1)) fullShare ((dat m hO c).before 1 t d))
    ∗ (∃ d, owns (c : Thread nD τ) (spec0_2.stage ((cfgM m hO).slots t 2)) fullShare ((dat m hO c).before 2 t d))
    ∗ (∃ d, owns (c : Thread nD τ) (spec0_3.stage ((cfgM m hO).slots t 3)) fullShare ((dat m hO c).before 3 t d))
    ∗ (∃ d, owns (c : Thread nD τ) (spec0_4.stage ((cfgM m hO).slots t 4)) fullShare ((dat m hO c).before 4 t d))
    ∗ (∃ d, owns (c : Thread nD τ) (spec0_5.stage ((cfgM m hO).slots t 5)) fullShare ((dat m hO c).before 5 t d))
    ∗ (∃ d, owns (c : Thread nD τ) (spec0_6.stage ((cfgM m hO).slots t 6)) fullShare ((dat m hO c).before 6 t d))
    ∗ (∃ d, owns (c : Thread nD τ) (spec0_7.stage ((cfgM m hO).slots t 7)) fullShare ((dat m hO c).before 7 t d))
    ∗ (∃ d, owns (c : Thread nD τ) (spec0_8.stage ((cfgM m hO).slots t 8)) fullShare ((dat m hO c).before 8 t d))
    ∗ (∃ d, owns (c : Thread nD τ) (spec0_9.stage ((cfgM m hO).slots t 9)) fullShare ((dat m hO c).before 9 t d))
    ∗ (∃ Y, ⌜(rdat m hO c).Finds 10 t Y⌝ ∗ owns (c : Thread nD τ) (spec0_10.stage ((cfgM m hO).slots t 10)) fullShare Y)) from .rfl).trans ?_
  unfold shell
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%Y, -, H10⟩⟩
  rw [before_0 m hO c t d0, before_1 m hO c t d1, before_2 m hO c t d2, before_3 m hO c t d3, before_4 m hO c t d4, before_5 m hO c t d5,
    before_6 m hO c t d6, before_7 m hO c t d7, before_8 m hO c t d8, before_9 m hO c t d9]
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists Y
  isplitr; · ipureintro; trivial
  iexact H10

set_option backward.isDefEq.respectTransparency.types false in
/-- The run: every execution ends with each array as the proof data say, every other buffer as the pipeline found it, and every semaphore
    counter at zero. -/
theorem run_main : θ_run defs (onTc (τ := τ) (main (F := F))) (s₀ m ρ)
    (fun r => Pipeline.RDat.FramePost ((Pipeline.pin pcfgs fun _ => adm m hO) 0) (rdat m hO) (V m) r ∧ r.2.sem = fun _ => 0) :=
  Pipeline.RDat.θ_run_frameP_track_shared pcfgs (fun _ => adm m hO) (0 : Fin 1) launch₀0 defs₀ Variants.none (rdat m hO) m ρ main
    (fun c => (body_obligation m hO c).toRRel) (fun _ _ _ => rfl) (fun _ _ => rfl) (V m) (hmain m) (fun c w => A_eq m hO c w) (V_pre m)
    (fun _ => .rfl) (fun c => show iprop(Pipeline.ΦA spec0 c ∗ Pipeline.ΦT pre0 (tbl m) c) ⊢ _ from by iintro ⟨H, -⟩; iexact H) _ (fun _ h => h)

theorem rest_kept {r : PUnit × MemSt nD τ sig (Elt F)}
    (h : Pipeline.RDat.FramePost ((Pipeline.pin pcfgs fun _ => adm m hO) 0) (rdat m hO) (V m) r) (c : Dev nD) (b : Ref sig .tc)
    (hb : b ∈ Pipeline.restRefs sig spec0) (hV : V m c b = m ((c : Thread nD τ).loc b)) : r.2.mem ((c : Thread nD τ).loc b) = m ((c : Thread nD τ).loc b) :=
  ((h c).2 b hb).trans hV

/-- The argument arrays end as launched. -/
theorem args_kept {r : PUnit × MemSt nD τ sig (Elt F)}
    (h : Pipeline.RDat.FramePost ((Pipeline.pin pcfgs fun _ => adm m hO) 0) (rdat m hO) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨rest_kept m hO h c main_arg0 (by decide) (V_main_arg0 m c), rest_kept m hO h c main_arg1 (by decide) (V_main_arg1 m c),
    rest_kept m hO h c main_arg2 (by decide) (V_main_arg2 m c),
    (Pipeline.RDat.FramePost.arr_in h c 0 rfl).trans ((A_eq m hO c 0).trans (V_main_arg3 m c)),
    rest_kept m hO h c main_arg4 (by decide) (V_main_arg4 m c), rest_kept m hO h c main_arg5 (by decide) (V_main_arg5 m c),
    rest_kept m hO h c main_arg6 (by decide) (V_main_arg6 m c), rest_kept m hO h c main_arg7 (by decide) (V_main_arg7 m c),
    rest_kept m hO h c main_arg8 (by decide) (V_main_arg8 m c), rest_kept m hO h c main_arg9 (by decide) (V_main_arg9 m c)⟩

/-- The output window is written back at every chunk. -/
theorem flush_out (t : Fin (cfgM m hO).N) : ((cfgM m hO).win 10).flush t = true :=
  (Pipeline.Window.flushOf_reads cc0_transform_10 reads0_10 hreads0_10 0 (by decide) (by decide)
    (Pipeline.Window.sep_of_coord cc0_transform_10 0 0 (fun _ => rfl) (by decide)) (P := 1) (m := 0) (by decide) rfl t).mpr (Nat.mod_one _)

theorem coords_val : ∀ t : Fin grid0.N, (grid0.coords t 0).val = t.val := by decide

/-- Chunk `t`'s output block is block `t` of the result. -/
theorem index_out (t : Fin (cfgM m hO).N) : ((cfgM m hO).win 10).index t = (![t.val, 0, 0] : Fin 3 → ℕ) :=
  (by decide : ∀ t : Fin grid0.N, cc0_transform_10 (grid0.coords t) = ![t.val, 0, 0]) t

theorem disjoint_out (t t' : Fin (cfgM m hO).N) (h : t ≠ t') :
    Disjoint (((cfgM m hO).win 10).blk t).view.set (((cfgM m hO).win 10).blk t').view.set :=
  ((cfgM m hO).win 10).disjoint_blk fun e => h (Fin.ext (by
    rw [index_out, index_out] at e
    exact congrFun e 0))

/-- Slot `4 t + r` of the result, where chunk `t` is active. -/
theorem out_read {r : PUnit × MemSt nD τ sig (Elt F)}
    (h : Pipeline.RDat.FramePost ((Pipeline.pin pcfgs fun _ => adm m hO) 0) (rdat m hO) (V m) r) (c : Dev nD) (t : Fin (cfgM m hO).N)
    (ha : k0_cond1 (word c (grid0.coords t) (tbl m 2)) = 1#1) (k : Fin 4) (y : S1x196x768.Idx) (i : S152x196x768.Idx)
    (hi0 : (i 0).val = 4 * t.val + k.val) (hi1 : (i 1).val = (y 1).val) (hi2 : (i 2).val = (y 2).val) :
    r.2.mem ((c.tc : Thread nD τ).loc main_v7) i
      = expert (tokens m hO c t k) (blk m hO c 4 t) (blk m hO c 5 t) (blk m hO c 6 t) (blk m hO c 7 t) (blk m hO c 8 t) (blk m hO c 9 t) y := by
  obtain ⟨after, hL, hA⟩ := Pipeline.RDat.FramePost.exists_exact h c
  have hX : Out m hO c t (after 10 t) := (dat m hO c).toRRel_leaves (w := 10) rfl (hL 10 t (flush_out m hO t))
  have e := ((rdat m hO c).withAfter after).arrAt_emb_eq_flushed 10 (fun t t' _ _ hne => disjoint_out m hO t t' hne) t (flush_out m hO t) ((row k).emb y)
  rw [← hA 10] at e
  have hi : (((cfgM m hO).win 10).blk t).view.emb ((row k).emb y) = i := by
    funext a
    refine Fin.ext ((((cfgM m hO).win 10).rect_emb_val t ((row k).emb y) a rfl).trans ?_)
    rw [index_out]
    have hy : (y 0).val < 1 := (y 0).isLt
    fin_cases a
    · show t.val * 4 + (k.val + 1 * (y 0).val) = (i 0).val
      omega
    · show 0 * 196 + (0 + 1 * (y 1).val) = (i 1).val
      omega
    · show 0 * 768 + (0 + 1 * (y 2).val) = (i 2).val
      omega
  rw [hi] at e
  exact e.trans (hX ha k y)

end Cert.KernelIdeal.Slots

end
-- ==== Proof.KernelIdeal.Tables.lean ====
/-
  The tables' words and the blocks they pick. Slot `4 i + r`'s token block is the one that word `4 i + r` of the slots' table names; chunk
  `i`'s expert is word `i` of the experts' table. With the words in range every block lies inside its array.
-/
module

public import proofs.«01_k».proof.Proof.KernelIdeal.Launch
public import proofs.«01_k».proof.Proof.Range

@[expose] public section

set_option maxRecDepth 16384

noncomputable section

namespace Cert.KernelIdeal.Slots

open Idealize.ShloMosaic Idealize.ShloMosaic.TcCoe
open Cert.KernelIdeal.Gen

variable {F : FTy → Type} [FloatOps F] [Named F]

/-- The index of slot `4 i + r`. -/
def slotIx (i : grid0.Coords) (r : Fin 4) : S152.Idx := fun a =>
  ⟨4 * (i 0).val + r.val, by
    obtain rfl : a = 0 := Subsingleton.elim (α := Fin 1) _ _
    have h : (i 0).val < 38 := (i 0).isLt
    have := r.isLt
    show _ < 152
    omega⟩

/-- The index of chunk `i`. -/
def chunkIx (i : grid0.Coords) : S38.Idx := fun a => (i 0).cast (by obtain rfl : a = 0 := Subsingleton.elim (α := Fin 1) _ _; rfl)

theorem at_slot (pf : pre0.Contents (Elt F)) (i : grid0.Coords) (r : Fin 4) (inb : ∀ a, k0_off1 i (BitVec.ofNat 32 r.val) a + S1.size a ≤ S152.size a)
    (h1 : S1.numel = 1) :
    pf.at 0 (Rect.unit (s := S152) (k0_off1 i (BitVec.ofNat 32 r.val)) S1.size inb) h1 = pf 0 (slotIx i r) := by
  refine congrArg (pf 0) (funext fun (a : Fin 1) => Fin.ext ?_)
  obtain rfl : a = 0 := Subsingleton.elim (α := Fin 1) _ _
  have h0 : (Shape.Idx.first (s := S1) (h1.symm ▸ Nat.one_pos) 0).val < 1 := (Shape.Idx.first (s := S1) _ 0).isLt
  have ho : k0_off1 i (BitVec.ofNat 32 r.val) 0 = 4 * (i 0).val + r.val :=
    (by decide : ∀ (n : Fin 38) (r : Fin 4), (Scalar.indexCast (Scalar.addi (Scalar.muli 4#32 (BitVec.ofNat 32 n.val)) (BitVec.ofNat 32 r.val)) : Index).toNat
      = 4 * n.val + r.val) (i 0) r
  show k0_off1 i (BitVec.ofNat 32 r.val) 0 + 1 * (Shape.Idx.first (s := S1) _ 0).val = 4 * (i 0).val + r.val
  omega

theorem at_chunk (pf : pre0.Contents (Elt F)) (i : grid0.Coords) (inb : ∀ a, k0_off2 i a + S1.size a ≤ S38.size a) (h1 : S1.numel = 1) :
    pf.at 1 (Rect.unit (s := S38) (k0_off2 i) S1.size inb) h1 = pf 1 (chunkIx i) := by
  refine congrArg (pf 1) (funext fun (a : Fin 1) => Fin.ext ?_)
  obtain rfl : a = 0 := Subsingleton.elim (α := Fin 1) _ _
  have h0 : (Shape.Idx.first (s := S1) (h1.symm ▸ Nat.one_pos) 0).val < 1 := (Shape.Idx.first (s := S1) _ 0).isLt
  show k0_off2 i 0 + 1 * (Shape.Idx.first (s := S1) _ 0).val = (i 0).val
  rw [off2_eq]; omega

theorem transform_0 (pf : pre0.Contents (Elt F)) (i : grid0.Coords) :
    cc0_transform_0 k0_off1_inb numel1_S1 pf i = ![(pf 0 (slotIx i 0)).toNat, 0, 0] :=
  congrArg (fun w : BitVec 32 => (![w.toNat, 0, 0] : Fin 3 → ℕ)) (at_slot pf i 0 _ _)
theorem transform_1 (pf : pre0.Contents (Elt F)) (i : grid0.Coords) :
    cc0_transform_1 k0_off1_inb numel1_S1 pf i = ![(pf 0 (slotIx i 1)).toNat, 0, 0] :=
  congrArg (fun w : BitVec 32 => (![w.toNat, 0, 0] : Fin 3 → ℕ)) (at_slot pf i 1 _ _)
theorem transform_2 (pf : pre0.Contents (Elt F)) (i : grid0.Coords) :
    cc0_transform_2 k0_off1_inb numel1_S1 pf i = ![(pf 0 (slotIx i 2)).toNat, 0, 0] :=
  congrArg (fun w : BitVec 32 => (![w.toNat, 0, 0] : Fin 3 → ℕ)) (at_slot pf i 2 _ _)
theorem transform_3 (pf : pre0.Contents (Elt F)) (i : grid0.Coords) :
    cc0_transform_3 k0_off1_inb numel1_S1 pf i = ![(pf 0 (slotIx i 3)).toNat, 0, 0] :=
  congrArg (fun w : BitVec 32 => (![w.toNat, 0, 0] : Fin 3 → ℕ)) (at_slot pf i 3 _ _)
theorem transform_4 (pf : pre0.Contents (Elt F)) (i : grid0.Coords) :
    cc0_transform_4 k0_off2_inb numel1_S1 pf i = ![(pf 1 (chunkIx i)).toNat, 0, 0] :=
  congrArg (fun w : BitVec 32 => (![w.toNat, 0, 0] : Fin 3 → ℕ)) (at_chunk pf i _ _)
theorem transform_5 (pf : pre0.Contents (Elt F)) (i : grid0.Coords) :
    cc0_transform_5 k0_off2_inb numel1_S1 pf i = ![(pf 1 (chunkIx i)).toNat, 0, 0] :=
  congrArg (fun w : BitVec 32 => (![w.toNat, 0, 0] : Fin 3 → ℕ)) (at_chunk pf i _ _)
theorem transform_6 (pf : pre0.Contents (Elt F)) (i : grid0.Coords) :
    cc0_transform_6 k0_off2_inb numel1_S1 pf i = ![(pf 1 (chunkIx i)).toNat, 0, 0] :=
  congrArg (fun w : BitVec 32 => (![w.toNat, 0, 0] : Fin 3 → ℕ)) (at_chunk pf i _ _)
theorem transform_7 (pf : pre0.Contents (Elt F)) (i : grid0.Coords) :
    cc0_transform_7 k0_off2_inb numel1_S1 pf i = ![(pf 1 (chunkIx i)).toNat, 0, 0] :=
  congrArg (fun w : BitVec 32 => (![w.toNat, 0, 0] : Fin 3 → ℕ)) (at_chunk pf i _ _)
theorem transform_8 (pf : pre0.Contents (Elt F)) (i : grid0.Coords) :
    cc0_transform_8 k0_off2_inb numel1_S1 pf i = ![(pf 1 (chunkIx i)).toNat, 0, 0] :=
  congrArg (fun w : BitVec 32 => (![w.toNat, 0, 0] : Fin 3 → ℕ)) (at_chunk pf i _ _)
theorem transform_9 (pf : pre0.Contents (Elt F)) (i : grid0.Coords) :
    cc0_transform_9 k0_off2_inb numel1_S1 pf i = ![(pf 1 (chunkIx i)).toNat, 0, 0] :=
  congrArg (fun w : BitVec 32 => (![w.toNat, 0, 0] : Fin 3 → ℕ)) (at_chunk pf i _ _)

/-- A block of one plane of a three-axis array, at the plane `n` in range, lies inside. -/
theorem plane_inb {N a b n : ℕ} (h : n < N) (ix : Fin 3 → ℕ) (hix : ix = ![n, 0, 0]) (k : Fin 3) :
    (ix k + 1) * (⟨3, ![1, a, b]⟩ : Shape).size k ≤ (⟨3, ![N, a, b]⟩ : Shape).size k := by
  subst hix
  fin_cases k
  · show (n + 1) * 1 ≤ N; omega
  · show (0 + 1) * a ≤ a; omega
  · show (0 + 1) * b ≤ b; omega

/-- Such a block holds whole rows, so its transfers move whole words. -/
theorem plane_words {N a b n p : ℕ} (h : n < N) (ix : Fin 3 → ℕ) (hix : ix = ![n, 0, 0])
    (inb : ∀ k, (ix k + 1) * (⟨3, ![1, a, b]⟩ : Shape).size k ≤ (⟨3, ![N, a, b]⟩ : Shape).size k) :
    (Rect.block (s := ⟨3, ![N, a, b]⟩) (⟨3, ![1, a, b]⟩ : Shape).size ix inb).WholeWords p := by
  subst hix
  exact .inr ⟨Nat.le_succ 2, rfl, Nat.zero_mul _, rfl⟩

/-- With both tables in range the pipeline's blocks lie inside their arrays. -/
theorem ok_of_lt (pf : pre0.Contents (Elt F)) (h0 : ∀ x : S152.Idx, (pf 0 x : BitVec 32).toNat < 64) (h1 : ∀ x : S38.Idx, (pf 1 x : BitVec 32).toNat < 8) :
    ok0 pf :=
  ⟨fun i => ⟨plane_inb (h0 _) _ (transform_0 pf i), .inl rfl⟩, fun i => ⟨plane_inb (h0 _) _ (transform_1 pf i), .inl rfl⟩,
    fun i => ⟨plane_inb (h0 _) _ (transform_2 pf i), .inl rfl⟩, fun i => ⟨plane_inb (h0 _) _ (transform_3 pf i), .inl rfl⟩,
    fun i => ⟨plane_inb (h1 _) _ (transform_4 pf i), .inl rfl⟩, fun i => ⟨plane_inb (h1 _) _ (transform_5 pf i), .inl rfl⟩,
    fun i => ⟨plane_inb (h1 _) _ (transform_6 pf i), .inr (plane_words (h1 _) _ (transform_6 pf i) _)⟩,
    fun i => ⟨plane_inb (h1 _) _ (transform_7 pf i), .inr (plane_words (h1 _) _ (transform_7 pf i) _)⟩,
    fun i => ⟨plane_inb (h1 _) _ (transform_8 pf i), .inr (plane_words (h1 _) _ (transform_8 pf i) _)⟩,
    fun i => ⟨plane_inb (h1 _) _ (transform_9 pf i), .inl rfl⟩⟩

variable (m : (ℓ : Loc nD τ sig) → Buf (Elt F) ℓ) (ρ : Dev nD → PrngReg)

/-- The tables as launched. -/
theorem tbl_0 : tbl m 0 = m (((0 : Dev nD) : Thread nD τ).loc main_arg0) := V_main_arg0 m 0
theorem tbl_1 : tbl m 1 = m (((0 : Dev nD) : Thread nD τ).loc main_arg1) := V_main_arg1 m 0
theorem tbl_2 : tbl m 2 = m (((0 : Dev nD) : Thread nD τ).loc main_arg2) := V_main_arg2 m 0

/-- The precondition's two facts of the launch memory. -/
def InRange : Prop := ∀ c : Dev nD, (∀ x : S152.Idx, (m ((c : Thread nD τ).loc main_arg0) x : BitVec 32).toNat < 64)
  ∧ ∀ x : S38.Idx, (m ((c : Thread nD τ).loc main_arg1) x : BitVec 32).toNat < 8

variable {m} in
theorem ok_of_inRange (h : InRange m) : Ok m :=
  ok_of_lt _ (fun x => by rw [tbl_0]; exact (h 0).1 x) (fun x => by rw [tbl_1]; exact (h 0).2 x)

/-- The frame: every execution ends with the argument arrays as launched and every semaphore counter at zero. -/
theorem frame (h : InRange m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ hr => ⟨fun c => args_kept m (ok_of_inRange h) hr.1 c, hr.2⟩) (run_main m ρ (ok_of_inRange h))

end Cert.KernelIdeal.Slots

end
-- ==== Proof.Value.Model.lean ====
/-
  What one slot computes, over the extended reals, of one row of tokens: layer norm, the first layer, the activation in its tanh form, the
  second layer. Both programs are read as this function. The constants are the float words of the programs; at the end of the module are
  the values of the words that the two programs spell differently.
-/
module

public import Idealize.ShloMosaic.PureOps.Ideal.Laws
public import Idealize.ShloMosaic.Lib.IdealHost

@[expose] public section

noncomputable section

namespace Cert.Model

open Idealize.ShloMosaic

/-- The width of a row, the divisor of both means. -/
def width : EReal := Ideal.ofBits .f32 0x44400000#32

/-- A row less its mean. -/
def centred (x : Fin 768 → EReal) (d : Fin 768) : EReal := x d - Ideal.div (∑ k, x k) width

/-- The mean of the squares of a centred row. -/
def variance (x : Fin 768 → EReal) : EReal := Ideal.div (∑ k, centred x k * centred x k) width

/-- The normalised row with the expert's scale `g` and shift `b`. -/
def normed (x g b : Fin 768 → EReal) (d : Fin 768) : EReal :=
  centred x d * Ideal.rsqrt (variance x + Ideal.ofBits .f32 0x358637BD#32) * g d + b d

/-- The first layer. -/
def hidden (x g b : Fin 768 → EReal) (w1 : Fin 768 → Fin 3072 → EReal) (b1 : Fin 3072 → EReal) (f : Fin 3072) : EReal :=
  ∑ d, normed x g b d * w1 d f + b1 f

/-- The activation: `u (1 + tanh (s (u + c u³))) / 2`. -/
def gelu (u : EReal) : EReal :=
  u * (Ideal.ofBits .f32 0x3F000000#32 *
    (1 + Ideal.tanh (Ideal.ofBits .f32 0x3F4C422A#32 * (u + Ideal.ofBits .f32 0x3D372713#32 * (u * u * u)))))

/-- The whole network on one row. -/
def mlp (x g b : Fin 768 → EReal) (w1 : Fin 768 → Fin 3072 → EReal) (b1 : Fin 3072 → EReal) (w2 : Fin 3072 → Fin 768 → EReal)
    (b2 : Fin 768 → EReal) (q : Fin 768) : EReal :=
  ∑ f, gelu (hidden x g b w1 b1 f) * w2 f q + b2 q

/-- The bfloat16 word and the float32 word of one half have one value. -/
theorem half_eq : Ideal.ofBits .bf16 0x3F00#16 = Ideal.ofBits .f32 0x3F000000#32 := by
  have h : Ideal.ofBits .bf16 0x3F00#16 = ((1 / 2 : ℝ) : EReal) := by
    simp [Ideal.ofBits, Ideal.ieee, -EReal.coe_mul]; norm_num
  have h' : Ideal.ofBits .f32 0x3F000000#32 = ((1 / 2 : ℝ) : EReal) := by
    simp [Ideal.ofBits, Ideal.ieee, -EReal.coe_mul]; norm_num
  rw [h, h']

/-- The reference's cubic coefficient as a fraction. -/
theorem cubic_eq : Ideal.ofBits .f32 0x3D372713#32 = ((12003091 / 268435456 : ℝ) : EReal) := by
  simp [Ideal.ofBits, Ideal.ieee, -EReal.coe_mul]; norm_num

/-- The reference's scale under the tanh as a fraction. -/
theorem scale_eq : Ideal.ofBits .f32 0x3F4C422A#32 = ((6693141 / 8388608 : ℝ) : EReal) := by
  simp [Ideal.ofBits, Ideal.ieee, -EReal.coe_mul]; norm_num

/-- The width is positive. -/
theorem width_pos : (0 : EReal) < width := by
  have h : width = ((768 : ℝ) : EReal) := by
    unfold width; simp [Ideal.ofBits, Ideal.ieee, -EReal.coe_mul]; norm_num
  rw [h]; exact_mod_cast (by norm_num : (0 : ℝ) < 768)

end Cert.Model

end
-- ==== Proof.Value.Expert.lean ====
/-
  The kernel's value for one slot, read at an index over the extended reals: `Model.mlp` of the slot's row.
-/
module

public import proofs.«01_k».proof.Proof.KernelIdeal.Body
public import proofs.«01_k».proof.Proof.Value.Model
public import Idealize.ShloMosaic.Lib.Pointwise

@[expose] public section

set_option maxRecDepth 16384

noncomputable section

namespace Cert.KernelIdeal.Value

open Idealize.ShloMosaic Cert.KernelIdeal Cert.KernelIdeal.Gen Cert.KernelIdeal.Slots Cert.Model

/-- The named cubic coefficient is the reference's. -/
theorem named_cubic : (Named.named κ "gelu_cubic" 0x3D37#16 : Ideal .bf16) = Ideal.ofBits .f32 0x3D372713#32 :=
  (IdealRules.named_const.ideal_named_scalar _ _ _ _ rfl).trans cubic_eq.symm

/-- The named scale is the reference's. -/
theorem named_scale : (Named.named κ "gelu_scale" 0x3F4C#16 : Ideal .bf16) = Ideal.ofBits .f32 0x3F4C422A#32 :=
  (IdealRules.named_const.ideal_named_scalar _ _ _ _ rfl).trans scale_eq.symm

/-- The first layer at an index. -/
theorem first_apply (x : Vec Ideal S1x196x768 .f32) (lg lb : Vec Ideal S1x1x768 .f32) (w1 : Vec Ideal S1x768x3072 .bf16)
    (b1 : Vec Ideal S1x1x3072 .bf16) (p : Fin 196) (f : Fin 3072) :
    k0_pay2 (F := Ideal) x lg lb w1 b1 (ix2 p f) =
      hidden (fun d => x (ix3 0 p d)) (fun d => lg (ix3 0 0 d)) (fun d => lb (ix3 0 0 d)) (fun d f => w1 (ix3 0 d f))
        (fun f => b1 (ix3 0 0 f)) f := by
  pointwise [k0_pay2]
  rfl

/-- The cube at an index. -/
theorem cube_apply (x : Vec Ideal S1x196x768 .f32) (lg lb : Vec Ideal S1x1x768 .f32) (w1 : Vec Ideal S1x768x3072 .bf16)
    (b1 : Vec Ideal S1x1x3072 .bf16) (p : Fin 196) (f : Fin 3072) :
    k0_pay3 (F := Ideal) x lg lb w1 b1 (ix2 p f) = k0_pay2 (F := Ideal) x lg lb w1 b1 (ix2 p f) *
      (k0_pay2 (F := Ideal) x lg lb w1 b1 (ix2 p f) * k0_pay2 (F := Ideal) x lg lb w1 b1 (ix2 p f)) := rfl

/-- The activation and the second layer at an index. -/
theorem second_apply (u u3 : FVec Ideal S196x3072 .bf16) (c : Ideal .bf16) (w : Vec Ideal S1x3072x768 .bf16) (b2 : Vec Ideal S1x1x768 .f32)
    (z : Fin 1) (p : Fin 196) (q : Fin 768) :
    k0_pay4 (F := Ideal) u u3 c w b2 (ix3 z p q) =
      ∑ f : Fin 3072, u (ix2 p f) * (Ideal.ofBits .bf16 0x3F00#16 *
        (1 + Ideal.tanh ((Named.named κ "gelu_scale" 0x3F4C#16 : Ideal .bf16) * (u (ix2 p f) + (show EReal from c) * u3 (ix2 p f))))) * w (ix3 0 f q) +
      b2 (ix3 0 0 q) := by
  pointwise [k0_pay4]

/-- One slot at an index: the network on the slot's row. -/
theorem expert_apply (x : Vec Ideal S1x196x768 .f32) (lg lb : Vec Ideal S1x1x768 .f32) (w1 : Vec Ideal S1x768x3072 .bf16)
    (b1 : Vec Ideal S1x1x3072 .bf16) (w2 : Vec Ideal S1x3072x768 .bf16) (b2 : Vec Ideal S1x1x768 .f32)
    (z : Fin 1) (p : Fin 196) (q : Fin 768) :
    expert (F := Ideal) x lg lb w1 b1 w2 b2 (ix3 z p q) =
      mlp (fun d => x (ix3 0 p d)) (fun d => lg (ix3 0 0 d)) (fun d => lb (ix3 0 0 d)) (fun d f => w1 (ix3 0 d f))
        (fun f => b1 (ix3 0 0 f)) (fun f q => w2 (ix3 0 f q)) (fun q => b2 (ix3 0 0 q)) q := by
  unfold expert
  rw [second_apply, named_scale, named_cubic, half_eq]
  unfold mlp gelu
  simp only [cube_apply, first_apply]
  refine congrArg (· + _) (Finset.sum_congr rfl fun f _ => ?_)
  rw [mul_assoc (hidden _ _ _ _ _ f) (hidden _ _ _ _ _ f) (hidden _ _ _ _ _ f)]

end Cert.KernelIdeal.Value

end
-- ==== Proof.Value.Blocks.lean ====
/-
  The blocks that a chunk's windows hold, read at an index: the token block of slot `k` is the row of tokens that the slot table names, the
  other six are the parameters of the expert that the chunk table names (the host's reshapes and casts are identities on the values). With
  them the kernel's result at a slot of an active chunk is `Model.mlp` of the row that the tables name.
-/
module

public import proofs.«01_k».proof.Proof.KernelIdeal.Tables
public import proofs.«01_k».proof.Proof.Value.Expert

@[expose] public section

set_option maxRecDepth 16384

noncomputable section

namespace Cert.KernelIdeal.Value

open Idealize.ShloMosaic Idealize.ShloMosaic.TcCoe Idealize.SL.Sem
open Cert.KernelIdeal Cert.KernelIdeal.Gen Cert.KernelIdeal.Slots Cert.Model Facts Facts₀

/-- An index whose coordinates are those of `(0, i, j)` in a block at plane `n`. -/
theorem plane_eq {N a b : ℕ} (x : (⟨3, ![N, a, b]⟩ : Shape).Idx) (n : Fin N) (i : Fin a) (j : Fin b) (ix : Fin 3 → ℕ) (hix : ix = ![n.val, 0, 0])
    (h : ∀ k : Fin 3, (x k).val = ix k * (⟨3, ![1, a, b]⟩ : Shape).size k + ((ix3 (0 : Fin 1) i j : (⟨3, ![1, a, b]⟩ : Shape).Idx) k).val) :
    x = ix3 n i j := by
  subst hix
  funext k
  refine Fin.ext ((h k).trans ?_)
  match k with
  | ⟨0, _⟩ => show n.val * 1 + 0 = n.val; omega
  | ⟨1, _⟩ => show 0 * a + i.val = i.val; omega
  | ⟨2, _⟩ => show 0 * b + j.val = j.val; omega

variable (m : (ℓ : Loc nD τ sig) → Buf (Elt Ideal) ℓ) (c : Dev nD)

theorem V_v0 (e : Fin 8) (i : Fin 1) (j : Fin 768) :
    (V m c main_v0 : FVec Ideal S8x1x768 .f32) (ix3 e i j) = (m ((c : Thread nD τ).loc main_arg4) : FVec Ideal S8x768 .f32) (ix2 e j) := by
  have h : V m c main_v0 = (shapeCast S8x1x768 (m ((c : Thread nD τ).loc main_arg4) : FVec Ideal S8x768 .f32) Gen.shapeCasts_S8x768_S8x1x768 : FVec Ideal S8x1x768 .f32) := by
    unfold_abbrev_sides; after_results; try rfl
  rw [h]
  pointwise

theorem V_v1 (e : Fin 8) (i : Fin 1) (j : Fin 768) :
    (V m c main_v1 : FVec Ideal S8x1x768 .f32) (ix3 e i j) = (m ((c : Thread nD τ).loc main_arg5) : FVec Ideal S8x768 .f32) (ix2 e j) := by
  have h : V m c main_v1 = (shapeCast S8x1x768 (m ((c : Thread nD τ).loc main_arg5) : FVec Ideal S8x768 .f32) Gen.shapeCasts_S8x768_S8x1x768 : FVec Ideal S8x1x768 .f32) := by
    unfold_abbrev_sides; after_results; try rfl
  rw [h]
  pointwise

theorem V_v5 (e : Fin 8) (i : Fin 768) (j : Fin 3072) :
    (V m c main_v5 : FVec Ideal S8x768x3072 .bf16) (ix3 e i j) = (m ((c : Thread nD τ).loc main_arg6) : FVec Ideal S8x768x3072 .f32) (ix3 e i j) := by
  have h : V m c main_v5 = (truncf .bf16 (m ((c : Thread nD τ).loc main_arg6) : FVec Ideal S8x768x3072 .f32) Gen.bitsLt_bf16_f32 : FVec Ideal S8x768x3072 .bf16) := by
    unfold_abbrev_sides; after_results; try rfl
  rw [h]
  pointwise

theorem V_v3 (e : Fin 8) (i : Fin 1) (j : Fin 3072) :
    (V m c main_v3 : FVec Ideal S8x1x3072 .bf16) (ix3 e i j) = (m ((c : Thread nD τ).loc main_arg7) : FVec Ideal S8x3072 .f32) (ix2 e j) := by
  have h : V m c main_v3 = truncf .bf16 (shapeCast S8x1x3072 (m ((c : Thread nD τ).loc main_arg7) : FVec Ideal S8x3072 .f32) Gen.shapeCasts_S8x3072_S8x1x3072 : FVec Ideal S8x1x3072 .f32) Gen.bitsLt_bf16_f32 := by
    unfold_abbrev_sides; after_results; try rfl
  rw [h]
  pointwise

theorem V_v6 (e : Fin 8) (i : Fin 3072) (j : Fin 768) :
    (V m c main_v6 : FVec Ideal S8x3072x768 .bf16) (ix3 e i j) = (m ((c : Thread nD τ).loc main_arg8) : FVec Ideal S8x3072x768 .f32) (ix3 e i j) := by
  have h : V m c main_v6 = (truncf .bf16 (m ((c : Thread nD τ).loc main_arg8) : FVec Ideal S8x3072x768 .f32) Gen.bitsLt_bf16_f32 : FVec Ideal S8x3072x768 .bf16) := by
    unfold_abbrev_sides; after_results; try rfl
  rw [h]
  pointwise

theorem V_v4 (e : Fin 8) (i : Fin 1) (j : Fin 768) :
    (V m c main_v4 : FVec Ideal S8x1x768 .f32) (ix3 e i j) = (m ((c : Thread nD τ).loc main_arg9) : FVec Ideal S8x768 .f32) (ix2 e j) := by
  have h : V m c main_v4 = (shapeCast S8x1x768 (m ((c : Thread nD τ).loc main_arg9) : FVec Ideal S8x768 .f32) Gen.shapeCasts_S8x768_S8x1x768 : FVec Ideal S8x1x768 .f32) := by
    unfold_abbrev_sides; after_results; try rfl
  rw [h]
  pointwise

variable (hO : Ok m) (t : Fin (cfgM m hO).N)

theorem tokens_0 (i : Fin 196) (j : Fin 768) (a : Fin 64) (ha : a.val = (tbl m 0 (slotIx (grid0.coords t) 0) : BitVec 32).toNat) :
    (blk m hO c 0 t : Vec Ideal S1x196x768 .f32) (ix3 0 i j) = (m ((c : Thread nD τ).loc main_arg3) : FVec Ideal S64x196x768 .f32) (ix3 a i j) :=
  (congrFun (V_main_arg3 m c) _).trans (congrArg (m ((c : Thread nD τ).loc main_arg3) : FVec Ideal S64x196x768 .f32)
    (plane_eq _ a i j _ (by rw [ha]; exact transform_0 (tbl m) (grid0.coords t)) fun r => ((cfgM m hO).win 0).rect_emb_val t (ix3 0 i j) r rfl))
theorem tokens_1 (i : Fin 196) (j : Fin 768) (a : Fin 64) (ha : a.val = (tbl m 0 (slotIx (grid0.coords t) 1) : BitVec 32).toNat) :
    (blk m hO c 1 t : Vec Ideal S1x196x768 .f32) (ix3 0 i j) = (m ((c : Thread nD τ).loc main_arg3) : FVec Ideal S64x196x768 .f32) (ix3 a i j) :=
  (congrFun (V_main_arg3 m c) _).trans (congrArg (m ((c : Thread nD τ).loc main_arg3) : FVec Ideal S64x196x768 .f32)
    (plane_eq _ a i j _ (by rw [ha]; exact transform_1 (tbl m) (grid0.coords t)) fun r => ((cfgM m hO).win 1).rect_emb_val t (ix3 0 i j) r rfl))
theorem tokens_2 (i : Fin 196) (j : Fin 768) (a : Fin 64) (ha : a.val = (tbl m 0 (slotIx (grid0.coords t) 2) : BitVec 32).toNat) :
    (blk m hO c 2 t : Vec Ideal S1x196x768 .f32) (ix3 0 i j) = (m ((c : Thread nD τ).loc main_arg3) : FVec Ideal S64x196x768 .f32) (ix3 a i j) :=
  (congrFun (V_main_arg3 m c) _).trans (congrArg (m ((c : Thread nD τ).loc main_arg3) : FVec Ideal S64x196x768 .f32)
    (plane_eq _ a i j _ (by rw [ha]; exact transform_2 (tbl m) (grid0.coords t)) fun r => ((cfgM m hO).win 2).rect_emb_val t (ix3 0 i j) r rfl))
theorem tokens_3 (i : Fin 196) (j : Fin 768) (a : Fin 64) (ha : a.val = (tbl m 0 (slotIx (grid0.coords t) 3) : BitVec 32).toNat) :
    (blk m hO c 3 t : Vec Ideal S1x196x768 .f32) (ix3 0 i j) = (m ((c : Thread nD τ).loc main_arg3) : FVec Ideal S64x196x768 .f32) (ix3 a i j) :=
  (congrFun (V_main_arg3 m c) _).trans (congrArg (m ((c : Thread nD τ).loc main_arg3) : FVec Ideal S64x196x768 .f32)
    (plane_eq _ a i j _ (by rw [ha]; exact transform_3 (tbl m) (grid0.coords t)) fun r => ((cfgM m hO).win 3).rect_emb_val t (ix3 0 i j) r rfl))

/-- The scales of the layer norm. -/
theorem blk_4 (e : Fin 8) (i : Fin 1) (j : Fin 768) (he : e.val = (tbl m 1 (chunkIx (grid0.coords t)) : BitVec 32).toNat) :
    (blk m hO c 4 t : Vec Ideal S1x1x768 .f32) (ix3 0 i j) = (m ((c : Thread nD τ).loc main_arg4) : FVec Ideal S8x768 .f32) (ix2 e j) :=
  (congrArg (V m c main_v0 : FVec Ideal S8x1x768 .f32) (plane_eq _ e i j _ (by rw [he]; exact transform_4 (tbl m) (grid0.coords t))
    fun r => ((cfgM m hO).win 4).rect_emb_val t (ix3 0 i j) r rfl)).trans (V_v0 m c e i j)

/-- The shifts of the layer norm. -/
theorem blk_5 (e : Fin 8) (i : Fin 1) (j : Fin 768) (he : e.val = (tbl m 1 (chunkIx (grid0.coords t)) : BitVec 32).toNat) :
    (blk m hO c 5 t : Vec Ideal S1x1x768 .f32) (ix3 0 i j) = (m ((c : Thread nD τ).loc main_arg5) : FVec Ideal S8x768 .f32) (ix2 e j) :=
  (congrArg (V m c main_v1 : FVec Ideal S8x1x768 .f32) (plane_eq _ e i j _ (by rw [he]; exact transform_5 (tbl m) (grid0.coords t))
    fun r => ((cfgM m hO).win 5).rect_emb_val t (ix3 0 i j) r rfl)).trans (V_v1 m c e i j)

/-- The first layer's weights. -/
theorem blk_6 (e : Fin 8) (i : Fin 768) (j : Fin 3072) (he : e.val = (tbl m 1 (chunkIx (grid0.coords t)) : BitVec 32).toNat) :
    (blk m hO c 6 t : Vec Ideal S1x768x3072 .bf16) (ix3 0 i j) = (m ((c : Thread nD τ).loc main_arg6) : FVec Ideal S8x768x3072 .f32) (ix3 e i j) :=
  (congrArg (V m c main_v5 : FVec Ideal S8x768x3072 .bf16) (plane_eq _ e i j _ (by rw [he]; exact transform_6 (tbl m) (grid0.coords t))
    fun r => ((cfgM m hO).win 6).rect_emb_val t (ix3 0 i j) r rfl)).trans (V_v5 m c e i j)

/-- The first layer's bias. -/
theorem blk_7 (e : Fin 8) (i : Fin 1) (j : Fin 3072) (he : e.val = (tbl m 1 (chunkIx (grid0.coords t)) : BitVec 32).toNat) :
    (blk m hO c 7 t : Vec Ideal S1x1x3072 .bf16) (ix3 0 i j) = (m ((c : Thread nD τ).loc main_arg7) : FVec Ideal S8x3072 .f32) (ix2 e j) :=
  (congrArg (V m c main_v3 : FVec Ideal S8x1x3072 .bf16) (plane_eq _ e i j _ (by rw [he]; exact transform_7 (tbl m) (grid0.coords t))
    fun r => ((cfgM m hO).win 7).rect_emb_val t (ix3 0 i j) r rfl)).trans (V_v3 m c e i j)

/-- The second layer's weights. -/
theorem blk_8 (e : Fin 8) (i : Fin 3072) (j : Fin 768) (he : e.val = (tbl m 1 (chunkIx (grid0.coords t)) : BitVec 32).toNat) :
    (blk m hO c 8 t : Vec Ideal S1x3072x768 .bf16) (ix3 0 i j) = (m ((c : Thread nD τ).loc main_arg8) : FVec Ideal S8x3072x768 .f32) (ix3 e i j) :=
  (congrArg (V m c main_v6 : FVec Ideal S8x3072x768 .bf16) (plane_eq _ e i j _ (by rw [he]; exact transform_8 (tbl m) (grid0.coords t))
    fun r => ((cfgM m hO).win 8).rect_emb_val t (ix3 0 i j) r rfl)).trans (V_v6 m c e i j)

/-- The second layer's bias. -/
theorem blk_9 (e : Fin 8) (i : Fin 1) (j : Fin 768) (he : e.val = (tbl m 1 (chunkIx (grid0.coords t)) : BitVec 32).toNat) :
    (blk m hO c 9 t : Vec Ideal S1x1x768 .f32) (ix3 0 i j) = (m ((c : Thread nD τ).loc main_arg9) : FVec Ideal S8x768 .f32) (ix2 e j) :=
  (congrArg (V m c main_v4 : FVec Ideal S8x1x768 .f32) (plane_eq _ e i j _ (by rw [he]; exact transform_9 (tbl m) (grid0.coords t))
    fun r => ((cfgM m hO).win 9).rect_emb_val t (ix3 0 i j) r rfl)).trans (V_v4 m c e i j)

/-- The token block of slot `k`. -/
theorem tokens_apply (k : Fin 4) (i : Fin 196) (j : Fin 768) (a : Fin 64) (ha : a.val = (tbl m 0 (slotIx (grid0.coords t) k) : BitVec 32).toNat) :
    tokens m hO c t k (ix3 0 i j) = (m ((c : Thread nD τ).loc main_arg3) : FVec Ideal S64x196x768 .f32) (ix3 a i j) := by
  match k with
  | 0 => exact tokens_0 m c hO t i j a ha
  | 1 => exact tokens_1 m c hO t i j a ha
  | 2 => exact tokens_2 m c hO t i j a ha
  | 3 => exact tokens_3 m c hO t i j a ha

end Cert.KernelIdeal.Value

end
-- ==== Proof.Value.Out.lean ====
/-
  The kernel's result at a slot of an active chunk: the network of the expert that the chunk table names on the row of tokens that the
  slot table names.
-/
module

public import proofs.«01_k».proof.Proof.Value.Blocks

@[expose] public section

set_option maxRecDepth 16384

noncomputable section

namespace Cert.KernelIdeal.Value

open Idealize.ShloMosaic Idealize.ShloMosaic.TcCoe Idealize.SL.Sem
open Cert.KernelIdeal Cert.KernelIdeal.Gen Cert.KernelIdeal.Slots Cert.Model Facts Facts₀

/-- The branch's condition holds where the chunk's flag is not zero. -/
theorem cond_of_ne (w : BitVec 32) (h : IntOp.cmpi .ne w 0#32 = 1#1) : k0_cond1 w = 1#1 := by
  show Scalar.cmpi .ne (Scalar.extui (Scalar.cmpi .ne w 0#32)) 0#32 = 1#1
  rw [show Scalar.cmpi .ne w 0#32 = 1#1 from h]
  rfl

theorem mlp_congr {x x' g g' b b' : Fin 768 → EReal} {w1 w1' : Fin 768 → Fin 3072 → EReal} {b1 b1' : Fin 3072 → EReal} {w2 w2' : Fin 3072 → Fin 768 → EReal}
    {b2 b2' : Fin 768 → EReal} (hx : ∀ d, x d = x' d) (hg : ∀ d, g d = g' d) (hb : ∀ d, b d = b' d) (hw1 : ∀ d f, w1 d f = w1' d f)
    (hb1 : ∀ f, b1 f = b1' f) (hw2 : ∀ f d, w2 f d = w2' f d) (hb2 : ∀ d, b2 d = b2' d) (q : Fin 768) :
    mlp x g b w1 b1 w2 b2 q = mlp x' g' b' w1' b1' w2' b2' q := by
  obtain rfl := funext hx
  obtain rfl := funext hg
  obtain rfl := funext hb
  obtain rfl := funext fun d => funext (hw1 d)
  obtain rfl := funext hb1
  obtain rfl := funext fun f => funext (hw2 f)
  obtain rfl := funext hb2
  rfl

theorem out_apply (m : (ℓ : Loc nD τ sig) → Buf (Elt Ideal) ℓ) (hO : Ok m) {r : PUnit × MemSt nD τ sig (Elt Ideal)}
    (h : Pipeline.RDat.FramePost ((Pipeline.pin pcfgs fun _ => adm m hO) 0) (rdat m hO) (V m) r) (c : Dev nD)
    (s : Fin 152) (p : Fin 196) (q : Fin 768) (e : Fin 8) (a : Fin 64)
    (hf : IntOp.cmpi .ne ((m ((c.tc : Thread nD τ).loc main_arg2) : IVec S38 32) (ix1 ⟨s.val / 4, by omega⟩)) 0#32 = 1#1)
    (he : ((m ((c.tc : Thread nD τ).loc main_arg1) : IVec S38 32) (ix1 ⟨s.val / 4, by omega⟩)).toNat = e.val)
    (ha : ((m ((c.tc : Thread nD τ).loc main_arg0) : IVec S152 32) (ix1 s)).toNat = a.val) :
    (r.2.mem ((c.tc : Thread nD τ).loc main_v7) : FVec Ideal S152x196x768 .bf16) (ix3 s p q) =
      mlp (fun d => (m ((c.tc : Thread nD τ).loc main_arg3) : FVec Ideal S64x196x768 .f32) (ix3 a p d))
        (fun d => (m ((c.tc : Thread nD τ).loc main_arg4) : FVec Ideal S8x768 .f32) (ix2 e d))
        (fun d => (m ((c.tc : Thread nD τ).loc main_arg5) : FVec Ideal S8x768 .f32) (ix2 e d))
        (fun d f => (m ((c.tc : Thread nD τ).loc main_arg6) : FVec Ideal S8x768x3072 .f32) (ix3 e d f))
        (fun f => (m ((c.tc : Thread nD τ).loc main_arg7) : FVec Ideal S8x3072 .f32) (ix2 e f))
        (fun f q => (m ((c.tc : Thread nD τ).loc main_arg8) : FVec Ideal S8x3072x768 .f32) (ix3 e f q))
        (fun q => (m ((c.tc : Thread nD τ).loc main_arg9) : FVec Ideal S8x768 .f32) (ix2 e q)) q := by
  obtain rfl : c = 0 := Subsingleton.elim (α := Fin 1) _ _
  let t : Fin (cfgM m hO).N := (⟨s.val / 4, by omega⟩ : Fin 38)
  let k : Fin 4 := ⟨s.val % 4, by omega⟩
  have ht : (grid0.coords t 0).val = s.val / 4 := coords_val t
  have hc : (chunkIx (grid0.coords t) : S38.Idx) = ix1 ⟨s.val / 4, by omega⟩ := funext fun b => by
    obtain rfl : b = 0 := Subsingleton.elim (α := Fin 1) _ _
    exact Fin.ext ht
  have hs : (slotIx (grid0.coords t) k : S152.Idx) = ix1 s := funext fun b => by
    obtain rfl : b = 0 := Subsingleton.elim (α := Fin 1) _ _
    refine Fin.ext ?_
    show 4 * (grid0.coords t 0).val + s.val % 4 = s.val
    rw [ht]; omega
  have e1 : e.val = (tbl m 1 (chunkIx (grid0.coords t)) : BitVec 32).toNat := by rw [tbl_1, hc]; exact he.symm
  have e0 : a.val = (tbl m 0 (slotIx (grid0.coords t) k) : BitVec 32).toNat := by rw [tbl_0, hs]; exact ha.symm
  have e2 : k0_cond1 (word (0 : Dev nD) (grid0.coords t) (tbl m 2)) = 1#1 := by
    refine cond_of_ne _ ?_
    have hw : word (0 : Dev nD) (grid0.coords t) (tbl m 2) = (tbl m 2 (chunkIx (grid0.coords t)) : BitVec 32) := rfl
    rw [hw, tbl_2, hc]
    exact hf
  refine (out_read m hO h 0 t e2 k (ix3 0 p q) (ix3 s p q) (show s.val = 4 * (s.val / 4) + s.val % 4 by omega) rfl rfl).trans ?_
  exact (expert_apply _ _ _ _ _ _ _ 0 p q).trans (mlp_congr (fun d => tokens_apply m 0 hO t k p d a e0) (fun d => blk_4 m 0 hO t e 0 d e1)
    (fun d => blk_5 m 0 hO t e 0 d e1) (fun d f => blk_6 m 0 hO t e d f e1) (fun f => blk_7 m 0 hO t e 0 f e1)
    (fun f d => blk_8 m 0 hO t e f d e1) (fun d => blk_9 m 0 hO t e 0 d e1) q)

end Cert.KernelIdeal.Value

end
-- ==== Proof.Value.Reference.lean ====
/-
  The reference's result, read at an index over the extended reals. Its term is cut into the layer norm, the two layers and the selection of
  the slot's row; each is read at an index, and the result at slot `s` is `Model.mlp` of the row that the tables name.
-/
module

public import proofs.«01_k».proof.Proof.Gen.ReferenceIdeal
public import proofs.«01_k».proof.Proof.Gen.ReferenceIdeal.Run
public import proofs.«01_k».proof.Proof.Value.Model
public import Idealize.ShloMosaic.Lib.Pointwise
public import Idealize.ShloMosaic.Lib.Tactic.WordOmega

@[expose] public section

set_option maxRecDepth 16384

noncomputable section

namespace Cert.ReferenceIdeal.Slots

open Idealize.ShloMosaic Cert.ReferenceIdeal Cert.Model Facts Facts₀

/-- The mean over the last axis. -/
def mean (x : FVec Ideal S64x196x768 .f32) : FVec Ideal S64x196x1 .f32 :=
  Host.divf (broadcastInDim S64x196x1 ![0, 1] bcast_S64x196_S64x196x1_0_1
    (Host.reduceAdd x (constant S_ .f32 0x00000000#32) reducesTo_S64x196x768_S64x196_d2 h_S_))
    (broadcastInDim S64x196x1 ![] bcast_S_S64x196x1 (constant S_ .f32 0x44400000#32))

/-- The tokens less their mean. -/
def less (x : FVec Ideal S64x196x768 .f32) : FVec Ideal S64x196x768 .f32 :=
  subf x (broadcastInDim S64x196x768 ![0, 1, 2] bcast_S64x196x1_S64x196x768_0_1_2 (mean x))

/-- The variance's divisor. -/
def count : FVec Ideal S_ .f32 := subf (constant S_ .f32 0x44400000#32) (sitofp .f32 (constantI S_ 32 0#32))

/-- The variance, with the guard on its divisor. -/
def var (x : FVec Ideal S64x196x768 .f32) : FVec Ideal S64x196x1 .f32 :=
  select (broadcastInDim S64x196x1 ![] bcast_S_S64x196x1
      (cmpf .ogt count (constant S_ .f32 0x00000000#32)))
    (Host.divf (broadcastInDim S64x196x1 ![0, 1] bcast_S64x196_S64x196x1_0_1
      (Host.reduceAdd (mulf (less x) (less x)) (constant S_ .f32 0x00000000#32) reducesTo_S64x196x768_S64x196_d2 h_S_))
      (broadcastInDim S64x196x1 ![] bcast_S_S64x196x1 count))
    (broadcastInDim S64x196x1 ![] bcast_S_S64x196x1 (id (constant S_ .f32 0x7FC00000#32)))

/-- The layer norm of every expert. -/
def norm (x : FVec Ideal S64x196x768 .f32) (g b : FVec Ideal S8x768 .f32) : FVec Ideal S8x64x196x768 .f32 :=
  addf (mulf (broadcastInDim S8x64x196x768 ![0, 1, 2, 3] bcast_S1x64x196x768_S8x64x196x768_0_1_2_3
      (broadcastInDim S1x64x196x768 ![1, 2, 3] bcast_S64x196x768_S1x64x196x768_1_2_3
        (mulf (less x) (broadcastInDim S64x196x768 ![0, 1, 2] bcast_S64x196x1_S64x196x768_0_1_2
          (Host.rsqrt (addf (var x) (broadcastInDim S64x196x1 ![] bcast_S_S64x196x1 (constant S_ .f32 0x358637BD#32))))))))
      (broadcastInDim S8x64x196x768 ![0, 1, 2, 3] bcast_S8x1x1x768_S8x64x196x768_0_1_2_3
        (broadcastInDim S8x1x1x768 ![0, 3] bcast_S8x768_S8x1x1x768_0_3 g)))
    (broadcastInDim S8x64x196x768 ![0, 1, 2, 3] bcast_S8x1x1x768_S8x64x196x768_0_1_2_3
      (broadcastInDim S8x1x1x768 ![0, 3] bcast_S8x768_S8x1x1x768_0_3 b))

/-- The first layer of every expert. -/
def first (n : FVec Ideal S8x64x196x768 .f32) (w1 : FVec Ideal S8x768x3072 .f32) (b1 : FVec Ideal S8x3072 .f32) :
    FVec Ideal S8x64x196x3072 .f32 :=
  addf (Host.dotGeneral dot_S8x64x196x768_S8x768x3072_S8x64x196x3072_3_1_12_2_0_0 none n w1)
    (broadcastInDim S8x64x196x3072 ![0, 1, 2, 3] bcast_S8x1x1x3072_S8x64x196x3072_0_1_2_3
      (broadcastInDim S8x1x1x3072 ![0, 3] bcast_S8x3072_S8x1x1x3072_0_3 b1))

/-- The activation. -/
def act (u : FVec Ideal S8x64x196x3072 .f32) : FVec Ideal S8x64x196x3072 .f32 :=
  mulf u (mulf (broadcastInDim S8x64x196x3072 ![] bcast_S_S8x64x196x3072 (constant S_ .f32 0x3F000000#32))
    (addf (broadcastInDim S8x64x196x3072 ![] bcast_S_S8x64x196x3072 (constant S_ .f32 0x3F800000#32))
      (Host.tanh (mulf (broadcastInDim S8x64x196x3072 ![] bcast_S_S8x64x196x3072 (constant S_ .f32 0x3F4C422A#32))
        (addf u (mulf (broadcastInDim S8x64x196x3072 ![] bcast_S_S8x64x196x3072 (constant S_ .f32 0x3D372713#32))
          (mulf (mulf u u) u)))))))

/-- The second layer of every expert. -/
def second (h : FVec Ideal S8x64x196x3072 .f32) (w2 : FVec Ideal S8x3072x768 .f32) (b2 : FVec Ideal S8x768 .f32) :
    FVec Ideal S8x64x196x768 .f32 :=
  addf (Host.dotGeneral dot_S8x64x196x3072_S8x3072x768_S8x64x196x768_3_1_12_2_0_0 none h w2)
    (broadcastInDim S8x64x196x768 ![0, 1, 2, 3] bcast_S8x1x1x768_S8x64x196x768_0_1_2_3
      (broadcastInDim S8x1x1x768 ![0, 3] bcast_S8x768_S8x1x1x768_0_3 b2))

/-- The expert of each slot: its chunk's. -/
def spread (ec : IVec S38 32) : IVec S152 32 :=
  shapeCast _ (broadcastInDim S38x4 ![0] bcast_S38_S38x4_0 ec) shapeCasts_S38x4_S152

/-- An index word, a negative one counted from the end. -/
def wrap (w : IVec S152 32) (n : BitVec 32) : IVec S152 32 :=
  select (cmpi .slt w (broadcastInDim S152 ![] bcast_S_S152 (constantI S_ 32 0#32)))
    (addi w (broadcastInDim S152 ![] bcast_S_S152 (constantI S_ 32 n))) w

/-- The pairs of indices that the selection reads. -/
def pairs (ec : IVec S38 32) (bs : IVec S152 32) : IVec S152x2 32 :=
  concatenate S152x2 1 [⟨S152x1, broadcastInDim S152x1 ![0] bcast_S152_S152x1_0 (wrap (spread ec) 8#32)⟩,
    ⟨S152x1, broadcastInDim S152x1 ![0] bcast_S152_S152x1_0 (wrap bs 64#32)⟩] concatenates_S152x1_S152x1_S152x2_d1

/-- The selection of each slot's rows. -/
def pick (y : FVec Ideal S8x64x196x768 .f32) (ix : IVec S152x2 32) : FVec Ideal S152x196x768 .bf16 :=
  truncf .bf16 (Host.gather gather_S8x64x196x768_S152x2_S152x196x768_12_01_n_n_01_1_11196768 y ix) bitsLt_bf16_f32

/-- The reference's term is these stages in turn. -/
theorem result_eq (m : (ℓ : Loc nD τ sig) → Buf (Elt Ideal) ℓ) (c : Dev nD) :
    Value.res_main_v57 m c =
      pick (second (act (first (norm (m ((c.tc : Thread nD τ).loc main_arg3)) (m ((c.tc : Thread nD τ).loc main_arg4))
        (m ((c.tc : Thread nD τ).loc main_arg5))) (m ((c.tc : Thread nD τ).loc main_arg6)) (m ((c.tc : Thread nD τ).loc main_arg7))))
        (m ((c.tc : Thread nD τ).loc main_arg8)) (m ((c.tc : Thread nD τ).loc main_arg9)))
        (pairs (m ((c.tc : Thread nD τ).loc main_arg1)) (m ((c.tc : Thread nD τ).loc main_arg0))) := rfl

theorem mean_apply (x : FVec Ideal S64x196x768 .f32) (a : Fin 64) (p : Fin 196) (z : Fin 1) :
    mean x (ix3 a p z) = Ideal.div (∑ k, x (ix3 a p k)) width := by
  pointwise [mean]
  rfl

theorem less_apply (x : FVec Ideal S64x196x768 .f32) (a : Fin 64) (p : Fin 196) (d : Fin 768) :
    less x (ix3 a p d) = centred (fun d => x (ix3 a p d)) d := by
  pointwise [less, mean]
  rfl

/-- The divisor is the width. -/
theorem count_eq : count ix0 = width := by
  pointwise [count]
  show width - (((0#32 : BitVec 32).toInt : ℝ) : EReal) = width
  simp

theorem var_apply (x : FVec Ideal S64x196x768 .f32) (a : Fin 64) (p : Fin 196) (z : Fin 1) :
    var x (ix3 a p z) = variance (fun d => x (ix3 a p d)) := by
  pointwise [var]
  simp only [less_apply, count_eq]
  rw [if_pos width_pos]
  rfl

theorem norm_apply (x : FVec Ideal S64x196x768 .f32) (g b : FVec Ideal S8x768 .f32) (e : Fin 8) (a : Fin 64) (p : Fin 196) (d : Fin 768) :
    norm x g b (ix4 e a p d) = normed (fun d => x (ix3 a p d)) (fun d => g (ix2 e d)) (fun d => b (ix2 e d)) d := by
  pointwise [norm]
  rw [less_apply, var_apply]
  rfl

theorem first_apply (n : FVec Ideal S8x64x196x768 .f32) (w1 : FVec Ideal S8x768x3072 .f32) (b1 : FVec Ideal S8x3072 .f32)
    (e : Fin 8) (a : Fin 64) (p : Fin 196) (f : Fin 3072) :
    first n w1 b1 (ix4 e a p f) = ∑ d, n (ix4 e a p d) * w1 (ix3 e d f) + b1 (ix2 e f) := by
  pointwise [first]

theorem act_apply (u : FVec Ideal S8x64x196x3072 .f32) (e : Fin 8) (a : Fin 64) (p : Fin 196) (f : Fin 3072) :
    act u (ix4 e a p f) = gelu (u (ix4 e a p f)) := by
  pointwise [act]
  rfl

theorem second_apply (h : FVec Ideal S8x64x196x3072 .f32) (w2 : FVec Ideal S8x3072x768 .f32) (b2 : FVec Ideal S8x768 .f32)
    (e : Fin 8) (a : Fin 64) (p : Fin 196) (q : Fin 768) :
    second h w2 b2 (ix4 e a p q) = ∑ f, h (ix4 e a p f) * w2 (ix3 e f q) + b2 (ix2 e q) := by
  pointwise [second]

/-- A word that is not negative is left as it is. -/
theorem wrap_word (w n : BitVec 32) (h : w.toNat < 2 ^ 31) :
    Scalar.select (IntOp.cmpi .slt w 0#32) (IntOp.addi w n) w = w := by
  have : w.slt 0#32 = false := by
    rw [BitVec.slt_eq_decide, decide_eq_false_iff_not]
    have := BitVec.toInt_eq_toNat_cond w
    simp only [BitVec.toInt_zero]; omega
  simp [IntOp.cmpi, this, Scalar.select]

theorem pairs_fst (ec : IVec S38 32) (bs : IVec S152 32) (s : Fin 152) (h : (ec (ix1 ⟨s.val / 4, by omega⟩)).toNat < 8) :
    pairs ec bs (ix2 s 0) = ec (ix1 ⟨s.val / 4, by omega⟩) := by
  pointwise [pairs, wrap, spread]
  exact wrap_word _ _ (by omega)

theorem pairs_snd (ec : IVec S38 32) (bs : IVec S152 32) (s : Fin 152) (h : (bs (ix1 s)).toNat < 64) :
    pairs ec bs (ix2 s 1) = bs (ix1 s) := by
  pointwise [pairs, wrap]
  exact wrap_word _ _ (by omega)

/-- The selection at an index, where the pair of index words is in range. -/
theorem pick_apply (y : FVec Ideal S8x64x196x768 .f32) (ix : IVec S152x2 32) (s : Fin 152) (p : Fin 196) (q : Fin 768)
    (e : Fin 8) (a : Fin 64) (he : (ix (ix2 s 0)).toNat = e.val) (ha : (ix (ix2 s 1)).toNat = a.val) :
    pick y ix (ix3 s p q) = y (ix4 e a p q) := by
  show y (GatherDims.operandIdx _ _ _) = _
  refine congrArg y (funext fun k => Fin.ext ?_)
  have h0 : (ix (ix2 s 0)).toInt.toNat = e.val := by
    have := BitVec.toInt_eq_toNat_cond (ix (ix2 s 0)); omega
  have h1 : (ix (ix2 s 1)).toInt.toNat = a.val := by
    have := BitVec.toInt_eq_toNat_cond (ix (ix2 s 1)); omega
  have hs0 : ∀ h, gather_S8x64x196x768_S152x2_S152x196x768_12_01_n_n_01_1_11196768.siIdx (ix3 s p q) ⟨0, h⟩ = ix2 s 0 := by
    intro h; funext b; refine Fin.ext ?_; match b with
    | ⟨0, _⟩ => rfl
    | ⟨1, _⟩ => rfl
  have hs1 : ∀ h, gather_S8x64x196x768_S152x2_S152x196x768_12_01_n_n_01_1_11196768.siIdx (ix3 s p q) ⟨1, h⟩ = ix2 s 1 := by
    intro h; funext b; refine Fin.ext ?_; match b with
    | ⟨0, _⟩ => rfl
    | ⟨1, _⟩ => rfl
  have l0 : 0 < gather_S8x64x196x768_S152x2_S152x196x768_12_01_n_n_01_1_11196768.startIndexMap.length := by decide
  have l1 : 1 < gather_S8x64x196x768_S152x2_S152x196x768_12_01_n_n_01_1_11196768.startIndexMap.length := by decide
  match k with
  | ⟨0, _⟩ =>
    show min (ix (GatherDims.siIdx _ (ix3 s p q) ⟨0, l0⟩)).toInt.toNat 7 + 0 + 0 = e.val
    rw [hs0, h0]; have := e.isLt; omega
  | ⟨1, _⟩ =>
    show min (ix (GatherDims.siIdx _ (ix3 s p q) ⟨1, l1⟩)).toInt.toNat 63 + 0 + 0 = a.val
    rw [hs1, h1]; have := a.isLt; omega
  | ⟨2, _⟩ => show 0 + 0 + p.val = p.val; omega
  | ⟨3, _⟩ => show 0 + 0 + q.val = q.val; omega

/-- The result at slot `s`, of whose index words `e` and `a` are the values: the network of expert `e` on row `p` of tokens `a`. -/
theorem result_apply (m : (ℓ : Loc nD τ sig) → Buf (Elt Ideal) ℓ) (c : Dev nD) (s : Fin 152) (p : Fin 196) (q : Fin 768) (e : Fin 8) (a : Fin 64)
    (he : ((m ((c.tc : Thread nD τ).loc main_arg1) : IVec S38 32) (ix1 ⟨s.val / 4, by omega⟩)).toNat = e.val)
    (ha : ((m ((c.tc : Thread nD τ).loc main_arg0) : IVec S152 32) (ix1 s)).toNat = a.val) :
    (Value.res_main_v57 m c : FVec Ideal S152x196x768 .bf16) (ix3 s p q) =
      mlp (fun d => (m ((c.tc : Thread nD τ).loc main_arg3) : FVec Ideal S64x196x768 .f32) (ix3 a p d))
        (fun d => (m ((c.tc : Thread nD τ).loc main_arg4) : FVec Ideal S8x768 .f32) (ix2 e d))
        (fun d => (m ((c.tc : Thread nD τ).loc main_arg5) : FVec Ideal S8x768 .f32) (ix2 e d))
        (fun d f => (m ((c.tc : Thread nD τ).loc main_arg6) : FVec Ideal S8x768x3072 .f32) (ix3 e d f))
        (fun f => (m ((c.tc : Thread nD τ).loc main_arg7) : FVec Ideal S8x3072 .f32) (ix2 e f))
        (fun f q => (m ((c.tc : Thread nD τ).loc main_arg8) : FVec Ideal S8x3072x768 .f32) (ix3 e f q))
        (fun q => (m ((c.tc : Thread nD τ).loc main_arg9) : FVec Ideal S8x768 .f32) (ix2 e q)) q := by
  have hE := e.isLt; have hA := a.isLt
  rw [result_eq, pick_apply _ _ s p q e a ((congrArg BitVec.toNat (pairs_fst _ _ s (by omega))).trans he)
    ((congrArg BitVec.toNat (pairs_snd _ _ s (by omega))).trans ha), second_apply]
  simp only [act_apply, first_apply, norm_apply]
  rfl

end Cert.ReferenceIdeal.Slots

end
-- ==== Proof.Value.Mask.lean ====
/-
  The mask `active` at an index is the test that the slot's chunk flag is not zero.
-/
module

public import proofs.«01_k».proof.Proof.Gen.On_active
public import Idealize.ShloMosaic.Lib.Pointwise

@[expose] public section

namespace Cert.On_active

open Idealize.ShloMosaic Facts

theorem mask_apply {F : FTy → Type} [FloatOps F] [Facts] {a0 : IVec S152 32} {a1 a2 : IVec S38 32} {a3 : FVec F S64x196x768 .f32} {a4 a5 : FVec F S8x768 .f32} {a6 : FVec F S8x768x3072 .f32}
    {a7 : FVec F S8x3072 .f32} {a8 : FVec F S8x3072x768 .f32} {a9 : FVec F S8x768 .f32} (s : Fin 152) (p : Fin 196) (q : Fin 768)
    (h : fn a0 a1 a2 a3 a4 a5 a6 a7 a8 a9 (ix3 s p q) = 1#1) : IntOp.cmpi .ne (a2 (ix1 ⟨s.val / 4, by omega⟩)) 0#32 = 1#1 := by
  revert h
  pointwise [fn]
  exact id

end Cert.On_active
-- ==== Proof.LastHop.Seg.lean ====
/-
  One kernel region of a program of several, as a segment between two states of the program's buffers. The region takes its arrays and its
  tables out of the buffers, several of its input windows reading one array at a time, and leaves the arrays at contents that its proof
  data allow; every other buffer is as it was.
-/
module

public import Idealize.ShloMosaic.Lib.Pipeline.RegionsForgetLinks
public import Idealize.ShloMosaic.Lib.Pipeline.RegionArraysTS
public import Idealize.ShloMosaic.Lib.Pipeline.FrameSuffix

@[expose] public section

noncomputable section

namespace Cert.Regions

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {nD : Nat} {τ : Topo} {sig : RefSig} {Val : EltTy → Type} [∀ e, Nonempty (Val e)] {U : Type} [URA U]

local notation "𝕄" => MT nD τ sig Unit Val ℕ U ℕ

/-- What rides beside the buffers: nothing is owed, and the generator is in some state. -/
abbrev rest (c : Dev nD) : sProp 𝕄 :=
  iprop((∃ W, owes (c : Thread nD τ) (0 : CellTallies nD τ sig Unit) W) ∗ ∃ r, prngReg c r)

variable {Λ₀ : Idealize.SL.Sem.Labels} {P : Type} [Fintype P] [DecidableEq P]
variable (pcs : P → PCfg sig Λ₀ Val) (a : (p : P) → (pcs p).Adm)
  (rdats : (p : P) → (c : Dev nD) → RDat τ Val Unit ℕ U ℕ (pin pcs a p) c)
  (defs₀ : Defs nD τ sig Val Λ₀) (𝒱₀ : Variants)
  (L : GSem nD τ sig → Finset Unit) (lv : GSem nD τ sig → Unit → ℕ) (p : P)

/-- The region's arrays after its last point, each at some contents that the proof data allow, named at once. -/
theorem arraysAt_open (c : Dev nD) (rd : RDat τ Val Unit ℕ U ℕ (pin pcs a p) c) (n : ℕ) :
    (rd.arraysAt n : sProp 𝕄) ⊢ iprop(∃ A, ⌜∀ w, rd.ArrAt w n (A w)⌝ ∗ rd.arrays A) := by
  unfold RDat.arraysAt
  iintro Ha
  ihave Ha' := (BI.bigSep_exists_pi Finset.univ (fun w F => iprop(⌜rd.ArrAt w n F⌝
      ∗ ((pin pcs a p).win w).arr.view.loc (c.tc : Thread nD τ) ↦[((pin pcs a p).win w).arr.view.set]{rd.share w} F))) $$ Ha
  icases Ha' with ⟨%A, Ha⟩
  ihave Ha2 := (BI.bigSep_pure_sep Finset.univ (fun w => rd.ArrAt w n (A w))
      (fun w => ((pin pcs a p).win w).arr.view.loc (c.tc : Thread nD τ) ↦[((pin pcs a p).win w).arr.view.set]{rd.share w} A w)) $$ Ha
  icases Ha2 with ⟨%hA', Ha⟩
  iexists A; isplitr; · ipureintro; exact fun w => hA' w (Finset.mem_univ w)
  unfold RDat.arrays
  iexact Ha

/-- The buffers at `V` are the region's arrays, its tables and the rest. -/
theorem held_split (kit : PLaunchFacts₀ (nD := nD) (τ := τ) pcs p) (c : Dev nD) (rd : RDat τ Val Unit ℕ U ℕ (pin pcs a p) c)
    (hq : ∀ w, ((pin pcs a p).spec w).isOut = false → rd.q w = shareOf (pin pcs a p).spec w)
    (V : Valuation τ sig Val) (A : (w : Fin (pin pcs a p).W) → Buf Val (((pin pcs a p).spec w).arr.view.loc (c.tc : Thread nD τ)))
    (hA : ∀ w, A w = V (Proc.devRef .tc (arrRef (pin pcs a p).spec w)))
    (hT : ∀ k, (a p).1 k = V (Proc.devRef .tc ((pcs p).pre.ref k))) :
    (StableHlo.held (c.tc : Thread nD τ) (ucRefs τ sig) V : sProp 𝕄)
      = iprop(rd.arrays A ∗ prefHeld (pcs p).pre c (fun _ => fullShare) (a p).1
          ∗ unscopedRestP (pcs p).pre (pin pcs a p).spec c (fun b => V (Proc.devRef .tc b))) := by
  rw [← unscopedBufs_held (Ix := Unit) (Name := ℕ) (U := U) (Lvl := ℕ) c V,
    show (unscopedBufs c (fun b => V b) : sProp 𝕄) = unscopedBufs c (fun b => V (Proc.devRef .tc b)) from rfl,
    unscopedBufs_split₀ (pin pcs a) p kit.win.arr_unscoped c (fun b => V (Proc.devRef .tc b)),
    unscopedRest_split kit.pre c (fun b => V (Proc.devRef .tc b)),
    rd.arrBufs_eq_arrays kit.sharedIn kit.arr_whole hq (fun b => V (Proc.devRef .tc b)) A hA,
    show (fun k => V (Proc.devRef .tc ((pcs p).pre.ref k))) = (a p).1 from funext fun k => (hT k).symm]

/-- A buffer that is no output window's array is as it was. -/
theorem withArrays_kept (kit : PLaunchFacts₀ (nD := nD) (τ := τ) pcs p) (c : Dev nD) (rd : RDat τ Val Unit ℕ U ℕ (pin pcs a p) c)
    (V : Valuation τ sig Val) (hA : ∀ w, rd.A w = V (Proc.devRef .tc (arrRef (pin pcs a p).spec w)))
    (A : (w : Fin (pin pcs a p).W) → Buf Val (((pin pcs a p).win w).arr.view.loc (c.tc : Thread nD τ)))
    (h : ∀ w, rd.ArrAt w (pin pcs a p).N (A w)) (r : Ref sig .tc)
    (hr : ∀ w, ((pin pcs a p).win w).isOut = true → r ≠ arrRef (pin pcs a p).spec w) :
    withArrays (pin pcs a p).spec c V A (Proc.devRef .tc r) = V (Proc.devRef .tc r) := by
  by_cases e : ∃ w, arrRef (pin pcs a p).spec w = r
  · obtain ⟨w, rfl⟩ := e
    have hw : ((pin pcs a p).win w).isOut = false := by
      by_contra hne
      exact hr w (by simpa using hne) rfl
    rw [withArrays_arr_shared (pin pcs a p).spec c V A (rd.ArrAt_sharedIn kit.sharedIn V hA _ A h) w]
    have hF := h w
    rw [rd.ArrAt_in w hw] at hF
    exact hF.trans (hA w)
  · exact withArrays_of_ne (pin pcs a p).spec c V A r fun w hw => e ⟨w, hw⟩

/-- An output window's array is at the contents that the proof data allow. -/
theorem withArrays_out (kit : PLaunchFacts₀ (nD := nD) (τ := τ) pcs p) (c : Dev nD) (rd : RDat τ Val Unit ℕ U ℕ (pin pcs a p) c)
    (V : Valuation τ sig Val) (hA : ∀ w, rd.A w = V (Proc.devRef .tc (arrRef (pin pcs a p).spec w)))
    (A : (w : Fin (pin pcs a p).W) → Buf Val (((pin pcs a p).win w).arr.view.loc (c.tc : Thread nD τ)))
    (h : ∀ w, rd.ArrAt w (pin pcs a p).N (A w)) (w : Fin (pin pcs a p).W) :
    withArrays (pin pcs a p).spec c V A (Proc.devRef .tc (arrRef (pin pcs a p).spec w)) = A w :=
  withArrays_arr_shared (pin pcs a p).spec c V A (rd.ArrAt_sharedIn kit.sharedIn V hA _ A h) w

/-- The region as a segment from the buffers at `V c`. -/
def region (kit : PLaunchFacts₀ (nD := nD) (τ := τ) pcs p)
    (hbody : ∀ c, (rdats p c).BodyObligation defs₀ 𝒱₀ () Set.univ)
    (hq : ∀ c w, ((pin pcs a p).spec w).isOut = false → (rdats p c).q w = shareOf (pin pcs a p).spec w)
    (howed : ∀ c t, (rdats p c).owed t = 0) (hrec : ∀ c, (rdats p c).recorded 0 = Set.univ)
    (V : Dev nD → Valuation τ sig Val)
    (hA : ∀ c w, (rdats p c).A w = V c (Proc.devRef .tc (arrRef (pin pcs a p).spec w)))
    (hT : ∀ c k, (a p).1 k = V c (Proc.devRef .tc ((pcs p).pre.ref k)))
    (hin : ∀ c, iprop(ΦA (pin pcs a p).spec c ∗ prefHeld (pcs p).pre c (fun _ => fullShare) (a p).1) ⊢ (rdats p c).Φ 0)
    (hout : ∀ c, (rdats p c).Φ (Fin.last (pin pcs a p).N) ⊢ iprop(ΦA (pin pcs a p).spec c ∗ prefHeld (pcs p).pre c (fun _ => fullShare) (a p).1)) :
    RDat.RegionSeg pcs a rdats () defs₀ 𝒱₀ L lv p where
  win := kit.win
  block_pos := kit.block_pos
  stage_whole := kit.stage_whole
  K := PEmpty
  osem k := k.elim
  ho := OwnSemFacts.none _
  hbody := hbody
  hwaits c := RDat.hwaits_of_owed_zero pcs a rdats () L lv p howed c
  pre c := iprop(StableHlo.held (c.tc : Thread nD τ) (ucRefs τ sig) (V c) ∗ rest c)
  post c := iprop(∃ A, ⌜∀ w, (rdats p c).ArrAt w (pin pcs a p).N (A w)⌝
    ∗ StableHlo.held (c.tc : Thread nD τ) (ucRefs τ sig) (withArrays (pin pcs a p).spec c (V c) A) ∗ rest c)
  X c := iprop(∃ r, prngReg c r)
  Y c := iprop((∃ r, prngReg c r) ∗ prefHeld (pcs p).pre c (fun _ => fullShare) (a p).1)
  Z c := unscopedRestP (pcs p).pre (pin pcs a p).spec c (fun b => V c (Proc.devRef .tc b))
  hentry c := by
    rw [ownSems0_none, held_split pcs a p kit c (rdats p c) (hq c) (V c) _ (hA c) (hT c)]
    iintro ⟨⟨⟨Ha, Ht, Hz⟩, HO, Hp⟩, -, -⟩
    imodintro
    isplitl [Ha]; · iexact Ha
    isplitl [Ht]; · iexact Ht
    isplitl [HO]
    · unfold RDat.owesAt owesWithin RDat.bound
      rw [howed c 0, hrec c]
      icases HO with ⟨%W, HO⟩; iexists W; isplitr; · ipureintro; exact fun _ _ => Or.inl trivial
      iexact HO
    isplitl [Hp]; · iexact Hp
    iexact Hz
  hin c := (show _ ⊢ iprop(ΦA (pin pcs a p).spec c ∗ prefHeld (pcs p).pre c (fun _ => fullShare) (a p).1) from by
    unfold ΦA
    iintro ⟨HX, Ht, Hr⟩
    isplitl [Hr HX]; · isplitl [Hr] <;> iassumption
    iexact Ht).trans (hin c)
  hout c := (hout c).trans (by
    unfold ΦA
    rw [ownSems0_none]
    iintro ⟨⟨Hr, HY⟩, Ht⟩
    isplitl [HY Ht]; · isplitl [HY] <;> iassumption
    isplitr; · iempintro
    iexact Hr)
  hexit c := by
    iintro ⟨Ha, HO, ⟨HY, Ht⟩, Hz⟩
    ihave Ha' := (arraysAt_open pcs a p c (rdats p c) _) $$ Ha
    icases Ha' with ⟨%A, %hF, Ha⟩
    imodintro
    iexists A
    isplitr; · ipureintro; exact hF
    have hs := (rdats p c).ArrAt_sharedIn kit.sharedIn (V c) (hA c) (pin pcs a p).N A hF
    rw [held_split pcs a p kit c (rdats p c) (hq c) (withArrays (pin pcs a p).spec c (V c) A) A
        (fun w => (withArrays_arr_shared (pin pcs a p).spec c (V c) A hs w).symm)
        (fun k => (hT c k).trans (withArrays_of_ne (pin pcs a p).spec c (V c) A _ fun w e => kit.pre.disj k w e.symm).symm),
      unscopedRestP_withArrays]
    isplitl [Ha Ht Hz]
    · isplitl [Ha]; · iexact Ha
      isplitl [Ht]; · iexact Ht
      iexact Hz
    isplitl [HO]
    · unfold RDat.owesAt owesWithin
      rw [howed c (Fin.last _)]
      icases HO with ⟨%W, -, HO⟩; iexists W; iexact HO
    iexact HY

/-- What the region leaves, from what each of its ends gives. -/
theorem region_post (kit : PLaunchFacts₀ (nD := nD) (τ := τ) pcs p)
    (hbody : ∀ c, (rdats p c).BodyObligation defs₀ 𝒱₀ () Set.univ)
    (hq : ∀ c w, ((pin pcs a p).spec w).isOut = false → (rdats p c).q w = shareOf (pin pcs a p).spec w)
    (howed : ∀ c t, (rdats p c).owed t = 0) (hrec : ∀ c, (rdats p c).recorded 0 = Set.univ)
    (V : Dev nD → Valuation τ sig Val)
    (hA : ∀ c w, (rdats p c).A w = V c (Proc.devRef .tc (arrRef (pin pcs a p).spec w)))
    (hT : ∀ c k, (a p).1 k = V c (Proc.devRef .tc ((pcs p).pre.ref k)))
    (hin : ∀ c, iprop(ΦA (pin pcs a p).spec c ∗ prefHeld (pcs p).pre c (fun _ => fullShare) (a p).1) ⊢ (rdats p c).Φ 0)
    (hout : ∀ c, (rdats p c).Φ (Fin.last (pin pcs a p).N) ⊢ iprop(ΦA (pin pcs a p).spec c ∗ prefHeld (pcs p).pre c (fun _ => fullShare) (a p).1))
    (c : Dev nD) (Ψ : sProp (MT nD τ sig Unit Val ℕ U ℕ))
    (h : ∀ A, (∀ w, (rdats p c).ArrAt w (pin pcs a p).N (A w)) →
      iprop(StableHlo.held (c.tc : Thread nD τ) (ucRefs τ sig) (withArrays (pin pcs a p).spec c (V c) A) ∗ rest c) ⊢ Ψ) :
    (region pcs a rdats defs₀ 𝒱₀ L lv p kit hbody hq howed hrec V hA hT hin hout).post c ⊢ Ψ := by
  unfold region
  iintro ⟨%A, %hA, Hh⟩
  iapply (h A hA)
  iexact Hh

end Cert.Regions

end
-- ==== Proof.LastHop.Plan.lean ====
module

public import Mathlib.Data.Fintype.Card
public import Mathlib.Data.Nat.Count
public import Mathlib.Algebra.BigOperators.Fin
public import Mathlib.Tactic.IntervalCases

/-!
  The plan of the grouped calls, in natural numbers. 128 positions each name one of eight groups; the positions of
  a group are laid out one after another, each group's stretch is padded to a multiple of four places, and the
  places are cut into 38 chunks of four. Nothing here knows of words or of a program.
-/

@[expose] public section

namespace Cert.Plan

variable (E : Fin 128 → Nat)

/-- How many positions group `g` has. -/
def cnt (g : Nat) : Nat := (Finset.univ.filter fun i => E i = g).card

/-- How many positions the groups before `g` have. -/
def off (g : Nat) : Nat := ((List.range g).map (cnt E)).sum

/-- How many chunks group `g` takes. -/
def need (g : Nat) : Nat := (cnt E g + 3) / 4

/-- How many chunks the groups before `g` take. -/
def first (g : Nat) : Nat := ((List.range g).map (need E)).sum

theorem off_succ (g : Nat) : off E (g + 1) = off E g + cnt E g := by simp [off, List.range_succ]

theorem first_succ (g : Nat) : first E (g + 1) = first E g + need E g := by simp [first, List.range_succ]

/-- The places before group `g`'s stretch, as the running sum of the padded lengths. -/
theorem places (g : Nat) : ((List.range g).map fun h => (cnt E h + 3) / 4 * 4).sum = 4 * first E g := by
  induction g with
  | zero => rfl
  | succ g ih =>
    rw [List.range_succ, List.map_append, List.sum_append, ih, first_succ, List.map_singleton, List.sum_singleton, need]
    omega

theorem off_eq (g : Nat) : off E g = (Finset.univ.filter fun i => E i < g).card := by
  induction g with
  | zero => simp [off]
  | succ g ih =>
    rw [off_succ, ih, cnt, ← Finset.card_union_of_disjoint]
    · congr 1
      ext i
      simp only [Finset.mem_union, Finset.mem_filter, Finset.mem_univ, true_and]
      omega
    · exact Finset.disjoint_filter.2 fun i _ h h' => by omega

theorem off_le (g : Nat) : off E g ≤ 128 := by
  rw [off_eq]
  exact (Finset.card_le_univ _).trans (by simp)

theorem cnt_le (g : Nat) : cnt E g ≤ 128 := (Finset.card_le_univ _).trans (by simp)

theorem first_mono {a b : Nat} (h : a ≤ b) : first E a ≤ first E b := by
  induction b with
  | zero => rw [Nat.le_zero.1 h]
  | succ b ih =>
    rcases Nat.lt_or_ge a (b + 1) with h' | h'
    · exact (ih (by omega)).trans (by rw [first_succ]; omega)
    · rw [Nat.le_antisymm h h']

/-- Padding costs each group at most three places. -/
theorem four_first_le (g : Nat) : 4 * first E g ≤ off E g + 3 * g := by
  induction g with
  | zero => simp [first]
  | succ g ih => rw [first_succ, off_succ, need]; omega

theorem first_le : first E 8 ≤ 38 := by
  have h := four_first_le E 8
  have h' := off_le E 8
  omega

theorem first_le_of {g : Nat} (h : g ≤ 8) : first E g ≤ 38 := (first_mono E h).trans (first_le E)

/-- The group of chunk `q`: how many groups end at `q` or before. -/
theorem count_first {g q : Nat} (hg : g < 8) (h0 : first E g ≤ q) (h1 : q < first E (g + 1)) :
    Nat.count (fun h => first E (h + 1) ≤ q) 8 = g := by
  rw [Nat.count_eq_card_filter_range]
  have e : (Finset.range 8).filter (fun h => first E (h + 1) ≤ q) = Finset.range g := by
    ext h
    simp only [Finset.mem_filter, Finset.mem_range]
    constructor
    · rintro ⟨_, hh⟩
      by_contra hn
      have := first_mono E (show g + 1 ≤ h + 1 by omega)
      omega
    · intro hh
      exact ⟨by omega, (first_mono E (show h + 1 ≤ g by omega)).trans h0⟩
  rw [e, Finset.card_range]

variable (σ : Fin 128 → Fin 128) (hσ : Function.Bijective σ) (hmono : ∀ r s, r < s → E (σ r) ≤ E (σ s))

/-- The place of the position that is `r`-th in group order. -/
def place (r : Fin 128) : Nat := 4 * first E (E (σ r)) + (r.val - off E (E (σ r)))

include hσ in
theorem card_sorted (p : Nat → Prop) [DecidablePred p] :
    (Finset.univ.filter fun i => p (E i)).card = (Finset.univ.filter fun r => p (E (σ r))).card := by
  symm
  refine Finset.card_bij (fun r _ => σ r) ?_ ?_ ?_
  · intro r hr
    simpa using hr
  · intro r _ s _ h
    exact hσ.1 h
  · intro i hi
    obtain ⟨r, rfl⟩ := hσ.2 i
    exact ⟨r, by simpa using hi, rfl⟩

include hσ hmono in
theorem off_le_rank (r : Fin 128) : off E (E (σ r)) ≤ r.val := by
  rw [off_eq, card_sorted E σ hσ (fun x => x < E (σ r))]
  have : (Finset.univ.filter fun s => E (σ s) < E (σ r)) ⊆ Finset.Iio r := by
    intro s hs
    simp only [Finset.mem_filter, Finset.mem_univ, true_and] at hs
    rw [Finset.mem_Iio]
    by_contra hn
    rcases lt_or_eq_of_le (not_lt.1 hn) with h | h
    · have := hmono r s h
      omega
    · rw [h] at hs
      omega
  exact (Finset.card_le_card this).trans (by rw [Fin.card_Iio])

include hσ hmono in
theorem rank_lt (r : Fin 128) : r.val < off E (E (σ r)) + cnt E (E (σ r)) := by
  rw [← off_succ, off_eq, card_sorted E σ hσ (fun x => x < E (σ r) + 1)]
  have : Finset.Iic r ⊆ (Finset.univ.filter fun s => E (σ s) < E (σ r) + 1) := by
    intro s hs
    rw [Finset.mem_Iic] at hs
    simp only [Finset.mem_filter, Finset.mem_univ, true_and]
    rcases lt_or_eq_of_le hs with h | h
    · have := hmono s r h
      omega
    · rw [h]; omega
  have h := Finset.card_le_card this
  rw [Fin.card_Iic] at h
  omega

include hσ hmono in
theorem place_chunk (r : Fin 128) : first E (E (σ r)) ≤ place E σ r / 4 ∧ place E σ r / 4 < first E (E (σ r) + 1) := by
  have h0 := off_le_rank E σ hσ hmono r
  have h1 := rank_lt E σ hσ hmono r
  rw [first_succ]
  unfold place need
  omega

include hσ hmono in
theorem place_lt (hE : ∀ i, E i < 8) (r : Fin 128) : place E σ r < 152 := by
  have h := (place_chunk E σ hσ hmono r).2
  have h' := first_mono E (show E (σ r) + 1 ≤ 8 from hE _)
  have h'' := first_le E
  omega

include hσ hmono in
theorem place_inj {r s : Fin 128} (h : place E σ r = place E σ s) : r = s := by
  have r0 := off_le_rank E σ hσ hmono r
  have s0 := off_le_rank E σ hσ hmono s
  have rc := place_chunk E σ hσ hmono r
  have sc := place_chunk E σ hσ hmono s
  have e : E (σ r) = E (σ s) := by
    rcases Nat.lt_trichotomy (E (σ r)) (E (σ s)) with hl | hl | hl
    · have := first_mono E (show E (σ r) + 1 ≤ E (σ s) by omega)
      rw [h] at rc
      omega
    · exact hl
    · have := first_mono E (show E (σ s) + 1 ≤ E (σ r) by omega)
      rw [h] at rc
      omega
  unfold place at h
  rw [e] at h r0
  exact Fin.ext (by omega)

end Cert.Plan
-- ==== Proof.LastHop.Words.lean ====
module

public import proofs.«01_k».proof.Proof.LastHop.Plan
public import Idealize.ShloMosaic.Lib.Routing.Words
public import Idealize.ShloMosaic.Lib.Routing.OpsSearch
public import Idealize.ShloMosaic.Lib.Routing.OpsSet
public import Idealize.ShloMosaic.Lib.Routing.OpsPair
public import Idealize.ShloMosaic.Lib.SortFacts

/-!
  The plan of the grouped calls as 32-bit words: each host operation that lays out the groups, read at an index, and
  from them all the facts the two grouped calls need. Shapes are written out; nothing names a program.
-/

@[expose] public section

set_option maxRecDepth 4096

namespace Cert.Plan

open Idealize.ShloMosaic Idealize.ShloMosaic.ValueIdx Idealize.ShloMosaic.Routing Idealize.ShloMosaic.WordCmp

/-- The dimension numbers of `x[idx]` on vectors. -/
structure IsTake {N n : Nat} (d : GatherDims (shape1 N) (shape2 n 1) (shape1 n)) : Prop where
  coll : d.collapsedSliceDims = [0]
  ob : d.operandBatchingDims = []
  sim : d.startIndexMap = [0]
  ivd : d.indexVectorDim = 1

/-- The dimension numbers of `x.at[idx]` on vectors. -/
structure IsPut {M N : Nat} (d : ScatterDims (shape1 M) (shape2 N 1) (shape1 N)) : Prop where
  iw : d.insertedWindowDims = [0]
  sd : d.scatterDimsToOperandDims = [0]
  ivd : d.indexVectorDim = 1

/-- A scalar word on every entry. -/
abbrev fill {s : Shape} (hb : shape0.BroadcastsInDim s (![] : Fin 0 → Fin s.rank)) (w : BitVec 32) : IVec s 32 :=
  broadcastInDim s ![] hb (constantI shape0 32 w)

theorem fill_ap {s : Shape} (hb : shape0.BroadcastsInDim s (![] : Fin 0 → Fin s.rank)) (w : BitVec 32) (i : s.Idx) : fill hb w i = w :=
  bc0 hb _ i

/-- A column of indices, negative ones counted from the end of the `w` entries. -/
abbrev wrapCol {N : Nat} (hb : shape0.BroadcastsInDim (shape1 N) (![] : Fin 0 → Fin (shape1 N).rank))
    (hc : (shape1 N).BroadcastsInDim (shape2 N 1) (![0] : Fin 1 → Fin (shape2 N 1).rank)) (w : BitVec 32) (v : IVec (shape1 N) 32) : IVec (shape2 N 1) 32 :=
  broadcastInDim (shape2 N 1) ![0] hc (select (cmpi .slt v (fill hb 0#32)) (addi v (fill hb w)) v)

theorem wrapCol_ap {N : Nat} (hb : shape0.BroadcastsInDim (shape1 N) (![] : Fin 0 → Fin (shape1 N).rank))
    (hc : (shape1 N).BroadcastsInDim (shape2 N 1) (![0] : Fin 1 → Fin (shape2 N 1).rank)) (w : BitVec 32) (v : IVec (shape1 N) 32)
    (p : Fin N) {a : Nat} (ha : a < 2 ^ 31) (hv : v (ix1 p) = BitVec.ofNat 32 a) : wrapCol hb hc w v (ix2 p (0 : Fin 1)) = BitVec.ofNat 32 a := by
  rw [wrapCol, bcCol]
  have e : Scalar.select (IntOp.cmpi .slt (v (ix1 p)) (fill hb 0#32 (ix1 p))) (addi v (fill hb w) (ix1 p)) (v (ix1 p)) = v (ix1 p) := by
    rw [fill_ap]
    exact wrap_of_lt _ _ (by rw [hv, BitVec.toNat_ofNat]; omega)
  exact e.trans hv

/-- Where an update of a vector lands: at the entry its index names. -/
theorem put_lands {M N : Nat} {d : ScatterDims (shape1 M) (shape2 N 1) (shape1 N)} (hd : IsPut d) (idx : IVec (shape2 N 1) 32) (i : Fin N) (x : Fin M)
    {a : Nat} (ha : a < 2 ^ 31) (hi : idx (ix2 i (0 : Fin 1)) = BitVec.ofNat 32 a) : d.resultIdx? (ix1 i) idx = some (ix1 x) ↔ a = x.val := by
  have hm : (0 : Fin 1) ∈ d.scatterDimsToOperandDims := by rw [hd.sd]; exact List.mem_singleton.2 rfl
  have hw : d.window (ix1 i) 0 = 0 := by
    unfold ScatterDims.window
    rw [dif_neg fun h => (of_decide_eq_true (List.mem_filter.1 h).2) (by rw [hd.iw]; exact List.mem_singleton.2 rfl)]
  have hs : d.siIdx (ix1 i) ⟨d.scatterDimsToOperandDims.idxOf 0, List.idxOf_lt_length_iff.2 hm⟩ = ix2 i (0 : Fin 1) := by
    funext b
    apply Fin.ext
    match b with
    | ⟨0, _⟩ =>
      unfold ScatterDims.siIdx
      rw [dif_neg (by rw [hd.ivd]; exact Nat.zero_ne_one)]
      unfold ScatterDims.siCoord
      simp only [Fin.val_cast]
      exact (fun X : Fin 1 => by obtain rfl : X = 0 := Subsingleton.elim _ _; rfl : ∀ X : Fin 1, (ix1 i X).val = i.val) _
    | ⟨1, _⟩ =>
      unfold ScatterDims.siIdx
      rw [dif_pos (by rw [hd.ivd])]
      show List.idxOf (0 : Fin 1) d.scatterDimsToOperandDims = 0
      rw [hd.sd]; simp
  have ht : d.start (ix1 i) idx 0 = (a : Int) := by
    unfold ScatterDims.start
    rw [dif_pos hm, hs, hi, toInt_ofNat_of_lt (w := 32) ha]
  rw [resultIdx?_ix1, ht, hw]
  omega

/-- Counting: ones added at small indices. -/
theorem put_count {M N : Nat} {d : ScatterDims (shape1 M) (shape2 N 1) (shape1 N)} (hd : IsPut d) (x0 : IVec (shape1 M) 32) (hx0 : ∀ i, x0 i = 0#32)
    (idx : IVec (shape2 N 1) 32) (upd : IVec (shape1 N) 32) (hupd : ∀ i, upd i = 1#32) (g : Fin N → Nat) (hg : ∀ i, g i < 2 ^ 31)
    (hi : ∀ i, idx (ix2 i (0 : Fin 1)) = BitVec.ofNat 32 (g i)) (x : Fin M) :
    Host.scatter d IntOp.addi x0 idx upd (ix1 x) = BitVec.ofNat 32 (Finset.univ.filter fun i => g i = x.val).card := by
  rw [scatter_at, hx0]
  have key : ∀ (l : List (Fin (shape1 N).numel)) (z : Nat),
      l.foldl (fun a n => if d.resultIdx? ((shape1 N).rowMajor.symm n) idx = some (ix1 x) then IntOp.addi a (upd ((shape1 N).rowMajor.symm n)) else a)
        (BitVec.ofNat 32 z) = BitVec.ofNat 32 (z + l.countP fun n => decide (g (n.cast (numel1 N)) = x.val)) := by
    intro l
    induction l with
    | nil => intro z; rfl
    | cons n l ih =>
      intro z
      rw [List.foldl_cons, List.countP_cons, symm1]
      have h := put_lands hd idx (n.cast (numel1 N)) x (hg _) (hi _)
      by_cases e : g (n.cast (numel1 N)) = x.val
      · rw [if_pos (h.2 e), hupd, if_pos (decide_eq_true e)]
        have : IntOp.addi (BitVec.ofNat 32 z) 1#32 = BitVec.ofNat 32 (z + 1) := BitVec.ofNat_add_ofNat _ _
        rw [this, ih]
        congr 1
        omega
      · rw [if_neg fun k => e (h.1 k), if_neg fun k => e (of_decide_eq_true k), ih]
        rfl
  refine (key _ 0).trans (congrArg _ ?_)
  rw [Nat.zero_add]
  have h2 : ∀ (K : Nat) (hK : K = N), (List.finRange K).countP (fun n => decide (g (n.cast hK) = x.val))
      = (Finset.univ.filter fun i => g i = x.val).card := by
    rintro K rfl
    rw [List.countP_eq_length_filter]
    rfl
  exact h2 _ (numel1 N)

/-- The stable order of small keys: a rearrangement under which they do not fall. -/
theorem order_ap (E : Fin 128 → Nat) (hE : ∀ i, E i < 8) (cmp : BitVec 32 × BitVec 32 → BitVec 32 × BitVec 32 → BitVec 1)
    (hcmp : ∀ l r, cmp l r = IntOp.cmpi .slt l.1 r.1) (e : IVec (shape1 128) 32) (he : ∀ i, e (ix1 i) = BitVec.ofNat 32 (E i)) :
    ∃ σ : Fin 128 → Fin 128, Function.Bijective σ ∧ (∀ r s, r < s → E (σ r) ≤ E (σ s))
      ∧ ∀ r, (Host.sort2 (shape1 128) 0 cmp e (iotaInDim (shape1 128) 32 0)).2 (ix1 r) = BitVec.ofNat 32 (σ r).val := by
  have hb : ∀ a b : Fin 128, (cmp (e (ix1 a), iotaInDim (shape1 128) 32 0 (ix1 a)) (e (ix1 b), iotaInDim (shape1 128) 32 0 (ix1 b)) == 1#1) = decide (E a < E b) := by
    intro a b
    have ha := hE a
    have hb := hE b
    rw [hcmp, he, he]
    unfold IntOp.cmpi
    rw [slt_ofNat32 (by omega) (by omega)]
    by_cases h : E a < E b <;> simp [h]
  refine ⟨sortedFrom fun a b => decide (E a < E b), ⟨sortedFrom_injective _, sortedFrom_surjective _⟩, ?_, ?_⟩
  · intro r s h
    have := sortedFrom_noInversion (fun a b => decide (E a < E b)) (fun a b => decide (E a < E b))
      (by intro a b; simp only [decide_eq_true_eq, decide_eq_false_iff_not]; omega) (by intro a b h; exact h)
      (by intro a b c; simp only [decide_eq_false_iff_not]; omega) r s h
    simpa using this
  · intro r
    have : (Host.sort2 (shape1 128) 0 cmp e (iotaInDim (shape1 128) 32 0)).2 (ix1 r)
        = iotaInDim (shape1 128) 32 0 (ix1 (sortedFrom (fun a b : Fin 128 =>
          cmp (e (ix1 a), iotaInDim (shape1 128) 32 0 (ix1 a)) (e (ix1 b), iotaInDim (shape1 128) 32 0 (ix1 b)) == 1#1) r)) := by
      unfold Host.sort2
      simp [Shape.Idx.along_rank1, ofFin_eq_ix1]
    rw [this, iota1_ap]
    simp only [hb]

/-- The position from which the `k`-th largest of row `b` is taken. -/
def topFrom {α : Type} (gt : α → α → BitVec 1) (x : (shape2 64 8).Idx → α) (b : Fin 64) (k : Fin 2) : Fin 8 :=
  sortedFrom (fun i j : Fin 8 => gt (x (ix2 b i)) (x (ix2 b j)) == 1#1) ⟨k.val, by omega⟩

/-- The two largest of each row are entries of that row, and their numbers say which. -/
theorem topK_ap {α : Type} (gt : α → α → BitVec 1) (x : (shape2 64 8).Idx → α) (h : (shape2 64 8).Slices (fun _ => 0) (shape2 64 2)) (b : Fin 64) (k : Fin 2) :
    (Host.topK (shape2 64 2) 1 gt x h).1 (ix2 b k) = x (ix2 b (topFrom gt x b k))
      ∧ (Host.topK (shape2 64 2) 1 gt x h).2 (ix2 b k) = BitVec.ofNat 32 (topFrom gt x b k).val := by
  have along : ∀ i : Fin 8, (ix2 b (⟨k.val, by omega⟩ : Fin 8) : (shape2 64 8).Idx).along (1 : Fin 2) i = ix2 b i := fun i => by
    funext a
    match a with
    | ⟨0, _⟩ => exact Function.update_of_ne (Fin.ne_of_val_ne (show (0 : Nat) ≠ 1 by decide)) _ _
    | ⟨1, _⟩ => exact Function.update_self ..
  have key : ∀ {β : Type} (y : (shape2 64 8).Idx → β), extractStridedSlice (shape2 64 2) (fun _ => 0) y h (ix2 b k) = y (ix2 b (⟨k.val, by omega⟩ : Fin 8)) := by
    intro β y
    unfold extractStridedSlice
    refine congrArg y (funext fun a => Fin.ext ?_)
    match a with
    | ⟨0, _⟩ => exact Nat.zero_add _
    | ⟨1, _⟩ => exact Nat.zero_add _
  have from_ : sortedFrom (fun i j : Fin 8 => gt (x ((ix2 b (⟨k.val, by omega⟩ : Fin 8) : (shape2 64 8).Idx).along (1 : Fin 2) i))
      (x ((ix2 b (⟨k.val, by omega⟩ : Fin 8) : (shape2 64 8).Idx).along (1 : Fin 2) j)) == 1#1) (⟨k.val, by omega⟩ : Fin 8) = topFrom gt x b k := by
    simp only [along]
    rfl
  constructor
  · unfold Host.topK
    dsimp only
    rw [key]
    exact (congrArg (fun i : Fin 8 => x ((ix2 b (⟨k.val, by omega⟩ : Fin 8) : (shape2 64 8).Idx).along (1 : Fin 2) i)) from_).trans (congrArg x (along _))
  · unfold Host.topK
    dsimp only
    rw [key]
    exact (congrArg (fun i : Fin 8 => iotaInDim (shape2 64 8) 32 (1 : Fin 2) ((ix2 b (⟨k.val, by omega⟩ : Fin 8) : (shape2 64 8).Idx).along (1 : Fin 2) i)) from_).trans
      (congrArg (iotaInDim (shape2 64 8) 32 (1 : Fin 2)) (along _))

end Cert.Plan
-- ==== Proof.LastHop.Route.lean ====
module

public import proofs.«01_k».proof.Proof.LastHop.Words

/-!
  The whole plan in words: from the groups' numbers, by the host operations in order, to the table of tokens, the
  table of groups, the flags and the table of places. Every hypothesis is one host operation; the conclusion is what the
  grouped calls use.
-/

@[expose] public section

set_option maxRecDepth 4096

namespace Cert.Plan

open Idealize.ShloMosaic Idealize.ShloMosaic.ValueIdx Idealize.ShloMosaic.Routing Idealize.ShloMosaic.WordCmp

/-- The only entry of a vector of one, as a scalar. -/
theorem scalar_ap {α : Type} (x : (shape1 1).Idx → α) (h : (shape1 1).ShapeCasts shape0) : shapeCast shape0 x h ix0 = x (ix1 0) := by
  unfold shapeCast
  refine congrArg x (funext fun a => ?_)
  match a with
  | ⟨0, _⟩ => exact Subsingleton.elim (α := Fin 1) _ _

section
variable (E : Fin 128 → Nat) (hE : ∀ i, E i < 8)
  {b128 : shape0.BroadcastsInDim (shape1 128) (![] : Fin 0 → Fin (shape1 128).rank)}
  {b8 : shape0.BroadcastsInDim (shape1 8) (![] : Fin 0 → Fin (shape1 8).rank)}
  {b152 : shape0.BroadcastsInDim (shape1 152) (![] : Fin 0 → Fin (shape1 152).rank)}
  {b38 : shape0.BroadcastsInDim (shape1 38) (![] : Fin 0 → Fin (shape1 38).rank)}
  {b00 : shape0.BroadcastsInDim shape0 (![] : Fin 0 → Fin shape0.rank)}
  {c128 : (shape1 128).BroadcastsInDim (shape2 128 1) (![0] : Fin 1 → Fin (shape2 128 1).rank)}
  {c38 : (shape1 38).BroadcastsInDim (shape2 38 1) (![0] : Fin 1 → Fin (shape2 38 1).rank)}
  {c38' : (shape2 38 1).BroadcastsInDim (shape2 38 8) (![0, 1] : Fin 2 → Fin (shape2 38 8).rank)}
  {c8 : (shape1 8).BroadcastsInDim (shape2 1 8) (![1] : Fin 1 → Fin (shape2 1 8).rank)}
  {c8' : (shape2 1 8).BroadcastsInDim (shape2 38 8) (![0, 1] : Fin 2 → Fin (shape2 38 8).rank)}
  {dE : GatherDims (shape1 128) (shape2 128 1) (shape1 128)} (hdE : IsTake dE)
  {d8 : GatherDims (shape1 8) (shape2 128 1) (shape1 128)} (hd8 : IsTake d8)
  {dC : ScatterDims (shape1 8) (shape2 128 1) (shape1 128)} (hdC : IsPut dC)
  {dB : ScatterDims (shape1 152) (shape2 128 1) (shape1 128)} (hdB : IsPut dB)
  {dI : ScatterDims (shape1 128) (shape2 128 1) (shape1 128)} (hdI : IsPut dI)
  {rw8 : (shape1 8).ReduceWindows (![8] : Fin 1 → Nat) ![1] ![7] ![0] (shape1 8)}
  {rt : (shape2 38 8).ReducesTo [1] (shape1 38)} {hu : 0 < shape0.numel} {hw : 1 < 32}
  {sl : (shape1 8).Slices ![7] (shape1 1)} {sc : (shape1 1).ShapeCasts shape0}
  {cmp : BitVec 32 × BitVec 32 → BitVec 32 × BitVec 32 → BitVec 1} (hcmp : ∀ l r, cmp l r = IntOp.cmpi .slt l.1 r.1)
  {e order tok srt cl plc inv : IVec (shape1 128) 32} {cn pq pc cum cumc cb : IVec (shape1 8) 32} {bs : IVec (shape1 152) 32} {ec af : IVec (shape1 38) 32}
  (he : ∀ i, e (ix1 i) = BitVec.ofNat 32 (E i))
  (h26 : order = (Host.sort2 (shape1 128) 0 cmp e (iotaInDim (shape1 128) 32 0)).2)
  (h27 : tok = pyDiv b128 order (constantI shape0 32 2#32))
  (h34 : srt = Host.gather dE e (wrapCol b128 c128 128#32 order))
  (h36 : cl = maxsi (fill b128 0#32) e)
  (h44 : cn = Host.scatter dC IntOp.addi (fill b8 0#32) (wrapCol b128 c128 8#32 cl) (fill b128 1#32))
  (h49 : pq = pyDiv b8 (subi (addi cn (fill b8 4#32)) (fill b8 1#32)) (constantI shape0 32 4#32))
  (h51 : pc = muli pq (fill b8 4#32))
  (h52 : cum = Host.reduceWindow IntOp.addi ![8] ![1] ![7] ![0] pc (fill b00 0#32) rw8 hu)
  (h54 : cumc = Host.reduceWindow IntOp.addi ![8] ![1] ![7] ![0] cn (fill b00 0#32) rw8 hu)
  (h72 : plc = addi (Host.gather d8 (subi cum pc) (wrapCol b128 c128 8#32 srt))
    (subi (iotaInDim (shape1 128) 32 0) (Host.gather d8 (subi cumc cn) (wrapCol b128 c128 8#32 srt))))
  (h80 : bs = Host.scatter dB (fun _ b => b) (fill b152 0#32) (wrapCol b128 c128 152#32 plc) tok)
  (h81 : cb = pyDiv b8 cum (constantI shape0 32 4#32))
  (h90 : ec = minsi (fill b38 7#32) (maxsi (fill b38 0#32) (Host.reduce IntOp.addi (extui 32 (cmpi .sle
    (broadcastInDim (shape2 38 8) ![0, 1] c8' (broadcastInDim (shape2 1 8) ![1] c8 cb))
    (broadcastInDim (shape2 38 8) ![0, 1] c38' (broadcastInDim (shape2 38 1) ![0] c38 (iotaInDim (shape1 38) 32 0)))) hw) (constantI shape0 32 0#32) rt hu)))
  (h95 : af = extui 32 (cmpi .slt (iotaInDim (shape1 38) 32 0)
    (broadcastInDim (shape1 38) ![] b38 (shapeCast shape0 (extractStridedSlice (shape1 1) ![7] cb sl) sc))) hw)
  (h103 : inv = Host.scatter dI (fun _ b => b) (fill b128 0#32) (wrapCol b128 c128 128#32 order) plc)

include hE hdC he h36 h44 in
theorem cn_ap (g : Fin 8) : cn (ix1 g) = BitVec.ofNat 32 (cnt E g.val) := by
  rw [h44]
  refine put_count hdC _ (fun i => fill_ap b8 0#32 i) _ _ (fun i => fill_ap b128 1#32 i) E (fun i => by have := hE i; omega) (fun i => ?_) g
  refine wrapCol_ap _ _ _ _ _ (by have := hE i; omega) ?_
  rw [h36]
  show IntOp.maxsi (fill b128 0#32 (ix1 i)) (e (ix1 i)) = _
  rw [fill_ap, he, maxsi_zero_left (by have := hE i; omega)]

include hE hdC he h36 h44 h49 h51 in
theorem pc_ap (g : Fin 8) : pc (ix1 g) = BitVec.ofNat 32 ((cnt E g.val + 3) / 4 * 4) := by
  have hc := cnt_le E g.val
  have h : subi (addi cn (fill b8 4#32)) (fill b8 1#32) (ix1 g) = BitVec.ofNat 32 (cnt E g.val + 3) := by
    rw [subi_ap, addi_ap, fill_ap, fill_ap, cn_ap E hE hdC he h36 h44]
    exact (congrArg (· - 1#32) (BitVec.ofNat_add_ofNat _ _)).trans (ofNat32_sub (a := cnt E g.val + 4) (b := 1) (by omega))
  rw [h51, muli_ap, fill_ap, h49, pyDiv_ap b8 _ _ _ h rfl (by omega) (by omega) (by omega)]
  exact (BitVec.ofNat_mul_ofNat _ _)

include hE hdC he h36 h44 h49 h51 h52 in
theorem cum_ap (g : Fin 8) : cum (ix1 g) = BitVec.ofNat 32 (4 * first E (g.val + 1)) := by
  rw [h52, cumsum1 (Nm1 := 7) (N := 8) rfl pc (fun g => (cnt E g + 3) / 4 * 4) (pc_ap E hE hdC he h36 h44 h49 h51) _ (fill_ap b00 0#32 ix0) rw8 hu g, places]

include hE hdC he h36 h44 h54 in
theorem cumc_ap (g : Fin 8) : cumc (ix1 g) = BitVec.ofNat 32 (off E (g.val + 1)) := by
  rw [h54, cumsum1 (Nm1 := 7) (N := 8) rfl cn (cnt E) (cn_ap E hE hdC he h36 h44) _ (fill_ap b00 0#32 ix0) rw8 hu g, off]

include hE hdC he h36 h44 h49 h51 h52 h81 in
theorem cb_ap (g : Fin 8) : cb (ix1 g) = BitVec.ofNat 32 (first E (g.val + 1)) := by
  have h := first_le_of E (show g.val + 1 ≤ 8 by omega)
  rw [h81, pyDiv_ap b8 _ _ _ (cum_ap E hE hdC he h36 h44 h49 h51 h52 g) rfl (by omega) (by omega) (by omega)]
  congr 1
  omega

include hE hdC he h36 h44 h49 h51 h52 h81 h90 in
theorem ec_ap (q : Fin 38) : ec (ix1 q) = BitVec.ofNat 32 (min (max (Nat.count (fun g => first E (g + 1) ≤ q.val) 8) 0) 7) := by
  have hcnt : Nat.count (fun g => first E (g + 1) ≤ q.val) 8 ≤ 8 := Nat.count_le _
  rw [h90]
  have hr := reduce_count (n := 38) (m := 8) (by omega) (cmpi .sle
    (broadcastInDim (shape2 38 8) ![0, 1] c8' (broadcastInDim (shape2 1 8) ![1] c8 cb))
    (broadcastInDim (shape2 38 8) ![0, 1] c38' (broadcastInDim (shape2 38 1) ![0] c38 (iotaInDim (shape1 38) 32 0)))) hw rt hu q
    (fun g => first E (g + 1) ≤ q.val) (fun g => by
      have h := first_le_of E (show g.val + 1 ≤ 8 by omega)
      show IntOp.cmpi .sle (broadcastInDim (shape2 38 8) ![0, 1] c8' (broadcastInDim (shape2 1 8) ![1] c8 cb) (ix2 q g))
        (broadcastInDim (shape2 38 8) ![0, 1] c38' (broadcastInDim (shape2 38 1) ![0] c38 (iotaInDim (shape1 38) 32 0)) (ix2 q g)) = 1#1 ↔ _
      rw [bcCols, bcRows, iota1_ap, cb_ap E hE hdC he h36 h44 h49 h51 h52 h81]
      unfold IntOp.cmpi
      rw [sle_ofNat32 (by omega) (by omega)]
      by_cases hh : first E (g.val + 1) ≤ q.val <;> simp [hh])
  show IntOp.minsi (fill b38 7#32 (ix1 q)) (IntOp.maxsi (fill b38 0#32 (ix1 q)) (Host.reduce IntOp.addi (extui 32 (cmpi .sle
    (broadcastInDim (shape2 38 8) ![0, 1] c8' (broadcastInDim (shape2 1 8) ![1] c8 cb))
    (broadcastInDim (shape2 38 8) ![0, 1] c38' (broadcastInDim (shape2 38 1) ![0] c38 (iotaInDim (shape1 38) 32 0)))) hw) (constantI shape0 32 0#32) rt hu (ix1 q))) = _
  rw [fill_ap, fill_ap, hr]
  exact clip_word (by omega) (by omega) (by omega)

include hE hdC he h36 h44 h49 h51 h52 h81 h95 in
theorem af_ap (q : Fin 38) (hq : q.val < first E 8) : af (ix1 q) = 1#32 := by
  have h := first_le E
  rw [h95]
  show (IntOp.cmpi .slt (iotaInDim (shape1 38) 32 0 (ix1 q))
    (broadcastInDim (shape1 38) ![] b38 (shapeCast shape0 (extractStridedSlice (shape1 1) ![7] cb sl) sc) (ix1 q))).setWidth 32 = _
  rw [bc0, scalar_ap, slice1 7 cb sl 0 (by decide), iota1_ap]
  have hc := cb_ap E hE hdC he h36 h44 h49 h51 h52 h81 7
  have : cb (ix1 ⟨7 + (0 : Fin 1).val, by decide⟩) = BitVec.ofNat 32 (first E 8) := hc
  rw [this]
  unfold IntOp.cmpi
  rw [slt_ofNat32 (by omega) (by omega), decide_eq_true hq]
  rfl

include hE hdE hd8 hdC hdB hdI hcmp he h26 h27 h34 h36 h44 h49 h51 h52 h54 h72 h80 h81 h90 h95 h103 in
/-- What the grouped calls use of the plan: the tables are in range, and position `i`'s place `p` holds `i`'s token, in a chunk of
    `i`'s group that is in use. -/
theorem routed :
    (∀ p : Fin 152, (bs (ix1 p)).toNat < 64) ∧ (∀ q : Fin 38, (ec (ix1 q)).toNat < 8)
    ∧ ∀ i : Fin 128, ∃ p : Fin 152, inv (ix1 i) = BitVec.ofNat 32 p.val ∧ bs (ix1 p) = BitVec.ofNat 32 (i.val / 2)
      ∧ ec (ix1 ⟨p.val / 4, by omega⟩) = BitVec.ofNat 32 (E i) ∧ af (ix1 ⟨p.val / 4, by omega⟩) = 1#32 := by
  obtain ⟨σ, hσ, hmono, hord⟩ := order_ap E hE cmp hcmp e he
  rw [← h26] at hord
  have hcn := cn_ap E hE hdC he h36 h44
  have hpc := pc_ap E hE hdC he h36 h44 h49 h51
  have hcum := cum_ap E hE hdC he h36 h44 h49 h51 h52
  have hcumc := cumc_ap E hE hdC he h36 h44 h54
  have hec := ec_ap E hE hdC he h36 h44 h49 h51 h52 h81 h90
  have htok : ∀ r, tok (ix1 r) = BitVec.ofNat 32 ((σ r).val / 2) := fun r => by
    rw [h27, pyDiv_ap b128 _ _ _ (hord r) rfl (by omega) (by omega) (by omega)]
  have hsrt : ∀ r, srt (ix1 r) = BitVec.ofNat 32 (E (σ r)) := fun r => by
    rw [h34, take_ap dE hdE.coll hdE.ob hdE.sim hdE.ivd e _ r (σ r).isLt (by omega) (wrapCol_ap _ _ _ _ _ (by omega) (hord r)), he]
  have hfirst : ∀ g : Fin 8, subi cum pc (ix1 g) = BitVec.ofNat 32 (4 * first E g.val) := fun g => by
    rw [subi_ap, hcum, hpc, first_succ, need, ofNat32_sub (by omega)]
    congr 1
    omega
  have hoff : ∀ g : Fin 8, subi cumc cn (ix1 g) = BitVec.ofNat 32 (off E g.val) := fun g => by
    rw [subi_ap, hcumc, hcn, off_succ, ofNat32_sub (by omega)]
    congr 1
    omega
  have hplc : ∀ r, plc (ix1 r) = BitVec.ofNat 32 (place E σ r) := fun r => by
    have h8 := hE (σ r)
    have ho := off_le_rank E σ hσ hmono r
    rw [h72, addi_ap, subi_ap, iota1_ap,
      take_ap d8 hd8.coll hd8.ob hd8.sim hd8.ivd _ _ r h8 (by omega) (wrapCol_ap _ _ _ _ _ (by omega) (hsrt r)),
      take_ap d8 hd8.coll hd8.ob hd8.sim hd8.ivd _ _ r h8 (by omega) (wrapCol_ap _ _ _ _ _ (by omega) (hsrt r)), hfirst ⟨_, h8⟩, hoff ⟨_, h8⟩,
      ofNat32_sub ho]
    exact BitVec.ofNat_add_ofNat _ _
  have hlt : ∀ r, place E σ r < 152 := place_lt E σ hσ hmono hE
  -- where the tokens land
  have hB : ∀ (r : Fin 128) (p : Fin 152), dB.resultIdx? (ix1 r) (wrapCol b128 c128 152#32 plc) = some (ix1 p) ↔ place E σ r = p.val := fun r p =>
    put_lands hdB _ r p (by have := hlt r; omega) (wrapCol_ap _ _ _ _ _ (by have := hlt r; omega) (hplc r))
  have hI : ∀ (r : Fin 128) (i : Fin 128), dI.resultIdx? (ix1 r) (wrapCol b128 c128 128#32 order) = some (ix1 i) ↔ (σ r).val = i.val := fun r i =>
    put_lands hdI _ r i (by omega) (wrapCol_ap _ _ _ _ _ (by omega) (hord r))
  have hbs : ∀ r, bs (ix1 ⟨place E σ r, hlt r⟩) = BitVec.ofNat 32 ((σ r).val / 2) := fun r => by
    rw [h80]
    refine scatter_set_hit dB _ _ _ _ _ (fun k hk => ?_) (ix1 r) ((hB r ⟨_, hlt r⟩).2 rfl)
    obtain ⟨s, rfl⟩ : ∃ s : Fin 128, k = ix1 s := ⟨k 0, eq_ix1 k⟩
    have := place_inj E σ hσ hmono ((hB _ _).1 hk)
    rw [this, htok]
  have hinv : ∀ r, inv (ix1 (σ r)) = BitVec.ofNat 32 (place E σ r) := fun r => by
    rw [h103]
    refine scatter_set_hit dI _ _ _ _ _ (fun k hk => ?_) (ix1 r) ((hI r (σ r)).2 rfl)
    obtain ⟨s, rfl⟩ : ∃ s : Fin 128, k = ix1 s := ⟨k 0, eq_ix1 k⟩
    have := hσ.1 (Fin.ext ((hI _ _).1 hk))
    rw [this, hplc]
  refine ⟨fun p => ?_, fun q => ?_, fun i => ?_⟩
  · by_cases h : ∃ r, place E σ r = p.val
    · obtain ⟨r, hr⟩ := h
      have : bs (ix1 p) = BitVec.ofNat 32 ((σ r).val / 2) := (congrArg (fun p => bs (ix1 p)) (Fin.ext hr.symm)).trans (hbs r)
      rw [this, BitVec.toNat_ofNat]
      omega
    · rw [h80, scatter_set_miss _ _ _ _ _ fun k hk => ?_, fill_ap]
      · decide
      · obtain ⟨s, rfl⟩ : ∃ s : Fin 128, k = ix1 s := ⟨k 0, eq_ix1 k⟩
        exact h ⟨s, (hB _ _).1 hk⟩
  · rw [hec, BitVec.toNat_ofNat]
    omega
  · obtain ⟨r, rfl⟩ := hσ.2 i
    have hc := place_chunk E σ hσ hmono r
    have h8 := hE (σ r)
    refine ⟨⟨place E σ r, hlt r⟩, hinv r, hbs r, ?_, ?_⟩
    · rw [hec, count_first E h8 hc.1 hc.2]
      congr 1
      omega
    · exact af_ap E hE hdC he h36 h44 h49 h51 h52 h81 h95 _ (hc.2.trans_le (first_mono E (by omega)))

end

end Cert.Plan
-- ==== Proof.LastHopIdeal.Body.lean ====
/-
  The expert kernel's body at one grid point. A point is one chunk of four slots. If the chunk's word in the activity table is nonzero the body
  runs the expert's two-layer network on the four blocks of tokens that the windows hold, and stores the four results as the four rows of
  its output block; else it stores nothing. `expert` is what it computes for one slot.
-/
module

public import proofs.«01_k».proof.Proof.Gen.LastHopIdeal.Launch
public import proofs.«01_k».proof.Proof.Gen.LastHopIdeal.Skeleton
public import Idealize.ShloMosaic.Lib.Pipeline.FrameBody
public import Idealize.ShloMosaic.Lib.Pipeline.Value
public import Idealize.ShloMosaic.Lib.Pipeline.ValueKit
public import Idealize.ShloMosaic.Lib.Tactic
public import Idealize.ShloMosaic.Lib.WordCmp

@[expose] public section

set_option maxRecDepth 16384

noncomputable section

namespace Cert.LastHopIdeal.Slots

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.LastHopIdeal.Gen

/-- The two pipelines' ghost state: one copy each, and a third that is not used. -/
abbrev UU : Type := IProdConst (Fin 2) (UR sig nD τ) × UR sig nD τ

variable {F : FTy → Type} [FloatOps F] [Named F]

local notation "𝕄" => MT nD τ sig Unit (Elt F) ℕ UU ℕ

/-- One slot: layer norm of the tokens `x`, the first layer, the activation, the second layer. -/
def expert (x : Vec F S1x196x768 .f32) (lg lb : Vec F S1x1x768 .f32) (w1 : Vec F S1x768x3072 .bf16) (b1 : Vec F S1x1x3072 .bf16)
    (w2 : Vec F S1x3072x768 .bf16) (b2 : Vec F S1x1x768 .f32) : Vec F S1x196x768 .bf16 :=
  k0_pay4 (k0_pay2 x lg lb w1 b1) (k0_pay3 x lg lb w1 b1) (Named.named κ "gelu_cubic" 0x3D37#16) w2 b2

/-- The table offset of a chunk is the chunk's own number. -/
theorem off2_eq (i : grid0.Coords) : k0_off2 i 0 = (i 0).val :=
  (by decide : ∀ n : Fin 38, (Scalar.indexCast (BitVec.ofNat 32 n.val) : Index).toNat = n.val) (i 0)

/-- A table's buffer at the contents `f`. -/
abbrev table (c : Dev nD) {S : Shape} {e : EltTy} (M : Memref sig .tc .smem S e) (f : Buf (Elt F) (M.view.loc (c : Thread nD τ))) : sProp 𝕄 :=
  M.view.loc (c : Thread nD τ) ↦{fullShare} f

/-- The row `r` of an output block, as the body's stores address it. -/
abbrev row (r : Fin 4) : Rect S4x196x768 := Rect.unit (s := S4x196x768) ![r.val, 0, 0] S1x196x768.size (by
  intro a; have := r.isLt; fin_cases a <;> simp <;> omega)

/-- Four stores, one to each row: an element of row `r` reads what the store to that row put there. -/
theorem read_rows {sig' : RefSig} {κ : Kind} {sp : Space} (v : View sig' κ sp S4x196x768 .bf16) (f : v.ty.Contents (Elt F))
    (p : Fin 4 → Vec F S1x196x768 .bf16) (r : Fin 4) (y : S1x196x768.Idx) :
    v.read (Elt F) (v.writes (Elt F) f [⟨row 3, p 3⟩, ⟨row 2, p 2⟩, ⟨row 1, p 1⟩, ⟨row 0, p 0⟩]) ((row r).emb y) = p r y := by
  refine View.read_writes_of_unique v f (⟨row r, p r⟩ : View.Piece (Elt F) S4x196x768 .bf16) y _ ?_ ?_
  · fin_cases r <;> simp
  · have key : ∀ k : Fin 4, (row r).emb y ∈ (row k).set → k = r := fun k hk => by
      obtain ⟨z, hz⟩ := (row k).exists_idx_of_mem hk
      have h0 : k.val + 1 * (z 0).val = r.val + 1 * (y 0).val := congrArg (fun q : S4x196x768.Idx => (q 0).val) hz
      have hz0 : (z 0).val < 1 := (z 0).isLt
      have hy0 : (y 0).val < 1 := (y 0).isLt
      exact Fin.ext (by omega)
    intro q hq hm
    simp only [List.mem_cons, List.not_mem_nil, _root_.or_false] at hq
    rcases hq with rfl | rfl | rfl | rfl
    all_goals (obtain rfl := key _ hm; rfl)

section Run

variable (c : Dev nD) (i : grid0.Coords)
  (arg4 : Memref sig .tc .vmem S1x196x768 .f32) (harg4 : arg4.IsWhole) (arg5 : Memref sig .tc .vmem S1x196x768 .f32) (harg5 : arg5.IsWhole)
  (arg6 : Memref sig .tc .vmem S1x196x768 .f32) (harg6 : arg6.IsWhole) (arg7 : Memref sig .tc .vmem S1x196x768 .f32) (harg7 : arg7.IsWhole)
  (arg8 : Memref sig .tc .vmem S1x1x768 .f32) (harg8 : arg8.IsWhole) (arg9 : Memref sig .tc .vmem S1x1x768 .f32) (harg9 : arg9.IsWhole)
  (arg10 : Memref sig .tc .vmem S1x768x3072 .bf16) (harg10 : arg10.IsWhole) (arg11 : Memref sig .tc .vmem S1x1x3072 .bf16) (harg11 : arg11.IsWhole)
  (arg12 : Memref sig .tc .vmem S1x3072x768 .bf16) (harg12 : arg12.IsWhole) (arg13 : Memref sig .tc .vmem S1x1x768 .f32) (harg13 : arg13.IsWhole)
  (arg14 : Memref sig .tc .vmem S4x196x768 .bf16) (harg14 : arg14.IsWhole)
  (x : Fin 4 → Vec F S1x196x768 .f32) (lg lb : Vec F S1x1x768 .f32) (w1 : Vec F S1x768x3072 .bf16) (b1 : Vec F S1x1x3072 .bf16)
  (w2 : Vec F S1x3072x768 .bf16) (b2 : Vec F S1x1x768 .f32)
  (af : Buf (Elt F) ((Memref.whole main_v95).view.loc (c : Thread nD τ)))

/-- The input windows' buffers, at their contents, and the activity table. -/
def held : sProp 𝕄 :=
  iprop(owns (c : Thread nD τ) arg4 fullShare (x 0) ∗ owns (c : Thread nD τ) arg5 fullShare (x 1) ∗ owns (c : Thread nD τ) arg6 fullShare (x 2)
    ∗ owns (c : Thread nD τ) arg7 fullShare (x 3) ∗ owns (c : Thread nD τ) arg8 fullShare lg ∗ owns (c : Thread nD τ) arg9 fullShare lb
    ∗ owns (c : Thread nD τ) arg10 fullShare w1 ∗ owns (c : Thread nD τ) arg11 fullShare b1 ∗ owns (c : Thread nD τ) arg12 fullShare w2
    ∗ owns (c : Thread nD τ) arg13 fullShare b2 ∗ table c (Memref.whole main_v95) af)

/-- The chunk's word of the activity table. -/
def word (c : Dev nD) (i : grid0.Coords) (af : Buf (Elt F) ((Memref.whole main_v95).view.loc (c : Thread nD τ))) : BitVec 32 :=
  af ((fun a => (i 0).cast (by obtain rfl : a = 0 := Subsingleton.elim (α := Fin 1) _ _; rfl)) : S38.Idx)

/-- The word the body loads is the chunk's own. -/
theorem read_word (inb : ∀ a, k0_off2 i a + S1.size a ≤ S38.size a) (h1 : 0 < S1.numel) :
    View.readAt (Elt F) (Memref.whole main_v95).view (Rect.unit (s := S38) (k0_off2 i) S1.size inb).toLoadRect af (Shape.Idx.first h1) = word c i af := by
  refine congrArg af (funext fun a => Fin.ext ?_)
  obtain rfl : a = 0 := Subsingleton.elim (α := Fin 1) _ _
  show k0_off2 i 0 + 1 * (Shape.Idx.first h1 0).val = (i 0).val
  have h0 : (Shape.Idx.first h1 0).val < 1 := (Shape.Idx.first h1 0).isLt
  rw [off2_eq]; omega

set_option maxHeartbeats 2000000 in
/-- The body's triple: the inputs and the table end as they were; where the chunk's word is nonzero, row `r` of the output block ends at
    `expert` of the `r`-th block of tokens. -/
theorem run (E : Set ℕ) (K : PUnit → sProp 𝕄) :
    iprop(held c arg4 arg5 arg6 arg7 arg8 arg9 arg10 arg11 arg12 arg13 x lg lb w1 b1 w2 b2 af
        ∗ (∃ d, owns (c : Thread nD τ) arg14 fullShare d)
        ∗ (iprop(held c arg4 arg5 arg6 arg7 arg8 arg9 arg10 arg11 arg12 arg13 x lg lb w1 b1 w2 b2 af
            ∗ (∃ X, ⌜k0_cond1 (word c i af) = 1#1 → ∀ r y, X ((row r).emb y) = expert (x r) lg lb w1 b1 w2 b2 y⌝ ∗ owns (c : Thread nD τ) arg14 fullShare X)) -∗ K ⟨⟩))
      ⊢ wp frame (wpE (defs₀ (F := F)) Variants.none c none) E
          (cc0__expert_body i (Memref.whole main_v80) (Memref.isWhole_whole _) (Memref.whole main_v90) (Memref.isWhole_whole _)
            (Memref.whole main_v95) (Memref.isWhole_whole _) arg4 harg4 arg5 harg5 arg6 harg6 arg7 harg7 arg8 harg8 arg9 harg9
            arg10 harg10 arg11 harg11 arg12 harg12 arg13 harg13 arg14 harg14) K := by
  unfold held owns
  simp only [cc0__expert_body_eq_skeleton]; unfold cc0__expert_body_skel
  simp only [k0_part1_eq_skeleton, k0_part2_eq_skeleton, k0_part3_eq_skeleton, k0_part4_eq_skeleton, k0_part5_eq_skeleton, k0_part6_eq_skeleton]
  iintro ⟨⟨⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, HT⟩, ⟨%d14, %f14, -, H14⟩, Hk⟩
  obtain rfl := harg4.eq_unread hf4; obtain rfl := harg5.eq_unread hf5; obtain rfl := harg6.eq_unread hf6; obtain rfl := harg7.eq_unread hf7
  obtain rfl := harg8.eq_unread hf8; obtain rfl := harg9.eq_unread hf9; obtain rfl := harg10.eq_unread hf10; obtain rfl := harg11.eq_unread hf11
  obtain rfl := harg12.eq_unread hf12; obtain rfl := harg13.eq_unread hf13
  sl_exec
  sl_step
  iapply Hk
  isplitr [H14]
  · isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    iexact HT
  · iexists _; isplitr; swap
    · iexists _; isplitr; swap; · iexact H14
      ipureintro; rfl
    · ipureintro
      intro h r y
      have hw : run.sl.r c i af = word c i af := by
        sl_unfold_words
        exact read_word c i af _ _
      rw [dif_pos (hw ▸ h)]
      sl_unfold_words
      simp (disch := decide) only [View.readAt_eq_ld, Memref.IsWhole.read_unread, View.ld_unit_lit']
      exact read_rows arg14.view f14 (fun r => expert (x r) lg lb w1 b1 w2 b2) r y

end Run

end Cert.LastHopIdeal.Slots

end
-- ==== Proof.LastHopIdeal.Region0.lean ====
/-
  The expert pipeline of the program: 38 chunks, whose blocks of tokens and experts' parameters are picked by words of two tables. It runs
  under the condition that those blocks lie inside their arrays (`Ok`). Of the output block the proof data say what the body does only where
  the chunk is active.
-/
module

public import proofs.«01_k».proof.Proof.LastHopIdeal.Body
public import Idealize.ShloMosaic.Lib.Claim
public import Idealize.ShloMosaic.Lib.Pipeline.DatRel
public import Idealize.ShloMosaic.Lib.Pipeline.ArrRel

@[expose] public section

set_option maxRecDepth 16384

noncomputable section

namespace Cert.LastHopIdeal.Slots

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)
open Cert.LastHopIdeal.Gen

variable {F : FTy → Type} [FloatOps F] [Named F]

local notation "𝕄" => MT nD τ sig Unit (Elt F) ℕ UU ℕ

variable (x : Dev nD → Valuation τ sig (Elt F))

/-- Core `c`'s buffers when the pipeline is entered. -/
abbrev V (c : Dev nD) (b : Ref sig .tc) : Buf (Elt F) ((c : Thread nD τ).loc b) := x c (Proc.devRef .tc b)

/-- The three tables' words (there is one device). -/
def tbl : pre0.Contents (Elt F) := fun j => V x (0 : Dev nD) (pre0.ref j)

theorem V_pre (c : Dev nD) (j : Fin 3) : V x c (pre0.ref j) = tbl x j := by
  obtain rfl : c = 0 := Subsingleton.elim _ _; rfl

/-- The blocks that the tables pick lie inside their arrays. -/
abbrev Ok : Prop := ok0 (F := F) (tbl x)
abbrev adm (hO : Ok x) : (pcfg0 (F := F)).Adm := ⟨tbl x, hO⟩
abbrev cfgM (hO : Ok x) : Cfg sig Λ₀ := cfg0 (adm x hO)

/-- The tables, one by one. -/
theorem tables_eq (c : Dev nD) : (Pipeline.prefHeld pre0 c (fun _ => fullShare) (tbl x) : sProp 𝕄)
    = iprop(table c (Memref.whole main_v80) (tbl x 0) ∗ table c (Memref.whole main_v90) (tbl x 1) ∗ table c (Memref.whole main_v95) (tbl x 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

variable (hO : Ok x)

/-- Window `w`'s block at point `t`, read off its array. -/
def blk (c : Dev nD) (w : Fin (cfgM x hO).W) (t : Fin (cfgM x hO).N) :
    (((cfgM x hO).win w).xblock ((cfgM x hO).grid.coords t)).Idx → Elt F ((cfgM x hO).win w).elt :=
  (((cfgM x hO).win w).blk t).view.read (Elt F) (V x c (Pipeline.arrRef spec0 w))

/-- The proof data: every input's buffer holds its block. -/
def dat (c : Dev nD) : Dat τ (Elt F) Unit ℕ UU ℕ (cfgM x hO) c where
  A w := V x c (Pipeline.arrRef spec0 w)
  after w t := ((cfgM x hO).win w).fill ((cfgM x hO).grid.coords t) (fun _ => Classical.arbitrary _) (blk x hO c w t)
  Φ _ := iprop(Pipeline.ΦA spec0 c ∗ Pipeline.prefHeld pre0 c (fun _ => fullShare) (tbl x))
  q := Pipeline.shareOf spec0
  owed _ := 0

theorem A_eq (c : Dev nD) (w : Fin (cfgM x hO).W) : (dat x hO c).A w = V x c (Pipeline.arrRef spec0 w) := by
  dsimp only [dat]

/-- The window whose contents the relation speaks of: the output. -/
def marked : Fin 11 → Bool := fun w => w.val == 10

/-- The four token blocks of chunk `t`. -/
def tokens (c : Dev nD) (t : Fin (cfgM x hO).N) : Fin 4 → Vec F S1x196x768 .f32
  | 0 => blk x hO c 0 t
  | 1 => blk x hO c 1 t
  | 2 => blk x hO c 2 t
  | 3 => blk x hO c 3 t

/-- Where chunk `t` is active, row `r` of its output block is `expert` of the `r`-th block of tokens. -/
def Out (c : Dev nD) (t : Fin (cfgM x hO).N) (X : Vec F S4x196x768 .bf16) : Prop :=
  k0_cond1 (word c (grid0.coords t) (tbl x 2)) = 1#1 → ∀ r y, X ((row r).emb y)
    = expert (tokens x hO c t r) (blk x hO c 4 t) (blk x hO c 5 t) (blk x hO c 6 t) (blk x hO c 7 t) (blk x hO c 8 t) (blk x hO c 9 t) y

def Rel (c : Dev nD) (w : Fin (cfgM x hO).W) (t : Fin (cfgM x hO).N) (X : ((cfgM x hO).win w).block.Idx → Elt F ((cfgM x hO).win w).elt) : Prop :=
  match w, X with
  | ⟨10, _⟩, X => Out x hO c t X
  | _, _ => True

theorem before_0 (c : Dev nD) (t : Fin (cfgM x hO).N) (d) : (dat x hO c).before 0 t d = blk x hO c 0 t :=
  ((dat x hO c).before_in_eq_fetched 0 rfl (fun _ => rfl) (fun _ _ _ => rfl) (fun _ => rfl) t d).trans rfl
theorem after_0 (c : Dev nD) (t : Fin (cfgM x hO).N) : (dat x hO c).after 0 t = blk x hO c 0 t := rfl
theorem before_1 (c : Dev nD) (t : Fin (cfgM x hO).N) (d) : (dat x hO c).before 1 t d = blk x hO c 1 t :=
  ((dat x hO c).before_in_eq_fetched 1 rfl (fun _ => rfl) (fun _ _ _ => rfl) (fun _ => rfl) t d).trans rfl
theorem after_1 (c : Dev nD) (t : Fin (cfgM x hO).N) : (dat x hO c).after 1 t = blk x hO c 1 t := rfl
theorem before_2 (c : Dev nD) (t : Fin (cfgM x hO).N) (d) : (dat x hO c).before 2 t d = blk x hO c 2 t :=
  ((dat x hO c).before_in_eq_fetched 2 rfl (fun _ => rfl) (fun _ _ _ => rfl) (fun _ => rfl) t d).trans rfl
theorem after_2 (c : Dev nD) (t : Fin (cfgM x hO).N) : (dat x hO c).after 2 t = blk x hO c 2 t := rfl
theorem before_3 (c : Dev nD) (t : Fin (cfgM x hO).N) (d) : (dat x hO c).before 3 t d = blk x hO c 3 t :=
  ((dat x hO c).before_in_eq_fetched 3 rfl (fun _ => rfl) (fun _ _ _ => rfl) (fun _ => rfl) t d).trans rfl
theorem after_3 (c : Dev nD) (t : Fin (cfgM x hO).N) : (dat x hO c).after 3 t = blk x hO c 3 t := rfl
theorem before_4 (c : Dev nD) (t : Fin (cfgM x hO).N) (d) : (dat x hO c).before 4 t d = blk x hO c 4 t :=
  ((dat x hO c).before_in_eq_fetched 4 rfl (fun _ => rfl) (fun _ _ _ => rfl) (fun _ => rfl) t d).trans rfl
theorem after_4 (c : Dev nD) (t : Fin (cfgM x hO).N) : (dat x hO c).after 4 t = blk x hO c 4 t := rfl
theorem before_5 (c : Dev nD) (t : Fin (cfgM x hO).N) (d) : (dat x hO c).before 5 t d = blk x hO c 5 t :=
  ((dat x hO c).before_in_eq_fetched 5 rfl (fun _ => rfl) (fun _ _ _ => rfl) (fun _ => rfl) t d).trans rfl
theorem after_5 (c : Dev nD) (t : Fin (cfgM x hO).N) : (dat x hO c).after 5 t = blk x hO c 5 t := rfl
theorem before_6 (c : Dev nD) (t : Fin (cfgM x hO).N) (d) : (dat x hO c).before 6 t d = blk x hO c 6 t :=
  ((dat x hO c).before_in_eq_fetched 6 rfl (fun _ => rfl) (fun _ _ _ => rfl) (fun _ => rfl) t d).trans rfl
theorem after_6 (c : Dev nD) (t : Fin (cfgM x hO).N) : (dat x hO c).after 6 t = blk x hO c 6 t := rfl
theorem before_7 (c : Dev nD) (t : Fin (cfgM x hO).N) (d) : (dat x hO c).before 7 t d = blk x hO c 7 t :=
  ((dat x hO c).before_in_eq_fetched 7 rfl (fun _ => rfl) (fun _ _ _ => rfl) (fun _ => rfl) t d).trans rfl
theorem after_7 (c : Dev nD) (t : Fin (cfgM x hO).N) : (dat x hO c).after 7 t = blk x hO c 7 t := rfl
theorem before_8 (c : Dev nD) (t : Fin (cfgM x hO).N) (d) : (dat x hO c).before 8 t d = blk x hO c 8 t :=
  ((dat x hO c).before_in_eq_fetched 8 rfl (fun _ => rfl) (fun _ _ _ => rfl) (fun _ => rfl) t d).trans rfl
theorem after_8 (c : Dev nD) (t : Fin (cfgM x hO).N) : (dat x hO c).after 8 t = blk x hO c 8 t := rfl
theorem before_9 (c : Dev nD) (t : Fin (cfgM x hO).N) (d) : (dat x hO c).before 9 t d = blk x hO c 9 t :=
  ((dat x hO c).before_in_eq_fetched 9 rfl (fun _ => rfl) (fun _ _ _ => rfl) (fun _ => rfl) t d).trans rfl
theorem after_9 (c : Dev nD) (t : Fin (cfgM x hO).N) : (dat x hO c).after 9 t = blk x hO c 9 t := rfl

/-- The windows' buffers at point `t` and the tables, as the body takes them and hands them back: `Y` says what holds of the output's. -/
def shell (c : Dev nD) (t : Fin (cfgM x hO).N) (Y : Vec F S4x196x768 .bf16 → Prop) : sProp 𝕄 :=
  iprop((Pipeline.ΦA spec0 c ∗ Pipeline.prefHeld pre0 c (fun _ => fullShare) (tbl x)) ∗ (dat x hO c).owesAt () t.castSucc
    ∗ owns (c : Thread nD τ) (spec0_0.stage ((cfgM x hO).slots t 0)) fullShare (blk x hO c 0 t)
    ∗ owns (c : Thread nD τ) (spec0_1.stage ((cfgM x hO).slots t 1)) fullShare (blk x hO c 1 t)
    ∗ owns (c : Thread nD τ) (spec0_2.stage ((cfgM x hO).slots t 2)) fullShare (blk x hO c 2 t)
    ∗ owns (c : Thread nD τ) (spec0_3.stage ((cfgM x hO).slots t 3)) fullShare (blk x hO c 3 t)
    ∗ owns (c : Thread nD τ) (spec0_4.stage ((cfgM x hO).slots t 4)) fullShare (blk x hO c 4 t)
    ∗ owns (c : Thread nD τ) (spec0_5.stage ((cfgM x hO).slots t 5)) fullShare (blk x hO c 5 t)
    ∗ owns (c : Thread nD τ) (spec0_6.stage ((cfgM x hO).slots t 6)) fullShare (blk x hO c 6 t)
    ∗ owns (c : Thread nD τ) (spec0_7.stage ((cfgM x hO).slots t 7)) fullShare (blk x hO c 7 t)
    ∗ owns (c : Thread nD τ) (spec0_8.stage ((cfgM x hO).slots t 8)) fullShare (blk x hO c 8 t)
    ∗ owns (c : Thread nD τ) (spec0_9.stage ((cfgM x hO).slots t 9)) fullShare (blk x hO c 9 t)
    ∗ (∃ X, ⌜Y X⌝ ∗ owns (c : Thread nD τ) (spec0_10.stage ((cfgM x hO).slots t 10)) fullShare X))

set_option maxHeartbeats 1600000 in
/-- The body at point `t`. -/
theorem sound (c : Dev nD) (t : Fin (cfgM x hO).N) :
    shell x hO c t (fun _ => True) ⊢ wp frame (wpE (defs₀ (F := F)) Variants.none c none) Set.univ
      (defs₀ (F := F) .tc (cfgM x hO).body ((cfgM x hO).bodyArgs t ((cfgM x hO).slots t))) (fun _ => shell x hO c t (Out x hO c t)) := by
  rw [show defs₀ (F := F) .tc (cfgM x hO).body ((cfgM x hO).bodyArgs t ((cfgM x hO).slots t))
    = cc0__expert_body (grid0.coords t) (Memref.whole main_v80) (Memref.isWhole_whole _) (Memref.whole main_v90) (Memref.isWhole_whole _) (Memref.whole main_v95) (Memref.isWhole_whole _)
        (spec0_0.stage ((cfgM x hO).slots t 0)) (hstage0_0 (((cfgM x hO).slots t 0).cast nbuf0_0))
        (spec0_1.stage ((cfgM x hO).slots t 1)) (hstage0_1 (((cfgM x hO).slots t 1).cast nbuf0_1))
        (spec0_2.stage ((cfgM x hO).slots t 2)) (hstage0_2 (((cfgM x hO).slots t 2).cast nbuf0_2))
        (spec0_3.stage ((cfgM x hO).slots t 3)) (hstage0_3 (((cfgM x hO).slots t 3).cast nbuf0_3))
        (spec0_4.stage ((cfgM x hO).slots t 4)) (hstage0_4 (((cfgM x hO).slots t 4).cast nbuf0_4))
        (spec0_5.stage ((cfgM x hO).slots t 5)) (hstage0_5 (((cfgM x hO).slots t 5).cast nbuf0_5))
        (spec0_6.stage ((cfgM x hO).slots t 6)) (hstage0_6 (((cfgM x hO).slots t 6).cast nbuf0_6))
        (spec0_7.stage ((cfgM x hO).slots t 7)) (hstage0_7 (((cfgM x hO).slots t 7).cast nbuf0_7))
        (spec0_8.stage ((cfgM x hO).slots t 8)) (hstage0_8 (((cfgM x hO).slots t 8).cast nbuf0_8))
        (spec0_9.stage ((cfgM x hO).slots t 9)) (hstage0_9 (((cfgM x hO).slots t 9).cast nbuf0_9))
        (spec0_10.stage ((cfgM x hO).slots t 10)) (hstage0_10 (((cfgM x hO).slots t 10).cast nbuf0_10)) from by
    unfold defs₀; rw [Defs.onTc_tc]]
  unfold shell
  rw [tables_eq]
  iintro ⟨⟨HA, HT0, HT1, HT2⟩, Ho, H0, H1, H2, H3, H4, H5, H6, H7, H8, H9, ⟨%X, -, H10⟩⟩
  iapply (run c (grid0.coords t) _ (hstage0_0 (((cfgM x hO).slots t 0).cast nbuf0_0)) _ (hstage0_1 (((cfgM x hO).slots t 1).cast nbuf0_1)) _ (hstage0_2 (((cfgM x hO).slots t 2).cast nbuf0_2)) _ (hstage0_3 (((cfgM x hO).slots t 3).cast nbuf0_3)) _ (hstage0_4 (((cfgM x hO).slots t 4).cast nbuf0_4)) _ (hstage0_5 (((cfgM x hO).slots t 5).cast nbuf0_5)) _ (hstage0_6 (((cfgM x hO).slots t 6).cast nbuf0_6)) _ (hstage0_7 (((cfgM x hO).slots t 7).cast nbuf0_7)) _ (hstage0_8 (((cfgM x hO).slots t 8).cast nbuf0_8)) _ (hstage0_9 (((cfgM x hO).slots t 9).cast nbuf0_9)) _ (hstage0_10 (((cfgM x hO).slots t 10).cast nbuf0_10))
    (tokens x hO c t) (blk x hO c 4 t) (blk x hO c 5 t) (blk x hO c 6 t) (blk x hO c 7 t) (blk x hO c 8 t) (blk x hO c 9 t) (tbl x 2) Set.univ _)
  unfold held
  isplitl [H0 H1 H2 H3 H4 H5 H6 H7 H8 H9 HT2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact HT2
  isplitl [H10]; · iexists _; iexact H10
  iintro ⟨⟨H0, H1, H2, H3, H4, H5, H6, H7, H8, H9, HT2⟩, ⟨%X', %hX, H10⟩⟩
  isplitl [HA HT0 HT1 HT2]
  · isplitl [HA]; · iexact HA
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists X'
  isplitr; · ipureintro; exact hX
  iexact H10

/-- The relational proof data of the one pipeline. -/
abbrev rdat (c : Dev nD) : Pipeline.RDat τ (Elt F) Unit ℕ UU ℕ (cfgM x hO) c :=
  (dat x hO c).toRRel marked (Rel x hO c)

theorem body_obligation (c : Dev nD) :
    Pipeline.BodyObligationRel (dat (F := F) x hO c) (defs₀ (F := F)) Variants.none () Set.univ marked (Rel x hO c) := fun t => by
  rw [bigSep_W0, bigSep_W0]
  refine triple_restated (sound x hO c t) rfl ?_ fun _ => .rfl
  refine (show _ ⊢ iprop((Pipeline.ΦA spec0 c ∗ Pipeline.prefHeld pre0 c (fun _ => fullShare) (tbl x)) ∗ (dat x hO c).owesAt () t.castSucc
    ∗ (∃ d, owns (c : Thread nD τ) (spec0_0.stage ((cfgM x hO).slots t 0)) fullShare ((dat x hO c).before 0 t d))
    ∗ (∃ d, owns (c : Thread nD τ) (spec0_1.stage ((cfgM x hO).slots t 1)) fullShare ((dat x hO c).before 1 t d))
    ∗ (∃ d, owns (c : Thread nD τ) (spec0_2.stage ((cfgM x hO).slots t 2)) fullShare ((dat x hO c).before 2 t d))
    ∗ (∃ d, owns (c : Thread nD τ) (spec0_3.stage ((cfgM x hO).slots t 3)) fullShare ((dat x hO c).before 3 t d))
    ∗ (∃ d, owns (c : Thread nD τ) (spec0_4.stage ((cfgM x hO).slots t 4)) fullShare ((dat x hO c).before 4 t d))
    ∗ (∃ d, owns (c : Thread nD τ) (spec0_5.stage ((cfgM x hO).slots t 5)) fullShare ((dat x hO c).before 5 t d))
    ∗ (∃ d, owns (c : Thread nD τ) (spec0_6.stage ((cfgM x hO).slots t 6)) fullShare ((dat x hO c).before 6 t d))
    ∗ (∃ d, owns (c : Thread nD τ) (spec0_7.stage ((cfgM x hO).slots t 7)) fullShare ((dat x hO c).before 7 t d))
    ∗ (∃ d, owns (c : Thread nD τ) (spec0_8.stage ((cfgM x hO).slots t 8)) fullShare ((dat x hO c).before 8 t d))
    ∗ (∃ d, owns (c : Thread nD τ) (spec0_9.stage ((cfgM x hO).slots t 9)) fullShare ((dat x hO c).before 9 t d))
    ∗ (∃ Y, ⌜(rdat x hO c).Finds 10 t Y⌝ ∗ owns (c : Thread nD τ) (spec0_10.stage ((cfgM x hO).slots t 10)) fullShare Y)) from .rfl).trans ?_
  unfold shell
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%Y, -, H10⟩⟩
  rw [before_0 x hO c t d0, before_1 x hO c t d1, before_2 x hO c t d2, before_3 x hO c t d3, before_4 x hO c t d4, before_5 x hO c t d5,
    before_6 x hO c t d6, before_7 x hO c t d7, before_8 x hO c t d8, before_9 x hO c t d9]
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists Y
  isplitr; · ipureintro; trivial
  iexact H10

/-- The output window is written back at every chunk. -/
theorem flush_out (t : Fin (cfgM x hO).N) : ((cfgM x hO).win 10).flush t = true :=
  (Pipeline.Window.flushOf_reads cc0_transform_10 reads0_10 hreads0_10 0 (by decide) (by decide)
    (Pipeline.Window.sep_of_coord cc0_transform_10 0 0 (fun _ => rfl) (by decide)) (P := 1) (m := 0) (by decide) rfl t).mpr (Nat.mod_one _)

theorem coords_val : ∀ t : Fin grid0.N, (grid0.coords t 0).val = t.val := by decide

/-- Chunk `t`'s output block is block `t` of the result. -/
theorem index_out (t : Fin (cfgM x hO).N) : ((cfgM x hO).win 10).index t = (![t.val, 0, 0] : Fin 3 → ℕ) :=
  (by decide : ∀ t : Fin grid0.N, cc0_transform_10 (grid0.coords t) = ![t.val, 0, 0]) t

theorem disjoint_out (t t' : Fin (cfgM x hO).N) (h : t ≠ t') :
    Disjoint (((cfgM x hO).win 10).blk t).view.set (((cfgM x hO).win 10).blk t').view.set :=
  ((cfgM x hO).win 10).disjoint_blk fun e => h (Fin.ext (by
    rw [index_out, index_out] at e
    exact congrFun e 0))

/-- Slot `4 t + r` of what the pipeline leaves its output array at, where chunk `t` is active. -/
theorem out_read (c : Dev nD) (A : (w : Fin (cfgM x hO).W) → Buf (Elt F) (((cfgM x hO).win w).arr.view.loc (c.tc : Thread nD τ)))
    (h : ∀ w, (rdat x hO c).ArrAt w (cfgM x hO).N (A w)) (t : Fin (cfgM x hO).N)
    (ha : k0_cond1 (word c (grid0.coords t) (tbl x 2)) = 1#1) (k : Fin 4) (y : S1x196x768.Idx) (i : S152x196x768.Idx)
    (hi0 : (i 0).val = 4 * t.val + k.val) (hi1 : (i 1).val = (y 1).val) (hi2 : (i 2).val = (y 2).val) :
    (A 10 : S152x196x768.Idx → Elt F .bf16) i
      = expert (tokens x hO c t k) (blk x hO c 4 t) (blk x hO c 5 t) (blk x hO c 6 t) (blk x hO c 7 t) (blk x hO c 8 t) (blk x hO c 9 t) y := by
  obtain ⟨after, hL, hA⟩ := Pipeline.RDat.ArrAt.exists_exact_all h
  have hX : Out x hO c t (after 10 t) := (dat x hO c).toRRel_leaves (w := 10) rfl (hL 10 t t.isLt (flush_out x hO t))
  have e := ((rdat x hO c).withAfter after).arrAt_emb_eq_flushed 10 (fun t t' _ _ hne => disjoint_out x hO t t' hne) t (flush_out x hO t) ((row k).emb y)
  rw [← hA 10] at e
  have hi : (((cfgM x hO).win 10).blk t).view.emb ((row k).emb y) = i := by
    funext a
    refine Fin.ext ((((cfgM x hO).win 10).rect_emb_val t ((row k).emb y) a rfl).trans ?_)
    rw [index_out]
    have hy : (y 0).val < 1 := (y 0).isLt
    fin_cases a
    · show t.val * 4 + (k.val + 1 * (y 0).val) = (i 0).val
      omega
    · show 0 * 196 + (0 + 1 * (y 1).val) = (i 1).val
      omega
    · show 0 * 768 + (0 + 1 * (y 2).val) = (i 2).val
      omega
  rw [hi] at e
  exact e.trans (hX ha k y)

end Cert.LastHopIdeal.Slots

end
-- ==== Proof.LastHopIdeal.Final.lean ====
/-
  The last pipeline of the program: one batch row a point. The body reads the row's tokens, the two blocks of expert outputs that the two
  tables name, the row's two weights and the head's matrix, and stores the row of logits (`logits`).
-/
module

public import proofs.«01_k».proof.Proof.LastHopIdeal.Body
public import Idealize.ShloMosaic.Lib.VecWindow
public import Idealize.ShloMosaic.Lib.Claim
public import Idealize.ShloMosaic.Lib.Pipeline.DatRel
public import Idealize.ShloMosaic.Lib.Pipeline.ArrRel

@[expose] public section

set_option maxRecDepth 16384

noncomputable section

namespace Cert.LastHopIdeal.Final

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)
open Cert.LastHopIdeal.Gen
open Cert.LastHopIdeal.Slots (UU)

variable {F : FTy → Type} [FloatOps F] [Named F]

local notation "𝕄" => MT nD τ sig Unit (Elt F) ℕ UU ℕ

/-- One row of logits: the residual and the two experts' outputs, weighted, averaged over the positions, times the head's matrix. -/
abbrev logits (h : Vec F S1x196x768 .f32) (o0 o1 : Vec F S1x196x768 .bf16) (w0 w1 : Vec F S1x1x1 .f32) (g : Vec F S768x1000 .f32) :
    Vec F S1x1x1000 .f32 := k1_pay1 w0 w1 h o0 o1 g

section Run

variable (c : Dev nD) (i : grid1.Coords)
  (arg3 : Memref sig .tc .vmem S1x196x768 .f32) (harg3 : arg3.IsWhole) (arg4 : Memref sig .tc .vmem S1x196x768 .bf16) (harg4 : arg4.IsWhole)
  (arg5 : Memref sig .tc .vmem S1x196x768 .bf16) (harg5 : arg5.IsWhole) (arg6 : Memref sig .tc .vmem S1x1x1 .f32) (harg6 : arg6.IsWhole)
  (arg7 : Memref sig .tc .vmem S1x1x1 .f32) (harg7 : arg7.IsWhole) (arg8 : Memref sig .tc .vmem S768x1000 .f32) (harg8 : arg8.IsWhole)
  (arg9 : Memref sig .tc .vmem S1x1x1000 .f32) (harg9 : arg9.IsWhole)
  (h : Vec F S1x196x768 .f32) (o0 o1 : Vec F S1x196x768 .bf16) (w0 w1 : Vec F S1x1x1 .f32) (g : Vec F S768x1000 .f32)

/-- The input windows' buffers, at their contents. -/
def held : sProp 𝕄 :=
  iprop(owns (c : Thread nD τ) arg3 fullShare h ∗ owns (c : Thread nD τ) arg4 fullShare o0 ∗ owns (c : Thread nD τ) arg5 fullShare o1
    ∗ owns (c : Thread nD τ) arg6 fullShare w0 ∗ owns (c : Thread nD τ) arg7 fullShare w1 ∗ owns (c : Thread nD τ) arg8 fullShare g)

set_option maxHeartbeats 1600000 in
/-- The body's triple: the inputs end as they were, the output block at the row of logits. -/
theorem run (E : Set ℕ) (K : PUnit → sProp 𝕄) :
    iprop(held c arg3 arg4 arg5 arg6 arg7 arg8 h o0 o1 w0 w1 g
        ∗ (∃ d, owns (c : Thread nD τ) arg9 fullShare d)
        ∗ (iprop(held c arg3 arg4 arg5 arg6 arg7 arg8 h o0 o1 w0 w1 g ∗ (∃ X, ⌜X = logits h o0 o1 w0 w1 g⌝ ∗ owns (c : Thread nD τ) arg9 fullShare X)) -∗ K ⟨⟩))
      ⊢ wp frame (wpE (defs₀ (F := F)) Variants.none c none) E
          (cc1__final_body i (Memref.whole main_v104) (Memref.isWhole_whole _) (Memref.whole main_v105) (Memref.isWhole_whole _)
            arg3 harg3 arg4 harg4 arg5 harg5 arg6 harg6 arg7 harg7 arg8 harg8 arg9 harg9) K := by
  unfold held owns
  simp only [cc1__final_body_eq_skeleton]; unfold cc1__final_body_skel
  iintro ⟨⟨⟨%f3, %hf3, H3⟩, ⟨%f4, %hf4, H4⟩, ⟨%f5, %hf5, H5⟩, ⟨%f6, %hf6, H6⟩, ⟨%f7, %hf7, H7⟩, ⟨%f8, %hf8, H8⟩⟩, ⟨%d9, %f9, -, H9⟩, Hk⟩
  obtain rfl := harg3.eq_unread hf3; obtain rfl := harg4.eq_unread hf4; obtain rfl := harg5.eq_unread hf5; obtain rfl := harg6.eq_unread hf6
  obtain rfl := harg7.eq_unread hf7; obtain rfl := harg8.eq_unread hf8
  sl_exec
  sl_step
  iapply Hk
  isplitr [H9]
  · isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    iexists _; isplitr; · ipureintro; exact harg8.read_unread _
    iexact H8
  · iexists _; isplitr; swap
    · iexists _; isplitr; swap; · iexact H9
      ipureintro; rfl
    · ipureintro
      sl_unfold_words
      simp (disch := decide) only [View.readAt_eq_ld, Memref.IsWhole.read_unread, View.ld_unit_lit']
      exact View.read_writes_full arg9.view f9 _ (logits h o0 o1 w0 w1 g) []

end Run

variable (x : Dev nD → Valuation τ sig (Elt F))

/-- Core `c`'s buffers when the pipeline is entered. -/
abbrev V (c : Dev nD) (b : Ref sig .tc) : Buf (Elt F) ((c : Thread nD τ).loc b) := x c (Proc.devRef .tc b)

variable {tb : pre1.Contents (Elt F)}

abbrev adm (hO : ok1 (F := F) tb) : (pcfg1 (F := F)).Adm := ⟨tb, hO⟩
abbrev cfgM (hO : ok1 (F := F) tb) : Cfg sig Λ₀ := cfg1 (adm hO)

variable (hO : ok1 (F := F) tb)

/-- Window `w`'s block at point `t`, read off its array. -/
def blk (c : Dev nD) (w : Fin (cfgM hO).W) (t : Fin (cfgM hO).N) :
    (((cfgM hO).win w).xblock ((cfgM hO).grid.coords t)).Idx → Elt F ((cfgM hO).win w).elt :=
  (((cfgM hO).win w).blk t).view.read (Elt F) (V x c (Pipeline.arrRef spec1 w))

/-- The proof data: every input's buffer holds its block. -/
def dat (c : Dev nD) : Dat τ (Elt F) Unit ℕ UU ℕ (cfgM hO) c where
  A w := V x c (Pipeline.arrRef spec1 w)
  after w t := ((cfgM hO).win w).fill ((cfgM hO).grid.coords t) (fun _ => Classical.arbitrary _) (blk x hO c w t)
  Φ _ := iprop(Pipeline.ΦA spec1 c ∗ Pipeline.prefHeld pre1 c (fun _ => fullShare) tb)
  q := Pipeline.shareOf spec1
  owed _ := 0

theorem A_eq (c : Dev nD) (w : Fin (cfgM hO).W) : (dat x hO c).A w = V x c (Pipeline.arrRef spec1 w) := by
  dsimp only [dat]

/-- The window whose contents the relation speaks of: the output. -/
def marked : Fin 7 → Bool := fun w => w.val == 6

/-- The output block is the row of logits of the blocks that the other windows hold. -/
def Out (c : Dev nD) (t : Fin (cfgM hO).N) (X : Vec F S1x1x1000 .f32) : Prop :=
  X = logits (blk x hO c 0 t) (blk x hO c 1 t) (blk x hO c 2 t) (blk x hO c 3 t) (blk x hO c 4 t) (blk x hO c 5 t)

def Rel (c : Dev nD) (w : Fin (cfgM hO).W) (t : Fin (cfgM hO).N) (X : ((cfgM hO).win w).block.Idx → Elt F ((cfgM hO).win w).elt) : Prop :=
  match w, X with
  | ⟨6, _⟩, X => Out x hO c t X
  | _, _ => True

theorem before_0 (c : Dev nD) (t : Fin (cfgM hO).N) (d) : (dat x hO c).before 0 t d = blk x hO c 0 t :=
  ((dat x hO c).before_in_eq_fetched 0 rfl (fun _ => rfl) (fun _ _ _ => rfl) (fun _ => rfl) t d).trans rfl
theorem before_1 (c : Dev nD) (t : Fin (cfgM hO).N) (d) : (dat x hO c).before 1 t d = blk x hO c 1 t :=
  ((dat x hO c).before_in_eq_fetched 1 rfl (fun _ => rfl) (fun _ _ _ => rfl) (fun _ => rfl) t d).trans rfl
theorem before_2 (c : Dev nD) (t : Fin (cfgM hO).N) (d) : (dat x hO c).before 2 t d = blk x hO c 2 t :=
  ((dat x hO c).before_in_eq_fetched 2 rfl (fun _ => rfl) (fun _ _ _ => rfl) (fun _ => rfl) t d).trans rfl
theorem before_3 (c : Dev nD) (t : Fin (cfgM hO).N) (d) : (dat x hO c).before 3 t d = blk x hO c 3 t :=
  ((dat x hO c).before_in_eq_fetched 3 rfl (fun _ => rfl) (fun _ _ _ => rfl) (fun _ => rfl) t d).trans rfl
theorem before_4 (c : Dev nD) (t : Fin (cfgM hO).N) (d) : (dat x hO c).before 4 t d = blk x hO c 4 t :=
  ((dat x hO c).before_in_eq_fetched 4 rfl (fun _ => rfl) (fun _ _ _ => rfl) (fun _ => rfl) t d).trans rfl
theorem before_5 (c : Dev nD) (t : Fin (cfgM hO).N) (d) : (dat x hO c).before 5 t d = blk x hO c 5 t :=
  ((dat x hO c).before_in_eq_fetched 5 rfl (fun _ => rfl) (fun _ _ _ => rfl) (fun _ => rfl) t d).trans rfl

/-- The windows' buffers at point `t` and the tables, as the body takes them and hands them back: `Y` says what holds of the output's. -/
def shell (c : Dev nD) (t : Fin (cfgM hO).N) (Y : Vec F S1x1x1000 .f32 → Prop) : sProp 𝕄 :=
  iprop((Pipeline.ΦA spec1 c ∗ Pipeline.prefHeld pre1 c (fun _ => fullShare) tb) ∗ (dat x hO c).owesAt () t.castSucc
    ∗ owns (c : Thread nD τ) (spec1_0.stage ((cfgM hO).slots t 0)) fullShare (blk x hO c 0 t)
    ∗ owns (c : Thread nD τ) (spec1_1.stage ((cfgM hO).slots t 1)) fullShare (blk x hO c 1 t)
    ∗ owns (c : Thread nD τ) (spec1_2.stage ((cfgM hO).slots t 2)) fullShare (blk x hO c 2 t)
    ∗ owns (c : Thread nD τ) (spec1_3.stage ((cfgM hO).slots t 3)) fullShare (blk x hO c 3 t)
    ∗ owns (c : Thread nD τ) (spec1_4.stage ((cfgM hO).slots t 4)) fullShare (blk x hO c 4 t)
    ∗ owns (c : Thread nD τ) (spec1_5.stage ((cfgM hO).slots t 5)) fullShare (blk x hO c 5 t)
    ∗ (∃ X, ⌜Y X⌝ ∗ owns (c : Thread nD τ) (spec1_6.stage ((cfgM hO).slots t 6)) fullShare X))

set_option maxHeartbeats 1600000 in
/-- The body at point `t`. -/
theorem sound (c : Dev nD) (t : Fin (cfgM hO).N) :
    shell x hO c t (fun _ => True) ⊢ wp frame (wpE (defs₀ (F := F)) Variants.none c none) Set.univ
      (defs₀ (F := F) .tc (cfgM hO).body ((cfgM hO).bodyArgs t ((cfgM hO).slots t))) (fun _ => shell x hO c t (Out x hO c t)) := by
  rw [show defs₀ (F := F) .tc (cfgM hO).body ((cfgM hO).bodyArgs t ((cfgM hO).slots t))
    = cc1__final_body (grid1.coords t) (Memref.whole main_v104) (Memref.isWhole_whole _) (Memref.whole main_v105) (Memref.isWhole_whole _)
        (spec1_0.stage ((cfgM hO).slots t 0)) (hstage1_0 (((cfgM hO).slots t 0).cast nbuf1_0))
        (spec1_1.stage ((cfgM hO).slots t 1)) (hstage1_1 (((cfgM hO).slots t 1).cast nbuf1_1))
        (spec1_2.stage ((cfgM hO).slots t 2)) (hstage1_2 (((cfgM hO).slots t 2).cast nbuf1_2))
        (spec1_3.stage ((cfgM hO).slots t 3)) (hstage1_3 (((cfgM hO).slots t 3).cast nbuf1_3))
        (spec1_4.stage ((cfgM hO).slots t 4)) (hstage1_4 (((cfgM hO).slots t 4).cast nbuf1_4))
        (spec1_5.stage ((cfgM hO).slots t 5)) (hstage1_5 (((cfgM hO).slots t 5).cast nbuf1_5))
        (spec1_6.stage ((cfgM hO).slots t 6)) (hstage1_6 (((cfgM hO).slots t 6).cast nbuf1_6)) from by
    unfold defs₀; rw [Defs.onTc_tc]]
  unfold shell
  iintro ⟨HΦ, Ho, H0, H1, H2, H3, H4, H5, ⟨%X, -, H6⟩⟩
  iapply (run c (grid1.coords t) _ (hstage1_0 (((cfgM hO).slots t 0).cast nbuf1_0)) _ (hstage1_1 (((cfgM hO).slots t 1).cast nbuf1_1)) _ (hstage1_2 (((cfgM hO).slots t 2).cast nbuf1_2)) _ (hstage1_3 (((cfgM hO).slots t 3).cast nbuf1_3)) _ (hstage1_4 (((cfgM hO).slots t 4).cast nbuf1_4)) _ (hstage1_5 (((cfgM hO).slots t 5).cast nbuf1_5)) _ (hstage1_6 (((cfgM hO).slots t 6).cast nbuf1_6))
    (blk x hO c 0 t) (blk x hO c 1 t) (blk x hO c 2 t) (blk x hO c 3 t) (blk x hO c 4 t) (blk x hO c 5 t) Set.univ _)
  unfold held
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexists _; iexact H6
  iintro ⟨⟨H0, H1, H2, H3, H4, H5⟩, ⟨%X', %hX, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists X'
  isplitr; · ipureintro; exact hX
  iexact H6

/-- The relational proof data of the pipeline. -/
abbrev rdat (c : Dev nD) : Pipeline.RDat τ (Elt F) Unit ℕ UU ℕ (cfgM hO) c :=
  (dat x hO c).toRRel marked (Rel x hO c)

theorem body_obligation (c : Dev nD) :
    Pipeline.BodyObligationRel (dat (F := F) x hO c) (defs₀ (F := F)) Variants.none () Set.univ marked (Rel x hO c) := fun t => by
  rw [bigSep_W1, bigSep_W1]
  refine triple_restated (sound x hO c t) rfl ?_ fun _ => .rfl
  refine (show _ ⊢ iprop((Pipeline.ΦA spec1 c ∗ Pipeline.prefHeld pre1 c (fun _ => fullShare) tb) ∗ (dat x hO c).owesAt () t.castSucc
    ∗ (∃ d, owns (c : Thread nD τ) (spec1_0.stage ((cfgM hO).slots t 0)) fullShare ((dat x hO c).before 0 t d))
    ∗ (∃ d, owns (c : Thread nD τ) (spec1_1.stage ((cfgM hO).slots t 1)) fullShare ((dat x hO c).before 1 t d))
    ∗ (∃ d, owns (c : Thread nD τ) (spec1_2.stage ((cfgM hO).slots t 2)) fullShare ((dat x hO c).before 2 t d))
    ∗ (∃ d, owns (c : Thread nD τ) (spec1_3.stage ((cfgM hO).slots t 3)) fullShare ((dat x hO c).before 3 t d))
    ∗ (∃ d, owns (c : Thread nD τ) (spec1_4.stage ((cfgM hO).slots t 4)) fullShare ((dat x hO c).before 4 t d))
    ∗ (∃ d, owns (c : Thread nD τ) (spec1_5.stage ((cfgM hO).slots t 5)) fullShare ((dat x hO c).before 5 t d))
    ∗ (∃ Y, ⌜(rdat x hO c).Finds 6 t Y⌝ ∗ owns (c : Thread nD τ) (spec1_6.stage ((cfgM hO).slots t 6)) fullShare Y)) from .rfl).trans ?_
  unfold shell
  iintro ⟨HΦ, Ho, ⟨%d0, H0⟩, ⟨%d1, H1⟩, ⟨%d2, H2⟩, ⟨%d3, H3⟩, ⟨%d4, H4⟩, ⟨%d5, H5⟩, ⟨%Y, -, H6⟩⟩
  rw [before_0 x hO c t d0, before_1 x hO c t d1, before_2 x hO c t d2, before_3 x hO c t d3, before_4 x hO c t d4, before_5 x hO c t d5]
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists Y
  isplitr; · ipureintro; trivial
  iexact H6

/-- The output window is written back at every row. -/
theorem flush_out (t : Fin (cfgM hO).N) : ((cfgM hO).win 6).flush t = true :=
  (Pipeline.Window.flushOf_reads cc1_transform_6 reads1_6 hreads1_6 0 (by decide) (by decide)
    (Pipeline.Window.sep_of_coord cc1_transform_6 0 0 (fun _ => rfl) (by decide)) (P := 1) (m := 0) (by decide) rfl t).mpr (Nat.mod_one _)

theorem coords_val : ∀ t : Fin grid1.N, (grid1.coords t 0).val = t.val := by decide

/-- Row `t`'s output block is block `t` of the result. -/
theorem index_out (t : Fin (cfgM hO).N) : ((cfgM hO).win 6).index t = (![t.val, 0, 0] : Fin 3 → ℕ) :=
  (by decide : ∀ t : Fin grid1.N, cc1_transform_6 (grid1.coords t) = ![t.val, 0, 0]) t

theorem disjoint_out (t t' : Fin (cfgM hO).N) (h : t ≠ t') :
    Disjoint (((cfgM hO).win 6).blk t).view.set (((cfgM hO).win 6).blk t').view.set :=
  ((cfgM hO).win 6).disjoint_blk fun e => h (Fin.ext (by
    rw [index_out, index_out] at e
    exact congrFun e 0))

/-- Row `t` of what the pipeline leaves its output array at. -/
theorem out_read (c : Dev nD) (A : (w : Fin (cfgM hO).W) → Buf (Elt F) (((cfgM hO).win w).arr.view.loc (c.tc : Thread nD τ)))
    (h : ∀ w, (rdat x hO c).ArrAt w (cfgM hO).N (A w)) (t : Fin (cfgM hO).N) (y : S1x1x1000.Idx) (i : S64x1x1000.Idx)
    (hi0 : (i 0).val = t.val) (hi1 : (i 1).val = (y 1).val) (hi2 : (i 2).val = (y 2).val) :
    (A 6 : S64x1x1000.Idx → Elt F .f32) i
      = logits (blk x hO c 0 t) (blk x hO c 1 t) (blk x hO c 2 t) (blk x hO c 3 t) (blk x hO c 4 t) (blk x hO c 5 t) y := by
  obtain ⟨after, hL, hA⟩ := Pipeline.RDat.ArrAt.exists_exact_all h
  have hX : Out x hO c t (after 6 t) := (dat x hO c).toRRel_leaves (w := 6) rfl (hL 6 t t.isLt (flush_out hO t))
  have e := ((rdat x hO c).withAfter after).arrAt_emb_eq_flushed 6 (fun t t' _ _ hne => disjoint_out hO t t' hne) t (flush_out hO t) y
  rw [← hA 6] at e
  have hi : (((cfgM hO).win 6).blk t).view.emb y = i := by
    funext a
    refine Fin.ext ((((cfgM hO).win 6).rect_emb_val t y a rfl).trans ?_)
    rw [index_out]
    have hy : (y 0).val < 1 := (y 0).isLt
    fin_cases a
    · show t.val * 1 + (y 0).val = (i 0).val
      omega
    · show 0 * 1 + (y 1).val = (i 1).val
      omega
    · show 0 * 1000 + (y 2).val = (i 2).val
      omega
  rw [hi] at e
  exact e.trans (congrFun hX y)

end Cert.LastHopIdeal.Final

end
-- ==== Proof.LastHopIdeal.Launch.lean ====
/-
  The launch. Seventeen stretches of host operations make the parameters, the routing tables and the weights; then the expert pipeline runs
  over the 38 chunks, then the last pipeline over the 64 rows; one host operation gives the result its shape. What the expert pipeline leaves
  in the slots of a chunk that is not active is not known, so the state after it names its output array as some contents of which the active
  chunks' slots are known (`Known`).
-/
module

public import proofs.«01_k».proof.Proof.LastHop.Seg
public import proofs.«01_k».proof.Proof.LastHopIdeal.Region0
public import proofs.«01_k».proof.Proof.LastHopIdeal.Final
public import proofs.«01_k».proof.Proof.Gen.LastHopIdeal.Regions
public import Idealize.ShloMosaic.Lib.HostLoop.Lifted
public import Idealize.ShloMosaic.Lib.HostLoop.Plain

@[expose] public section

set_option maxRecDepth 16384

noncomputable section

namespace Cert.LastHopIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg RDat CSeg Ticket ucRefs withArrays)
open Cert.LastHopIdeal.Gen
open Cert.LastHopIdeal.Slots (UU)
open Cert.Regions (rest region region_post)

variable {F : FTy → Type} [FloatOps F] [Named F]

local notation "𝕄" => MT nD τ sig Unit (Elt F) ℕ UU ℕ

variable (m : (ℓ : Loc nD τ sig) → Buf (Elt F) ℓ) (ρ : Dev nD → PrngReg)

/-- The last pipeline's two tables when it is entered: the expert pipeline writes neither. -/
def tbl1 : pre1.Contents (Elt F) := fun j => V17 m (0 : Dev nD) (Proc.devRef .tc (pre1.ref j))

/-- The blocks that the tables pick lie inside their arrays, in both pipelines. -/
structure Ok : Prop where
  chunks : Slots.Ok (V17 m)
  rows : ok1 (F := F) (tbl1 m)

variable (hO : Ok m)

/-- The tables' contents, pipeline by pipeline. -/
abbrev adm : (p : Fin 2) → (pcfgs (F := F) p).Adm
  | 0 => Slots.adm (V17 m) hO.chunks
  | 1 => Final.adm hO.rows

/-- The proof data with the last pipeline entered at the expert pipeline's results `o`. -/
abbrev rd (o : Outs (F := F)) : (p : Fin 2) → (c : Dev nD) → RDat τ (Elt F) Unit ℕ UU ℕ (Pipeline.pin (pcfgs (F := F)) (adm m hO) p) c
  | 0, c => Slots.rdat (V17 m) hO.chunks c
  | 1, c => Final.rdat (V18 m o) hO.rows c

abbrev dats : (p : Fin 2) → (c : Dev nD) → Dat τ (Elt F) Unit ℕ UU ℕ (Pipeline.pin (pcfgs (F := F)) (adm m hO) p) c
  | 0, c => Slots.dat (V17 m) hO.chunks c
  | 1, c => Final.dat (V17 m) hO.rows c

/-- Each pipeline is entered once, with its own copy of the ghost state. -/
abbrev tk : Fin 2 → Ticket (Ix := Unit) (Name := ℕ) (U := UU) (Lvl := ℕ) (nD := nD) (τ := τ) (pcfgs (F := F)) (adm m hO) := fun j =>
  { p := j, pdats := dats m hO, EP := embAt j }

abbrev L : GSem nD τ sig → Finset Unit := fun _ => ∅
abbrev lv : GSem nD τ sig → Unit → ℕ := fun _ _ => 0
abbrev loops : Fin 0 → Prog (TpuEff nD τ sig (Elt F) (HostLoop.Sig (Pipeline.Sig Λ₀ (Fin 2) fun p => (pcfgs (F := F) p).Adm) 0) .tc) PUnit := fun l => l.elim0

theorem tables0 (c : Dev nD) (k : Fin 3) : (Slots.adm (V17 m) hO.chunks).1 k = V17 m c (Proc.devRef .tc (pre0.ref k)) := by
  obtain rfl : c = 0 := Subsingleton.elim (α := Fin 1) _ _
  rfl

theorem tables1 (o : Outs (F := F)) (c : Dev nD) (k : Fin 2) : (Final.adm hO.rows).1 k = V18 m o c (Proc.devRef .tc (pre1.ref k)) := by
  obtain rfl : c = 0 := Subsingleton.elim (α := Fin 1) _ _
  exact (V18_of m o 0 (pre1.ref k) ((by decide : ∀ k : Fin 2, pre1.ref k ∉ ([main_v112] : List (Ref sig .tc))) k)).symm

/-- The expert pipeline's record. -/
def seg0 (o : Outs (F := F)) : RDat.RegionSeg (pcfgs (F := F)) (adm m hO) (rd m hO o) () defs₀ Variants.none L lv 0 :=
  region (pcfgs (F := F)) (adm m hO) (rd m hO o) defs₀ Variants.none L lv 0 launch₀0
    (fun c => (Slots.body_obligation (V17 m) hO.chunks c).toRRel) (fun _ _ _ => rfl) (fun _ _ => rfl) (fun _ => rfl) (V17 m)
    (fun c w => Slots.A_eq (V17 m) hO.chunks c w) (tables0 m hO) (fun _ => .rfl) (fun _ => .rfl)

/-- The last pipeline's record, entered at the results `o`. -/
def seg1 (o : Outs (F := F)) : RDat.RegionSeg (pcfgs (F := F)) (adm m hO) (rd m hO o) () defs₀ Variants.none L lv 1 :=
  region (pcfgs (F := F)) (adm m hO) (rd m hO o) defs₀ Variants.none L lv 1 launch₀1
    (fun c => (Final.body_obligation (V18 m o) hO.rows c).toRRel) (fun _ _ _ => rfl) (fun _ _ => rfl) (fun _ => rfl) (V18 m o)
    (fun c w => Final.A_eq (V18 m o) hO.rows c w) (tables1 m hO o) (fun _ => .rfl) (fun _ => .rfl)

/-- What is known of the expert pipeline's output array. -/
def Known0 (o : Outs (F := F)) (c : Dev nD) : Prop :=
  ∃ A : (w : Fin 11) → Buf (Elt F) (((Slots.cfgM (V17 m) hO.chunks).win w).arr.view.loc (c.tc : Thread nD τ)), (∀ w, (Slots.rdat (V17 m) hO.chunks c).ArrAt w (Slots.cfgM (V17 m) hO.chunks).N (A w)) ∧ o 18 main_v112 c = A 10

/-- What is known of both pipelines' output arrays. -/
def Known (o : Outs (F := F)) (c : Dev nD) : Prop :=
  Known0 m hO o c ∧ ∃ A : (w : Fin 7) → Buf (Elt F) (((Final.cfgM hO.rows).win w).arr.view.loc (c.tc : Thread nD τ)), (∀ w, (Final.rdat (V18 m o) hO.rows c).ArrAt w (Final.cfgM hO.rows).N (A w)) ∧ o 19 main_v113 c = A 6

theorem out_only0 : ∀ w : Fin 11, (spec0 w).isOut = true → Pipeline.arrRef spec0 w = main_v112 := by decide
theorem out_only1 : ∀ w : Fin 7, (spec1 w).isOut = true → Pipeline.arrRef spec1 w = main_v113 := by decide

/-- The state after the expert pipeline, from what its record leaves. -/
theorem post0 (o : Outs (F := F)) (c : Dev nD) :
    (seg0 m hO o).post c ⊢ (iprop(∃ o, ⌜Known0 m hO o c⌝ ∗ StableHlo.held (c.tc : Thread nD τ) (ucRefs τ sig) (V18 m o c) ∗ rest c) : sProp 𝕄) := by
  unfold seg0
  refine region_post _ _ _ _ _ _ _ _ _ _ _ _ _ _ _ _ _ _ c _ fun A hA => ?_
  have hout : withArrays spec0 c (V17 m c) A (Proc.devRef .tc main_v112) = A 10 :=
    Cert.Regions.withArrays_out (pcfgs (F := F)) (adm m hO) 0 launch₀0 c (Slots.rdat (V17 m) hO.chunks c) (V17 m c)
      (fun w => Slots.A_eq (V17 m) hO.chunks c w) A hA 10
  have hkept (r : Ref sig .tc) (hr : r ≠ main_v112) : withArrays spec0 c (V17 m c) A (Proc.devRef .tc r) = V17 m c (Proc.devRef .tc r) :=
    Cert.Regions.withArrays_kept (pcfgs (F := F)) (adm m hO) 0 launch₀0 c (Slots.rdat (V17 m) hO.chunks c) (V17 m c)
      (fun w => Slots.A_eq (V17 m) hO.chunks c w) A hA r fun w hw => out_only0 w hw ▸ hr
  refine .trans ?_ (Pipeline.exSel_intro (A := fun o => iprop(StableHlo.held (c.tc : Thread nD τ) (ucRefs τ sig) (V18 m o c) ∗ rest c))
    (sel := fun o => Known0 m hO o c) (fun _ r _ => withArrays spec0 c (V17 m c) A (Proc.devRef .tc r)) ⟨A, hA, hout⟩)
  rw [StableHlo.held_congr (c.tc : Thread nD τ) (Pipeline.eqOn_ucRefs (V := V18 m (fun _ r _ => withArrays spec0 c (V17 m c) A (Proc.devRef .tc r)) c)
    (V' := withArrays spec0 c (V17 m c) A) fun r => by
      by_cases hr : r = main_v112
      · subst hr; exact Function.update_self ..
      · exact (V18_of m _ c r (by simpa using hr)).trans (hkept r hr).symm)]
  exact .rfl

/-- The state after the last pipeline, from what its record leaves. -/
theorem post1 (o : Outs (F := F)) (c : Dev nD) (ho : Known0 m hO o c) :
    (seg1 m hO o).post c ⊢ (iprop(∃ o, ⌜Known m hO o c⌝ ∗ StableHlo.held (c.tc : Thread nD τ) (ucRefs τ sig) (V19 m o c) ∗ rest c) : sProp 𝕄) := by
  unfold seg1
  refine region_post _ _ _ _ _ _ _ _ _ _ _ _ _ _ _ _ _ _ c _ fun A hA => ?_
  have hout : withArrays spec1 c (V18 m o c) A (Proc.devRef .tc main_v113) = A 6 :=
    Cert.Regions.withArrays_out (pcfgs (F := F)) (adm m hO) 1 launch₀1 c (Final.rdat (V18 m o) hO.rows c) (V18 m o c)
      (fun w => Final.A_eq (V18 m o) hO.rows c w) A hA 6
  have hkept (r : Ref sig .tc) (hr : r ≠ main_v113) : withArrays spec1 c (V18 m o c) A (Proc.devRef .tc r) = V18 m o c (Proc.devRef .tc r) :=
    Cert.Regions.withArrays_kept (pcfgs (F := F)) (adm m hO) 1 launch₀1 c (Final.rdat (V18 m o) hO.rows c) (V18 m o c)
      (fun w => Final.A_eq (V18 m o) hO.rows c w) A hA r fun w hw => out_only1 w hw ▸ hr
  let o' : Outs (F := F) := fun n r c' => if n = 19 then withArrays spec1 c (V18 m o c) A (Proc.devRef .tc r) else o n r c'
  have e18 : V18 m o' = V18 m o := by
    funext d
    exact congrArg (Function.update (V17 m d) (Proc.devRef .tc main_v112)) (if_neg (by decide) : o' 18 main_v112 d = o 18 main_v112 d)
  have e19 : o' 19 main_v113 c = withArrays spec1 c (V18 m o c) A (Proc.devRef .tc main_v113) := if_pos rfl
  have known : Known m hO o' c := by
    refine ⟨?_, ?_⟩
    · obtain ⟨B, hB, hB'⟩ := ho
      exact ⟨B, hB, (if_neg (by decide) : o' 18 main_v112 c = o 18 main_v112 c).trans hB'⟩
    · rw [e18]
      exact ⟨A, hA, e19.trans hout⟩
  refine .trans ?_ (Pipeline.exSel_intro (A := fun o => iprop(StableHlo.held (c.tc : Thread nD τ) (ucRefs τ sig) (V19 m o c) ∗ rest c))
    (sel := fun o => Known m hO o c) o' known)
  rw [StableHlo.held_congr (c.tc : Thread nD τ) (Pipeline.eqOn_ucRefs (V := V19 m o' c)
    (V' := withArrays spec1 c (V18 m o c) A) fun r => by
      by_cases hr : r = main_v113
      · subst hr; exact (Function.update_self ..).trans e19
      · exact ((V19_of m _ c r (by simpa using hr)).trans (congrFun (congrFun e18 c) _)).trans (hkept r hr).symm)]
  exact .rfl

/-! ## The segments -/

/-- A stretch of host operations from the buffers at `V`. -/
abbrev host (ops : List (HloOp τ sig (Elt F))) (hs : ops.Forall fun op => op.bufs ⊆ StableHlo.tcRefs τ sig) (hf : ops.Forall fun op => op.fresh = ∅)
    (V : Dev nD → Valuation τ sig (Elt F)) : CSeg (pcfgs (F := F)) (adm m hO) defs₀ Variants.none L lv loops (tk m hO) :=
  CSeg.ofOps (pcfgs (F := F)) (adm m hO) defs₀ Variants.none L lv loops (tk m hO) (ucRefs τ sig) ops
    (fun op h => Pipeline.sub_ucRefs op ((List.forall_iff_forall_mem.mp hs) op h)) (fun op h => (List.forall_iff_forall_mem.mp hf) op h) V rest

def hseg0 : CSeg (pcfgs (F := F)) (adm m hO) defs₀ Variants.none L lv loops (tk m hO) :=
  host m hO hostOps0 hostOps0_sub hostOps0_fresh (V0 m)
def hseg1 : CSeg (pcfgs (F := F)) (adm m hO) defs₀ Variants.none L lv loops (tk m hO) :=
  host m hO hostOps0_1 hostOps0_1_sub hostOps0_1_fresh (V1 m)
def hseg2 : CSeg (pcfgs (F := F)) (adm m hO) defs₀ Variants.none L lv loops (tk m hO) :=
  host m hO hostOps0_2 hostOps0_2_sub hostOps0_2_fresh (V2 m)
def hseg3 : CSeg (pcfgs (F := F)) (adm m hO) defs₀ Variants.none L lv loops (tk m hO) :=
  host m hO hostOps0_3 hostOps0_3_sub hostOps0_3_fresh (V3 m)
def hseg4 : CSeg (pcfgs (F := F)) (adm m hO) defs₀ Variants.none L lv loops (tk m hO) :=
  host m hO hostOps0_4 hostOps0_4_sub hostOps0_4_fresh (V4 m)
def hseg5 : CSeg (pcfgs (F := F)) (adm m hO) defs₀ Variants.none L lv loops (tk m hO) :=
  host m hO hostOps0_5 hostOps0_5_sub hostOps0_5_fresh (V5 m)
def hseg6 : CSeg (pcfgs (F := F)) (adm m hO) defs₀ Variants.none L lv loops (tk m hO) :=
  host m hO hostOps0_6 hostOps0_6_sub hostOps0_6_fresh (V6 m)
def hseg7 : CSeg (pcfgs (F := F)) (adm m hO) defs₀ Variants.none L lv loops (tk m hO) :=
  host m hO hostOps0_7 hostOps0_7_sub hostOps0_7_fresh (V7 m)
def hseg8 : CSeg (pcfgs (F := F)) (adm m hO) defs₀ Variants.none L lv loops (tk m hO) :=
  host m hO hostOps0_8 hostOps0_8_sub hostOps0_8_fresh (V8 m)
def hseg9 : CSeg (pcfgs (F := F)) (adm m hO) defs₀ Variants.none L lv loops (tk m hO) :=
  host m hO hostOps0_9 hostOps0_9_sub hostOps0_9_fresh (V9 m)
def hseg10 : CSeg (pcfgs (F := F)) (adm m hO) defs₀ Variants.none L lv loops (tk m hO) :=
  host m hO hostOps0_10 hostOps0_10_sub hostOps0_10_fresh (V10 m)
def hseg11 : CSeg (pcfgs (F := F)) (adm m hO) defs₀ Variants.none L lv loops (tk m hO) :=
  host m hO hostOps0_11 hostOps0_11_sub hostOps0_11_fresh (V11 m)
def hseg12 : CSeg (pcfgs (F := F)) (adm m hO) defs₀ Variants.none L lv loops (tk m hO) :=
  host m hO hostOps0_12 hostOps0_12_sub hostOps0_12_fresh (V12 m)
def hseg13 : CSeg (pcfgs (F := F)) (adm m hO) defs₀ Variants.none L lv loops (tk m hO) :=
  host m hO hostOps0_13 hostOps0_13_sub hostOps0_13_fresh (V13 m)
def hseg14 : CSeg (pcfgs (F := F)) (adm m hO) defs₀ Variants.none L lv loops (tk m hO) :=
  host m hO hostOps0_14 hostOps0_14_sub hostOps0_14_fresh (V14 m)
def hseg15 : CSeg (pcfgs (F := F)) (adm m hO) defs₀ Variants.none L lv loops (tk m hO) :=
  host m hO hostOps0_15 hostOps0_15_sub hostOps0_15_fresh (V15 m)
def hseg16 : CSeg (pcfgs (F := F)) (adm m hO) defs₀ Variants.none L lv loops (tk m hO) :=
  host m hO hostOps0_16 hostOps0_16_sub hostOps0_16_fresh (V16 m)
/-- The expert pipeline. -/
def hseg17 : CSeg (pcfgs (F := F)) (adm m hO) defs₀ Variants.none L lv loops (tk m hO) :=
  CSeg.regionAtR (pcfgs (F := F)) (adm m hO) () (cellOf_inj (adm m hO)) defs₀ Variants.none L lv loops (tk m hO) 0 _ (seg0 m hO fun _ r c => V17 m c r)
/-- The last pipeline, from whatever the expert pipeline left. -/
def hseg18 : CSeg (pcfgs (F := F)) (adm m hO) defs₀ Variants.none L lv loops (tk m hO) :=
  CSeg.regionFR (pcfgs (F := F)) (adm m hO) () (cellOf_inj (adm m hO)) defs₀ Variants.none L lv loops (tk m hO) 1 (rd m hO) (seg1 m hO) (Known0 m hO)
/-- The last operation, from whatever the two pipelines left. -/
def hseg19 : CSeg (pcfgs (F := F)) (adm m hO) defs₀ Variants.none L lv loops (tk m hO) :=
  CSeg.exSel (Known m hO) (fun o => host m hO hostOps2 hostOps2_sub hostOps2_fresh (V19 m o)) (StableHlo.seq hostOps2) (fun _ => rfl) 0 (fun _ => le_rfl) ∅ (fun _ => rfl)

abbrev segs : List (CSeg (pcfgs (F := F)) (adm m hO) defs₀ Variants.none L lv loops (tk m hO)) :=
  [hseg0 m hO, hseg1 m hO, hseg2 m hO, hseg3 m hO, hseg4 m hO, hseg5 m hO, hseg6 m hO, hseg7 m hO, hseg8 m hO, hseg9 m hO, hseg10 m hO, hseg11 m hO, hseg12 m hO, hseg13 m hO, hseg14 m hO, hseg15 m hO, hseg16 m hO, hseg17 m hO, hseg18 m hO, hseg19 m hO]

theorem main_lift (c : Dev nD) : HostLoop.liftProg (L := 0) (main (F := F) c) = CSeg.runL (segs m hO) := by
  rw [main_chain, HostLoop.liftProg_chain]
  simp only [List.map_cons, List.map_nil, HostLoop.liftProg_seq]
  rfl

theorem disjoint : (segs m hO).Pairwise fun s s' => Disjoint s.T s'.T := by
  have e (i j : Fin 2) (h : i ≠ j) : Disjoint ({i} : Finset (Fin 2)) {j} := by simpa using h
  repeat' first
    | exact List.Pairwise.nil
    | refine List.Pairwise.cons ?_ ?_
    | refine List.forall_mem_cons.mpr ⟨?_, ?_⟩
    | exact fun _ h => absurd h List.not_mem_nil
    | exact Finset.disjoint_empty_left _
    | exact Finset.disjoint_empty_right _
    | exact e 0 1 (by decide)

/-- The last thread state: every buffer at the contents after the last operation, for some results of the two pipelines of which `Known` holds. -/
abbrev Tₙ (c : Dev nD) : sProp 𝕄 := iprop(∃ o, ⌜Known m hO o c⌝ ∗ StableHlo.held (c.tc : Thread nD τ) (ucRefs τ sig) (V20 m o c))

theorem chains : CSeg.Chains
    (fun c => iprop(StableHlo.held (c.tc : Thread nD τ) (ucRefs τ sig) (V0 m c) ∗ rest c)) (segs m hO)
    (fun c => iprop(Tₙ m hO c ∗ ∃ W, owes (c.tc : Thread nD τ) (0 : CellTallies nD τ sig Unit) W)) :=
  ⟨fun _ => .rfl, fun _ => .rfl, fun _ => .rfl, fun _ => .rfl, fun _ => .rfl, fun _ => .rfl, fun _ => .rfl, fun _ => .rfl, fun _ => .rfl,
    fun _ => .rfl, fun _ => .rfl, fun _ => .rfl, fun _ => .rfl, fun _ => .rfl, fun _ => .rfl, fun _ => .rfl, fun _ => .rfl, fun _ => .rfl,
    fun c => post0 m hO _ c,
    fun c => Pipeline.exSel_elim fun o ho => post1 m hO o c ho,
    fun c => by
      show iprop(∃ o, ⌜Known m hO o c⌝ ∗ StableHlo.held (c.tc : Thread nD τ) (ucRefs τ sig) (V20 m o c) ∗ rest c) ⊢ _
      iintro ⟨%o, %ho, Hh, HO, -⟩
      isplitl [Hh]
      · iexists o
        isplitr; · ipureintro; exact ho
        iexact Hh
      iexact HO⟩

set_option backward.isDefEq.respectTransparency.types false in
/-- The run: every execution ends with every buffer as the operations and the two pipelines leave it, and every semaphore counter at zero. -/
theorem run_main : θ_run defs (onTc (τ := τ) (main (F := F))) ⟨m, fun _ => 0, ρ⟩
    (fun r => (∀ c : Dev nD, ∃ o, Known m hO o c ∧ ∀ b ∈ ucRefs τ sig, r.2.mem ((c : Thread nD τ).1, b) = V20 m o c b) ∧ r.2.sem = fun _ => 0) := by
  refine HostLoop.θ_run_of_lift loops defs main _ _ ?_
  refine Pipeline.θ_run_regions_loop_kit_sems (pcfgs (F := F)) (adm m hO) (cellOf_inj (adm m hO)) defs₀ Variants.none L lv loops (tk m hO) m ρ
    (fun d => HostLoop.liftProg (L := 0) (main (F := F) d)) (segs m hO)
    (fun c Q => by rw [main_lift m hO c]) (disjoint m hO)
    (O₀ := fun _ => 0) (hL := fun _ _ => rfl) (G := fun _ => BI.emp)
    (u₀ := ((fun _ => initOf (Pipeline.cells (Pipeline.pin (pcfgs (F := F)) (adm m hO)) (cellOf_inj (adm m hO)))
      (Pipeline.launchToks (Pipeline.pin (pcfgs (F := F)) (adm m hO)) (cellOf_inj (adm m hO))) : IProdConst (Fin 2) (UR sig nD τ)), (1 : UR sig nD τ)))
    (hu₀ := ?_)
    (T₀ := fun c => iprop(StableHlo.held (c.tc : Thread nD τ) (ucRefs τ sig) (V0 m c) ∗ rest c)) (Tₙ := Tₙ m hO)
    (hch := chains m hO) (hinit := ?_)
    (QY := fun c s => ∃ o, Known m hO o c ∧ ∀ b ∈ ucRefs τ sig, s.mem ((c : Thread nD τ).1, b) = V20 m o c b)
    (hfin := fun c s' => ?_) (hQ := fun _ h hz => ⟨h, funext fun g => hz g (.inr (regions_no_unscoped g.2))⟩)
  · iintro Hu
    ihave H := (ownU_pair _ _) $$ Hu
    icases H with ⟨HX, -⟩
    imodintro
    isplitl [HX]
    · iapply (own_iprod _); iexact HX
    · rw [show (Finset.univ : Finset (Dev nD)) = {0} from rfl, BI.bigSep_singleton]
      iempintro
  · refine Pipeline.initEach L lv fun c => ?_
    rw [show unscopedBufs c (fun b => m ((c : Thread nD τ).loc b)) = StableHlo.held (c : Thread nD τ) (ucRefs τ sig) (V0 m c) from Pipeline.unscopedBufs_held c (V0 m c)]
    iintro ⟨⟨Hh, -, HO, -, Hp, -⟩, -⟩
    imodintro
    isplitl [Hh]; · iexact Hh
    isplitl [HO]; · iexists ∅; iexact HO
    iexists _; iexact Hp
  · show iprop((∃ o, ⌜Known m hO o c⌝ ∗ StableHlo.held (c.tc : Thread nD τ) (ucRefs τ sig) (V20 m o c)) ∗ SI s') ⊢ _
    unfold StableHlo.held
    iintro ⟨⟨%o, %ho, Hh⟩, HSI⟩
    ihave Hr := (pointsTo_read_all (ucRefs τ sig) (fun b => ((c : Thread nD τ).1, b)) (V20 m o c) s') $$ [Hh HSI]
    · isplitl [Hh] <;> iassumption
    icases Hr with ⟨%h, HSI⟩
    imodintro
    isplitr
    · ipureintro; exact ⟨o, ho, h⟩
    iexact HSI

end Cert.LastHopIdeal.Launch

end
-- ==== Proof.LastHopIdeal.Host.lean ====
module

public import proofs.«01_k».proof.Proof.LastHopIdeal.Launch
public import proofs.«01_k».proof.Proof.LastHop.Route
public import Idealize.ShloMosaic.Lib.Pointwise

/-!
  What the host operations leave before the first pipeline starts, value by value. Every buffer is written once, so each
  operation's equation holds of the buffers as they stand when all have run.
-/

@[expose] public section

set_option maxRecDepth 16384

noncomputable section

namespace Cert.LastHopIdeal.Host

open Idealize.ShloMosaic Idealize.ShloMosaic.TcCoe Idealize.ShloMosaic.Tactic Idealize.ShloMosaic.ValueIdx Idealize.ShloMosaic.Routing
open Cert.LastHopIdeal.Gen Cert.Plan

variable {F : FTy → Type} [FloatOps F] [Named F]

section Stretches
variable (W : Valuation τ sig (Elt F))

theorem s26 : StableHlo.after hostOps0_1 W main_v26 = (Host.sort2 S128 0 comparator_i32_i32_d0 (W main_v25) (iotaInDim S128 32 0)).2 := by
  simp only [hostOps0_1, StableHlo.TRef.binary, StableHlo.TRef.nullary, StableHlo.TRef.ternary, StableHlo.TRef.unary, StableHlo.TRef.toBuf, StableHlo.TRef.ofBuf, cast_eq]
  after_results_simp <;> rfl

theorem sc : StableHlo.after hostOps0_2 W main_c = constantI S_ 32 2#32 := by
  after_results; try rfl

theorem s27 : StableHlo.after hostOps0_3 W main_v27 = pyDiv bcast_S_S128 (W main_v26) (W main_c) := by
  simp only [hostOps0_3, StableHlo.TRef.binary, StableHlo.TRef.nullary, StableHlo.TRef.ternary, StableHlo.TRef.unary, StableHlo.TRef.toBuf, StableHlo.TRef.ofBuf, cast_eq]
  after_results_simp <;> rfl

theorem s34 : StableHlo.after hostOps0_4 W main_v34
    = Host.gather gather_S128_S128x1_S128_n_0_n_n_0_1_1 (W main_v25) (wrapCol bcast_S_S128 bcast_S128_S128x1_0 128#32 (W main_v26)) := by
  after_results; try rfl
theorem s35 : StableHlo.after hostOps0_4 W main_v35 = fill bcast_S_S8 0#32 := by
  after_results; try rfl
theorem sc_7 : StableHlo.after hostOps0_4 W main_c_7 = constantI S_ 32 0#32 := by
  after_results; try rfl

theorem s36 : StableHlo.after hostOps0_5 W main_v36 = maxsi (broadcastInDim S128 ![] bcast_S_S128 (W main_c_7)) (W main_v25) := by
  simp only [hostOps0_5, StableHlo.TRef.binary, StableHlo.TRef.nullary, StableHlo.TRef.ternary, StableHlo.TRef.unary, StableHlo.TRef.toBuf, StableHlo.TRef.ofBuf, cast_eq]
  after_results_simp <;> rfl

theorem s44 : StableHlo.after hostOps0_6 W main_v44
    = Host.scatter scatter_S8_S128x1_S128_n_0_0_1 IntOp.addi (W main_v35) (wrapCol bcast_S_S128 bcast_S128_S128x1_0 8#32 (W main_v36))
      (fill bcast_S_S128 1#32) := by
  after_results; try rfl
theorem s48 : StableHlo.after hostOps0_6 W main_v48
    = subi (addi (StableHlo.after hostOps0_6 W main_v44) (fill bcast_S_S8 4#32)) (fill bcast_S_S8 1#32) := by
  rw [s44]
  after_results; try rfl
theorem sc_13 : StableHlo.after hostOps0_6 W main_c_13 = constantI S_ 32 4#32 := by
  after_results; try rfl

theorem s49 : StableHlo.after hostOps0_7 W main_v49 = pyDiv bcast_S_S8 (W main_v48) (W main_c_13) := by
  simp only [hostOps0_7, StableHlo.TRef.binary, StableHlo.TRef.nullary, StableHlo.TRef.ternary, StableHlo.TRef.unary, StableHlo.TRef.toBuf, StableHlo.TRef.ofBuf, cast_eq]
  after_results_simp <;> rfl

theorem s51 : StableHlo.after hostOps0_8 W main_v51 = muli (W main_v49) (fill bcast_S_S8 4#32) := by
  after_results; try rfl

theorem s52 : StableHlo.after hostOps0_9 W main_v52
    = Host.reduceWindow IntOp.addi ![8] ![1] ![7] ![0] (W main_v51) (fill bcast_S_S_ 0#32) reduceWindows_S8_S8_w8s1p7_0 h_S_ := by
  simp only [hostOps0_9, StableHlo.TRef.binary, StableHlo.TRef.nullary, StableHlo.TRef.ternary, StableHlo.TRef.unary, StableHlo.TRef.toBuf, StableHlo.TRef.ofBuf, cast_eq]
  after_results_simp <;> rfl

theorem s53 : StableHlo.after hostOps0_10 W main_v53 = subi (W main_v52) (W main_v51) := by
  after_results; try rfl

theorem s54 : StableHlo.after hostOps0_11 W main_v54
    = Host.reduceWindow IntOp.addi ![8] ![1] ![7] ![0] (W main_v44) (fill bcast_S_S_ 0#32) reduceWindows_S8_S8_w8s1p7_0 h_S_ := by
  simp only [hostOps0_11, StableHlo.TRef.binary, StableHlo.TRef.nullary, StableHlo.TRef.ternary, StableHlo.TRef.unary, StableHlo.TRef.toBuf, StableHlo.TRef.ofBuf, cast_eq]
  after_results_simp <;> rfl

theorem s72 : StableHlo.after hostOps0_12 W main_v72
    = addi (Host.gather gather_S8_S128x1_S128_n_0_n_n_0_1_1 (W main_v53) (wrapCol bcast_S_S128 bcast_S128_S128x1_0 8#32 (W main_v34)))
      (subi (iotaInDim S128 32 0) (Host.gather gather_S8_S128x1_S128_n_0_n_n_0_1_1 (subi (W main_v54) (W main_v44))
        (wrapCol bcast_S_S128 bcast_S128_S128x1_0 8#32 (W main_v34)))) := by
  after_results; try rfl
theorem s80 : StableHlo.after hostOps0_12 W main_v80
    = Host.scatter scatter_S152_S128x1_S128_n_0_0_1 (fun _ b => b) (fill bcast_S_S152 0#32)
      (wrapCol bcast_S_S128 bcast_S128_S128x1_0 152#32 (StableHlo.after hostOps0_12 W main_v72)) (W main_v27) := by
  rw [s72]
  after_results; try rfl
theorem sc_22 : StableHlo.after hostOps0_12 W main_c_22 = constantI S_ 32 4#32 := by
  after_results; try rfl

theorem s81 : StableHlo.after hostOps0_13 W main_v81 = pyDiv bcast_S_S8 (W main_v52) (W main_c_22) := by
  simp only [hostOps0_13, StableHlo.TRef.binary, StableHlo.TRef.nullary, StableHlo.TRef.ternary, StableHlo.TRef.unary, StableHlo.TRef.toBuf, StableHlo.TRef.ofBuf, cast_eq]
  after_results_simp <;> rfl

theorem s82 : StableHlo.after hostOps0_14 W main_v82 = iotaInDim S38 32 0 := by
  after_results; try rfl
theorem s89 : StableHlo.after hostOps0_14 W main_v89 = Host.reduce IntOp.addi (extui 32 (cmpi .sle
    (broadcastInDim S38x8 ![0, 1] bcast_S1x8_S38x8_0_1 (broadcastInDim S1x8 ![1] bcast_S8_S1x8_1 (W main_v81)))
    (broadcastInDim S38x8 ![0, 1] bcast_S38x1_S38x8_0_1 (broadcastInDim S38x1 ![0] bcast_S38_S38x1_0 (iotaInDim S38 32 0)))) natLt_1_32)
    (constantI S_ 32 0#32) reducesTo_S38x8_S38_d1 h_S_ := by
  after_results; try rfl
theorem sc_24 : StableHlo.after hostOps0_14 W main_c_24 = constantI S_ 32 0#32 := by
  after_results; try rfl
theorem sc_25 : StableHlo.after hostOps0_14 W main_c_25 = constantI S_ 32 7#32 := by
  after_results; try rfl

theorem s90 : StableHlo.after hostOps0_15 W main_v90 = minsi (broadcastInDim S38 ![] bcast_S_S38 (W main_c_25))
    (maxsi (broadcastInDim S38 ![] bcast_S_S38 (W main_c_24)) (W main_v89)) := by
  simp only [hostOps0_15, StableHlo.TRef.binary, StableHlo.TRef.nullary, StableHlo.TRef.ternary, StableHlo.TRef.unary, StableHlo.TRef.toBuf, StableHlo.TRef.ofBuf, cast_eq]
  after_results_simp <;> rfl

theorem s95 : StableHlo.after hostOps0_16 W main_v95 = extui 32 (cmpi .slt (W main_v82)
    (broadcastInDim S38 ![] bcast_S_S38 (shapeCast S_ (extractStridedSlice S1 ![7] (W main_v81) slices_S8_S1_7) shapeCasts_S1_S_))) natLt_1_32 := by
  after_results; try rfl
theorem s103 : StableHlo.after hostOps0_16 W main_v103
    = Host.scatter scatter_S128_S128x1_S128_n_0_0_1 (fun _ b => b) (fill bcast_S_S128 0#32)
      (wrapCol bcast_S_S128 bcast_S128_S128x1_0 128#32 (W main_v26)) (W main_v72) := by
  after_results; try rfl
theorem s104 : StableHlo.after hostOps0_16 W main_v104 = Host.slice S64 ![0] ![2] (StableHlo.after hostOps0_16 W main_v103) slicesBy_S128_S64_0s2 := by
  rw [s103]
  after_results; try rfl
theorem s105 : StableHlo.after hostOps0_16 W main_v105 = Host.slice S64 ![1] ![2] (StableHlo.after hostOps0_16 W main_v103) slicesBy_S128_S64_1s2 := by
  rw [s103]
  after_results; try rfl
theorem s108 : StableHlo.after hostOps0_16 W main_v108
    = shapeCast S64x1x1 (shapeCast S64 (extractStridedSlice S64x1 ![0, 0] (W main_v24) slices_S64x2_S64x1_0_0) shapeCasts_S64x1_S64) shapeCasts_S64_S64x1x1 := by
  after_results; try rfl
theorem s111 : StableHlo.after hostOps0_16 W main_v111
    = shapeCast S64x1x1 (shapeCast S64 (extractStridedSlice S64x1 ![0, 1] (W main_v24) slices_S64x2_S64x1_0_1) shapeCasts_S64x1_S64) shapeCasts_S64_S64x1x1 := by
  after_results; try rfl

/-- The probabilities the tokens' scores make. -/
def probs (x : FVec F S64x1x8 .f32) : FVec F S64x8 .f32 :=
  let v7 := shapeCast S64x8 x shapeCasts_S64x1x8_S64x8
  let v10 := maximumf (broadcastInDim S64 ![] bcast_S_S64 (constant S_ .f32 0xFF800000#32))
    (Host.reduce FloatOps.maximumf v7 (constant S_ .f32 0xFF800000#32) reducesTo_S64x8_S64_d1 h_S_)
  let v14 := Host.exp (subf v7 (broadcastInDim S64x8 ![0, 1] bcast_S64x1_S64x8_0_1 (broadcastInDim S64x1 ![0] bcast_S64_S64x1_0 v10)))
  Host.divf v14 (broadcastInDim S64x8 ![0, 1] bcast_S64x1_S64x8_0_1 (broadcastInDim S64x1 ![0] bcast_S64_S64x1_0
    (Host.reduceAdd v14 (constant S_ .f32 0x00000000#32) reducesTo_S64x8_S64_d1 h_S_)))

/-- The two weights of each row, its two largest probabilities over their sum. -/
def weights (v : FVec F S64x2 .f32) : FVec F S64x2 .f32 :=
  Host.divf v (broadcastInDim S64x2 ![0, 1] bcast_S64x1_S64x2_0_1
    (addf (broadcastInDim S64x1 ![0] bcast_S64_S64x1_0 (Host.reduceAdd v (constant S_ .f32 0x00000000#32) reducesTo_S64x2_S64_d1 h_S_))
      (broadcastInDim S64x1 ![] bcast_S_S64x1 (constant S_ .f32 0x358637BD#32))))

theorem s24 : StableHlo.after hostOps0 W main_v24 = weights (Host.topK S64x2 1 (FloatOps.cmpfTotal .gt) (probs (W main_arg1)) sliceFits_S64x8_S64x2).1 := by
  after_results; try rfl
theorem s25 : StableHlo.after hostOps0 W main_v25
    = shapeCast S128 (Host.topK S64x2 1 (FloatOps.cmpfTotal .gt) (probs (W main_arg1)) sliceFits_S64x8_S64x2).2 shapeCasts_S64x2_S128 := by
  after_results; try rfl
theorem s0 : StableHlo.after hostOps0 W main_v0 = shapeCast S8x1x768 (W main_arg2) shapeCasts_S8x768_S8x1x768 := by
  after_results; try rfl
theorem s1 : StableHlo.after hostOps0 W main_v1 = shapeCast S8x1x768 (W main_arg3) shapeCasts_S8x768_S8x1x768 := by
  after_results; try rfl
theorem s3 : StableHlo.after hostOps0 W main_v3
    = (truncf .bf16 (shapeCast S8x1x3072 (W main_arg5) shapeCasts_S8x3072_S8x1x3072) bitsLt_bf16_f32 : FVec F S8x1x3072 .bf16) := by
  after_results; try rfl
theorem s4 : StableHlo.after hostOps0 W main_v4 = shapeCast S8x1x768 (W main_arg7) shapeCasts_S8x768_S8x1x768 := by
  after_results; try rfl
theorem s5 : StableHlo.after hostOps0 W main_v5 = (truncf .bf16 (W main_arg4 : FVec F S8x768x3072 .f32) bitsLt_bf16_f32 : FVec F S8x768x3072 .bf16) := by
  after_results; try rfl
theorem s6 : StableHlo.after hostOps0 W main_v6 = (truncf .bf16 (W main_arg6 : FVec F S8x3072x768 .f32) bitsLt_bf16_f32 : FVec F S8x3072x768 .bf16) := by
  after_results; try rfl
theorem s114 : StableHlo.after hostOps2 W main_v114 = shapeCast S64x1000 (W main_v113) shapeCasts_S64x1x1000_S64x1000 := by
  after_results; try rfl
end Stretches

variable (m : (ℓ : Loc nD τ sig) → Buf (Elt F) ℓ) (c : Dev nD)

/-! ## A buffer that later stretches do not write stands until the pipelines start -/

abbrev L16 : List (Ref sig .tc) := hostOps0_16_W
abbrev L15 : List (Ref sig .tc) := hostOps0_15_W ++ L16
abbrev L14 : List (Ref sig .tc) := hostOps0_14_W ++ L15
abbrev L13 : List (Ref sig .tc) := hostOps0_13_W ++ L14
abbrev L12 : List (Ref sig .tc) := hostOps0_12_W ++ L13
abbrev L11 : List (Ref sig .tc) := hostOps0_11_W ++ L12
abbrev L10 : List (Ref sig .tc) := hostOps0_10_W ++ L11
abbrev L9 : List (Ref sig .tc) := hostOps0_9_W ++ L10
abbrev L8 : List (Ref sig .tc) := hostOps0_8_W ++ L9
abbrev L7 : List (Ref sig .tc) := hostOps0_7_W ++ L8
abbrev L6 : List (Ref sig .tc) := hostOps0_6_W ++ L7
abbrev L5 : List (Ref sig .tc) := hostOps0_5_W ++ L6
abbrev L4 : List (Ref sig .tc) := hostOps0_4_W ++ L5
abbrev L3 : List (Ref sig .tc) := hostOps0_3_W ++ L4
abbrev L2 : List (Ref sig .tc) := hostOps0_2_W ++ L3
abbrev L1 : List (Ref sig .tc) := hostOps0_1_W ++ L2

variable {r : Ref sig .tc}

theorem up16 (h : r ∉ L16) : V17 m c r = V16 m c r := V17_of m c r h
theorem up15 (h : r ∉ L15) : V17 m c r = V15 m c r :=
  (up16 m c (fun hr => h (List.mem_append_right _ hr))).trans (V16_of m c r (fun hr => h (List.mem_append_left _ hr)))
theorem up14 (h : r ∉ L14) : V17 m c r = V14 m c r :=
  (up15 m c (fun hr => h (List.mem_append_right _ hr))).trans (V15_of m c r (fun hr => h (List.mem_append_left _ hr)))
theorem up13 (h : r ∉ L13) : V17 m c r = V13 m c r :=
  (up14 m c (fun hr => h (List.mem_append_right _ hr))).trans (V14_of m c r (fun hr => h (List.mem_append_left _ hr)))
theorem up12 (h : r ∉ L12) : V17 m c r = V12 m c r :=
  (up13 m c (fun hr => h (List.mem_append_right _ hr))).trans (V13_of m c r (fun hr => h (List.mem_append_left _ hr)))
theorem up11 (h : r ∉ L11) : V17 m c r = V11 m c r :=
  (up12 m c (fun hr => h (List.mem_append_right _ hr))).trans (V12_of m c r (fun hr => h (List.mem_append_left _ hr)))
theorem up10 (h : r ∉ L10) : V17 m c r = V10 m c r :=
  (up11 m c (fun hr => h (List.mem_append_right _ hr))).trans (V11_of m c r (fun hr => h (List.mem_append_left _ hr)))
theorem up9 (h : r ∉ L9) : V17 m c r = V9 m c r :=
  (up10 m c (fun hr => h (List.mem_append_right _ hr))).trans (V10_of m c r (fun hr => h (List.mem_append_left _ hr)))
theorem up8 (h : r ∉ L8) : V17 m c r = V8 m c r :=
  (up9 m c (fun hr => h (List.mem_append_right _ hr))).trans (V9_of m c r (fun hr => h (List.mem_append_left _ hr)))
theorem up7 (h : r ∉ L7) : V17 m c r = V7 m c r :=
  (up8 m c (fun hr => h (List.mem_append_right _ hr))).trans (V8_of m c r (fun hr => h (List.mem_append_left _ hr)))
theorem up6 (h : r ∉ L6) : V17 m c r = V6 m c r :=
  (up7 m c (fun hr => h (List.mem_append_right _ hr))).trans (V7_of m c r (fun hr => h (List.mem_append_left _ hr)))
theorem up5 (h : r ∉ L5) : V17 m c r = V5 m c r :=
  (up6 m c (fun hr => h (List.mem_append_right _ hr))).trans (V6_of m c r (fun hr => h (List.mem_append_left _ hr)))
theorem up4 (h : r ∉ L4) : V17 m c r = V4 m c r :=
  (up5 m c (fun hr => h (List.mem_append_right _ hr))).trans (V5_of m c r (fun hr => h (List.mem_append_left _ hr)))
theorem up3 (h : r ∉ L3) : V17 m c r = V3 m c r :=
  (up4 m c (fun hr => h (List.mem_append_right _ hr))).trans (V4_of m c r (fun hr => h (List.mem_append_left _ hr)))
theorem up2 (h : r ∉ L2) : V17 m c r = V2 m c r :=
  (up3 m c (fun hr => h (List.mem_append_right _ hr))).trans (V3_of m c r (fun hr => h (List.mem_append_left _ hr)))
theorem up1 (h : r ∉ L1) : V17 m c r = V1 m c r :=
  (up2 m c (fun hr => h (List.mem_append_right _ hr))).trans (V2_of m c r (fun hr => h (List.mem_append_left _ hr)))

/-! ## The operations' equations, of the buffers as the pipelines find them -/

theorem e26 : V17 m c main_v26 = (Host.sort2 S128 0 comparator_i32_i32_d0 (V17 m c main_v25) (iotaInDim S128 32 0)).2 := by
  rw [up2 m c (r := main_v26) (by decide), up1 m c (r := main_v25) (by decide)]
  exact s26 _
theorem e27 : V17 m c main_v27 = pyDiv bcast_S_S128 (V17 m c main_v26) (constantI S_ 32 2#32) := by
  rw [up4 m c (r := main_v27) (by decide), up3 m c (r := main_v26) (by decide)]
  refine (s27 _).trans ?_
  rw [show V3 m c main_c = _ from sc _]
theorem e34 : V17 m c main_v34 = Host.gather gather_S128_S128x1_S128_n_0_n_n_0_1_1 (V17 m c main_v25)
    (wrapCol bcast_S_S128 bcast_S128_S128x1_0 128#32 (V17 m c main_v26)) := by
  rw [up5 m c (r := main_v34) (by decide), up4 m c (r := main_v26) (by decide), up4 m c (r := main_v25) (by decide)]
  exact s34 _
theorem e36 : V17 m c main_v36 = maxsi (fill bcast_S_S128 0#32) (V17 m c main_v25) := by
  rw [up6 m c (r := main_v36) (by decide), up5 m c (r := main_v25) (by decide)]
  refine (s36 _).trans ?_
  rw [show V5 m c main_c_7 = _ from sc_7 _]
theorem e44 : V17 m c main_v44 = Host.scatter scatter_S8_S128x1_S128_n_0_0_1 IntOp.addi (fill bcast_S_S8 0#32)
    (wrapCol bcast_S_S128 bcast_S128_S128x1_0 8#32 (V17 m c main_v36)) (fill bcast_S_S128 1#32) := by
  rw [up7 m c (r := main_v44) (by decide), up6 m c (r := main_v36) (by decide)]
  refine (s44 _).trans ?_
  rw [V6_of m c main_v35 (by decide), show V5 m c main_v35 = _ from s35 _]
theorem e49 : V17 m c main_v49 = pyDiv bcast_S_S8 (subi (addi (V17 m c main_v44) (fill bcast_S_S8 4#32)) (fill bcast_S_S8 1#32)) (constantI S_ 32 4#32) := by
  rw [up8 m c (r := main_v49) (by decide), up7 m c (r := main_v44) (by decide)]
  refine (s49 _).trans ?_
  rw [show V7 m c main_c_13 = _ from sc_13 _, show V7 m c main_v48 = _ from s48 _]
  rfl
theorem e51 : V17 m c main_v51 = muli (V17 m c main_v49) (fill bcast_S_S8 4#32) := by
  rw [up9 m c (r := main_v51) (by decide), up8 m c (r := main_v49) (by decide)]
  exact s51 _
theorem e52 : V17 m c main_v52
    = Host.reduceWindow IntOp.addi ![8] ![1] ![7] ![0] (V17 m c main_v51) (fill bcast_S_S_ 0#32) reduceWindows_S8_S8_w8s1p7_0 h_S_ := by
  rw [up10 m c (r := main_v52) (by decide), up9 m c (r := main_v51) (by decide)]
  exact s52 _
theorem e53 : V17 m c main_v53 = subi (V17 m c main_v52) (V17 m c main_v51) := by
  rw [up11 m c (r := main_v53) (by decide), up10 m c (r := main_v52) (by decide), up10 m c (r := main_v51) (by decide)]
  exact s53 _
theorem e54 : V17 m c main_v54
    = Host.reduceWindow IntOp.addi ![8] ![1] ![7] ![0] (V17 m c main_v44) (fill bcast_S_S_ 0#32) reduceWindows_S8_S8_w8s1p7_0 h_S_ := by
  rw [up12 m c (r := main_v54) (by decide), up11 m c (r := main_v44) (by decide)]
  exact s54 _
theorem e72 : V17 m c main_v72
    = addi (Host.gather gather_S8_S128x1_S128_n_0_n_n_0_1_1 (subi (V17 m c main_v52) (V17 m c main_v51))
        (wrapCol bcast_S_S128 bcast_S128_S128x1_0 8#32 (V17 m c main_v34)))
      (subi (iotaInDim S128 32 0) (Host.gather gather_S8_S128x1_S128_n_0_n_n_0_1_1 (subi (V17 m c main_v54) (V17 m c main_v44))
        (wrapCol bcast_S_S128 bcast_S128_S128x1_0 8#32 (V17 m c main_v34)))) := by
  rw [← e53, up13 m c (r := main_v72) (by decide), up12 m c (r := main_v53) (by decide), up12 m c (r := main_v54) (by decide),
    up12 m c (r := main_v44) (by decide), up12 m c (r := main_v34) (by decide)]
  exact s72 _
theorem e80 : V17 m c main_v80 = Host.scatter scatter_S152_S128x1_S128_n_0_0_1 (fun _ b => b) (fill bcast_S_S152 0#32)
    (wrapCol bcast_S_S128 bcast_S128_S128x1_0 152#32 (V17 m c main_v72)) (V17 m c main_v27) := by
  rw [up13 m c (r := main_v80) (by decide), up13 m c (r := main_v72) (by decide), up12 m c (r := main_v27) (by decide)]
  exact s80 _
theorem e81 : V17 m c main_v81 = pyDiv bcast_S_S8 (V17 m c main_v52) (constantI S_ 32 4#32) := by
  rw [up14 m c (r := main_v81) (by decide), up13 m c (r := main_v52) (by decide)]
  refine (s81 _).trans ?_
  rw [show V13 m c main_c_22 = _ from sc_22 _]
theorem e90 : V17 m c main_v90 = minsi (fill bcast_S_S38 7#32) (maxsi (fill bcast_S_S38 0#32) (Host.reduce IntOp.addi (extui 32 (cmpi .sle
    (broadcastInDim S38x8 ![0, 1] bcast_S1x8_S38x8_0_1 (broadcastInDim S1x8 ![1] bcast_S8_S1x8_1 (V17 m c main_v81)))
    (broadcastInDim S38x8 ![0, 1] bcast_S38x1_S38x8_0_1 (broadcastInDim S38x1 ![0] bcast_S38_S38x1_0 (iotaInDim S38 32 0)))) natLt_1_32)
    (constantI S_ 32 0#32) reducesTo_S38x8_S38_d1 h_S_)) := by
  rw [up16 m c (r := main_v90) (by decide), up14 m c (r := main_v81) (by decide)]
  refine (s90 _).trans ?_
  rw [show V15 m c main_c_24 = _ from sc_24 _, show V15 m c main_c_25 = _ from sc_25 _, show V15 m c main_v89 = _ from s89 _]
theorem e95 : V17 m c main_v95 = extui 32 (cmpi .slt (iotaInDim S38 32 0)
    (broadcastInDim S38 ![] bcast_S_S38 (shapeCast S_ (extractStridedSlice S1 ![7] (V17 m c main_v81) slices_S8_S1_7) shapeCasts_S1_S_))) natLt_1_32 := by
  rw [up16 m c (r := main_v81) (by decide)]
  refine (s95 _).trans ?_
  rw [V16_of m c main_v82 (by decide), show V15 m c main_v82 = _ from s82 _]
theorem e103 : V17 m c main_v103 = Host.scatter scatter_S128_S128x1_S128_n_0_0_1 (fun _ b => b) (fill bcast_S_S128 0#32)
    (wrapCol bcast_S_S128 bcast_S128_S128x1_0 128#32 (V17 m c main_v26)) (V17 m c main_v72) := by
  rw [up16 m c (r := main_v26) (by decide), up16 m c (r := main_v72) (by decide)]
  exact s103 _
theorem e104 : V17 m c main_v104 = Host.slice S64 ![0] ![2] (V17 m c main_v103) slicesBy_S128_S64_0s2 := s104 _
theorem e105 : V17 m c main_v105 = Host.slice S64 ![1] ![2] (V17 m c main_v103) slicesBy_S128_S64_1s2 := s105 _

/-- The rows' two largest probabilities and where they stand. -/
def top : FVec F S64x2 .f32 × IVec S64x2 32 :=
  Host.topK S64x2 1 (FloatOps.cmpfTotal .gt) (probs (m ((c : Thread nD τ).loc main_arg1))) sliceFits_S64x8_S64x2

theorem e25 : V17 m c main_v25 = shapeCast S128 (top m c).2 shapeCasts_S64x2_S128 := by
  rw [up1 m c (r := main_v25) (by decide)]
  exact s25 _
theorem e24 : V17 m c main_v24 = weights (top m c).1 := by
  rw [up1 m c (r := main_v24) (by decide)]
  exact s24 _
theorem e108 : V17 m c main_v108 = shapeCast S64x1x1 (shapeCast S64
    (extractStridedSlice S64x1 ![0, 0] (weights (top m c).1) slices_S64x2_S64x1_0_0) shapeCasts_S64x1_S64) shapeCasts_S64_S64x1x1 := by
  rw [← e24, up16 m c (r := main_v24) (by decide)]
  exact s108 _
theorem e111 : V17 m c main_v111 = shapeCast S64x1x1 (shapeCast S64
    (extractStridedSlice S64x1 ![0, 1] (weights (top m c).1) slices_S64x2_S64x1_0_1) shapeCasts_S64x1_S64) shapeCasts_S64_S64x1x1 := by
  rw [← e24, up16 m c (r := main_v24) (by decide)]
  exact s111 _

/-! ## The plan -/

theorem words_lt : (∀ p : Fin 152, (V17 m c main_v80 (ValueIdx.ix1 p) : BitVec 32).toNat < 64) ∧ (∀ q : Fin 38, (V17 m c main_v90 (ValueIdx.ix1 q) : BitVec 32).toNat < 8)
    ∧ ∀ b : Fin 64, ∀ k : Fin 2, ∃ g : Fin 8, ∃ p : Fin 152,
      (top m c).1 (ValueIdx.ix2 b k) = probs (m ((c : Thread nD τ).loc main_arg1)) (ValueIdx.ix2 b g) ∧ (top m c).2 (ValueIdx.ix2 b k) = BitVec.ofNat 32 g.val
      ∧ V17 m c main_v103 (ValueIdx.ix1 ⟨2 * b.val + k.val, by omega⟩) = BitVec.ofNat 32 p.val ∧ V17 m c main_v80 (ValueIdx.ix1 p) = BitVec.ofNat 32 b.val
      ∧ V17 m c main_v90 (ValueIdx.ix1 ⟨p.val / 4, by omega⟩) = BitVec.ofNat 32 g.val ∧ V17 m c main_v95 (ValueIdx.ix1 ⟨p.val / 4, by omega⟩) = 1#32 := by
  obtain ⟨I, hI⟩ : ∃ I : Fin 64 → Fin 2 → Fin 8, ∀ b k, (top m c).1 (ValueIdx.ix2 b k) = probs (m ((c : Thread nD τ).loc main_arg1)) (ValueIdx.ix2 b (I b k))
      ∧ (top m c).2 (ValueIdx.ix2 b k) = BitVec.ofNat 32 (I b k).val :=
    ⟨_, fun b k => topK_ap _ _ _ b k⟩
  obtain ⟨h0, h1, h⟩ := routed (fun i => (I ⟨i.val / 2, by omega⟩ ⟨i.val % 2, by omega⟩).val) (fun i => (I _ _).isLt)
    (hdE := ⟨rfl, rfl, rfl, rfl⟩) (hd8 := ⟨rfl, rfl, rfl, rfl⟩) (hdC := ⟨rfl, rfl, rfl⟩) (hdB := ⟨rfl, rfl, rfl⟩) (hdI := ⟨rfl, rfl, rfl⟩)
    (hcmp := fun _ _ => rfl) (e := (V17 m c main_v25 : IVec S128 32))
    (fun i => by
      rw [e25]
      exact (cast21 _ _ ⟨i.val / 2, by omega⟩ ⟨i.val % 2, by omega⟩ i (by show i.val = i.val / 2 * 2 + i.val % 2; omega)).trans (hI _ _).2)
    (e26 m c) (e27 m c) (e34 m c) (e36 m c) (e44 m c) (e49 m c) (e51 m c) (e52 m c) (e54 m c) (e72 m c) (e80 m c) (e81 m c) (e90 m c) (e95 m c) (e103 m c)
  refine ⟨h0, h1, fun b k => ?_⟩
  obtain ⟨p, a1, a2, a3, a4⟩ := h ⟨2 * b.val + k.val, by omega⟩
  have eb : (⟨(2 * b.val + k.val) / 2, by omega⟩ : Fin 64) = b := Fin.ext (by show (2 * b.val + k.val) / 2 = b.val; omega)
  have ek : (⟨(2 * b.val + k.val) % 2, by omega⟩ : Fin 2) = k := Fin.ext (by show (2 * b.val + k.val) % 2 = k.val; omega)
  refine ⟨I b k, p, (hI b k).1, (hI b k).2, a1, a2.trans (congrArg (BitVec.ofNat 32) (congrArg Fin.val eb)), a3.trans ?_, a4⟩
  rw [eb, ek]

end Cert.LastHopIdeal.Host
-- ==== Proof.LastHopIdeal.Tables.lean ====
/-
  The tables' words and the blocks they pick, in both pipelines, and that the words the host computes are in range whatever the launch memory
  holds: so the program runs to its end from every launch.
-/
module

public import proofs.«01_k».proof.Proof.LastHopIdeal.Host
public import proofs.«01_k».proof.Proof.Kernel.Tables

@[expose] public section

set_option maxRecDepth 16384

noncomputable section

namespace Cert.LastHopIdeal.Tables

open Idealize.ShloMosaic Idealize.ShloMosaic.TcCoe
open Idealize.SL.Sem
open Cert.LastHopIdeal.Gen Cert.LastHopIdeal.Slots

variable {F : FTy → Type} [FloatOps F] [Named F]

/-- The index of slot `4 i + r`. -/
def slotIx (i : grid0.Coords) (r : Fin 4) : S152.Idx := fun a =>
  ⟨4 * (i 0).val + r.val, by
    obtain rfl : a = 0 := Subsingleton.elim (α := Fin 1) _ _
    have h : (i 0).val < 38 := (i 0).isLt
    have := r.isLt
    show _ < 152
    omega⟩

/-- The index of chunk `i`. -/
def chunkIx (i : grid0.Coords) : S38.Idx := fun a => (i 0).cast (by obtain rfl : a = 0 := Subsingleton.elim (α := Fin 1) _ _; rfl)

theorem at_slot (pf : pre0.Contents (Elt F)) (i : grid0.Coords) (r : Fin 4) (inb : ∀ a, k0_off1 i (BitVec.ofNat 32 r.val) a + S1.size a ≤ S152.size a)
    (h1 : S1.numel = 1) :
    pf.at 0 (Rect.unit (s := S152) (k0_off1 i (BitVec.ofNat 32 r.val)) S1.size inb) h1 = pf 0 (slotIx i r) := by
  refine congrArg (pf 0) (funext fun (a : Fin 1) => Fin.ext ?_)
  obtain rfl : a = 0 := Subsingleton.elim (α := Fin 1) _ _
  have h0 : (Shape.Idx.first (s := S1) (h1.symm ▸ Nat.one_pos) 0).val < 1 := (Shape.Idx.first (s := S1) _ 0).isLt
  have ho : k0_off1 i (BitVec.ofNat 32 r.val) 0 = 4 * (i 0).val + r.val :=
    (by decide : ∀ (n : Fin 38) (r : Fin 4), (Scalar.indexCast (Scalar.addi (Scalar.muli 4#32 (BitVec.ofNat 32 n.val)) (BitVec.ofNat 32 r.val)) : Index).toNat
      = 4 * n.val + r.val) (i 0) r
  show k0_off1 i (BitVec.ofNat 32 r.val) 0 + 1 * (Shape.Idx.first (s := S1) _ 0).val = 4 * (i 0).val + r.val
  omega

theorem at_chunk (pf : pre0.Contents (Elt F)) (i : grid0.Coords) (inb : ∀ a, k0_off2 i a + S1.size a ≤ S38.size a) (h1 : S1.numel = 1) :
    pf.at 1 (Rect.unit (s := S38) (k0_off2 i) S1.size inb) h1 = pf 1 (chunkIx i) := by
  refine congrArg (pf 1) (funext fun (a : Fin 1) => Fin.ext ?_)
  obtain rfl : a = 0 := Subsingleton.elim (α := Fin 1) _ _
  have h0 : (Shape.Idx.first (s := S1) (h1.symm ▸ Nat.one_pos) 0).val < 1 := (Shape.Idx.first (s := S1) _ 0).isLt
  show k0_off2 i 0 + 1 * (Shape.Idx.first (s := S1) _ 0).val = (i 0).val
  rw [off2_eq]; omega

theorem transform_0 (pf : pre0.Contents (Elt F)) (i : grid0.Coords) :
    cc0_transform_0 k0_off1_inb numel1_S1 pf i = ![(pf 0 (slotIx i 0)).toNat, 0, 0] :=
  congrArg (fun w : BitVec 32 => (![w.toNat, 0, 0] : Fin 3 → ℕ)) (at_slot pf i 0 _ _)
theorem transform_1 (pf : pre0.Contents (Elt F)) (i : grid0.Coords) :
    cc0_transform_1 k0_off1_inb numel1_S1 pf i = ![(pf 0 (slotIx i 1)).toNat, 0, 0] :=
  congrArg (fun w : BitVec 32 => (![w.toNat, 0, 0] : Fin 3 → ℕ)) (at_slot pf i 1 _ _)
theorem transform_2 (pf : pre0.Contents (Elt F)) (i : grid0.Coords) :
    cc0_transform_2 k0_off1_inb numel1_S1 pf i = ![(pf 0 (slotIx i 2)).toNat, 0, 0] :=
  congrArg (fun w : BitVec 32 => (![w.toNat, 0, 0] : Fin 3 → ℕ)) (at_slot pf i 2 _ _)
theorem transform_3 (pf : pre0.Contents (Elt F)) (i : grid0.Coords) :
    cc0_transform_3 k0_off1_inb numel1_S1 pf i = ![(pf 0 (slotIx i 3)).toNat, 0, 0] :=
  congrArg (fun w : BitVec 32 => (![w.toNat, 0, 0] : Fin 3 → ℕ)) (at_slot pf i 3 _ _)
theorem transform_4 (pf : pre0.Contents (Elt F)) (i : grid0.Coords) :
    cc0_transform_4 k0_off2_inb numel1_S1 pf i = ![(pf 1 (chunkIx i)).toNat, 0, 0] :=
  congrArg (fun w : BitVec 32 => (![w.toNat, 0, 0] : Fin 3 → ℕ)) (at_chunk pf i _ _)
theorem transform_5 (pf : pre0.Contents (Elt F)) (i : grid0.Coords) :
    cc0_transform_5 k0_off2_inb numel1_S1 pf i = ![(pf 1 (chunkIx i)).toNat, 0, 0] :=
  congrArg (fun w : BitVec 32 => (![w.toNat, 0, 0] : Fin 3 → ℕ)) (at_chunk pf i _ _)
theorem transform_6 (pf : pre0.Contents (Elt F)) (i : grid0.Coords) :
    cc0_transform_6 k0_off2_inb numel1_S1 pf i = ![(pf 1 (chunkIx i)).toNat, 0, 0] :=
  congrArg (fun w : BitVec 32 => (![w.toNat, 0, 0] : Fin 3 → ℕ)) (at_chunk pf i _ _)
theorem transform_7 (pf : pre0.Contents (Elt F)) (i : grid0.Coords) :
    cc0_transform_7 k0_off2_inb numel1_S1 pf i = ![(pf 1 (chunkIx i)).toNat, 0, 0] :=
  congrArg (fun w : BitVec 32 => (![w.toNat, 0, 0] : Fin 3 → ℕ)) (at_chunk pf i _ _)
theorem transform_8 (pf : pre0.Contents (Elt F)) (i : grid0.Coords) :
    cc0_transform_8 k0_off2_inb numel1_S1 pf i = ![(pf 1 (chunkIx i)).toNat, 0, 0] :=
  congrArg (fun w : BitVec 32 => (![w.toNat, 0, 0] : Fin 3 → ℕ)) (at_chunk pf i _ _)
theorem transform_9 (pf : pre0.Contents (Elt F)) (i : grid0.Coords) :
    cc0_transform_9 k0_off2_inb numel1_S1 pf i = ![(pf 1 (chunkIx i)).toNat, 0, 0] :=
  congrArg (fun w : BitVec 32 => (![w.toNat, 0, 0] : Fin 3 → ℕ)) (at_chunk pf i _ _)

/-- With both tables in range the pipeline's blocks lie inside their arrays. -/
theorem ok_of_lt (pf : pre0.Contents (Elt F)) (h0 : ∀ x : S152.Idx, (pf 0 x : BitVec 32).toNat < 64) (h1 : ∀ x : S38.Idx, (pf 1 x : BitVec 32).toNat < 8) :
    ok0 pf :=
  ⟨fun i => ⟨Cert.Kernel.Slots.plane_inb (h0 _) _ (transform_0 pf i), .inl rfl⟩, fun i => ⟨Cert.Kernel.Slots.plane_inb (h0 _) _ (transform_1 pf i), .inl rfl⟩,
    fun i => ⟨Cert.Kernel.Slots.plane_inb (h0 _) _ (transform_2 pf i), .inl rfl⟩, fun i => ⟨Cert.Kernel.Slots.plane_inb (h0 _) _ (transform_3 pf i), .inl rfl⟩,
    fun i => ⟨Cert.Kernel.Slots.plane_inb (h1 _) _ (transform_4 pf i), .inl rfl⟩, fun i => ⟨Cert.Kernel.Slots.plane_inb (h1 _) _ (transform_5 pf i), .inl rfl⟩,
    fun i => ⟨Cert.Kernel.Slots.plane_inb (h1 _) _ (transform_6 pf i), .inr (Cert.Kernel.Slots.plane_words (h1 _) _ (transform_6 pf i) _)⟩,
    fun i => ⟨Cert.Kernel.Slots.plane_inb (h1 _) _ (transform_7 pf i), .inr (Cert.Kernel.Slots.plane_words (h1 _) _ (transform_7 pf i) _)⟩,
    fun i => ⟨Cert.Kernel.Slots.plane_inb (h1 _) _ (transform_8 pf i), .inr (Cert.Kernel.Slots.plane_words (h1 _) _ (transform_8 pf i) _)⟩,
    fun i => ⟨Cert.Kernel.Slots.plane_inb (h1 _) _ (transform_9 pf i), .inl rfl⟩⟩

/-- The index of row `i`. -/
def rowIx (i : grid1.Coords) : S64.Idx := fun a => (i 0).cast (by obtain rfl : a = 0 := Subsingleton.elim (α := Fin 1) _ _; rfl)

theorem at_row (pf : pre1.Contents (Elt F)) (i : grid1.Coords) (inb : ∀ a, k1_off1 i a + S1.size a ≤ S64.size a) (h1 : S1.numel = 1) :
    pf.at 0 (Rect.unit (s := S64) (k1_off1 i) S1.size inb) h1 = pf 0 (rowIx i) ∧ pf.at 1 (Rect.unit (s := S64) (k1_off1 i) S1.size inb) h1 = pf 1 (rowIx i) := by
  have key : ∀ q : S64.Idx, (q 0).val = k1_off1 i 0 + 1 * (Shape.Idx.first (s := S1) (h1.symm ▸ Nat.one_pos) 0).val → q = rowIx i := by
    intro q hq
    funext (a : Fin 1)
    obtain rfl : a = 0 := Subsingleton.elim (α := Fin 1) _ _
    refine Fin.ext (hq.trans ?_)
    have h0 : (Shape.Idx.first (s := S1) (h1.symm ▸ Nat.one_pos) 0).val < 1 := (Shape.Idx.first (s := S1) _ 0).isLt
    have ho : k1_off1 i 0 = (i 0).val := (by decide : ∀ n : Fin 64, (Scalar.indexCast (BitVec.ofNat 32 n.val) : Index).toNat = n.val) (i 0)
    show _ = (i 0).val
    omega
  exact ⟨congrArg (pf 0) (key _ rfl), congrArg (pf 1) (key _ rfl)⟩

theorem row_1 (pf : pre1.Contents (Elt F)) (i : grid1.Coords) : cc1_transform_1 k1_off1_inb numel1_S1 pf i = ![(pf 0 (rowIx i)).toNat, 0, 0] :=
  congrArg (fun w : BitVec 32 => (![w.toNat, 0, 0] : Fin 3 → ℕ)) (at_row pf i _ _).1
theorem row_2 (pf : pre1.Contents (Elt F)) (i : grid1.Coords) : cc1_transform_2 k1_off1_inb numel1_S1 pf i = ![(pf 1 (rowIx i)).toNat, 0, 0] :=
  congrArg (fun w : BitVec 32 => (![w.toNat, 0, 0] : Fin 3 → ℕ)) (at_row pf i _ _).2

theorem ok1_of_lt (pf : pre1.Contents (Elt F)) (h0 : ∀ x : S64.Idx, (pf 0 x : BitVec 32).toNat < 152) (h1 : ∀ x : S64.Idx, (pf 1 x : BitVec 32).toNat < 152) :
    ok1 pf :=
  ⟨fun i => ⟨Cert.Kernel.Slots.plane_inb (h0 _) _ (row_1 pf i), .inr (Cert.Kernel.Slots.plane_words (h0 _) _ (row_1 pf i) _)⟩,
    fun i => ⟨Cert.Kernel.Slots.plane_inb (h1 _) _ (row_2 pf i), .inr (Cert.Kernel.Slots.plane_words (h1 _) _ (row_2 pf i) _)⟩⟩

variable (m : (ℓ : Loc nD τ sig) → Buf (Elt F) ℓ) (ρ : Dev nD → PrngReg)

/-- The two places of row `b`, as the last pipeline's tables hold them. -/
theorem place_0 (c : Dev nD) (b : Fin 64) : V17 m c main_v104 (ValueIdx.ix1 b) = V17 m c main_v103 (ValueIdx.ix1 ⟨2 * b.val + (0 : Fin 2).val, by show 2 * b.val + 0 < 128; omega⟩) := by
  rw [Host.e104]
  refine congrArg (V17 m c main_v103 : S128.Idx → BitVec 32) (funext fun (a : Fin 1) => Fin.ext ?_)
  obtain rfl : a = 0 := Subsingleton.elim (α := Fin 1) _ _
  show 0 + 2 * b.val = 2 * b.val + 0
  omega
theorem place_1 (c : Dev nD) (b : Fin 64) : V17 m c main_v105 (ValueIdx.ix1 b) = V17 m c main_v103 (ValueIdx.ix1 ⟨2 * b.val + (1 : Fin 2).val, by show 2 * b.val + 1 < 128; omega⟩) := by
  rw [Host.e105]
  refine congrArg (V17 m c main_v103 : S128.Idx → BitVec 32) (funext fun (a : Fin 1) => Fin.ext ?_)
  obtain rfl : a = 0 := Subsingleton.elim (α := Fin 1) _ _
  show 1 + 2 * b.val = 2 * b.val + 1
  omega

theorem toNat_place (p : Fin 152) : (BitVec.ofNat 32 p.val).toNat < 152 := by
  rw [BitVec.toNat_ofNat, Nat.mod_eq_of_lt (by omega)]; exact p.isLt

/-- The blocks that the computed tables pick lie inside their arrays. -/
theorem ok : Launch.Ok m where
  chunks := ok_of_lt _
    (fun x => by obtain ⟨p, rfl⟩ : ∃ p : Fin 152, x = ValueIdx.ix1 p := ⟨x 0, ValueIdx.eq_ix1 x⟩; exact (Host.words_lt m 0).1 p)
    (fun x => by obtain ⟨p, rfl⟩ : ∃ p : Fin 38, x = ValueIdx.ix1 p := ⟨x 0, ValueIdx.eq_ix1 x⟩; exact (Host.words_lt m 0).2.1 p)
  rows := ok1_of_lt _
    (fun x => by
      obtain ⟨b, rfl⟩ : ∃ b : Fin 64, x = ValueIdx.ix1 b := ⟨x 0, ValueIdx.eq_ix1 x⟩
      obtain ⟨g, p, -, -, h, -⟩ := (Host.words_lt m 0).2.2 b 0
      exact lt_of_eq_of_lt (congrArg BitVec.toNat ((place_0 m 0 b).trans h)) (toNat_place p))
    (fun x => by
      obtain ⟨b, rfl⟩ : ∃ b : Fin 64, x = ValueIdx.ix1 b := ⟨x 0, ValueIdx.eq_ix1 x⟩
      obtain ⟨g, p, -, -, h, -⟩ := (Host.words_lt m 0).2.2 b 1
      exact lt_of_eq_of_lt (congrArg BitVec.toNat ((place_1 m 0 b).trans h)) (toNat_place p))

/-- A run ends with the arguments as launched. -/
theorem args_kept {r : PUnit × MemSt nD τ sig (Elt F)} {c : Dev nD} {o : Outs (F := F)}
    (h : ∀ b ∈ Pipeline.ucRefs τ sig, r.2.mem ((c : Thread nD τ).1, b) = V20 m o c b) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨(h (Proc.devRef .tc main_arg0) (Finset.mem_filter.mpr ⟨StableHlo.devRef_mem_tcRefs main_arg0, by decide⟩)).trans (V20_main_arg0 m o c), (h (Proc.devRef .tc main_arg1) (Finset.mem_filter.mpr ⟨StableHlo.devRef_mem_tcRefs main_arg1, by decide⟩)).trans (V20_main_arg1 m o c),
    (h (Proc.devRef .tc main_arg2) (Finset.mem_filter.mpr ⟨StableHlo.devRef_mem_tcRefs main_arg2, by decide⟩)).trans (V20_main_arg2 m o c), (h (Proc.devRef .tc main_arg3) (Finset.mem_filter.mpr ⟨StableHlo.devRef_mem_tcRefs main_arg3, by decide⟩)).trans (V20_main_arg3 m o c),
    (h (Proc.devRef .tc main_arg4) (Finset.mem_filter.mpr ⟨StableHlo.devRef_mem_tcRefs main_arg4, by decide⟩)).trans (V20_main_arg4 m o c), (h (Proc.devRef .tc main_arg5) (Finset.mem_filter.mpr ⟨StableHlo.devRef_mem_tcRefs main_arg5, by decide⟩)).trans (V20_main_arg5 m o c),
    (h (Proc.devRef .tc main_arg6) (Finset.mem_filter.mpr ⟨StableHlo.devRef_mem_tcRefs main_arg6, by decide⟩)).trans (V20_main_arg6 m o c), (h (Proc.devRef .tc main_arg7) (Finset.mem_filter.mpr ⟨StableHlo.devRef_mem_tcRefs main_arg7, by decide⟩)).trans (V20_main_arg7 m o c),
    (h (Proc.devRef .tc main_arg8) (Finset.mem_filter.mpr ⟨StableHlo.devRef_mem_tcRefs main_arg8, by decide⟩)).trans (V20_main_arg8 m o c)⟩

/-- The frame: every execution ends with the argument arrays as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ hr => ⟨fun c => (hr.1 c).elim fun _ h => args_kept m h.2, hr.2⟩) (Launch.run_main m ρ (ok m))

end Cert.LastHopIdeal.Tables

end
-- ==== Proof.LastHop.Mix.lean ====
/-
  The arithmetic of the last hop over the extended reals: two weights that are neither negative nor infinite, made of two of eight quotients;
  and the sum over the experts of gate times value, which is the weighted sum over the two experts chosen.
-/
module

public import Idealize.ShloMosaic.PureOps.Ideal.Laws
public import Idealize.ShloMosaic.Lib.IdealHost

@[expose] public section

noncomputable section

namespace Cert.Mix

open Idealize.ShloMosaic

/-- The small number that is added to the sum of the two probabilities. -/
def eps : EReal := Ideal.ofBits .f32 0x358637BD#32

theorem eps_pos : 0 < eps := by
  have h : eps = ((8796093 / 8796093022208 : ℝ) : EReal) := by
    unfold eps; simp [Ideal.ofBits, Ideal.ieee, -EReal.coe_mul]; norm_num
  rw [h]; exact_mod_cast (by norm_num : (0 : ℝ) < 8796093 / 8796093022208)

theorem exp_nonneg (x : EReal) : 0 ≤ Ideal.exp x := by
  induction x with
  | bot => exact le_refl _
  | top => exact le_top
  | coe r => exact EReal.coe_nonneg.mpr (Real.exp_pos r).le

theorem div_one (x : EReal) : Ideal.div x 1 = x := by
  unfold Ideal.div
  rw [if_neg one_ne_zero]
  simp

/-- A number over a sum that holds it. -/
theorem quot (a b : EReal) (ha : 0 ≤ a) (hb : 0 ≤ b) : 0 ≤ Ideal.div a (a + b + eps) ∧ Ideal.div a (a + b + eps) ≠ ⊤ := by
  have hp : 0 < a + b + eps := lt_of_lt_of_le eps_pos (le_add_of_nonneg_left (add_nonneg ha hb))
  unfold Ideal.div
  rw [if_neg hp.ne']
  refine ⟨mul_nonneg ha (EReal.inv_nonneg_of_nonneg hp.le), ?_⟩
  induction a with
  | bot => exact absurd ha (by simp)
  | top =>
    rw [show (⊤ : EReal) + b + eps = ⊤ by
      rw [EReal.top_add_of_ne_bot (ne_of_gt (lt_of_lt_of_le EReal.bot_lt_zero hb)), EReal.top_add_of_ne_bot (ne_of_gt (EReal.bot_lt_zero.trans eps_pos))]]
    simp
  | coe r =>
    generalize (↑r + b + eps : EReal) = s at hp
    induction s with
    | bot => exact absurd hp (by simp)
    | top => simp
    | coe q => rw [← EReal.coe_inv, ← EReal.coe_mul]; exact EReal.coe_ne_top _

/-- The quotients of eight numbers that are not negative by their sum. -/
def share (E : Fin 8 → EReal) (g : Fin 8) : EReal := Ideal.div (E g) (∑ e, E e)

/-- Each of two quotients over the sum of the two is neither negative nor infinite. -/
theorem weight (E : Fin 8 → EReal) (hE : ∀ e, 0 ≤ E e) (g : Fin 2 → Fin 8) (k : Fin 2) :
    0 ≤ Ideal.div (share E (g k)) (∑ j, share E (g j) + eps) ∧ Ideal.div (share E (g k)) (∑ j, share E (g j) + eps) ≠ ⊤ := by
  rw [Fin.sum_univ_two]
  by_cases hS : ∑ e, E e = 0
  · have h : ∀ e, share E e = ⊥ := fun e => by
      unfold share Ideal.div
      rw [if_pos hS, if_neg]
      rw [(Finset.sum_eq_zero_iff_of_nonneg fun e _ => hE e).mp hS e (Finset.mem_univ e)]
      exact lt_irrefl _
    simp only [h]
    rw [EReal.bot_add, EReal.bot_add]
    unfold Ideal.div
    rw [if_neg EReal.bot_ne_zero]
    simp
  · have h : ∀ e, 0 ≤ share E e := fun e => by
      unfold share Ideal.div
      rw [if_neg hS]
      exact mul_nonneg (hE e) (EReal.inv_nonneg_of_nonneg (Finset.sum_nonneg fun e _ => hE e))
    match k with
    | 0 => exact quot _ _ (h _) (h _)
    | 1 =>
      rw [add_comm (share E (g 0))]
      exact quot _ _ (h _) (h _)

/-- The gates against the experts' values: the weighted sum over the two experts chosen. -/
theorem gates (w : Fin 2 → EReal) (hw : ∀ k, 0 ≤ w k ∧ w k ≠ ⊤) (g : Fin 2 → Fin 8) (δ : Fin 2 → Fin 8 → EReal)
    (hδ : ∀ k e, δ k e = if g k = e then 1 else 0) (h : EReal) (y : Fin 8 → EReal) :
    ∑ e, (∑ k, w k * δ k e) * (h + y e) = (w 0 + w 1) * h + w 0 * y (g 0) + w 1 * y (g 1) := by
  have hd : ∀ k e, 0 ≤ w k * δ k e := fun k e => mul_nonneg (hw k).1 (by rw [hδ]; split <;> simp)
  have one : ∀ k, ∑ e, w k * δ k e * (h + y e) = w k * (h + y (g k)) := fun k => by
    rw [Finset.sum_eq_single (g k)]
    · rw [hδ, if_pos rfl, mul_one]
    · intro e _ he
      rw [hδ, if_neg (Ne.symm he), mul_zero, zero_mul]
    · intro h; exact absurd (Finset.mem_univ _) h
  have split : ∀ e, (∑ k, w k * δ k e) * (h + y e) = w 0 * δ 0 e * (h + y e) + w 1 * δ 1 e * (h + y e) := fun e => by
    rw [Fin.sum_univ_two]
    exact EReal.right_distrib_of_nonneg (hd 0 e) (hd 1 e)
  rw [Finset.sum_congr rfl fun e _ => split e, Finset.sum_add_distrib, one, one, EReal.left_distrib_of_nonneg_of_ne_top (hw 0).1 (hw 0).2,
    EReal.left_distrib_of_nonneg_of_ne_top (hw 1).1 (hw 1).2, EReal.right_distrib_of_nonneg (hw 0).1 (hw 1).1, add_add_add_comm, ← add_assoc]

/-- One logit: the positions' values averaged, times the head. -/
def logit (z : Fin 196 → Fin 768 → EReal) (head : Fin 768 → EReal) : EReal :=
  ∑ d, Ideal.div (∑ p, z p d) (Ideal.ofBits .f32 0x43440000#32) * head d

end Cert.Mix

end
-- ==== Proof.LastHopIdeal.Logits.lean ====
/-
  What the two bodies store, read at an index over the extended reals.
-/
module

public import proofs.«01_k».proof.Proof.LastHopIdeal.Final
public import proofs.«01_k».proof.Proof.LastHop.Mix
public import proofs.«01_k».proof.Proof.Value.Expert
public import Idealize.ShloMosaic.Lib.Pointwise

@[expose] public section

set_option maxRecDepth 16384

noncomputable section

namespace Cert.LastHopIdeal.Value

open Idealize.ShloMosaic Cert.LastHopIdeal Cert.Model

/-- The expert pipeline's block is the one of the other program. -/
theorem expert_eq (x : Vec Ideal S1x196x768 .f32) (lg lb : Vec Ideal S1x1x768 .f32) (w1 : Vec Ideal S1x768x3072 .bf16)
    (b1 : Vec Ideal S1x1x3072 .bf16) (w2 : Vec Ideal S1x3072x768 .bf16) (b2 : Vec Ideal S1x1x768 .f32) :
    Slots.expert (F := Ideal) x lg lb w1 b1 w2 b2 = Cert.KernelIdeal.Slots.expert (F := Ideal) x lg lb w1 b1 w2 b2 := rfl

theorem logits_apply (h : Vec Ideal S1x196x768 .f32) (o0 o1 : Vec Ideal S1x196x768 .bf16) (w0 w1 : Vec Ideal S1x1x1 .f32) (g : Vec Ideal S768x1000 .f32)
    (n : Fin 1000) :
    Final.logits (F := Ideal) h o0 o1 w0 w1 g (ix3 0 0 n) =
      Cert.Mix.logit (fun p d => (w0 (ix3 0 0 0) + w1 (ix3 0 0 0)) * h (ix3 0 p d) + w0 (ix3 0 0 0) * o0 (ix3 0 p d) + w1 (ix3 0 0 0) * o1 (ix3 0 p d))
        (fun d => g (ix2 d n)) := by
  pointwise [Final.logits, Gen.k1_pay1]
  rfl

end Cert.LastHopIdeal.Value

end
-- ==== Proof.LastHopIdeal.Chunks.lean ====
/-
  The blocks that the expert pipeline's windows hold, read at an index, and its result at a slot of an active chunk: the network of the
  chunk's expert on the slot's tokens.
-/
module

public import proofs.«01_k».proof.Proof.LastHopIdeal.Tables
public import proofs.«01_k».proof.Proof.LastHopIdeal.Logits
public import proofs.«01_k».proof.Proof.Value.Out

@[expose] public section

set_option maxRecDepth 16384

noncomputable section

namespace Cert.LastHopIdeal.Value

open Idealize.ShloMosaic Idealize.ShloMosaic.TcCoe Idealize.SL.Sem
open Cert.LastHopIdeal Cert.LastHopIdeal.Gen Cert.LastHopIdeal.Tables Cert.Model
open Cert.KernelIdeal.Value (plane_eq)

section Blocks

variable (x : Dev nD → Valuation τ sig (Elt Ideal)) (c : Dev nD) (hO : Slots.Ok x) (t : Fin (Slots.cfgM x hO).N)

theorem tokens_0 (i : Fin 196) (j : Fin 768) (a : Fin 64) (ha : a.val = (Slots.tbl x 0 (slotIx (grid0.coords t) 0) : BitVec 32).toNat) :
    (Slots.blk x hO c 0 t : Vec Ideal S1x196x768 .f32) (ix3 0 i j) = (x c main_arg0 : FVec Ideal S64x196x768 .f32) (ix3 a i j) :=
  congrArg (x c main_arg0 : FVec Ideal S64x196x768 .f32)
    (plane_eq _ a i j _ (by rw [ha]; exact transform_0 (Slots.tbl x) (grid0.coords t)) fun r => ((Slots.cfgM x hO).win 0).rect_emb_val t (ix3 0 i j) r rfl)
theorem tokens_1 (i : Fin 196) (j : Fin 768) (a : Fin 64) (ha : a.val = (Slots.tbl x 0 (slotIx (grid0.coords t) 1) : BitVec 32).toNat) :
    (Slots.blk x hO c 1 t : Vec Ideal S1x196x768 .f32) (ix3 0 i j) = (x c main_arg0 : FVec Ideal S64x196x768 .f32) (ix3 a i j) :=
  congrArg (x c main_arg0 : FVec Ideal S64x196x768 .f32)
    (plane_eq _ a i j _ (by rw [ha]; exact transform_1 (Slots.tbl x) (grid0.coords t)) fun r => ((Slots.cfgM x hO).win 1).rect_emb_val t (ix3 0 i j) r rfl)
theorem tokens_2 (i : Fin 196) (j : Fin 768) (a : Fin 64) (ha : a.val = (Slots.tbl x 0 (slotIx (grid0.coords t) 2) : BitVec 32).toNat) :
    (Slots.blk x hO c 2 t : Vec Ideal S1x196x768 .f32) (ix3 0 i j) = (x c main_arg0 : FVec Ideal S64x196x768 .f32) (ix3 a i j) :=
  congrArg (x c main_arg0 : FVec Ideal S64x196x768 .f32)
    (plane_eq _ a i j _ (by rw [ha]; exact transform_2 (Slots.tbl x) (grid0.coords t)) fun r => ((Slots.cfgM x hO).win 2).rect_emb_val t (ix3 0 i j) r rfl)
theorem tokens_3 (i : Fin 196) (j : Fin 768) (a : Fin 64) (ha : a.val = (Slots.tbl x 0 (slotIx (grid0.coords t) 3) : BitVec 32).toNat) :
    (Slots.blk x hO c 3 t : Vec Ideal S1x196x768 .f32) (ix3 0 i j) = (x c main_arg0 : FVec Ideal S64x196x768 .f32) (ix3 a i j) :=
  congrArg (x c main_arg0 : FVec Ideal S64x196x768 .f32)
    (plane_eq _ a i j _ (by rw [ha]; exact transform_3 (Slots.tbl x) (grid0.coords t)) fun r => ((Slots.cfgM x hO).win 3).rect_emb_val t (ix3 0 i j) r rfl)

theorem blk_4 (e : Fin 8) (i : Fin 1) (j : Fin 768) (he : e.val = (Slots.tbl x 1 (chunkIx (grid0.coords t)) : BitVec 32).toNat) :
    (Slots.blk x hO c 4 t : Vec Ideal S1x1x768 .f32) (ix3 0 i j) = (x c main_v0 : FVec Ideal S8x1x768 .f32) (ix3 e i j) :=
  congrArg (x c main_v0 : FVec Ideal S8x1x768 .f32) (plane_eq _ e i j _ (by rw [he]; exact transform_4 (Slots.tbl x) (grid0.coords t))
    fun r => ((Slots.cfgM x hO).win 4).rect_emb_val t (ix3 0 i j) r rfl)
theorem blk_5 (e : Fin 8) (i : Fin 1) (j : Fin 768) (he : e.val = (Slots.tbl x 1 (chunkIx (grid0.coords t)) : BitVec 32).toNat) :
    (Slots.blk x hO c 5 t : Vec Ideal S1x1x768 .f32) (ix3 0 i j) = (x c main_v1 : FVec Ideal S8x1x768 .f32) (ix3 e i j) :=
  congrArg (x c main_v1 : FVec Ideal S8x1x768 .f32) (plane_eq _ e i j _ (by rw [he]; exact transform_5 (Slots.tbl x) (grid0.coords t))
    fun r => ((Slots.cfgM x hO).win 5).rect_emb_val t (ix3 0 i j) r rfl)
theorem blk_6 (e : Fin 8) (i : Fin 768) (j : Fin 3072) (he : e.val = (Slots.tbl x 1 (chunkIx (grid0.coords t)) : BitVec 32).toNat) :
    (Slots.blk x hO c 6 t : Vec Ideal S1x768x3072 .bf16) (ix3 0 i j) = (x c main_v5 : FVec Ideal S8x768x3072 .bf16) (ix3 e i j) :=
  congrArg (x c main_v5 : FVec Ideal S8x768x3072 .bf16) (plane_eq _ e i j _ (by rw [he]; exact transform_6 (Slots.tbl x) (grid0.coords t))
    fun r => ((Slots.cfgM x hO).win 6).rect_emb_val t (ix3 0 i j) r rfl)
theorem blk_7 (e : Fin 8) (i : Fin 1) (j : Fin 3072) (he : e.val = (Slots.tbl x 1 (chunkIx (grid0.coords t)) : BitVec 32).toNat) :
    (Slots.blk x hO c 7 t : Vec Ideal S1x1x3072 .bf16) (ix3 0 i j) = (x c main_v3 : FVec Ideal S8x1x3072 .bf16) (ix3 e i j) :=
  congrArg (x c main_v3 : FVec Ideal S8x1x3072 .bf16) (plane_eq _ e i j _ (by rw [he]; exact transform_7 (Slots.tbl x) (grid0.coords t))
    fun r => ((Slots.cfgM x hO).win 7).rect_emb_val t (ix3 0 i j) r rfl)
theorem blk_8 (e : Fin 8) (i : Fin 3072) (j : Fin 768) (he : e.val = (Slots.tbl x 1 (chunkIx (grid0.coords t)) : BitVec 32).toNat) :
    (Slots.blk x hO c 8 t : Vec Ideal S1x3072x768 .bf16) (ix3 0 i j) = (x c main_v6 : FVec Ideal S8x3072x768 .bf16) (ix3 e i j) :=
  congrArg (x c main_v6 : FVec Ideal S8x3072x768 .bf16) (plane_eq _ e i j _ (by rw [he]; exact transform_8 (Slots.tbl x) (grid0.coords t))
    fun r => ((Slots.cfgM x hO).win 8).rect_emb_val t (ix3 0 i j) r rfl)
theorem blk_9 (e : Fin 8) (i : Fin 1) (j : Fin 768) (he : e.val = (Slots.tbl x 1 (chunkIx (grid0.coords t)) : BitVec 32).toNat) :
    (Slots.blk x hO c 9 t : Vec Ideal S1x1x768 .f32) (ix3 0 i j) = (x c main_v4 : FVec Ideal S8x1x768 .f32) (ix3 e i j) :=
  congrArg (x c main_v4 : FVec Ideal S8x1x768 .f32) (plane_eq _ e i j _ (by rw [he]; exact transform_9 (Slots.tbl x) (grid0.coords t))
    fun r => ((Slots.cfgM x hO).win 9).rect_emb_val t (ix3 0 i j) r rfl)

/-- The token block of slot `k`. -/
theorem tokens_apply (k : Fin 4) (i : Fin 196) (j : Fin 768) (a : Fin 64) (ha : a.val = (Slots.tbl x 0 (slotIx (grid0.coords t) k) : BitVec 32).toNat) :
    Slots.tokens x hO c t k (ix3 0 i j) = (x c main_arg0 : FVec Ideal S64x196x768 .f32) (ix3 a i j) := by
  match k with
  | 0 => exact tokens_0 x c hO t i j a ha
  | 1 => exact tokens_1 x c hO t i j a ha
  | 2 => exact tokens_2 x c hO t i j a ha
  | 3 => exact tokens_3 x c hO t i j a ha

/-- The expert pipeline's result at slot `s` of an active chunk, of the buffers `x` that it starts from. -/
theorem slot_apply (A : (w : Fin 11) → Buf (Elt Ideal) (((Slots.cfgM x hO).win w).arr.view.loc (c.tc : Thread nD τ)))
    (hA : ∀ w, (Slots.rdat x hO c).ArrAt w (Slots.cfgM x hO).N (A w)) (s : Fin 152) (p : Fin 196) (q : Fin 768) (e : Fin 8) (a : Fin 64)
    (hf : x c main_v95 (ValueIdx.ix1 ⟨s.val / 4, by omega⟩) = 1#32) (he : x c main_v90 (ValueIdx.ix1 ⟨s.val / 4, by omega⟩) = BitVec.ofNat 32 e.val)
    (ha : x c main_v80 (ValueIdx.ix1 s) = BitVec.ofNat 32 a.val) :
    (A 10 : FVec Ideal S152x196x768 .bf16) (ix3 s p q) =
      mlp (fun d => (x c main_arg0 : FVec Ideal S64x196x768 .f32) (ix3 a p d)) (fun d => (x c main_v0 : FVec Ideal S8x1x768 .f32) (ix3 e 0 d))
        (fun d => (x c main_v1 : FVec Ideal S8x1x768 .f32) (ix3 e 0 d)) (fun d f => (x c main_v5 : FVec Ideal S8x768x3072 .bf16) (ix3 e d f))
        (fun f => (x c main_v3 : FVec Ideal S8x1x3072 .bf16) (ix3 e 0 f)) (fun f q => (x c main_v6 : FVec Ideal S8x3072x768 .bf16) (ix3 e f q))
        (fun q => (x c main_v4 : FVec Ideal S8x1x768 .f32) (ix3 e 0 q)) q := by
  obtain rfl : c = 0 := Subsingleton.elim (α := Fin 1) _ _
  let t : Fin (Slots.cfgM x hO).N := (⟨s.val / 4, by omega⟩ : Fin 38)
  let k : Fin 4 := ⟨s.val % 4, by omega⟩
  have ht : (grid0.coords t 0).val = s.val / 4 := Slots.coords_val t
  have hc : (chunkIx (grid0.coords t) : S38.Idx) = ValueIdx.ix1 ⟨s.val / 4, by omega⟩ := funext fun b => by
    obtain rfl : b = 0 := Subsingleton.elim (α := Fin 1) _ _
    exact Fin.ext ht
  have hs : (slotIx (grid0.coords t) k : S152.Idx) = ValueIdx.ix1 s := funext fun b => by
    obtain rfl : b = 0 := Subsingleton.elim (α := Fin 1) _ _
    refine Fin.ext ?_
    show 4 * (grid0.coords t 0).val + s.val % 4 = s.val
    rw [ht]; omega
  have e1 : e.val = (Slots.tbl x 1 (chunkIx (grid0.coords t)) : BitVec 32).toNat := by
    rw [hc]
    refine Eq.trans ?_ (congrArg BitVec.toNat he).symm
    rw [BitVec.toNat_ofNat, Nat.mod_eq_of_lt (by omega)]
  have e0 : a.val = (Slots.tbl x 0 (slotIx (grid0.coords t) k) : BitVec 32).toNat := by
    rw [hs]
    refine Eq.trans ?_ (congrArg BitVec.toNat ha).symm
    rw [BitVec.toNat_ofNat, Nat.mod_eq_of_lt (by omega)]
  have e2 : k0_cond1 (Slots.word (0 : Dev nD) (grid0.coords t) (Slots.tbl x 2)) = 1#1 := by
    have hw : Slots.word (0 : Dev nD) (grid0.coords t) (Slots.tbl x 2) = 1#32 :=
      (congrArg (x 0 main_v95 : S38.Idx → BitVec 32) hc).trans hf
    rw [hw]; rfl
  refine (Slots.out_read x hO 0 A hA t e2 k (ix3 0 p q) (ix3 s p q) (show s.val = 4 * (s.val / 4) + s.val % 4 by omega) rfl rfl).trans ?_
  refine (congrFun (expert_eq _ _ _ _ _ _ _) _).trans ?_
  exact (Cert.KernelIdeal.Value.expert_apply _ _ _ _ _ _ _ 0 p q).trans (Cert.KernelIdeal.Value.mlp_congr (fun d => tokens_apply x 0 hO t k p d a e0)
    (fun d => blk_4 x 0 hO t e 0 d e1)
    (fun d => blk_5 x 0 hO t e 0 d e1) (fun d f => blk_6 x 0 hO t e d f e1) (fun f => blk_7 x 0 hO t e 0 f e1)
    (fun f d => blk_8 x 0 hO t e f d e1) (fun d => blk_9 x 0 hO t e 0 d e1) q)

end Blocks

variable (m : (ℓ : Loc nD τ sig) → Buf (Elt Ideal) ℓ) (c : Dev nD)

theorem V_v0 (e : Fin 8) (i : Fin 1) (j : Fin 768) :
    (V17 m c main_v0 : FVec Ideal S8x1x768 .f32) (ix3 e i j) = (m ((c : Thread nD τ).loc main_arg2) : FVec Ideal S8x768 .f32) (Idealize.ShloMosaic.ix2 e j) := by
  have h : V17 m c main_v0 = (shapeCast S8x1x768 (m ((c : Thread nD τ).loc main_arg2) : FVec Ideal S8x768 .f32) Gen.shapeCasts_S8x768_S8x1x768 : FVec Ideal S8x1x768 .f32) :=
    (Host.up1 m c (r := main_v0) (by decide)).trans (Host.s0 _)
  rw [h]
  pointwise

theorem V_v1 (e : Fin 8) (i : Fin 1) (j : Fin 768) :
    (V17 m c main_v1 : FVec Ideal S8x1x768 .f32) (ix3 e i j) = (m ((c : Thread nD τ).loc main_arg3) : FVec Ideal S8x768 .f32) (Idealize.ShloMosaic.ix2 e j) := by
  have h : V17 m c main_v1 = (shapeCast S8x1x768 (m ((c : Thread nD τ).loc main_arg3) : FVec Ideal S8x768 .f32) Gen.shapeCasts_S8x768_S8x1x768 : FVec Ideal S8x1x768 .f32) :=
    (Host.up1 m c (r := main_v1) (by decide)).trans (Host.s1 _)
  rw [h]
  pointwise

theorem V_v4 (e : Fin 8) (i : Fin 1) (j : Fin 768) :
    (V17 m c main_v4 : FVec Ideal S8x1x768 .f32) (ix3 e i j) = (m ((c : Thread nD τ).loc main_arg7) : FVec Ideal S8x768 .f32) (Idealize.ShloMosaic.ix2 e j) := by
  have h : V17 m c main_v4 = (shapeCast S8x1x768 (m ((c : Thread nD τ).loc main_arg7) : FVec Ideal S8x768 .f32) Gen.shapeCasts_S8x768_S8x1x768 : FVec Ideal S8x1x768 .f32) :=
    (Host.up1 m c (r := main_v4) (by decide)).trans (Host.s4 _)
  rw [h]
  pointwise

theorem V_v3 (e : Fin 8) (i : Fin 1) (j : Fin 3072) :
    (V17 m c main_v3 : FVec Ideal S8x1x3072 .bf16) (ix3 e i j) = (m ((c : Thread nD τ).loc main_arg5) : FVec Ideal S8x3072 .f32) (Idealize.ShloMosaic.ix2 e j) := by
  have h : V17 m c main_v3 = (truncf .bf16 (shapeCast S8x1x3072 (m ((c : Thread nD τ).loc main_arg5) : FVec Ideal S8x3072 .f32) Gen.shapeCasts_S8x3072_S8x1x3072 : FVec Ideal S8x1x3072 .f32) Gen.bitsLt_bf16_f32 : FVec Ideal S8x1x3072 .bf16) :=
    (Host.up1 m c (r := main_v3) (by decide)).trans (Host.s3 _)
  rw [h]
  pointwise

theorem V_v5 (e : Fin 8) (i : Fin 768) (j : Fin 3072) :
    (V17 m c main_v5 : FVec Ideal S8x768x3072 .bf16) (ix3 e i j) = (m ((c : Thread nD τ).loc main_arg4) : FVec Ideal S8x768x3072 .f32) (ix3 e i j) := by
  have h : V17 m c main_v5 = (truncf .bf16 (m ((c : Thread nD τ).loc main_arg4) : FVec Ideal S8x768x3072 .f32) Gen.bitsLt_bf16_f32 : FVec Ideal S8x768x3072 .bf16) :=
    (Host.up1 m c (r := main_v5) (by decide)).trans (Host.s5 _)
  rw [h]
  pointwise

theorem V_v6 (e : Fin 8) (i : Fin 3072) (j : Fin 768) :
    (V17 m c main_v6 : FVec Ideal S8x3072x768 .bf16) (ix3 e i j) = (m ((c : Thread nD τ).loc main_arg6) : FVec Ideal S8x3072x768 .f32) (ix3 e i j) := by
  have h : V17 m c main_v6 = (truncf .bf16 (m ((c : Thread nD τ).loc main_arg6) : FVec Ideal S8x3072x768 .f32) Gen.bitsLt_bf16_f32 : FVec Ideal S8x3072x768 .bf16) :=
    (Host.up1 m c (r := main_v6) (by decide)).trans (Host.s6 _)
  rw [h]
  pointwise

theorem V_arg0 : V17 m c main_arg0 = m ((c : Thread nD τ).loc main_arg0) :=
  (Host.up1 m c (r := main_arg0) (by decide)).trans (V1_of m c main_arg0 (by decide))
theorem V_arg8 : V17 m c main_arg8 = m ((c : Thread nD τ).loc main_arg8) :=
  (Host.up1 m c (r := main_arg8) (by decide)).trans (V1_of m c main_arg8 (by decide))

/-- The network of expert `e` on row `p` of tokens `a`, of the arguments as launched. -/
def net (e : Fin 8) (a : Fin 64) (p : Fin 196) (q : Fin 768) : EReal :=
  mlp (fun d => (m ((c.tc : Thread nD τ).loc main_arg0) : FVec Ideal S64x196x768 .f32) (ix3 a p d))
    (fun d => (m ((c.tc : Thread nD τ).loc main_arg2) : FVec Ideal S8x768 .f32) (Idealize.ShloMosaic.ix2 e d))
    (fun d => (m ((c.tc : Thread nD τ).loc main_arg3) : FVec Ideal S8x768 .f32) (Idealize.ShloMosaic.ix2 e d))
    (fun d f => (m ((c.tc : Thread nD τ).loc main_arg4) : FVec Ideal S8x768x3072 .f32) (ix3 e d f))
    (fun f => (m ((c.tc : Thread nD τ).loc main_arg5) : FVec Ideal S8x3072 .f32) (Idealize.ShloMosaic.ix2 e f))
    (fun f q => (m ((c.tc : Thread nD τ).loc main_arg6) : FVec Ideal S8x3072x768 .f32) (ix3 e f q))
    (fun q => (m ((c.tc : Thread nD τ).loc main_arg7) : FVec Ideal S8x768 .f32) (Idealize.ShloMosaic.ix2 e q)) q

/-- The expert pipeline's result at slot `s` of an active chunk. -/
theorem out_apply (hO : Launch.Ok m) (o : Outs (F := Ideal)) (h : Launch.Known0 m hO o c) (s : Fin 152) (p : Fin 196) (q : Fin 768) (e : Fin 8) (a : Fin 64)
    (hf : V17 m c main_v95 (ValueIdx.ix1 ⟨s.val / 4, by omega⟩) = 1#32) (he : V17 m c main_v90 (ValueIdx.ix1 ⟨s.val / 4, by omega⟩) = BitVec.ofNat 32 e.val)
    (ha : V17 m c main_v80 (ValueIdx.ix1 s) = BitVec.ofNat 32 a.val) :
    (o 18 main_v112 c : FVec Ideal S152x196x768 .bf16) (ix3 s p q) = net m c e a p q := by
  obtain ⟨A, hA, ho⟩ := h
  rw [ho]
  exact (slot_apply (V17 m) c hO.chunks A hA s p q e a hf he ha).trans (Cert.KernelIdeal.Value.mlp_congr (fun d => congrFun (V_arg0 m c) _)
    (fun d => V_v0 m c e 0 d) (fun d => V_v1 m c e 0 d) (fun d f => V_v5 m c e d f) (fun f => V_v3 m c e 0 f) (fun f d => V_v6 m c e f d)
    (fun d => V_v4 m c e 0 d) q)

end Cert.LastHopIdeal.Value

end
-- ==== Proof.LastHopIdeal.Rows.lean ====
/-
  The last pipeline's result at an index, and with it the program's: row `b`'s logits are made of its tokens and of the networks of the two
  experts that its two largest probabilities name, with their two weights.
-/
module

public import proofs.«01_k».proof.Proof.LastHopIdeal.Chunks

@[expose] public section

set_option maxRecDepth 16384

noncomputable section

namespace Cert.LastHopIdeal.Value

open Idealize.ShloMosaic Idealize.ShloMosaic.TcCoe Idealize.SL.Sem
open Cert.LastHopIdeal Cert.LastHopIdeal.Gen Cert.LastHopIdeal.Tables Cert.Model
open Cert.KernelIdeal.Value (plane_eq)

/-- A token's value `h` and its two networks' `y0` and `y1`, weighted. -/
def blend (w0 w1 h y0 y1 : EReal) : EReal := (w0 + w1) * h + w0 * y0 + w1 * y1

theorem blend_congr {w0 w1 h y0 y1 w0' w1' h' y0' y1' : EReal} (e0 : w0 = w0') (e1 : w1 = w1') (e2 : h = h') (e3 : y0 = y0') (e4 : y1 = y1') :
    blend w0 w1 h y0 y1 = blend w0' w1' h' y0' y1' := by rw [e0, e1, e2, e3, e4]

section Blocks

variable (x : Dev nD → Valuation τ sig (Elt Ideal)) {tb : pre1.Contents (Elt Ideal)} (c : Dev nD) (hO : ok1 (F := Ideal) tb) (t : Fin (Final.cfgM hO).N)

theorem row_tokens (b : Fin 64) (hb : b.val = t.val) (i : Fin 196) (j : Fin 768) :
    (Final.blk x hO c 0 t : Vec Ideal S1x196x768 .f32) (Idealize.ShloMosaic.ix3 0 i j) = (x c main_arg0 : FVec Ideal S64x196x768 .f32) (Idealize.ShloMosaic.ix3 b i j) :=
  congrArg (x c main_arg0 : FVec Ideal S64x196x768 .f32)
    (plane_eq _ b i j _ (by rw [hb]; exact (by decide : ∀ t : Fin grid1.N, cc1_transform_0 (grid1.coords t) = ![t.val, 0, 0]) t)
      fun r => ((Final.cfgM hO).win 0).rect_emb_val t (Idealize.ShloMosaic.ix3 0 i j) r rfl)
theorem row_out_0 (p : Fin 152) (hp : p.val = (tb 0 (rowIx (grid1.coords t)) : BitVec 32).toNat) (i : Fin 196) (j : Fin 768) :
    (Final.blk x hO c 1 t : Vec Ideal S1x196x768 .bf16) (Idealize.ShloMosaic.ix3 0 i j) = (x c main_v112 : FVec Ideal S152x196x768 .bf16) (Idealize.ShloMosaic.ix3 p i j) :=
  congrArg (x c main_v112 : FVec Ideal S152x196x768 .bf16)
    (plane_eq _ p i j _ (by rw [hp]; exact row_1 tb (grid1.coords t)) fun r => ((Final.cfgM hO).win 1).rect_emb_val t (Idealize.ShloMosaic.ix3 0 i j) r rfl)
theorem row_out_1 (p : Fin 152) (hp : p.val = (tb 1 (rowIx (grid1.coords t)) : BitVec 32).toNat) (i : Fin 196) (j : Fin 768) :
    (Final.blk x hO c 2 t : Vec Ideal S1x196x768 .bf16) (Idealize.ShloMosaic.ix3 0 i j) = (x c main_v112 : FVec Ideal S152x196x768 .bf16) (Idealize.ShloMosaic.ix3 p i j) :=
  congrArg (x c main_v112 : FVec Ideal S152x196x768 .bf16)
    (plane_eq _ p i j _ (by rw [hp]; exact row_2 tb (grid1.coords t)) fun r => ((Final.cfgM hO).win 2).rect_emb_val t (Idealize.ShloMosaic.ix3 0 i j) r rfl)
theorem row_weight_0 (b : Fin 64) (hb : b.val = t.val) :
    (Final.blk x hO c 3 t : Vec Ideal S1x1x1 .f32) (Idealize.ShloMosaic.ix3 0 0 0) = (x c main_v108 : FVec Ideal S64x1x1 .f32) (Idealize.ShloMosaic.ix3 b 0 0) :=
  congrArg (x c main_v108 : FVec Ideal S64x1x1 .f32)
    (plane_eq _ b 0 0 _ (by rw [hb]; exact (by decide : ∀ t : Fin grid1.N, cc1_transform_3 (grid1.coords t) = ![t.val, 0, 0]) t)
      fun r => ((Final.cfgM hO).win 3).rect_emb_val t (Idealize.ShloMosaic.ix3 0 0 0) r rfl)
theorem row_weight_1 (b : Fin 64) (hb : b.val = t.val) :
    (Final.blk x hO c 4 t : Vec Ideal S1x1x1 .f32) (Idealize.ShloMosaic.ix3 0 0 0) = (x c main_v111 : FVec Ideal S64x1x1 .f32) (Idealize.ShloMosaic.ix3 b 0 0) :=
  congrArg (x c main_v111 : FVec Ideal S64x1x1 .f32)
    (plane_eq _ b 0 0 _ (by rw [hb]; exact (by decide : ∀ t : Fin grid1.N, cc1_transform_4 (grid1.coords t) = ![t.val, 0, 0]) t)
      fun r => ((Final.cfgM hO).win 4).rect_emb_val t (Idealize.ShloMosaic.ix3 0 0 0) r rfl)
theorem row_head (d : Fin 768) (n : Fin 1000) :
    (Final.blk x hO c 5 t : Vec Ideal S768x1000 .f32) (Idealize.ShloMosaic.ix2 d n) = (x c main_arg8 : FVec Ideal S768x1000 .f32) (Idealize.ShloMosaic.ix2 d n) := by
  refine congrArg (x c main_arg8 : FVec Ideal S768x1000 .f32) (funext fun (k : Fin 2) => Fin.ext ?_)
  refine (((Final.cfgM hO).win 5).rect_emb_val t (Idealize.ShloMosaic.ix2 d n) k rfl).trans ?_
  rw [show ((Final.cfgM hO).win 5).index t = ![0, 0] from (by decide : ∀ t : Fin grid1.N, cc1_transform_5 (grid1.coords t) = ![0, 0]) t]
  match k with
  | 0 => show 0 * 768 + d.val = d.val; omega
  | 1 => show 0 * 1000 + n.val = n.val; omega

/-- Row `b` of the last pipeline's result, of the buffers `x` that it starts from and of the two places that its tables name. -/
theorem row_apply (A : (w : Fin 7) → Buf (Elt Ideal) (((Final.cfgM hO).win w).arr.view.loc (c.tc : Thread nD τ)))
    (hA : ∀ w, (Final.rdat x hO c).ArrAt w (Final.cfgM hO).N (A w)) (b : Fin 64) (n : Fin 1000) (p0 p1 : Fin 152)
    (h0 : tb 0 (ValueIdx.ix1 b) = BitVec.ofNat 32 p0.val) (h1 : tb 1 (ValueIdx.ix1 b) = BitVec.ofNat 32 p1.val) :
    (A 6 : FVec Ideal S64x1x1000 .f32) (Idealize.ShloMosaic.ix3 b 0 n) =
      Cert.Mix.logit (fun p d => blend ((x c main_v108 : FVec Ideal S64x1x1 .f32) (Idealize.ShloMosaic.ix3 b 0 0)) ((x c main_v111 : FVec Ideal S64x1x1 .f32) (Idealize.ShloMosaic.ix3 b 0 0))
          ((x c main_arg0 : FVec Ideal S64x196x768 .f32) (Idealize.ShloMosaic.ix3 b p d)) ((x c main_v112 : FVec Ideal S152x196x768 .bf16) (Idealize.ShloMosaic.ix3 p0 p d))
          ((x c main_v112 : FVec Ideal S152x196x768 .bf16) (Idealize.ShloMosaic.ix3 p1 p d)))
        (fun d => (x c main_arg8 : FVec Ideal S768x1000 .f32) (Idealize.ShloMosaic.ix2 d n)) := by
  let t : Fin (Final.cfgM hO).N := (b : Fin 64)
  have hr : (rowIx (grid1.coords t) : S64.Idx) = ValueIdx.ix1 b := funext fun a => by
    obtain rfl : a = 0 := Subsingleton.elim (α := Fin 1) _ _
    exact Fin.ext (Final.coords_val t)
  have e0 : p0.val = (tb 0 (rowIx (grid1.coords t)) : BitVec 32).toNat := by
    rw [hr, h0, BitVec.toNat_ofNat, Nat.mod_eq_of_lt (by omega)]
  have e1 : p1.val = (tb 1 (rowIx (grid1.coords t)) : BitVec 32).toNat := by
    rw [hr, h1, BitVec.toNat_ofNat, Nat.mod_eq_of_lt (by omega)]
  refine (Final.out_read x hO c A hA t (Idealize.ShloMosaic.ix3 0 0 n) (Idealize.ShloMosaic.ix3 b 0 n) rfl rfl rfl).trans ?_
  refine (logits_apply _ _ _ _ _ _ n).trans (congrArg₂ Cert.Mix.logit (funext fun p => funext fun d => ?_) (funext fun d => row_head x c hO t d n))
  exact blend_congr (row_weight_0 x c hO t b rfl) (row_weight_1 x c hO t b rfl) (row_tokens x c hO t b rfl p d) (row_out_0 x c hO t p0 e0 p d)
    (row_out_1 x c hO t p1 e1 p d)

end Blocks

variable (m : (ℓ : Loc nD τ sig) → Buf (Elt Ideal) ℓ) (c : Dev nD)

/-- The weight of row `b`'s `k`-th expert. -/
def gate (b : Fin 64) (k : Fin 2) : EReal := Host.weights (Host.top m c).1 (Idealize.ShloMosaic.ix2 b k)

theorem V_v108 (b : Fin 64) : (V17 m c main_v108 : FVec Ideal S64x1x1 .f32) (Idealize.ShloMosaic.ix3 b 0 0) = gate m c b 0 := by
  rw [Host.e108]
  unfold gate
  generalize Host.weights (Host.top m c).1 = v
  pointwise
theorem V_v111 (b : Fin 64) : (V17 m c main_v111 : FVec Ideal S64x1x1 .f32) (Idealize.ShloMosaic.ix3 b 0 0) = gate m c b 1 := by
  rw [Host.e111]
  unfold gate
  generalize Host.weights (Host.top m c).1 = v
  pointwise

/-- The program's result at row `b`. -/
theorem result_apply (hO : Launch.Ok m) (o : Outs (F := Ideal)) (h : Launch.Known m hO o c) (b : Fin 64) (n : Fin 1000) :
    ∃ g : Fin 2 → Fin 8, (∀ k, (Host.top m c).1 (Idealize.ShloMosaic.ix2 b k) = Host.probs (m ((c : Thread nD τ).loc main_arg1)) (Idealize.ShloMosaic.ix2 b (g k))
        ∧ (Host.top m c).2 (Idealize.ShloMosaic.ix2 b k) = BitVec.ofNat 32 (g k).val)
      ∧ (V20 m o c main_v114 : FVec Ideal S64x1000 .f32) (Idealize.ShloMosaic.ix2 b n) =
        Cert.Mix.logit (fun p d => blend (gate m c b 0) (gate m c b 1) ((m ((c : Thread nD τ).loc main_arg0) : FVec Ideal S64x196x768 .f32) (Idealize.ShloMosaic.ix3 b p d))
            (net m c (g 0) b p d) (net m c (g 1) b p d))
          (fun d => (m ((c : Thread nD τ).loc main_arg8) : FVec Ideal S768x1000 .f32) (Idealize.ShloMosaic.ix2 d n)) := by
  obtain rfl : c = 0 := Subsingleton.elim (α := Fin 1) _ _
  obtain ⟨h0, A, hA, ho⟩ := h
  choose g p hp using (Host.words_lt m 0).2.2 b
  refine ⟨g, fun k => ⟨(hp k).1, (hp k).2.1⟩, ?_⟩
  have t0 : Launch.tbl1 m 0 (ValueIdx.ix1 b) = BitVec.ofNat 32 (p 0).val := (place_0 m 0 b).trans (hp 0).2.2.1
  have t1 : Launch.tbl1 m 1 (ValueIdx.ix1 b) = BitVec.ofNat 32 (p 1).val := (place_1 m 0 b).trans (hp 1).2.2.1
  have e := row_apply (V18 m o) 0 hO.rows A hA b n (p 0) (p 1) t0 t1
  have hv : (V20 m o 0 main_v114 : FVec Ideal S64x1000 .f32) (Idealize.ShloMosaic.ix2 b n) = (A 6 : FVec Ideal S64x1x1000 .f32) (Idealize.ShloMosaic.ix3 b 0 n) := by
    rw [show (V20 m o 0 main_v114 : FVec Ideal S64x1000 .f32) = shapeCast S64x1000 (o 19 main_v113 0 : FVec Ideal S64x1x1000 .f32) Gen.shapeCasts_S64x1x1000_S64x1000 from
      (Host.s114 _).trans (congrArg (fun v : FVec Ideal S64x1x1000 .f32 => shapeCast S64x1000 v Gen.shapeCasts_S64x1x1000_S64x1000) (Function.update_self _ _ _))]
    rw [ho]
    generalize (A 6 : FVec Ideal S64x1x1000 .f32) = v
    pointwise
  refine hv.trans (e.trans (congrArg₂ Cert.Mix.logit (funext fun p' => funext fun d => ?_) (funext fun d => ?_)))
  · have w0 : (V18 m o 0 main_v108 : FVec Ideal S64x1x1 .f32) (Idealize.ShloMosaic.ix3 b 0 0) = gate m 0 b 0 :=
      (congrFun (V18_of m o 0 main_v108 (by decide)) _).trans (V_v108 m 0 b)
    have w1 : (V18 m o 0 main_v111 : FVec Ideal S64x1x1 .f32) (Idealize.ShloMosaic.ix3 b 0 0) = gate m 0 b 1 :=
      (congrFun (V18_of m o 0 main_v111 (by decide)) _).trans (V_v111 m 0 b)
    have y : ∀ k, (V18 m o 0 main_v112 : FVec Ideal S152x196x768 .bf16) (Idealize.ShloMosaic.ix3 (p k) p' d) = net m 0 (g k) b p' d := fun k =>
      (congrFun (Function.update_self _ _ _) _).trans (out_apply m 0 hO o h0 (p k) p' d (g k) b (hp k).2.2.2.2.2 (hp k).2.2.2.2.1 (hp k).2.2.2.1)
    exact blend_congr w0 w1 ((congrFun (V18_of m o 0 main_arg0 (by decide)) _).trans (congrFun (V_arg0 m 0) _)) (y 0) (y 1)
  · exact (congrFun (V18_of m o 0 main_arg8 (by decide)) _).trans (congrFun (V_arg8 m 0) _)

/-- The exponentials of the logits less their largest. -/
def powers (x : FVec Ideal S64x1x8 .f32) : FVec Ideal S64x8 .f32 :=
  Idealize.ShloMosaic.Host.exp (subf (shapeCast S64x8 x Gen.shapeCasts_S64x1x8_S64x8) (broadcastInDim S64x8 ![0, 1] Gen.bcast_S64x1_S64x8_0_1 (broadcastInDim S64x1 ![0] Gen.bcast_S64_S64x1_0
    (maximumf (broadcastInDim S64 ![] Gen.bcast_S_S64 (constant S_ .f32 0xFF800000#32))
      (Idealize.ShloMosaic.Host.reduce FloatOps.maximumf (shapeCast S64x8 x Gen.shapeCasts_S64x1x8_S64x8) (constant S_ .f32 0xFF800000#32) Gen.reducesTo_S64x8_S64_d1 Gen.h_S_)))))

theorem powers_nonneg (x : FVec Ideal S64x1x8 .f32) (i : S64x8.Idx) : 0 ≤ (powers x i : EReal) := Cert.Mix.exp_nonneg _

theorem probs_apply (x : FVec Ideal S64x1x8 .f32) (b : Fin 64) (g : Fin 8) :
    Host.probs x (Idealize.ShloMosaic.ix2 b g) = Cert.Mix.share (fun e => powers x (Idealize.ShloMosaic.ix2 b e)) g := by
  have h : Host.probs x = Idealize.ShloMosaic.Host.divf (powers x) (broadcastInDim S64x8 ![0, 1] Gen.bcast_S64x1_S64x8_0_1 (broadcastInDim S64x1 ![0] Gen.bcast_S64_S64x1_0
    (Idealize.ShloMosaic.Host.reduceAdd (powers x) (constant S_ .f32 0x00000000#32) Gen.reducesTo_S64x8_S64_d1 Gen.h_S_))) := rfl
  rw [h]
  generalize powers x = v
  pointwise
  rfl

theorem weights_apply (v : FVec Ideal S64x2 .f32) (b : Fin 64) (k : Fin 2) :
    Host.weights v (Idealize.ShloMosaic.ix2 b k) = Ideal.div (v (Idealize.ShloMosaic.ix2 b k)) (∑ j, v (Idealize.ShloMosaic.ix2 b j) + Cert.Mix.eps) := by
  pointwise [Host.weights]
  rfl

/-- Row `b`'s weights are neither negative nor infinite. -/
theorem gate_finite (b : Fin 64) (g : Fin 2 → Fin 8) (h : ∀ k, (Host.top m c).1 (Idealize.ShloMosaic.ix2 b k) = Host.probs (m ((c : Thread nD τ).loc main_arg1)) (Idealize.ShloMosaic.ix2 b (g k)))
    (k : Fin 2) : 0 ≤ gate m c b k ∧ gate m c b k ≠ ⊤ := by
  have e : gate m c b k = Ideal.div (Cert.Mix.share (fun e => powers (m ((c : Thread nD τ).loc main_arg1)) (Idealize.ShloMosaic.ix2 b e)) (g k))
      (∑ j, Cert.Mix.share (fun e => powers (m ((c : Thread nD τ).loc main_arg1)) (Idealize.ShloMosaic.ix2 b e)) (g j) + Cert.Mix.eps) := by
    unfold gate
    rw [weights_apply]
    simp only [h, probs_apply]
  rw [e]
  exact Cert.Mix.weight _ (fun _ => powers_nonneg _ _) g k

end Cert.LastHopIdeal.Value

end
-- ==== Proof.LastHopReferenceIdeal.Value.lean ====
/-
  The last hop's reference, read at an index over the extended reals. Its term is cut into the softmax, the gates, the experts (the layer norm
  and the two layers of the other reference), the gates' sum over the experts and the head; row `b`'s logits are those of the kernel.
-/
module

public import proofs.«01_k».proof.Proof.Gen.LastHopReferenceIdeal
public import proofs.«01_k».proof.Proof.Gen.LastHopReferenceIdeal.Run
public import proofs.«01_k».proof.Proof.LastHopIdeal.Rows
public import proofs.«01_k».proof.Proof.Value.Reference

@[expose] public section

set_option maxRecDepth 16384

noncomputable section

namespace Cert.LastHopReferenceIdeal.Slots

open Idealize.ShloMosaic Cert.LastHopReferenceIdeal Cert.Model Facts Facts₀
open Cert.ReferenceIdeal.Slots (norm first act second norm_apply first_apply act_apply second_apply)

/-- The router's scores: the pooled logits over the temperature, which is one. -/
def scores (x : FVec Ideal S64x1x8 .f32) : FVec Ideal S64x8 .f32 :=
  Host.divf (shapeCast S64x8 x shapeCasts_S64x1x8_S64x8) (broadcastInDim S64x8 ![] bcast_S_S64x8 (constant S_ .f32 0x3F800000#32))

/-- The exponentials of the scores less their largest. -/
def powers (v : FVec Ideal S64x8 .f32) : FVec Ideal S64x8 .f32 :=
  Host.exp (subf v (broadcastInDim S64x8 ![0, 1] bcast_S64x1_S64x8_0_1 (broadcastInDim S64x1 ![0] bcast_S64_S64x1_0
    (maximumf (broadcastInDim S64 ![] bcast_S_S64 (constant S_ .f32 0xFF800000#32))
      (Host.reduce FloatOps.maximumf v (constant S_ .f32 0xFF800000#32) reducesTo_S64x8_S64_d1 h_S_)))))

/-- The softmax. -/
def probs (v : FVec Ideal S64x8 .f32) : FVec Ideal S64x8 .f32 :=
  Host.divf (powers v) (broadcastInDim S64x8 ![0, 1] bcast_S64x1_S64x8_0_1 (broadcastInDim S64x1 ![0] bcast_S64_S64x1_0
    (Host.reduceAdd (powers v) (constant S_ .f32 0x00000000#32) reducesTo_S64x8_S64_d1 h_S_)))

/-- The two largest probabilities of each row and their experts. -/
def top (v : FVec Ideal S64x8 .f32) : FVec Ideal S64x2 .f32 × IVec S64x2 32 :=
  Host.topK S64x2 1 (FloatOps.cmpfTotal .gt) (probs v) sliceFits_S64x8_S64x2

/-- One where the slot's expert is the one counted, else zero. -/
def onehot (ix : IVec S64x2 32) : FVec Ideal S64x2x8 .f32 :=
  uitofp .f32 (cmpi .eq (broadcastInDim S64x2x8 ![0, 1, 2] bcast_S64x2x1_S64x2x8_0_1_2 (broadcastInDim S64x2x1 ![0, 1] bcast_S64x2_S64x2x1_0_1 ix))
    (broadcastInDim S64x2x8 ![0, 1, 2] bcast_S1x1x8_S64x2x8_0_1_2 (iotaInDim S1x1x8 32 2)))

/-- The gate of every expert. -/
def gates (w : FVec Ideal S64x2 .f32) (ix : IVec S64x2 32) : FVec Ideal S64x8 .f32 :=
  Host.dotGeneral dot_S64x2_S64x2x8_S64x8_1_1_n_2_0_0 none w (onehot ix)

/-- The gates' sum over the experts, each of which adds its tokens to its network. -/
def hop (q : FVec Ideal S64x8 .f32) (x : FVec Ideal S64x196x768 .f32) (y : FVec Ideal S8x64x196x768 .f32) : FVec Ideal S64x196x768 .f32 :=
  Host.dotGeneral dot_S64x8_S8x64x196x768_S64x196x768_1_0_n_23_0_1 none q
    (addf (broadcastInDim S8x64x196x768 ![0, 1, 2, 3] bcast_S1x64x196x768_S8x64x196x768_0_1_2_3
      (broadcastInDim S1x64x196x768 ![1, 2, 3] bcast_S64x196x768_S1x64x196x768_1_2_3 x)) y)

/-- The positions' mean times the head. -/
def logits (z : FVec Ideal S64x196x768 .f32) (g : FVec Ideal S768x1000 .f32) : FVec Ideal S64x1000 .f32 :=
  Host.dotGeneral dot_S64x768_S768x1000_S64x1000_1_0_0_1_n_n none
    (Host.divf (Host.reduceAdd z (constant S_ .f32 0x00000000#32) reducesTo_S64x196x768_S64x768_d1 h_S_)
      (broadcastInDim S64x768 ![] bcast_S_S64x768 (constant S_ .f32 0x43440000#32))) g

/-- The reference's term is these stages in turn. -/
theorem result_eq (m : (ℓ : Loc nD τ sig) → Buf (Elt Ideal) ℓ) (c : Dev nD) :
    Value.res_main_v70 m c =
      logits (hop (gates (Cert.LastHopIdeal.Host.weights (top (scores (m ((c.tc : Thread nD τ).loc main_arg1)))).1)
          (top (scores (m ((c.tc : Thread nD τ).loc main_arg1)))).2) (m ((c.tc : Thread nD τ).loc main_arg0))
        (second (act (first (norm (m ((c.tc : Thread nD τ).loc main_arg0)) (m ((c.tc : Thread nD τ).loc main_arg2))
          (m ((c.tc : Thread nD τ).loc main_arg3))) (m ((c.tc : Thread nD τ).loc main_arg4)) (m ((c.tc : Thread nD τ).loc main_arg5))))
          (m ((c.tc : Thread nD τ).loc main_arg6)) (m ((c.tc : Thread nD τ).loc main_arg7))))
        (m ((c.tc : Thread nD τ).loc main_arg8)) := rfl

theorem one_eq : Ideal.ofBits .f32 0x3F800000#32 = 1 := by
  have h : Ideal.ofBits .f32 0x3F800000#32 = ((1 : ℝ) : EReal) := by
    simp [Ideal.ofBits, Ideal.ieee, -EReal.coe_mul]; norm_num
  exact h.trans EReal.coe_one

/-- A temperature of one leaves the logits as they are. -/
theorem scores_eq (x : FVec Ideal S64x1x8 .f32) : scores x = shapeCast S64x8 x shapeCasts_S64x1x8_S64x8 :=
  funext fun i => (congrArg (Ideal.div (shapeCast S64x8 x shapeCasts_S64x1x8_S64x8 i)) one_eq).trans (Cert.Mix.div_one _)

theorem top_eq (x : FVec Ideal S64x1x8 .f32) :
    top (scores x) = Host.topK S64x2 1 (FloatOps.cmpfTotal .gt) (Cert.LastHopIdeal.Host.probs x) sliceFits_S64x8_S64x2 := by
  rw [scores_eq]; rfl

theorem onehot_apply (ix : IVec S64x2 32) (b : Fin 64) (k : Fin 2) (e g : Fin 8) (h : ix (ix2 b k) = BitVec.ofNat 32 g.val) :
    onehot ix (ix3 b k e) = if g = e then 1 else 0 := by
  pointwise [onehot]
  rw [h]
  have key : ∀ g e : Fin 8, IntOp.cmpi .eq (BitVec.ofNat 32 g.val) (BitVec.ofNat 32 e.val) = if g = e then 1#1 else 0#1 := by decide
  refine (congrArg (fun w : BitVec 1 => ((w.toNat : ℝ) : EReal)) (key g e)).trans ?_
  split <;> simp

theorem gates_apply (w : FVec Ideal S64x2 .f32) (ix : IVec S64x2 32) (b : Fin 64) (e : Fin 8) :
    gates w ix (ix2 b e) = ∑ k, w (ix2 b k) * onehot ix (ix3 b k e) := by
  pointwise [gates]

theorem hop_apply (q : FVec Ideal S64x8 .f32) (x : FVec Ideal S64x196x768 .f32) (y : FVec Ideal S8x64x196x768 .f32) (b : Fin 64) (p : Fin 196) (d : Fin 768) :
    hop q x y (ix3 b p d) = ∑ e, q (ix2 b e) * (x (ix3 b p d) + y (ix4 e b p d)) := by
  pointwise [hop]

theorem logits_apply (z : FVec Ideal S64x196x768 .f32) (g : FVec Ideal S768x1000 .f32) (b : Fin 64) (n : Fin 1000) :
    logits z g (ix2 b n) = Cert.Mix.logit (fun p d => z (ix3 b p d)) (fun d => g (ix2 d n)) := by
  pointwise [logits]
  rfl

/-- Position `p` of expert `e`'s network on the tokens of row `a`. -/
def net (m : (ℓ : Loc nD τ sig) → Buf (Elt Ideal) ℓ) (c : Dev nD) (e : Fin 8) (a : Fin 64) (p : Fin 196) (q : Fin 768) : EReal :=
  mlp (fun d => (m ((c.tc : Thread nD τ).loc main_arg0) : FVec Ideal S64x196x768 .f32) (ix3 a p d))
    (fun d => (m ((c.tc : Thread nD τ).loc main_arg2) : FVec Ideal S8x768 .f32) (ix2 e d))
    (fun d => (m ((c.tc : Thread nD τ).loc main_arg3) : FVec Ideal S8x768 .f32) (ix2 e d))
    (fun d f => (m ((c.tc : Thread nD τ).loc main_arg4) : FVec Ideal S8x768x3072 .f32) (ix3 e d f))
    (fun f => (m ((c.tc : Thread nD τ).loc main_arg5) : FVec Ideal S8x3072 .f32) (ix2 e f))
    (fun f q => (m ((c.tc : Thread nD τ).loc main_arg6) : FVec Ideal S8x3072x768 .f32) (ix3 e f q))
    (fun q => (m ((c.tc : Thread nD τ).loc main_arg7) : FVec Ideal S8x768 .f32) (ix2 e q)) q

/-- Row `b` of the result, of whose two experts `g` names the numbers, where the two weights are neither negative nor infinite. -/
theorem result_apply (m : (ℓ : Loc nD τ sig) → Buf (Elt Ideal) ℓ) (c : Dev nD) (b : Fin 64) (n : Fin 1000) (v : FVec Ideal S64x2 .f32) (ix : IVec S64x2 32)
    (ht : top (scores (m ((c.tc : Thread nD τ).loc main_arg1))) = (v, ix)) (g : Fin 2 → Fin 8) (hg : ∀ k, ix (ix2 b k) = BitVec.ofNat 32 (g k).val)
    (hw : ∀ k, 0 ≤ (Cert.LastHopIdeal.Host.weights v (ix2 b k) : EReal) ∧ (Cert.LastHopIdeal.Host.weights v (ix2 b k) : EReal) ≠ ⊤) :
    (Value.res_main_v70 m c : FVec Ideal S64x1000 .f32) (ix2 b n) =
      Cert.Mix.logit (fun p d => Cert.LastHopIdeal.Value.blend (Cert.LastHopIdeal.Host.weights v (ix2 b 0)) (Cert.LastHopIdeal.Host.weights v (ix2 b 1))
          ((m ((c.tc : Thread nD τ).loc main_arg0) : FVec Ideal S64x196x768 .f32) (ix3 b p d))
          (net m c (g 0) b p d) (net m c (g 1) b p d))
        (fun d => (m ((c.tc : Thread nD τ).loc main_arg8) : FVec Ideal S768x1000 .f32) (ix2 d n)) := by
  rw [result_eq, ht, logits_apply]
  refine congrArg (fun z => Cert.Mix.logit z _) (funext fun p => funext fun d => ?_)
  rw [hop_apply]
  simp only [gates_apply]
  refine (Cert.Mix.gates (fun k => Cert.LastHopIdeal.Host.weights v (ix2 b k)) hw g (fun k e => onehot ix (ix3 b k e))
    (fun k e => onehot_apply ix b k e (g k) (hg k)) _ _).trans ?_
  simp only [second_apply, act_apply, first_apply, norm_apply]
  rfl

end Cert.LastHopReferenceIdeal.Slots

end
-- ==== Proof.PatchEmbed.Model.lean ====
/-
  The patch embedding over the extended reals: one token of an image, and the router's pooled logits in the two orders of averaging. The
  kernel averages the tokens and then takes the product, the reference takes the products and averages them; where every
  number but the bias is known to be finite the two agree.
-/
module

public import Idealize.ShloMosaic.PureOps.Ideal.Laws
public import Idealize.ShloMosaic.Lib.IdealHost

@[expose] public section

noncomputable section

namespace Cert.Patch

open Idealize.ShloMosaic

/-- One token: the patch times the weights, the bias, the position's embedding. -/
def token (x : Fin 768 → EReal) (w : Fin 768 → Fin 768 → EReal) (b e : Fin 768 → EReal) (d : Fin 768) : EReal :=
  ∑ k, x k * w k d + b d + e d

/-- The number of positions. -/
def count : EReal := Ideal.ofBits .f32 0x43440000#32

/-- The mean token times the router's column. -/
def meanFirst (t : Fin 196 → Fin 768 → EReal) (r : Fin 768 → EReal) : EReal := ∑ d, Ideal.div (∑ p, t p d) count * r d

/-- The mean of the tokens' products with the router's column. -/
def meanLast (t : Fin 196 → Fin 768 → EReal) (r : Fin 768 → EReal) : EReal := Ideal.div (∑ p, ∑ d, t p d * r d) count

theorem count_eq : count = ((196 : ℝ) : EReal) := by
  unfold count; simp [Ideal.ofBits, Ideal.ieee, -EReal.coe_mul]; norm_num

theorem coe_sum {ι : Type} [DecidableEq ι] (s : Finset ι) (f : ι → ℝ) : ((∑ i ∈ s, f i : ℝ) : EReal) = ∑ i ∈ s, (f i : EReal) := by
  induction s using Finset.induction_on with
  | empty => simp
  | insert a s h ih => rw [Finset.sum_insert h, Finset.sum_insert h, EReal.coe_add, ih]

theorem div_count (x : ℝ) : Ideal.div (x : EReal) count = ((x * (196 : ℝ)⁻¹ : ℝ) : EReal) := by
  rw [count_eq]
  unfold Ideal.div
  rw [if_neg (by exact_mod_cast (by norm_num : (196 : ℝ) ≠ 0)), EReal.coe_mul, EReal.coe_inv]

/-- The numbers `a` of the positions have the mean `u`: either all are finite and `u` is their average, or all are the same infinity and so is `u`. -/
def HasMean (a : Fin 196 → EReal) (u : EReal) : Prop :=
  (∃ f : Fin 196 → ℝ, (∀ p, a p = f p) ∧ u = (((∑ p, f p) * (196 : ℝ)⁻¹ : ℝ) : EReal)) ∨ ((∀ p, a p = ⊤) ∧ u = ⊤) ∨ (∀ p, a p = ⊥) ∧ u = ⊥

theorem sum_top : ∑ _p : Fin 196, (⊤ : EReal) = ⊤ := by
  have h : ∀ n : ℕ, (n + 1) • (⊤ : EReal) = ⊤ := fun n => by
    induction n with
    | zero => simp
    | succ n ih => rw [succ_nsmul, ih]; rfl
  rw [Finset.sum_const]
  exact h 195
theorem sum_bot : ∑ _p : Fin 196, (⊥ : EReal) = ⊥ := by
  rw [Fin.sum_univ_succ, EReal.bot_add]
theorem count_inv_pos : (0 : ℝ) < (196 : ℝ)⁻¹ := by norm_num
theorem div_top : Ideal.div ⊤ count = ⊤ := by
  rw [count_eq]
  unfold Ideal.div
  rw [if_neg (by exact_mod_cast (by norm_num : (196 : ℝ) ≠ 0)), ← EReal.coe_inv, EReal.top_mul_coe_of_pos count_inv_pos]
theorem div_bot : Ideal.div ⊥ count = ⊥ := by
  rw [count_eq]
  unfold Ideal.div
  rw [if_neg (by exact_mod_cast (by norm_num : (196 : ℝ) ≠ 0)), ← EReal.coe_inv, EReal.bot_mul_coe_of_pos count_inv_pos]

/-- Such a mean is the sum over the positions divided by their number. -/
theorem HasMean.eq_div {a : Fin 196 → EReal} {u : EReal} (h : HasMean a u) : u = Ideal.div (∑ p, a p) count := by
  obtain ⟨f, ha, rfl⟩ | ⟨ha, rfl⟩ | ⟨ha, rfl⟩ := h
  · rw [Finset.sum_congr rfl fun p _ => ha p, ← coe_sum, div_count]
  · rw [Finset.sum_congr rfl fun p _ => ha p, sum_top, div_top]
  · rw [Finset.sum_congr rfl fun p _ => ha p, sum_bot, div_bot]

theorem HasMean.add {a b : Fin 196 → EReal} {u v : EReal} (h : HasMean a u) (k : HasMean b v) : HasMean (fun p => a p + b p) (u + v) := by
  obtain ⟨f, ha, rfl⟩ | ⟨ha, rfl⟩ | ⟨ha, rfl⟩ := h <;> obtain ⟨g, hb, rfl⟩ | ⟨hb, rfl⟩ | ⟨hb, rfl⟩ := k <;> simp only [ha, hb]
  · exact .inl ⟨fun p => f p + g p, fun p => (EReal.coe_add _ _).symm, by rw [← EReal.coe_add, ← add_mul, Finset.sum_add_distrib]⟩
  · exact .inr (.inl ⟨fun p => EReal.coe_add_top _, EReal.coe_add_top _⟩)
  · exact .inr (.inr ⟨fun p => EReal.add_bot _, EReal.add_bot _⟩)
  · exact .inr (.inl ⟨fun p => EReal.top_add_coe _, EReal.top_add_coe _⟩)
  · exact .inr (.inl ⟨fun p => rfl, rfl⟩)
  · exact .inr (.inr ⟨fun p => EReal.add_bot _, EReal.add_bot _⟩)
  · exact .inr (.inr ⟨fun p => EReal.bot_add _, EReal.bot_add _⟩)
  · exact .inr (.inr ⟨fun p => EReal.bot_add _, EReal.bot_add _⟩)
  · exact .inr (.inr ⟨fun p => EReal.bot_add _, EReal.bot_add _⟩)

theorem HasMean.mul {a : Fin 196 → EReal} {u : EReal} (h : HasMean a u) (r : ℝ) : HasMean (fun p => a p * r) (u * r) := by
  have zero : HasMean (fun _ => 0) 0 := .inl ⟨fun _ => 0, fun _ => rfl, by simp⟩
  obtain ⟨f, ha, rfl⟩ | ⟨ha, rfl⟩ | ⟨ha, rfl⟩ := h <;> simp only [ha]
  · exact .inl ⟨fun p => f p * r, fun p => (EReal.coe_mul _ _).symm, by rw [← EReal.coe_mul, ← Finset.sum_mul]; congr 1; ring⟩
  · obtain hr | rfl | hr := lt_trichotomy r 0
    · rw [EReal.top_mul_coe_of_neg hr]; exact .inr (.inr ⟨fun _ => rfl, rfl⟩)
    · rw [EReal.coe_zero, mul_zero]; exact zero
    · rw [EReal.top_mul_coe_of_pos hr]; exact .inr (.inl ⟨fun _ => rfl, rfl⟩)
  · obtain hr | rfl | hr := lt_trichotomy r 0
    · rw [EReal.bot_mul_coe_of_neg hr]; exact .inr (.inl ⟨fun _ => rfl, rfl⟩)
    · rw [EReal.coe_zero, mul_zero]; exact zero
    · rw [EReal.bot_mul_coe_of_pos hr]; exact .inr (.inr ⟨fun _ => rfl, rfl⟩)

theorem HasMean.sum {ι : Type} [DecidableEq ι] (s : Finset ι) (a : ι → Fin 196 → EReal) (u : ι → EReal) (h : ∀ d, HasMean (a d) (u d)) :
    HasMean (fun p => ∑ d ∈ s, a d p) (∑ d ∈ s, u d) := by
  induction s using Finset.induction_on with
  | empty => exact .inl ⟨fun _ => 0, fun _ => by simp, by simp⟩
  | insert i s hi ih => simp only [Finset.sum_insert hi]; exact (h i).add ih

/-- Where every column of the tokens has such a mean and the router is finite, the two orders agree. -/
theorem mean_eq (t : Fin 196 → Fin 768 → EReal) (r : Fin 768 → EReal) (ht : ∀ d, HasMean (fun p => t p d) (Ideal.div (∑ p, t p d) count))
    (hr : ∀ d, ∃ y : ℝ, r d = y) : meanFirst t r = meanLast t r := by
  choose r' hr using hr
  unfold meanFirst meanLast
  simp only [hr]
  exact (HasMean.sum Finset.univ (fun d p => t p d * r' d) _ fun d => (ht d).mul (r' d)).eq_div

/-- The tokens' columns have such means where patches, weights and positions are finite, whatever the bias: an infinite bias is the same at every
    position. -/
theorem token_mean (x : Fin 196 → Fin 768 → EReal) (w : Fin 768 → Fin 768 → EReal) (b : Fin 768 → EReal) (e : Fin 196 → Fin 768 → EReal)
    (hx : ∀ p k, ∃ y : ℝ, x p k = y) (hw : ∀ k d, ∃ y : ℝ, w k d = y) (he : ∀ p d, ∃ y : ℝ, e p d = y) (d : Fin 768) :
    HasMean (fun p => token (x p) w b (e p) d) (Ideal.div (∑ p, token (x p) w b (e p) d) count) := by
  have key : ∃ u, HasMean (fun p => token (x p) w b (e p) d) u := by
    choose x' hx using hx
    choose w' hw using hw
    choose e' he using he
    unfold token
    simp only [hx, hw, he, ← EReal.coe_mul, ← coe_sum]
    generalize b d = y
    induction y using EReal.rec with
    | bot => exact ⟨⊥, .inr (.inr ⟨fun p => by beta_reduce; rw [EReal.add_bot, EReal.bot_add], rfl⟩)⟩
    | top => exact ⟨⊤, .inr (.inl ⟨fun p => by beta_reduce; rw [EReal.coe_add_top, EReal.top_add_coe], rfl⟩)⟩
    | coe y => exact ⟨_, .inl ⟨fun p => ∑ k, x' p k * w' k d + y + e' p d, fun p => by rw [EReal.coe_add, EReal.coe_add], rfl⟩⟩
  obtain ⟨u, h⟩ := key
  exact h.eq_div ▸ h

/-- A number whose absolute value lies below infinity is finite. -/
theorem finite_of_lt (x : Ideal .f32) (h : FloatOps.cmpf .olt (FloatOps.hostAbsf x) (FloatOps.ofBits .f32 0x7F800000#32 : Ideal .f32) = 1#1) :
    ∃ y : ℝ, (x : EReal) = y := by
  have inf : Ideal.ofBits .f32 0x7F800000#32 = (⊤ : EReal) := by simp [Ideal.ofBits, Ideal.ieee]
  have h' : Ideal.cmp .olt (max (x : EReal) (-(x : EReal))) (Ideal.ofBits .f32 0x7F800000#32) = 1#1 := h
  rw [inf] at h'
  induction x using EReal.rec with
  | bot => simp [Ideal.cmp] at h'
  | top => simp [Ideal.cmp] at h'
  | coe r => exact ⟨r, rfl⟩

end Cert.Patch

end
-- ==== Proof.PatchEmbed.Finite.lean ====
/-
  The precondition read element by element: every number of the images, the weights, the positions' embedding and the router is finite.
-/
module

public import proofs.«01_k».proof.Proof.Gen.Pre_finite
public import proofs.«01_k».proof.Proof.PatchEmbed.Model
public import Idealize.ShloMosaic.Lib.ReduceAll

@[expose] public section

namespace Cert.Patch

open Idealize.ShloMosaic Cert.Pre_finite

theorem decode [Facts] {a0 : FVec Ideal S64x3x224x224 .f32} {a1 : FVec Ideal S768x768 .f32} {a2 : FVec Ideal S768 .f32} {a3 : FVec Ideal S1x196x768 .f32}
    {a4 : FVec Ideal S768x8 .f32} (h : fn a0 a1 a2 a3 a4 = fun _ => 1#1) :
    (∀ i, ∃ y : ℝ, (a0 i : EReal) = y) ∧ (∀ i, ∃ y : ℝ, (a1 i : EReal) = y) ∧ (∀ i, ∃ y : ℝ, (a3 i : EReal) = y)
      ∧ ∀ i, ∃ y : ℝ, (a4 i : EReal) = y := by
  have h0 := congrFun h (fun a => a.elim0)
  dsimp only [fn, fn_part1] at h0
  have hand : ∀ p q : BitVec 1, IntOp.andi p q = 1#1 → p = 1#1 ∧ q = 1#1 := by decide
  obtain ⟨h0, e4⟩ := hand _ _ h0
  obtain ⟨h0, e3⟩ := hand _ _ h0
  obtain ⟨e0, e1⟩ := hand _ _ h0
  exact ⟨fun i => finite_of_lt _ (Host.reduce_andi_all _ _ _ _ _ e0 i), fun i => finite_of_lt _ (Host.reduce_andi_all _ _ _ _ _ e1 i),
    fun i => finite_of_lt _ (Host.reduce_andi_all _ _ _ _ _ e3 i),
    fun i => finite_of_lt _ (Host.reduce_andi_all _ _ _ _ _ e4 i)⟩

end Cert.Patch
-- ==== Proof.PatchEmbed.Kernel.lean ====
/-
  The patch embedding's two arrays, read at an index over the extended reals: the body's two stores, the blocks it reads, and what the
  pipeline leaves.
-/
module

public import proofs.«01_k».proof.Proof.Gen.PatchEmbedIdeal.Value
public import proofs.«01_k».proof.Proof.PatchEmbed.Model
public import proofs.«01_k».proof.Proof.Value.Blocks
public import Idealize.ShloMosaic.Lib.Pointwise

@[expose] public section

set_option maxRecDepth 16384

noncomputable section

namespace Cert.PatchEmbedIdeal.Embed

open Idealize.ShloMosaic Idealize.ShloMosaic.TcCoe Idealize.SL.Sem
open Cert.PatchEmbedIdeal Cert.PatchEmbedIdeal.Gen Cert.Patch
open Cert.KernelIdeal.Value (plane_eq)

/-! ## The body -/

theorem tokens_apply (x : Vec Ideal S1x196x768 .f32) (w : Vec Ideal S768x768 .f32) (b : Vec Ideal S1x768 .f32) (e : Vec Ideal S1x196x768 .f32)
    (p : Fin 196) (d : Fin 768) :
    k0_pay1 x w b e (ix2 p d) = token (fun k => x (ix3 0 p k)) (fun k d => w (ix2 k d)) (fun d => b (ix2 0 d)) (fun d => e (ix3 0 p d)) d := by
  pointwise [k0_pay1]
  rfl

theorem stored_tokens (x : Vec Ideal S1x196x768 .f32) (w : Vec Ideal S768x768 .f32) (b : Vec Ideal S1x768 .f32) (e : Vec Ideal S1x196x768 .f32)
    (p : Fin 196) (d : Fin 768) : k0_pay2 x w b e (ix3 0 p d) = k0_pay1 x w b e (ix2 p d) := by
  unfold k0_pay2
  generalize k0_pay1 x w b e = v
  pointwise

theorem stored_logits (x : Vec Ideal S1x196x768 .f32) (w : Vec Ideal S768x768 .f32) (b : Vec Ideal S1x768 .f32) (e : Vec Ideal S1x196x768 .f32)
    (r : Vec Ideal S768x8 .f32) (n : Fin 8) :
    k0_pay3 x w b e r (ix3 0 0 n) = meanFirst (fun p d => k0_pay1 x w b e (ix2 p d)) (fun d => r (ix2 d n)) := by
  unfold k0_pay3
  generalize k0_pay1 x w b e = v
  pointwise
  rfl

theorem out_tokens (x : Vec Ideal S1x196x768 .f32) (w : Vec Ideal S768x768 .f32) (b : Vec Ideal S1x768 .f32) (e : Vec Ideal S1x196x768 .f32)
    (r : Vec Ideal S768x8 .f32) : out0_5 x w b e r = k0_pay2 x w b e := by
  funext y
  unfold out0_5
  simp (disch := decide) only [View.ld_unit_lit']
  have hy : (r0_0.emb y : S1x196x768.Idx) = y := funext fun a => Fin.ext (by match a with
    | ⟨0, _⟩ => show 0 + 1 * (y 0).val = (y 0).val; omega
    | ⟨1, _⟩ => show 0 + 1 * (y 1).val = (y 1).val; omega
    | ⟨2, _⟩ => show 0 + 1 * (y 2).val = (y 2).val; omega)
  exact (congrArg _ hy.symm).trans (View.canon_cons_emb r0_0 _ [] y)

theorem out_logits (x : Vec Ideal S1x196x768 .f32) (w : Vec Ideal S768x768 .f32) (b : Vec Ideal S1x768 .f32) (e : Vec Ideal S1x196x768 .f32)
    (r : Vec Ideal S768x8 .f32) : out0_6 x w b e r = k0_pay3 x w b e r := by
  funext y
  unfold out0_6
  simp (disch := decide) only [View.ld_unit_lit']
  have hy : (r0_4.emb y : S1x1x8.Idx) = y := funext fun a => Fin.ext (by match a with
    | ⟨0, _⟩ => show 0 + 1 * (y 0).val = (y 0).val; omega
    | ⟨1, _⟩ => show 0 + 1 * (y 1).val = (y 1).val; omega
    | ⟨2, _⟩ => show 0 + 1 * (y 2).val = (y 2).val; omega)
  exact (congrArg _ hy.symm).trans (View.canon_cons_emb r0_4 _ [] y)

/-! ## The blocks -/

section Blocks

variable (t : Fin cfg0.N)

theorem block_patches (X : FVec Ideal S64x196x768 .f32) (b : Fin 64) (hb : b.val = t.val) (p : Fin 196) (k : Fin 768) :
    (((cfg0.win 0).blk t).view.read (Elt Ideal) X : Vec Ideal S1x196x768 .f32) (ix3 0 p k) = X (ix3 b p k) :=
  congrArg X (plane_eq _ b p k _ (by rw [hb]; exact (by decide : ∀ t : Fin grid0.N, cc0_transform_0 (grid0.coords t) = ![t.val, 0, 0]) t)
    fun a => (cfg0.win 0).rect_emb_val t (ix3 0 p k) a rfl)
theorem block_weights (X : FVec Ideal S768x768 .f32) (k d : Fin 768) :
    (((cfg0.win 1).blk t).view.read (Elt Ideal) X : Vec Ideal S768x768 .f32) (ix2 k d) = X (ix2 k d) := by
  refine congrArg X (funext fun (a : Fin 2) => Fin.ext ?_)
  refine ((cfg0.win 1).rect_emb_val t (ix2 k d) a rfl).trans ?_
  rw [show (cfg0.win 1).index t = ![0, 0] from (by decide : ∀ t : Fin grid0.N, cc0_transform_1 (grid0.coords t) = ![0, 0]) t]
  match a with
  | 0 => show 0 * 768 + k.val = k.val; omega
  | 1 => show 0 * 768 + d.val = d.val; omega
theorem block_bias (X : FVec Ideal S1x768 .f32) (d : Fin 768) :
    (((cfg0.win 2).blk t).view.read (Elt Ideal) X : Vec Ideal S1x768 .f32) (ix2 0 d) = X (ix2 0 d) := by
  refine congrArg X (funext fun (a : Fin 2) => Fin.ext ?_)
  refine ((cfg0.win 2).rect_emb_val t (ix2 0 d) a rfl).trans ?_
  rw [show (cfg0.win 2).index t = ![0, 0] from (by decide : ∀ t : Fin grid0.N, cc0_transform_2 (grid0.coords t) = ![0, 0]) t]
  match a with
  | 0 => rfl
  | 1 => show 0 * 768 + d.val = d.val; omega
theorem block_positions (X : FVec Ideal S1x196x768 .f32) (p : Fin 196) (d : Fin 768) :
    (((cfg0.win 3).blk t).view.read (Elt Ideal) X : Vec Ideal S1x196x768 .f32) (ix3 0 p d) = X (ix3 0 p d) :=
  congrArg X (plane_eq _ 0 p d _ ((by decide : ∀ t : Fin grid0.N, cc0_transform_3 (grid0.coords t) = ![0, 0, 0]) t)
    fun a => (cfg0.win 3).rect_emb_val t (ix3 0 p d) a rfl)
theorem block_router (X : FVec Ideal S768x8 .f32) (d : Fin 768) (n : Fin 8) :
    (((cfg0.win 4).blk t).view.read (Elt Ideal) X : Vec Ideal S768x8 .f32) (ix2 d n) = X (ix2 d n) := by
  refine congrArg X (funext fun (a : Fin 2) => Fin.ext ?_)
  refine ((cfg0.win 4).rect_emb_val t (ix2 d n) a rfl).trans ?_
  rw [show (cfg0.win 4).index t = ![0, 0] from (by decide : ∀ t : Fin grid0.N, cc0_transform_4 (grid0.coords t) = ![0, 0]) t]
  match a with
  | 0 => show 0 * 768 + d.val = d.val; omega
  | 1 => show 0 * 8 + n.val = n.val; omega

end Blocks

/-! ## The arrays -/

variable (m : (ℓ : Loc nD τ sig) → Buf (Elt Ideal) ℓ) (c : Dev nD)

/-- The images cut into patches. -/
def patches (x : FVec Ideal S64x3x224x224 .f32) : FVec Ideal S64x196x768 .f32 :=
  shapeCast S64x196x768 (transpose S64x14x14x3x16x16 [0, 2, 4, 1, 3, 5] (shapeCast S64x3x14x16x14x16 x Gen.shapeCasts_S64x3x224x224_S64x3x14x16x14x16)
    Gen.transposes_S64x3x14x16x14x16_S64x14x14x3x16x16_0_2_4_1_3_5) Gen.shapeCasts_S64x14x14x3x16x16_S64x196x768

theorem V_patches : V m c main_v2 = patches (m ((c : Thread nD τ).loc main_arg0)) := by
  show StableHlo.after hostOps0 _ _ = _
  after_results; try rfl
theorem V_bias (d : Fin 768) : (V m c main_v3 : FVec Ideal S1x768 .f32) (ix2 0 d) = (m ((c : Thread nD τ).loc main_arg2) : FVec Ideal S768 .f32) (ix1 d) := by
  have h : V m c main_v3 = (shapeCast S1x768 (m ((c : Thread nD τ).loc main_arg2) : FVec Ideal S768 .f32) Gen.shapeCasts_S768_S1x768) := by
    show StableHlo.after hostOps0 _ _ = _
    after_results; try rfl
  rw [h]
  generalize (m ((c : Thread nD τ).loc main_arg2) : FVec Ideal S768 .f32) = v
  pointwise

/-- Token `p` of image `b`. -/
def tok (b : Fin 64) (p : Fin 196) (d : Fin 768) : EReal :=
  token (fun k => patches (m ((c : Thread nD τ).loc main_arg0)) (ix3 b p k)) (fun k d => (m ((c : Thread nD τ).loc main_arg1) : FVec Ideal S768x768 .f32) (ix2 k d))
    (fun d => (m ((c : Thread nD τ).loc main_arg2) : FVec Ideal S768 .f32) (ix1 d)) (fun d => (m ((c : Thread nD τ).loc main_arg3) : FVec Ideal S1x196x768 .f32) (ix3 0 p d)) d

theorem token_congr {x x' : Fin 768 → EReal} {w w' : Fin 768 → Fin 768 → EReal} {b b' e e' : Fin 768 → EReal} (hx : ∀ k, x k = x' k) (hw : ∀ k d, w k d = w' k d)
    (hb : ∀ d, b d = b' d) (he : ∀ d, e d = e' d) (d : Fin 768) : token x w b e d = token x' w' b' e' d := by
  rw [show x = x' from funext hx, show w = w' from funext fun k => funext (hw k), show b = b' from funext hb, show e = e' from funext he]

/-- What the body computes of the blocks of image `b`. -/
theorem block_tokens (b : Fin 64) (p : Fin 196) (d : Fin 768) :
    k0_pay1 (iblk m c 0 b) (iblk m c 1 b) (iblk m c 2 b) (iblk m c 3 b) (ix2 p d) = tok m c b p d :=
  (tokens_apply _ _ _ _ p d).trans (token_congr
    (fun k => (block_patches b (V m c main_v2) b rfl p k).trans (congrFun (V_patches m c) _))
    (fun k d => (block_weights b (V m c main_arg1) k d).trans (congrFun (V_main_arg1 m c) _))
    (fun d => (block_bias b (V m c main_v3) d).trans (V_bias m c d))
    (fun d => (block_positions b (V m c main_arg3) p d).trans (congrFun (V_main_arg3 m c) _)) d)

theorem tokens_array (b : Fin 64) (p : Fin 196) (d : Fin 768) :
    ((dats m 0 c).arrAt 5 cfg0.N : FVec Ideal S64x196x768 .f32) (ix3 b p d) = tok m c b p d := by
  have e := (dats m 0 c).arrAt_emb_eq_flushed 5 Value.disjoint5 (b : Fin 64) ((by decide : ∀ t : Fin grid0.N, win0_5.flush t = true) b) (ix3 0 p d)
  have hi : (((cfg0.win 5).blk (b : Fin 64)).view.emb (ix3 0 p d) : S64x196x768.Idx) = ix3 b p d :=
    plane_eq _ b p d _ ((by decide : ∀ t : Fin grid0.N, cc0_transform_5 (grid0.coords t) = ![t.val, 0, 0]) b)
      fun a => (cfg0.win 5).rect_emb_val (b : Fin 64) (ix3 0 p d) a rfl
  refine (congrArg _ hi.symm).trans (e.trans ((congrFun (Value.flushed5 m c (b : Fin 64)) (ix3 0 p d)).trans
    ((congrFun (out_tokens _ _ _ _ _) (ix3 0 p d)).trans ?_)))
  exact (stored_tokens _ _ _ _ p d).trans (block_tokens m c b p d)

theorem logits_array (b : Fin 64) (n : Fin 8) :
    ((dats m 0 c).arrAt 6 cfg0.N : FVec Ideal S64x1x8 .f32) (ix3 b 0 n)
      = meanFirst (tok m c b) (fun d => (m ((c : Thread nD τ).loc main_arg4) : FVec Ideal S768x8 .f32) (ix2 d n)) := by
  have e := (dats m 0 c).arrAt_emb_eq_flushed 6 Value.disjoint6 (b : Fin 64) ((by decide : ∀ t : Fin grid0.N, win0_6.flush t = true) b) (ix3 0 0 n)
  have hi : (((cfg0.win 6).blk (b : Fin 64)).view.emb (ix3 0 0 n) : S64x1x8.Idx) = ix3 b 0 n :=
    plane_eq _ b 0 n _ ((by decide : ∀ t : Fin grid0.N, cc0_transform_6 (grid0.coords t) = ![t.val, 0, 0]) b)
      fun a => (cfg0.win 6).rect_emb_val (b : Fin 64) (ix3 0 0 n) a rfl
  refine (congrArg _ hi.symm).trans (e.trans ((congrFun (Value.flushed6 m c (b : Fin 64)) (ix3 0 0 n)).trans
    ((congrFun (out_logits _ _ _ _ _) (ix3 0 0 n)).trans ?_)))
  refine (stored_logits _ _ _ _ _ n).trans (congrArg₂ meanFirst (funext fun p => funext fun d => block_tokens m c b p d) (funext fun d => ?_))
  exact (block_router b (V m c main_arg4) d n).trans (congrFun (V_main_arg4 m c) _)

end Cert.PatchEmbedIdeal.Embed

end
-- ==== Proof.PatchEmbed.Reference.lean ====
/-
  The patch embedding's reference, read at an index over the extended reals: the tokens, and the mean over the positions of their products
  with the router.
-/
module

public import proofs.«01_k».proof.Proof.Gen.PatchEmbedReferenceIdeal
public import proofs.«01_k».proof.Proof.Gen.PatchEmbedReferenceIdeal.Run
public import proofs.«01_k».proof.Proof.PatchEmbed.Kernel

@[expose] public section

set_option maxRecDepth 16384

noncomputable section

namespace Cert.PatchEmbedReferenceIdeal.Embed

open Idealize.ShloMosaic Idealize.SL.Sem Cert.PatchEmbedReferenceIdeal Cert.Patch Facts Facts₀
open Cert.PatchEmbedIdeal.Embed (patches)

/-- The tokens: patches times weights, bias, positions. -/
def tokens (v : FVec Ideal S64x196x768 .f32) (w : FVec Ideal S768x768 .f32) (b : FVec Ideal S768 .f32) (e : FVec Ideal S1x196x768 .f32) : FVec Ideal S64x196x768 .f32 :=
  addf (addf (Host.dotGeneral dot_S64x196x768_S768x768_S64x196x768_2_0_01_1_n_n none v w)
    (broadcastInDim S64x196x768 ![0, 1, 2] bcast_S1x1x768_S64x196x768_0_1_2 (broadcastInDim S1x1x768 ![2] bcast_S768_S1x1x768_2 b)))
    (broadcastInDim S64x196x768 ![0, 1, 2] bcast_S1x196x768_S64x196x768_0_1_2 e)

/-- The mean over the positions of the tokens' products with the router. -/
def logits (t : FVec Ideal S64x196x768 .f32) (r : FVec Ideal S768x8 .f32) : FVec Ideal S64x1x8 .f32 :=
  shapeCast S64x1x8 (Host.divf (Host.reduceAdd (Host.dotGeneral dot_S64x196x768_S768x8_S64x196x8_2_0_01_1_n_n none t r) (constant S_ .f32 0x00000000#32)
    reducesTo_S64x196x8_S64x8_d1 h_S_) (broadcastInDim S64x8 ![] bcast_S_S64x8 (constant S_ .f32 0x43440000#32))) shapeCasts_S64x8_S64x1x8

theorem tokens_apply (v : FVec Ideal S64x196x768 .f32) (w : FVec Ideal S768x768 .f32) (b : FVec Ideal S768 .f32) (e : FVec Ideal S1x196x768 .f32)
    (a : Fin 64) (p : Fin 196) (d : Fin 768) :
    tokens v w b e (ix3 a p d) = token (fun k => v (ix3 a p k)) (fun k d => w (ix2 k d)) (fun d => b (ix1 d)) (fun d => e (ix3 0 p d)) d := by
  pointwise [tokens]
  rfl

theorem logits_apply (t : FVec Ideal S64x196x768 .f32) (r : FVec Ideal S768x8 .f32) (a : Fin 64) (n : Fin 8) :
    logits t r (ix3 a 0 n) = meanLast (fun p d => t (ix3 a p d)) (fun d => r (ix2 d n)) := by
  pointwise [logits]
  rfl

variable (m : (ℓ : Loc nD τ sig) → Buf (Elt Ideal) ℓ) (c : Dev nD)

/-- The reference's tokens of its arguments. -/
def toks : FVec Ideal S64x196x768 .f32 := tokens (patches (m ((c.tc : Thread nD τ).loc main_arg0))) (m ((c.tc : Thread nD τ).loc main_arg1))
  (m ((c.tc : Thread nD τ).loc main_arg2)) (m ((c.tc : Thread nD τ).loc main_arg3))

theorem run (g : Dev nD → PrngReg) :
    θ_run defs (onTc (τ := τ) (main (F := Ideal))) ⟨m, fun _ => 0, g⟩ fun r => ∀ c : Dev nD,
      r.2.mem ((c.tc : Thread nD τ).loc main_v8) = toks m c
      ∧ r.2.mem ((c.tc : Thread nD τ).loc main_v13) = logits (toks m c) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := Value.run m g

end Cert.PatchEmbedReferenceIdeal.Embed

end
-- ==== Proof.Combine.IdealTables.lean ====
/-
  The positions' words and the blocks they pick, over the extended reals. Row `i`'s two blocks of the experts' outputs are the ones that word `i` of each table
  names; with the words in range every block lies inside its array.
-/
module

public import proofs.«01_k».proof.Proof.Gen.CombineIdeal.Frame
public import proofs.«01_k».proof.Proof.KernelIdeal.Tables

@[expose] public section

set_option maxRecDepth 16384

noncomputable section

namespace Cert.CombineIdeal.Combined

open Idealize.ShloMosaic Idealize.ShloMosaic.TcCoe
open Cert.CombineIdeal Cert.CombineIdeal.Gen
open Cert.KernelIdeal.Slots (plane_inb plane_words)

variable {F : FTy → Type} [FloatOps F]

/-- The index of row `i`. -/
def rowIx (i : grid0.Coords) : S64.Idx := fun a => (i 0).cast (by obtain rfl : a = 0 := Subsingleton.elim (α := Fin 1) _ _; rfl)

theorem off_eq (i : grid0.Coords) : k0_off1 i 0 = (i 0).val :=
  (by decide : ∀ n : Fin 64, (Scalar.indexCast (BitVec.ofNat 32 n.val) : Index).toNat = n.val) (i 0)

/-- The one element that the table's load at row `i` reads. -/
theorem row_emb (i : grid0.Coords) (inb : ∀ a, k0_off1 i a + S1.size a ≤ S64.size a) (x : S1.Idx) :
    (Rect.unit (s := S64) (k0_off1 i) S1.size inb).emb x = rowIx i := by
  refine funext fun (a : Fin 1) => Fin.ext ?_
  obtain rfl : a = 0 := Subsingleton.elim (α := Fin 1) _ _
  have h0 : (x 0).val < 1 := (x 0).isLt
  show k0_off1 i 0 + 1 * (x 0).val = (i 0).val
  rw [off_eq]; omega

theorem transform_1 (pf : pre0.Contents (Elt F)) (i : grid0.Coords) :
    cc0_transform_1 k0_off1_inb numel1_S1 pf i = ![(pf 0 (rowIx i)).toNat, 0, 0] :=
  congrArg (fun x : S64.Idx => (![(pf 0 x : BitVec 32).toNat, 0, 0] : Fin 3 → ℕ)) (row_emb i _ _)
theorem transform_2 (pf : pre0.Contents (Elt F)) (i : grid0.Coords) :
    cc0_transform_2 k0_off1_inb numel1_S1 pf i = ![(pf 1 (rowIx i)).toNat, 0, 0] :=
  congrArg (fun x : S64.Idx => (![(pf 1 x : BitVec 32).toNat, 0, 0] : Fin 3 → ℕ)) (row_emb i _ _)

variable (m : (ℓ : Loc nD τ sig) → Buf (Elt F) ℓ)

/-- With the positions in range the pipeline's blocks lie inside their arrays. -/
theorem ok_of_lt (h : ∀ c : Dev nD, (∀ x : S64.Idx, (m ((c : Thread nD τ).loc main_arg0) x : BitVec 32).toNat < 152)
    ∧ ∀ x : S64.Idx, (m ((c : Thread nD τ).loc main_arg1) x : BitVec 32).toNat < 152) : Ok m :=
  ⟨fun i => ⟨plane_inb ((h 0).1 _) _ (transform_1 (tbl m) i), .inr (plane_words ((h 0).1 _) _ (transform_1 (tbl m) i) _)⟩,
    fun i => ⟨plane_inb ((h 0).2 _) _ (transform_2 (tbl m) i), .inr (plane_words ((h 0).2 _) _ (transform_2 (tbl m) i) _)⟩⟩

end Cert.CombineIdeal.Combined

end
-- ==== Proof.Combine.Model.lean ====
/-
  The combining of a token with its two experts' outputs over the extended reals, in the kernel's grouping and in the reference's: of finite
  numbers the two agree, and then so do the two orders of averaging.
-/
module

public import proofs.«01_k».proof.Proof.PatchEmbed.Model

@[expose] public section

noncomputable section

namespace Cert.Combined

open Idealize.ShloMosaic Cert.Patch

/-- The token times the sum of the weights, and each expert's output times its weight. -/
def grouped (u v h o q : EReal) : EReal := (u + v) * h + u * o + v * q

/-- The token with an expert's output added, times the expert's weight, for each expert. -/
def separate (u v h o q : EReal) : EReal := u * (h + o) + v * (h + q)

theorem separate_congr {u u' v v' h h' o o' q q' : EReal} (hu : u = u') (hv : v = v') (hh : h = h') (ho : o = o') (hq : q = q') :
    separate u v h o q = separate u' v' h' o' q' := by rw [hu, hv, hh, ho, hq]

theorem grouped_eq {u v h o q : EReal} (hu : ∃ y : ℝ, u = y) (hv : ∃ y : ℝ, v = y) (hh : ∃ y : ℝ, h = y) (ho : ∃ y : ℝ, o = y) (hq : ∃ y : ℝ, q = y) :
    grouped u v h o q = separate u v h o q ∧ ∃ y : ℝ, grouped u v h o q = y := by
  obtain ⟨u, rfl⟩ := hu
  obtain ⟨v, rfl⟩ := hv
  obtain ⟨h, rfl⟩ := hh
  obtain ⟨o, rfl⟩ := ho
  obtain ⟨q, rfl⟩ := hq
  unfold grouped separate
  simp only [← EReal.coe_mul, ← EReal.coe_add]
  exact ⟨congrArg _ (by ring), _, rfl⟩

/-- Of finite tokens and a finite router the two orders of averaging agree. -/
theorem mean_of_finite (t : Fin 196 → Fin 768 → EReal) (r : Fin 768 → EReal) (ht : ∀ p d, ∃ y : ℝ, t p d = y) (hr : ∀ d, ∃ y : ℝ, r d = y) :
    meanFirst t r = meanLast t r :=
  mean_eq t r (fun d => by
    choose f hf using fun p => ht p d
    have H : HasMean (fun p => t p d) _ := .inl ⟨f, hf, rfl⟩
    exact H.eq_div ▸ H) hr

/-- A bf16 number whose absolute value lies below infinity is finite. -/
theorem half_finite_of_lt (x : Ideal .bf16) (h : FloatOps.cmpf .olt (FloatOps.hostAbsf x) (FloatOps.ofBits .bf16 0x7F80#16 : Ideal .bf16) = 1#1) :
    ∃ y : ℝ, (x : EReal) = y := by
  have inf : Ideal.ofBits .bf16 0x7F80#16 = Ideal.ofBits .f32 0x7F800000#32 := by simp [Ideal.ofBits, Ideal.ieee]
  have h' : Ideal.cmp .olt (max (x : EReal) (-(x : EReal))) (Ideal.ofBits .bf16 0x7F80#16) = 1#1 := h
  rw [inf] at h'
  exact finite_of_lt x h'

end Cert.Combined

end
-- ==== Proof.Combine.Kernel.lean ====
/-
  The combining call's two arrays, read at an index over the extended reals: the body's two stores, the blocks it reads, and what the
  pipeline leaves.
-/
module

public import proofs.«01_k».proof.Proof.Combine.IdealTables
public import proofs.«01_k».proof.Proof.Combine.Model
public import proofs.«01_k».proof.Proof.Value.Blocks
public import Idealize.ShloMosaic.Lib.Pointwise
public import Idealize.ShloMosaic.Lib.VecWindow

@[expose] public section

set_option maxRecDepth 16384

noncomputable section

namespace Cert.CombineIdeal.Combined

open Idealize.ShloMosaic Idealize.ShloMosaic.TcCoe Idealize.ShloMosaic.Tactic Idealize.SL.Sem
open Cert.CombineIdeal Cert.CombineIdeal.Gen Cert.Patch Cert.Combined
open Cert.KernelIdeal.Value (plane_eq)

/-! ## The body -/

section Body

variable (u v : Vec Ideal S1x1x1 .f32) (h : Vec Ideal S1x196x768 .f32) (o q : Vec Ideal S1x196x768 .bf16) (r : Vec Ideal S768x8 .f32)

theorem tokens_apply (p : Fin 196) (d : Fin 768) :
    k0_pay2 u v h o q (ix2 p d) = grouped (u (ix3 0 0 0)) (v (ix3 0 0 0)) (h (ix3 0 p d)) (o (ix3 0 p d)) (q (ix3 0 p d)) := by
  pointwise [k0_pay2]
  rfl

theorem stored_tokens (p : Fin 196) (d : Fin 768) : k0_pay3 u v h o q (ix3 0 p d) = k0_pay2 u v h o q (ix2 p d) := by
  unfold k0_pay3
  generalize k0_pay2 u v h o q = w
  pointwise

theorem stored_logits (n : Fin 8) :
    k0_pay1 (k0_pay4 u v h o q r) (ix3 0 0 n) = meanFirst (fun p d => k0_pay2 u v h o q (ix2 p d)) (fun d => r (ix2 d n)) := by
  unfold k0_pay1 k0_pay4
  generalize k0_pay2 u v h o q = w
  pointwise
  rfl

end Body

section Stores

variable (c : Dev nD) (i : grid0.Coords) (arg3 : Memref sig .tc .vmem S1x196x768 .f32) (harg3 : arg3.IsWhole) (arg4 : Memref sig .tc .vmem S1x196x768 .bf16)
  (harg4 : arg4.IsWhole) (arg5 : Memref sig .tc .vmem S1x196x768 .bf16) (harg5 : arg5.IsWhole) (arg6 : Memref sig .tc .vmem S1x1x1 .f32) (harg6 : arg6.IsWhole)
  (arg7 : Memref sig .tc .vmem S1x1x1 .f32) (harg7 : arg7.IsWhole) (arg8 : Memref sig .tc .vmem S768x8 .f32) (harg8 : arg8.IsWhole)
  (arg9 : Memref sig .tc .vmem S1x196x768 .f32) (harg9 : arg9.IsWhole) (arg10 : Memref sig .tc .vmem S1x1x8 .f32) (harg10 : arg10.IsWhole)
  (h : Vec Ideal S1x196x768 .f32) (o q : Vec Ideal S1x196x768 .bf16) (u v : Vec Ideal S1x1x1 .f32) (r : Vec Ideal S768x8 .f32)
  (t0 : TbBuf0 (F := Ideal) c tbM0_0) (t1 : TbBuf0 (F := Ideal) c tbM0_1)

theorem out_tokens : out0_A_6 c i arg3 harg3 arg4 harg4 arg5 harg5 arg6 harg6 arg7 harg7 arg8 harg8 arg9 harg9 arg10 harg10 h o q u v r t0 t1
    = k0_pay3 u v h o q := by
  unfold out0_A_6 kernelRun0_A
  dsimp only
  simp (disch := decide) only [View.readAt_eq_ld, Memref.IsWhole.read_unread, View.ld_unit_lit']
  exact View.read_writes_full (Val := Elt Ideal) VO0_6 VO0_6.junk (off := ![0, 0, 0]) Gen.inb_S1x196x768_S1x196x768_0_0_0 (k0_pay3 u v h o q) []

theorem out_logits : out0_A_7 c i arg3 harg3 arg4 harg4 arg5 harg5 arg6 harg6 arg7 harg7 arg8 harg8 arg9 harg9 arg10 harg10 h o q u v r t0 t1
    = k0_pay1 (k0_pay4 u v h o q r) := by
  unfold out0_A_7 kernelRun0_A
  dsimp only
  sl_unfold_words
  simp (disch := decide) only [View.readAt_eq_ld, Memref.IsWhole.read_unread, View.ld_unit_lit']
  exact View.read_writes_full (Val := Elt Ideal) VO0_7 VO0_7.junk (off := ![0, 0, 0]) Gen.inb_S1x1x8_S1x1x8_0_0_0 (k0_pay1 (k0_pay4 u v h o q r)) []

end Stores

/-! ## The blocks -/

variable (m : (ℓ : Loc nD τ sig) → Buf (Elt Ideal) ℓ) (hO : Ok m) (c : Dev nD)

theorem coords_val : ∀ t : Fin grid0.N, (grid0.coords t 0).val = t.val := by decide

section Blocks

variable (t : Fin (cfgM m hO).N) (b : Fin 64) (hb : b.val = t.val)
include hb

theorem row_ix : rowIx (grid0.coords t) = ix1 b := by
  refine funext fun (a : Fin 1) => Fin.ext ?_
  obtain rfl : a = 0 := Subsingleton.elim (α := Fin 1) _ _
  exact (coords_val t).trans hb.symm

theorem block_token (X : FVec Ideal S64x196x768 .f32) (p : Fin 196) (d : Fin 768) :
    ((((cfgM m hO).win 0).blk t).view.read (Elt Ideal) X : Vec Ideal S1x196x768 .f32) (ix3 0 p d) = X (ix3 b p d) :=
  congrArg X (plane_eq _ b p d _ (by rw [hb]; exact (by decide : ∀ t : Fin grid0.N, cc0_transform_0 (grid0.coords t) = ![t.val, 0, 0]) t)
    fun a => ((cfgM m hO).win 0).rect_emb_val t (ix3 0 p d) a rfl)
theorem block_first (X : FVec Ideal S152x196x768 .bf16) (s : Fin 152) (hs : (tbl m 0 (ix1 b) : BitVec 32).toNat = s.val) (p : Fin 196) (d : Fin 768) :
    ((((cfgM m hO).win 1).blk t).view.read (Elt Ideal) X : Vec Ideal S1x196x768 .bf16) (ix3 0 p d) = X (ix3 s p d) :=
  congrArg X (plane_eq _ s p d _ (by
      rw [← hs, ← row_ix m hO t b hb]; exact transform_1 (tbl m) (grid0.coords t))
    fun a => ((cfgM m hO).win 1).rect_emb_val t (ix3 0 p d) a rfl)
theorem block_second (X : FVec Ideal S152x196x768 .bf16) (s : Fin 152) (hs : (tbl m 1 (ix1 b) : BitVec 32).toNat = s.val) (p : Fin 196) (d : Fin 768) :
    ((((cfgM m hO).win 2).blk t).view.read (Elt Ideal) X : Vec Ideal S1x196x768 .bf16) (ix3 0 p d) = X (ix3 s p d) :=
  congrArg X (plane_eq _ s p d _ (by
      rw [← hs, ← row_ix m hO t b hb]; exact transform_2 (tbl m) (grid0.coords t))
    fun a => ((cfgM m hO).win 2).rect_emb_val t (ix3 0 p d) a rfl)
theorem block_weight_first (X : FVec Ideal S64x1x1 .f32) :
    ((((cfgM m hO).win 3).blk t).view.read (Elt Ideal) X : Vec Ideal S1x1x1 .f32) (ix3 0 0 0) = X (ix3 b 0 0) :=
  congrArg X (plane_eq _ b 0 0 _ (by rw [hb]; exact (by decide : ∀ t : Fin grid0.N, cc0_transform_3 (grid0.coords t) = ![t.val, 0, 0]) t)
    fun a => ((cfgM m hO).win 3).rect_emb_val t (ix3 0 0 0) a rfl)
theorem block_weight_second (X : FVec Ideal S64x1x1 .f32) :
    ((((cfgM m hO).win 4).blk t).view.read (Elt Ideal) X : Vec Ideal S1x1x1 .f32) (ix3 0 0 0) = X (ix3 b 0 0) :=
  congrArg X (plane_eq _ b 0 0 _ (by rw [hb]; exact (by decide : ∀ t : Fin grid0.N, cc0_transform_4 (grid0.coords t) = ![t.val, 0, 0]) t)
    fun a => ((cfgM m hO).win 4).rect_emb_val t (ix3 0 0 0) a rfl)
omit hb in
theorem block_router (X : FVec Ideal S768x8 .f32) (d : Fin 768) (n : Fin 8) :
    ((((cfgM m hO).win 5).blk t).view.read (Elt Ideal) X : Vec Ideal S768x8 .f32) (ix2 d n) = X (ix2 d n) := by
  refine congrArg X (funext fun (a : Fin 2) => Fin.ext ?_)
  refine (((cfgM m hO).win 5).rect_emb_val t (ix2 d n) a rfl).trans ?_
  rw [show ((cfgM m hO).win 5).index t = (![0, 0] : Fin 2 → ℕ) from (by decide : ∀ t : Fin grid0.N, cc0_transform_5 (grid0.coords t) = ![0, 0]) t]
  match a with
  | 0 => show 0 * 768 + d.val = d.val; omega
  | 1 => show 0 * 8 + n.val = n.val; omega

end Blocks

/-! ## The arrays -/

/-- What the body leaves in the two output blocks at point `t`. -/
theorem after_tokens (t : Fin (cfgM m hO).N) :
    (dats m hO 0 c).after 6 t = k0_pay3 (iblk m hO c 3 t) (iblk m hO c 4 t) (iblk m hO c 0 t) (iblk m hO c 1 t) (iblk m hO c 2 t) := by
  rw [after0_6]
  dsimp only [outsAt0]
  exact out_tokens c (grid0.coords t) (ms0_0 m hO t) (hs0_0 m hO t) (ms0_1 m hO t) (hs0_1 m hO t) (ms0_2 m hO t) (hs0_2 m hO t) (ms0_3 m hO t) (hs0_3 m hO t)
      (ms0_4 m hO t) (hs0_4 m hO t) (ms0_5 m hO t) (hs0_5 m hO t) (ms0_6 m hO t) (hs0_6 m hO t) (ms0_7 m hO t) (hs0_7 m hO t)
      (iblk m hO c 0 t) (iblk m hO c 1 t) (iblk m hO c 2 t) (iblk m hO c 3 t) (iblk m hO c 4 t) (iblk m hO c 5 t) (tbl m 0) (tbl m 1)
theorem after_logits (t : Fin (cfgM m hO).N) :
    (dats m hO 0 c).after 7 t = k0_pay1 (k0_pay4 (iblk m hO c 3 t) (iblk m hO c 4 t) (iblk m hO c 0 t) (iblk m hO c 1 t) (iblk m hO c 2 t) (iblk m hO c 5 t)) := by
  rw [after0_7]
  dsimp only [outsAt0]
  exact out_logits c (grid0.coords t) (ms0_0 m hO t) (hs0_0 m hO t) (ms0_1 m hO t) (hs0_1 m hO t) (ms0_2 m hO t) (hs0_2 m hO t) (ms0_3 m hO t) (hs0_3 m hO t)
      (ms0_4 m hO t) (hs0_4 m hO t) (ms0_5 m hO t) (hs0_5 m hO t) (ms0_6 m hO t) (hs0_6 m hO t) (ms0_7 m hO t) (hs0_7 m hO t)
      (iblk m hO c 0 t) (iblk m hO c 1 t) (iblk m hO c 2 t) (iblk m hO c 3 t) (iblk m hO c 4 t) (iblk m hO c 5 t) (tbl m 0) (tbl m 1)

/-- Token `p` of row `b`, whose positions are `s` and `s'`. -/
def tok (s s' : Fin 152) (b : Fin 64) (p : Fin 196) (d : Fin 768) : EReal :=
  grouped ((m ((c : Thread nD τ).loc main_arg4) : FVec Ideal S64x1x1 .f32) (ix3 b 0 0)) ((m ((c : Thread nD τ).loc main_arg5) : FVec Ideal S64x1x1 .f32) (ix3 b 0 0))
    ((m ((c : Thread nD τ).loc main_arg2) : FVec Ideal S64x196x768 .f32) (ix3 b p d))
    ((m ((c : Thread nD τ).loc main_arg3) : FVec Ideal S152x196x768 .bf16) (ix3 s p d)) ((m ((c : Thread nD τ).loc main_arg3) : FVec Ideal S152x196x768 .bf16) (ix3 s' p d))

theorem grouped_congr {u u' v v' h h' o o' q q' : EReal} (hu : u = u') (hv : v = v') (hh : h = h') (ho : o = o') (hq : q = q') :
    grouped u v h o q = grouped u' v' h' o' q' := by rw [hu, hv, hh, ho, hq]

/-- The two tables' words at row `b` are `s` and `s'`. -/
def Picks (s s' : Fin 152) (b : Fin 64) : Prop := (tbl m 0 (ix1 b) : BitVec 32).toNat = s.val ∧ (tbl m 1 (ix1 b) : BitVec 32).toNat = s'.val

/-- What the body computes of the blocks of row `b`. -/
theorem block_tokens (t : Fin (cfgM m hO).N) (b : Fin 64) (hb : b.val = t.val) (s s' : Fin 152) (hs : Picks m s s' b) (p : Fin 196) (d : Fin 768) :
    k0_pay2 (iblk m hO c 3 t) (iblk m hO c 4 t) (iblk m hO c 0 t) (iblk m hO c 1 t) (iblk m hO c 2 t) (ix2 p d) = tok m c s s' b p d :=
  (tokens_apply _ _ _ _ _ p d).trans (grouped_congr
    (block_weight_first m hO t b hb (V m c main_arg4)) (block_weight_second m hO t b hb (V m c main_arg5)) (block_token m hO t b hb (V m c main_arg2) p d)
    (block_first m hO t b hb (V m c main_arg3) s hs.1 p d) (block_second m hO t b hb (V m c main_arg3) s' hs.2 p d))

theorem flush_tokens (t : Fin (cfgM m hO).N) : ((cfgM m hO).win 6).flush t = true :=
  (Pipeline.Window.flushOf_reads cc0_transform_6 reads0_6 hreads0_6 0 (by decide) (by decide)
    (Pipeline.Window.sep_of_coord cc0_transform_6 0 0 (fun _ => rfl) (by decide)) (P := 1) (m := 0) (by decide) rfl t).mpr (Nat.mod_one _)
theorem flush_logits (t : Fin (cfgM m hO).N) : ((cfgM m hO).win 7).flush t = true :=
  (Pipeline.Window.flushOf_reads cc0_transform_7 reads0_7 hreads0_7 0 (by decide) (by decide)
    (Pipeline.Window.sep_of_coord cc0_transform_7 0 0 (fun _ => rfl) (by decide)) (P := 1) (m := 0) (by decide) rfl t).mpr (Nat.mod_one _)

theorem index_tokens (t : Fin (cfgM m hO).N) : ((cfgM m hO).win 6).index t = (![t.val, 0, 0] : Fin 3 → ℕ) :=
  (by decide : ∀ t : Fin grid0.N, cc0_transform_6 (grid0.coords t) = ![t.val, 0, 0]) t
theorem index_logits (t : Fin (cfgM m hO).N) : ((cfgM m hO).win 7).index t = (![t.val, 0, 0] : Fin 3 → ℕ) :=
  (by decide : ∀ t : Fin grid0.N, cc0_transform_7 (grid0.coords t) = ![t.val, 0, 0]) t

theorem disjoint_tokens (t t' : Fin (cfgM m hO).N) (h : t ≠ t') :
    Disjoint (((cfgM m hO).win 6).blk t).view.set (((cfgM m hO).win 6).blk t').view.set :=
  ((cfgM m hO).win 6).disjoint_blk fun e => h (Fin.ext (by
    rw [index_tokens, index_tokens] at e
    exact congrFun e 0))
theorem disjoint_logits (t t' : Fin (cfgM m hO).N) (h : t ≠ t') :
    Disjoint (((cfgM m hO).win 7).blk t).view.set (((cfgM m hO).win 7).blk t').view.set :=
  ((cfgM m hO).win 7).disjoint_blk fun e => h (Fin.ext (by
    rw [index_logits, index_logits] at e
    exact congrFun e 0))

theorem tokens_array (t : Fin (cfgM m hO).N) (b : Fin 64) (hb : b.val = t.val) (s s' : Fin 152) (hs : Picks m s s' b) (p : Fin 196) (d : Fin 768) :
    ((dats m hO 0 c).arrAt 6 (cfgM m hO).N : FVec Ideal S64x196x768 .f32) (ix3 b p d) = tok m c s s' b p d := by
  have e := (dats m hO 0 c).arrAt_emb_eq_flushed 6 (fun t t' _ _ hne => disjoint_tokens m hO t t' hne) t (flush_tokens m hO t) (ix3 0 p d)
  have hi : ((((cfgM m hO).win 6).blk t).view.emb (ix3 0 p d) : S64x196x768.Idx) = ix3 b p d :=
    plane_eq _ b p d _ (by rw [hb]; exact (by decide : ∀ t : Fin grid0.N, cc0_transform_6 (grid0.coords t) = ![t.val, 0, 0]) t)
      fun a => ((cfgM m hO).win 6).rect_emb_val t (ix3 0 p d) a rfl
  refine (congrArg _ hi.symm).trans (e.trans ((congrFun (after_tokens m hO c t) (ix3 0 p d)).trans ?_))
  exact (stored_tokens _ _ _ _ _ p d).trans (block_tokens m hO c t b hb s s' hs p d)

theorem logits_array (t : Fin (cfgM m hO).N) (b : Fin 64) (hb : b.val = t.val) (s s' : Fin 152) (hs : Picks m s s' b) (n : Fin 8) :
    ((dats m hO 0 c).arrAt 7 (cfgM m hO).N : FVec Ideal S64x1x8 .f32) (ix3 b 0 n)
      = meanFirst (tok m c s s' b) (fun d => (m ((c : Thread nD τ).loc main_arg6) : FVec Ideal S768x8 .f32) (ix2 d n)) := by
  have e := (dats m hO 0 c).arrAt_emb_eq_flushed 7 (fun t t' _ _ hne => disjoint_logits m hO t t' hne) t (flush_logits m hO t) (ix3 0 0 n)
  have hi : ((((cfgM m hO).win 7).blk t).view.emb (ix3 0 0 n) : S64x1x8.Idx) = ix3 b 0 n :=
    plane_eq _ b 0 n _ (by rw [hb]; exact (by decide : ∀ t : Fin grid0.N, cc0_transform_7 (grid0.coords t) = ![t.val, 0, 0]) t)
      fun a => ((cfgM m hO).win 7).rect_emb_val t (ix3 0 0 n) a rfl
  refine (congrArg _ hi.symm).trans (e.trans ((congrFun (after_logits m hO c t) (ix3 0 0 n)).trans ?_))
  refine (stored_logits _ _ _ _ _ _ n).trans (congrArg₂ meanFirst (funext fun p => funext fun d => block_tokens m hO c t b hb s s' hs p d) (funext fun d => ?_))
  exact block_router m hO t (V m c main_arg6) d n

/-- The run, with the two arrays that it leaves and the arguments as launched. -/
theorem run (g : Dev nD → PrngReg) :
    θ_run defs (onTc (τ := τ) (main (F := Ideal))) ⟨m, fun _ => 0, g⟩ fun r => ∀ c : Dev nD,
      r.2.mem ((c.tc : Thread nD τ).loc main_v0_0) = (dats m hO 0 c).arrAt 6 (cfgM m hO).N
      ∧ r.2.mem ((c.tc : Thread nD τ).loc main_v0_1) = (dats m hO 0 c).arrAt 7 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1 6, (h c).1 7, (h c).2 main_arg0 (by decide : main_arg0 ∈ Pipeline.restRefs sig spec0),
      (h c).2 main_arg1 (by decide : main_arg1 ∈ Pipeline.restRefs sig spec0),
      ((h c).1 0).trans (((dats m hO 0 c).arrAt_in 0 rfl _).trans (A_eq m hO c 0)),
      ((h c).1 2).trans (((dats m hO 0 c).arrAt_in 2 rfl _).trans (A_eq m hO c 2)),
      ((h c).1 3).trans (((dats m hO 0 c).arrAt_in 3 rfl _).trans (A_eq m hO c 3)),
      ((h c).1 4).trans (((dats m hO 0 c).arrAt_in 4 rfl _).trans (A_eq m hO c 4)),
      ((h c).1 5).trans (((dats m hO 0 c).arrAt_in 5 rfl _).trans (A_eq m hO c 5))⟩) (run_main m g hO)

end Cert.CombineIdeal.Combined

end
-- ==== Proof.Combine.Reference.lean ====
/-
  The combining call's reference, read at an index over the extended reals: the experts' outputs at a position, the combined tokens, and the
  mean over the positions of their products with the router.
-/
module

public import proofs.«01_k».proof.Proof.Gen.CombineReferenceIdeal
public import proofs.«01_k».proof.Proof.Gen.CombineReferenceIdeal.Run
public import proofs.«01_k».proof.Proof.Combine.Model
public import proofs.«01_k».proof.Proof.Value.Reference
public import proofs.«01_k».proof.Proof.PatchEmbed.Reference

@[expose] public section

set_option maxRecDepth 16384

noncomputable section

namespace Cert.CombineReferenceIdeal.Combined

open Idealize.ShloMosaic Idealize.SL.Sem Cert.CombineReferenceIdeal Cert.Combined Facts Facts₀
open Cert.PatchEmbedReferenceIdeal.Embed (logits)

/-- The rows that the positions select, a negative position counted from the end. -/
def column (pos : IVec S64 32) : IVec S64x1 32 :=
  broadcastInDim S64x1 ![0] bcast_S64_S64x1_0 (select (cmpi .slt pos (broadcastInDim S64 ![] bcast_S_S64 (constantI S_ 32 0#32)))
    (addi pos (broadcastInDim S64 ![] bcast_S_S64 (constantI S_ 32 152#32))) pos)

/-- The experts' outputs at the positions. -/
def rows (x : FVec Ideal S152x196x768 .bf16) (pos : IVec S64 32) : FVec Ideal S64x196x768 .bf16 :=
  Host.gather gather_S152x196x768_S64x1_S64x196x768_12_0_n_n_0_1_1196768 x (column pos)

/-- The combined tokens. -/
def tokens (p0 p1 : IVec S64 32) (h : FVec Ideal S64x196x768 .f32) (x : FVec Ideal S152x196x768 .bf16) (u v : FVec Ideal S64x1x1 .f32) :
    FVec Ideal S64x196x768 .f32 :=
  addf (mulf (broadcastInDim S64x196x768 ![0, 1, 2] bcast_S64x1x1_S64x196x768_0_1_2 u) (addf h (extf .f32 (rows x p0) bitsLt_bf16_f32)))
    (mulf (broadcastInDim S64x196x768 ![0, 1, 2] bcast_S64x1x1_S64x196x768_0_1_2 v) (addf h (extf .f32 (rows x p1) bitsLt_bf16_f32)))

theorem column_apply (pos : IVec S64 32) (b : Fin 64) (h : (pos (ix1 b)).toNat < 152) : column pos (ix2 b 0) = pos (ix1 b) := by
  pointwise [column]
  exact Cert.ReferenceIdeal.Slots.wrap_word _ _ (by omega)

/-- A selected row, where the position is in range. -/
theorem rows_apply (x : FVec Ideal S152x196x768 .bf16) (pos : IVec S64 32) (b : Fin 64) (p : Fin 196) (d : Fin 768) (s : Fin 152)
    (hs : (pos (ix1 b)).toNat = s.val) : rows x pos (ix3 b p d) = x (ix3 s p d) := by
  show x (GatherDims.operandIdx _ _ _) = _
  refine congrArg x (funext fun k => Fin.ext ?_)
  have hS := s.isLt
  have h0 : (column pos (ix2 b 0)).toInt.toNat = s.val := by
    rw [column_apply pos b (by omega)]
    have := BitVec.toInt_eq_toNat_cond (pos (ix1 b)); omega
  have hi : ∀ h, gather_S152x196x768_S64x1_S64x196x768_12_0_n_n_0_1_1196768.siIdx (ix3 b p d) ⟨0, h⟩ = ix2 b 0 := by
    intro h; funext a; refine Fin.ext ?_; match a with
    | ⟨0, _⟩ => rfl
    | ⟨1, _⟩ => rfl
  have l0 : 0 < gather_S152x196x768_S64x1_S64x196x768_12_0_n_n_0_1_1196768.startIndexMap.length := by decide
  match k with
  | ⟨0, _⟩ =>
    show min (column pos (GatherDims.siIdx _ (ix3 b p d) ⟨0, l0⟩)).toInt.toNat 151 + 0 + 0 = s.val
    rw [hi, h0]; omega
  | ⟨1, _⟩ => show 0 + 0 + p.val = p.val; omega
  | ⟨2, _⟩ => show 0 + 0 + d.val = d.val; omega

theorem tokens_apply (p0 p1 : IVec S64 32) (h : FVec Ideal S64x196x768 .f32) (x : FVec Ideal S152x196x768 .bf16) (u v : FVec Ideal S64x1x1 .f32)
    (b : Fin 64) (p : Fin 196) (d : Fin 768) (s t : Fin 152) (hs : (p0 (ix1 b)).toNat = s.val) (ht : (p1 (ix1 b)).toNat = t.val) :
    tokens p0 p1 h x u v (ix3 b p d)
      = separate (u (ix3 b 0 0)) (v (ix3 b 0 0)) (h (ix3 b p d)) (x (ix3 s p d)) (x (ix3 t p d)) := by
  rw [← rows_apply x p0 b p d s hs, ← rows_apply x p1 b p d t ht]
  unfold tokens
  generalize rows x p0 = y
  generalize rows x p1 = z
  pointwise
  rfl

variable (m : (ℓ : Loc nD τ sig) → Buf (Elt Ideal) ℓ) (c : Dev nD)

/-- The reference's tokens of its arguments. -/
def toks : FVec Ideal S64x196x768 .f32 := tokens (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))
  (m ((c.tc : Thread nD τ).loc main_arg5))

theorem run (g : Dev nD → PrngReg) :
    θ_run defs (onTc (τ := τ) (main (F := Ideal))) ⟨m, fun _ => 0, g⟩ fun r => ∀ c : Dev nD,
      r.2.mem ((c.tc : Thread nD τ).loc main_v22) = toks m c
      ∧ r.2.mem ((c.tc : Thread nD τ).loc main_v27) = logits (toks m c) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := Value.run m g

end Cert.CombineReferenceIdeal.Combined

end
-- ==== Proof.Combine.Slots.lean ====
/-
  The combining call's two preconditions read element by element: every position is below 152; and the tokens, the weights, the router and
  the experts' outputs at the positions are finite.
-/
module

public import proofs.«01_k».proof.Proof.Gen.Pre_slots
public import proofs.«01_k».proof.Proof.Gen.Pre_finite_slots
public import proofs.«01_k».proof.Proof.Combine.Reference
public import proofs.«01_k».proof.Proof.Range

@[expose] public section

namespace Cert.Combined

open Idealize.ShloMosaic Cert.Patch

theorem both : ∀ p q : BitVec 1, IntOp.andi p q = 1#1 → p = 1#1 ∧ q = 1#1 := by decide

section

open Cert.Pre_slots

variable {F : FTy → Type} [FloatOps F] [Facts]

theorem slots_lt {a0 a1 : IVec S64 32} {a2 : FVec F S64x196x768 .f32} {a3 : FVec F S152x196x768 .bf16} {a4 a5 : FVec F S64x1x1 .f32}
    {a6 : FVec F S768x8 .f32} (h : fn a0 a1 a2 a3 a4 a5 a6 = fun _ => 1#1) : (∀ x, (a0 x).toNat < 152) ∧ ∀ x, (a1 x).toNat < 152 := by
  have h0 := congrFun h (fun a => a.elim0)
  dsimp only [fn] at h0
  obtain ⟨h0, h1⟩ := both _ _ h0
  refine ⟨fun x => ?_, fun x => ?_⟩
  · obtain ⟨p, q⟩ := both _ _ (Host.reduce_andi_all _ _ _ _ _ h0 x)
    exact Range.word_lt (by decide) p q
  · obtain ⟨p, q⟩ := both _ _ (Host.reduce_andi_all _ _ _ _ _ h1 x)
    exact Range.word_lt (by decide) p q

end

section

open Cert.Pre_finite_slots

variable [Facts]

theorem decode {a0 a1 : IVec S64 32} {a2 : FVec Ideal S64x196x768 .f32} {a3 : FVec Ideal S152x196x768 .bf16} {a4 a5 : FVec Ideal S64x1x1 .f32}
    {a6 : FVec Ideal S768x8 .f32} (h : fn a0 a1 a2 a3 a4 a5 a6 = fun _ => 1#1) :
    ((∀ x, (a0 x).toNat < 152) ∧ ∀ x, (a1 x).toNat < 152) ∧ (∀ i, ∃ y : ℝ, (a2 i : EReal) = y)
      ∧ (∀ (b : Fin 64) (s : Fin 152) p d, (a0 (ix1 b)).toNat = s.val → ∃ y : ℝ, (a3 (ix3 s p d) : EReal) = y)
      ∧ (∀ (b : Fin 64) (s : Fin 152) p d, (a1 (ix1 b)).toNat = s.val → ∃ y : ℝ, (a3 (ix3 s p d) : EReal) = y)
      ∧ (∀ i, ∃ y : ℝ, (a4 i : EReal) = y) ∧ (∀ i, ∃ y : ℝ, (a5 i : EReal) = y) ∧ ∀ i, ∃ y : ℝ, (a6 i : EReal) = y := by
  have h0 := congrFun h (fun a => a.elim0)
  dsimp only [fn, fn_part1, fn_part2, fn_part3] at h0
  obtain ⟨h0, e6⟩ := both _ _ h0
  obtain ⟨h0, e5⟩ := both _ _ h0
  obtain ⟨h0, e4⟩ := both _ _ h0
  obtain ⟨h0, e1⟩ := both _ _ h0
  obtain ⟨h0, e0⟩ := both _ _ h0
  obtain ⟨h0, e2⟩ := both _ _ h0
  obtain ⟨p0, p1⟩ := both _ _ h0
  refine ⟨⟨fun x => ?_, fun x => ?_⟩, fun i => finite_of_lt _ (Host.reduce_andi_all _ _ _ _ _ e2 i), fun b s p d hs => ?_, fun b s p d hs => ?_,
    fun i => finite_of_lt _ (Host.reduce_andi_all _ _ _ _ _ e4 i), fun i => finite_of_lt _ (Host.reduce_andi_all _ _ _ _ _ e5 i),
    fun i => finite_of_lt _ (Host.reduce_andi_all _ _ _ _ _ e6 i)⟩
  · obtain ⟨p, q⟩ := both _ _ (Host.reduce_andi_all _ _ _ _ _ p0 x)
    exact Range.word_lt (by decide) p q
  · obtain ⟨p, q⟩ := both _ _ (Host.reduce_andi_all _ _ _ _ _ p1 x)
    exact Range.word_lt (by decide) p q
  · obtain ⟨y, hy⟩ := half_finite_of_lt _ (Host.reduce_andi_all _ _ _ _ _ e0 (ix3 b p d))
    exact ⟨y, (Cert.CombineReferenceIdeal.Combined.rows_apply a3 a0 b p d s hs).symm.trans hy⟩
  · obtain ⟨y, hy⟩ := half_finite_of_lt _ (Host.reduce_andi_all _ _ _ _ _ e1 (ix3 b p d))
    exact ⟨y, (Cert.CombineReferenceIdeal.Combined.rows_apply a3 a1 b p d s hs).symm.trans hy⟩

end

end Cert.Combined
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_in_range
public import proofs.«01_k».proof.Proof.Gen.On_active
public import proofs.«01_k».proof.Proof.Range
public import proofs.«01_k».proof.Proof.Kernel.Tables
public import proofs.«01_k».proof.Proof.KernelIdeal.Tables
public import proofs.«01_k».proof.Proof.Value.Out
public import proofs.«01_k».proof.Proof.Value.Reference
public import proofs.«01_k».proof.Proof.Value.Mask
public import proofs.«01_k».proof.Proof.LastHop.Tables
public import proofs.«01_k».proof.Proof.LastHopIdeal.Tables
public import proofs.«01_k».proof.Proof.Gen.LastHopReferenceIdeal
public import proofs.«01_k».proof.Proof.Gen.LastHopReferenceIdeal.Run
public import proofs.«01_k».proof.Proof.LastHopIdeal.Rows
public import proofs.«01_k».proof.Proof.LastHopReferenceIdeal.Value
public import proofs.«01_k».proof.Proof.Gen.PatchEmbed
public import proofs.«01_k».proof.Proof.Gen.PatchEmbed.Frame
public import proofs.«01_k».proof.Proof.Gen.PatchEmbedIdeal
public import proofs.«01_k».proof.Proof.Gen.PatchEmbedIdeal.Frame
public import proofs.«01_k».proof.Proof.Gen.PatchEmbedIdeal.Value
public import proofs.«01_k».proof.Proof.Gen.PatchEmbedReferenceIdeal
public import proofs.«01_k».proof.Proof.Gen.PatchEmbedReferenceIdeal.Run
public import proofs.«01_k».proof.Proof.Gen.Pre_finite
public import proofs.«01_k».proof.Proof.PatchEmbed.Finite
public import proofs.«01_k».proof.Proof.PatchEmbed.Kernel
public import proofs.«01_k».proof.Proof.PatchEmbed.Reference
public import proofs.«01_k».proof.Proof.Gen.Combine
public import proofs.«01_k».proof.Proof.Gen.Combine.Skeleton
public import proofs.«01_k».proof.Proof.Gen.Combine.Launch
public import proofs.«01_k».proof.Proof.Gen.Combine.Frame
public import proofs.«01_k».proof.Proof.Gen.CombineIdeal
public import proofs.«01_k».proof.Proof.Gen.CombineIdeal.Skeleton
public import proofs.«01_k».proof.Proof.Gen.CombineIdeal.Launch
public import proofs.«01_k».proof.Proof.Gen.CombineIdeal.Frame
public import proofs.«01_k».proof.Proof.Gen.CombineReferenceIdeal
public import proofs.«01_k».proof.Proof.Gen.CombineReferenceIdeal.Run
public import proofs.«01_k».proof.Proof.Gen.Pre_slots
public import proofs.«01_k».proof.Proof.Gen.Pre_finite_slots
public import proofs.«01_k».proof.Proof.Combine.Tables
public import proofs.«01_k».proof.Proof.Combine.Kernel
public import proofs.«01_k».proof.Proof.Combine.Slots
public import Idealize.ShloMosaic.Lib.Quiescent
public import Idealize.ShloMosaic.Adequacy
public import Idealize.ShloMosaic.Init

@[expose] public section

noncomputable section

namespace Cert.Proof

open Idealize.ShloMosaic Idealize.SL.Sem

/-- The reference declares no semaphore. -/
theorem frame_reference : Cert.quiescent_ReferenceIdeal (hReferenceIdeal := Cert.ReferenceIdeal.Gen.facts) :=
  fun m ρ _ => (θ_run Cert.ReferenceIdeal.defs _ _).mono (fun r h => ⟨fun c => (h c).2, sem_eq_zero_of_no_sems (by decide) r.2⟩)
    (Cert.ReferenceIdeal.Value.run m ρ)

/-- The two renamed constants. -/
theorem preserves : Cert.preserves_Kernel_KernelIdeal :=
  ⟨IdealRules.named_const.statement Cert.KernelIdeal.κ "gelu_cubic" .bf16 0x3D37#16 ((12003091 / 268435456 : ℝ) : EReal) rfl,
    IdealRules.named_const.statement Cert.KernelIdeal.κ "gelu_scale" .bf16 0x3F4C#16 ((6693141 / 8388608 : ℝ) : EReal) rfl⟩

/-- Both sides hold, at a slot of an active chunk, the network of the chunk's expert on the slot's tokens. -/
theorem algebraic : Cert.algebraic_KernelIdeal_ReferenceIdeal_on_active (hKernelIdeal := Cert.KernelIdeal.Gen.facts)
    (hReferenceIdeal := Cert.ReferenceIdeal.Gen.facts) (hPre_in_range := Cert.Pre_in_range.Gen.facts) (hOn_active := Cert.On_active.Gen.facts) := by
  intro m g m' g' hpre hagree
  have hR : Cert.KernelIdeal.Slots.InRange m := fun c => Cert.Range.decode (hpre c)
  have hO := Cert.KernelIdeal.Slots.ok_of_inRange hR
  refine ⟨fun c => Cert.ReferenceIdeal.Value.res_main_v57 m' c,
    (θ_run Cert.KernelIdeal.defs _ _).mono (fun r hr c => ⟨fun i hi => ?_, Cert.KernelIdeal.Slots.args_kept m hO hr.1 c⟩) (Cert.KernelIdeal.Slots.run_main m g hO),
    (θ_run Cert.ReferenceIdeal.defs _ _).mono (fun r h c => ⟨fun i _ => congrFun (h c).1 i, (h c).2⟩) (Cert.ReferenceIdeal.Value.run m' g')⟩
  obtain ⟨s, p, q, rfl⟩ : ∃ (s : Fin 152) (p : Fin 196) (q : Fin 768), i = ix3 s p q := ⟨i 0, i 1, i 2, eq_ix3 i⟩
  have hf := Cert.On_active.mask_apply s p q hi
  obtain ⟨h0, h1, h2, h3, h4, h5, h6, h7, h8, h9⟩ := hagree c
  have hk := Cert.KernelIdeal.Value.out_apply m hO hr.1 c s p q ⟨_, (hR c).2 (ix1 ⟨s.val / 4, by omega⟩)⟩ ⟨_, (hR c).1 (ix1 s)⟩ hf rfl rfl
  have hr := Cert.ReferenceIdeal.Slots.result_apply m' c s p q ⟨_, (hR c).2 (ix1 ⟨s.val / 4, by omega⟩)⟩ ⟨_, (hR c).1 (ix1 s)⟩
    (congrArg (fun w : IVec Cert.KernelIdeal.S38 32 => (w (ix1 ⟨s.val / 4, by omega⟩)).toNat) h1) (congrArg (fun w : IVec Cert.KernelIdeal.S152 32 => (w (ix1 s)).toNat) h0)
  refine hk.trans (Eq.trans ?_ hr.symm)
  exact (Cert.KernelIdeal.Value.mlp_congr (fun d => congrFun h3 _) (fun d => congrFun h4 _) (fun d => congrFun h5 _) (fun d f => congrFun h6 _)
    (fun f => congrFun h7 _) (fun f d => congrFun h8 _) (fun d => congrFun h9 _) q).symm

/-- The last hop's reference declares no semaphore. -/
theorem frame_last_reference : Cert.quiescent_LastHopReferenceIdeal (hLastHopReferenceIdeal := Cert.LastHopReferenceIdeal.Gen.facts) :=
  fun m ρ _ => (θ_run Cert.LastHopReferenceIdeal.defs _ _).mono (fun r h => ⟨fun c => (h c).2, sem_eq_zero_of_no_sems (by decide) r.2⟩)
    (Cert.LastHopReferenceIdeal.Value.run m ρ)

/-- The last hop's two renamed constants. -/
theorem preserves_last : Cert.preserves_LastHop_LastHopIdeal :=
  ⟨IdealRules.named_const.statement Cert.LastHopIdeal.κ "gelu_cubic" .bf16 0x3D37#16 ((12003091 / 268435456 : ℝ) : EReal) rfl,
    IdealRules.named_const.statement Cert.LastHopIdeal.κ "gelu_scale" .bf16 0x3F4C#16 ((6693141 / 8388608 : ℝ) : EReal) rfl⟩

/-- Both sides hold, in row `b`, the logits of the weighted sum over the two experts that the router chooses. -/
theorem algebraic_last : Cert.algebraic_LastHopIdeal_LastHopReferenceIdeal (hLastHopIdeal := Cert.LastHopIdeal.Gen.facts)
    (hLastHopReferenceIdeal := Cert.LastHopReferenceIdeal.Gen.facts) := by
  intro m g m' g' _ hagree
  refine ⟨fun c => Cert.LastHopReferenceIdeal.Value.res_main_v70 m' c,
    (θ_run Cert.LastHopIdeal.defs _ _).mono (fun r hr c => ?_) (Cert.LastHopIdeal.Launch.run_main m g (Cert.LastHopIdeal.Tables.ok m)),
    Cert.LastHopReferenceIdeal.Value.run m' g'⟩
  obtain ⟨o, hk, hb⟩ := hr.1 c
  refine ⟨?_, Cert.LastHopIdeal.Tables.args_kept m hb⟩
  refine (hb (Proc.devRef .tc Cert.LastHopIdeal.main_v114) (by decide)).trans (funext fun i => ?_)
  obtain ⟨b, n, rfl⟩ : ∃ (b : Fin 64) (n : Fin 1000), i = ix2 b n := ⟨i 0, i 1, eq_ix2 i⟩
  obtain ⟨h0, h1, h2, h3, h4, h5, h6, h7, h8⟩ := hagree c
  obtain ⟨e, he, hv⟩ := Cert.LastHopIdeal.Value.result_apply m c (Cert.LastHopIdeal.Tables.ok m) o hk b n
  have ht : Cert.LastHopReferenceIdeal.Slots.top (Cert.LastHopReferenceIdeal.Slots.scores (m' ((c.tc : Thread _ _).loc Cert.LastHopReferenceIdeal.main_arg1)))
      = Cert.LastHopIdeal.Host.top m c :=
    (Cert.LastHopReferenceIdeal.Slots.top_eq _).trans (congrArg (fun x => Host.topK Cert.LastHopIdeal.S64x2 1 (FloatOps.cmpfTotal .gt)
      (Cert.LastHopIdeal.Host.probs (F := Ideal) x) Cert.LastHopIdeal.Gen.sliceFits_S64x8_S64x2) h1)
  have hr := Cert.LastHopReferenceIdeal.Slots.result_apply m' c b n _ _ ht e (fun k => (he k).2)
    (Cert.LastHopIdeal.Value.gate_finite m c b e fun k => (he k).1)
  have net_eq : ∀ e p d, Cert.LastHopIdeal.Value.net m c e b p d = Cert.LastHopReferenceIdeal.Slots.net m' c e b p d := fun e p d =>
    (Cert.KernelIdeal.Value.mlp_congr (fun d => congrFun h0 _) (fun d => congrFun h2 _) (fun d => congrFun h3 _) (fun d f => congrFun h4 _)
      (fun f => congrFun h5 _) (fun f d => congrFun h6 _) (fun d => congrFun h7 _) d).symm
  refine hv.trans (Eq.trans ?_ hr.symm)
  exact congrArg₂ Cert.Mix.logit (funext fun p => funext fun d => Cert.LastHopIdeal.Value.blend_congr rfl rfl (congrFun h0 _).symm (net_eq _ p d) (net_eq _ p d))
    (funext fun d => (congrFun h8 _).symm)

/-- The patch embedding's reference declares no semaphore. -/
theorem frame_patch_reference : Cert.quiescent_PatchEmbedReferenceIdeal (hPatchEmbedReferenceIdeal := Cert.PatchEmbedReferenceIdeal.Gen.facts) :=
  fun m ρ _ => (θ_run Cert.PatchEmbedReferenceIdeal.defs _ _).mono (fun r h => ⟨fun c => (h c).2.2, sem_eq_zero_of_no_sems (by decide) r.2⟩)
    (Cert.PatchEmbedReferenceIdeal.Embed.run m ρ)

/-- Both sides hold the tokens and, of finite data, the same pooled logits. -/
theorem algebraic_patch : Cert.algebraic_PatchEmbedIdeal_PatchEmbedReferenceIdeal_pre_finite (hPatchEmbedIdeal := Cert.PatchEmbedIdeal.Gen.facts)
    (hPatchEmbedReferenceIdeal := Cert.PatchEmbedReferenceIdeal.Gen.facts) (hPre_finite := Cert.Pre_finite.Gen.facts) := by
  intro m g m' g' hpre hagree
  refine ⟨fun c => Cert.PatchEmbedReferenceIdeal.Embed.toks m' c, fun c => Cert.PatchEmbedReferenceIdeal.Embed.logits
      (Cert.PatchEmbedReferenceIdeal.Embed.toks m' c) (m' ((c.tc : Thread _ _).loc Cert.PatchEmbedReferenceIdeal.main_arg4)),
    (θ_run Cert.PatchEmbedIdeal.defs _ _).mono (fun r hr c => ?_) (Cert.PatchEmbedIdeal.Value.run_blocks m g),
    Cert.PatchEmbedReferenceIdeal.Embed.run m' g'⟩
  obtain ⟨h0, h1, h2, h3, h4⟩ := hagree c
  obtain ⟨hx, hw, he, hr'⟩ := Cert.Patch.decode (hpre c)
  have htok : ∀ b p d, Cert.PatchEmbedIdeal.Embed.tok m c b p d = Cert.PatchEmbedReferenceIdeal.Embed.toks m' c (ix3 b p d) := fun b p d =>
    ((Cert.PatchEmbedReferenceIdeal.Embed.tokens_apply _ _ _ _ b p d).trans (Cert.PatchEmbedIdeal.Embed.token_congr
      (fun k => congrFun (congrArg Cert.PatchEmbedIdeal.Embed.patches h0) _) (fun k d => congrFun h1 _) (fun d => congrFun h2 _)
      (fun d => congrFun h3 _) d)).symm
  refine ⟨(hr c).1.trans (funext fun i => ?_), (hr c).2.1.trans (funext fun i => ?_), (hr c).2.2⟩
  · obtain ⟨b, p, d, rfl⟩ : ∃ (b : Fin 64) (p : Fin 196) (d : Fin 768), i = ix3 b p d := ⟨i 0, i 1, i 2, eq_ix3 i⟩
    exact (Cert.PatchEmbedIdeal.Embed.tokens_array m c b p d).trans (htok b p d)
  · obtain ⟨b, z, n, rfl⟩ : ∃ (b : Fin 64) (z : Fin 1) (n : Fin 8), i = ix3 b z n := ⟨i 0, i 1, i 2, eq_ix3 i⟩
    obtain rfl : z = 0 := Subsingleton.elim _ _
    refine (Cert.PatchEmbedIdeal.Embed.logits_array m c b n).trans (Eq.trans ?_ (Cert.PatchEmbedReferenceIdeal.Embed.logits_apply _ _ b n).symm)
    refine (Cert.Patch.mean_eq _ _ (fun d => Cert.Patch.token_mean _ _ _ _ (fun p k => hx _) (fun k d => hw _) (fun p d => he _) d)
      fun d => hr' _).trans ?_
    exact congrArg₂ Cert.Patch.meanLast (funext fun p => funext fun d => htok b p d) (funext fun d => (congrFun h4 _).symm)

/-- The combining call's reference declares no semaphore. -/
theorem frame_combine_reference : Cert.quiescent_CombineReferenceIdeal (hCombineReferenceIdeal := Cert.CombineReferenceIdeal.Gen.facts) :=
  fun m ρ _ => (θ_run Cert.CombineReferenceIdeal.defs _ _).mono (fun r h => ⟨fun c => (h c).2.2, sem_eq_zero_of_no_sems (by decide) r.2⟩)
    (Cert.CombineReferenceIdeal.Combined.run m ρ)

/-- Of finite data both sides hold the same combined tokens and the same pooled logits. -/
theorem algebraic_combine : Cert.algebraic_CombineIdeal_CombineReferenceIdeal_pre_finite_slots (hCombineIdeal := Cert.CombineIdeal.Gen.facts)
    (hCombineReferenceIdeal := Cert.CombineReferenceIdeal.Gen.facts) (hPre_finite_slots := Cert.Pre_finite_slots.Gen.facts) := by
  intro m g m' g' hpre hagree
  have hO := Cert.CombineIdeal.Combined.ok_of_lt m fun c => (Cert.Combined.decode (hpre c)).1
  refine ⟨fun c => Cert.CombineReferenceIdeal.Combined.toks m' c, fun c => Cert.PatchEmbedReferenceIdeal.Embed.logits
      (Cert.CombineReferenceIdeal.Combined.toks m' c) (m' ((c.tc : Thread _ _).loc Cert.CombineReferenceIdeal.main_arg6)),
    (θ_run Cert.CombineIdeal.defs _ _).mono (fun r hr c => ?_) (Cert.CombineIdeal.Combined.run m hO g),
    Cert.CombineReferenceIdeal.Combined.run m' g'⟩
  obtain ⟨h0, h1, h2, h3, h4, h5, h6⟩ := hagree c
  obtain ⟨⟨hl, hl'⟩, hh, ho, hq, hu, hv, hr'⟩ := Cert.Combined.decode (hpre c)
  have hp : ∀ b, Cert.CombineIdeal.Combined.Picks m ⟨_, hl (ix1 b)⟩ ⟨_, hl' (ix1 b)⟩ b := fun b => by
    obtain rfl : c = 0 := Subsingleton.elim _ _
    exact ⟨rfl, rfl⟩
  have heq := fun b p d => Cert.Combined.grouped_eq (hu (ix3 b 0 0)) (hv (ix3 b 0 0)) (hh (ix3 b p d)) (ho b ⟨_, hl (ix1 b)⟩ p d rfl) (hq b ⟨_, hl' (ix1 b)⟩ p d rfl)
  have htok : ∀ b p d, Cert.CombineIdeal.Combined.tok m c ⟨_, hl (ix1 b)⟩ ⟨_, hl' (ix1 b)⟩ b p d = Cert.CombineReferenceIdeal.Combined.toks m' c (ix3 b p d) :=
    fun b p d => (heq b p d).1.trans ((Cert.CombineReferenceIdeal.Combined.tokens_apply _ _ _ _ _ _ b p d ⟨_, hl (ix1 b)⟩ ⟨_, hl' (ix1 b)⟩
      (congrArg (fun w : IVec Cert.CombineIdeal.S64 32 => (w (ix1 b)).toNat) h0) (congrArg (fun w : IVec Cert.CombineIdeal.S64 32 => (w (ix1 b)).toNat) h1)).trans
      (Cert.Combined.separate_congr (congrFun h4 _) (congrFun h5 _) (congrFun h2 _) (congrFun h3 _) (congrFun h3 _))).symm
  refine ⟨(hr c).1.trans (funext fun (i : Cert.CombineIdeal.S64x196x768.Idx) => ?_), (hr c).2.1.trans (funext fun (i : Cert.CombineIdeal.S64x1x8.Idx) => ?_), (hr c).2.2⟩
  · obtain ⟨b, p, d, rfl⟩ : ∃ (b : Fin 64) (p : Fin 196) (d : Fin 768), i = ix3 b p d := ⟨i 0, i 1, i 2, eq_ix3 i⟩
    exact (Cert.CombineIdeal.Combined.tokens_array m hO c b b rfl _ _ (hp b) p d).trans (htok b p d)
  · obtain ⟨b, z, n, rfl⟩ : ∃ (b : Fin 64) (z : Fin 1) (n : Fin 8), i = ix3 b z n := ⟨i 0, i 1, i 2, eq_ix3 i⟩
    obtain rfl : z = 0 := Subsingleton.elim _ _
    refine (Cert.CombineIdeal.Combined.logits_array m hO c b b rfl _ _ (hp b) n).trans
      (Eq.trans ?_ (Cert.PatchEmbedReferenceIdeal.Embed.logits_apply _ _ b n).symm)
    refine (Cert.Combined.mean_of_finite _ _ (fun p d => (heq b p d).2) fun d => hr' _).trans ?_
    exact congrArg₂ Cert.Patch.meanLast (funext fun p => funext fun d => htok b p d) (funext fun d => (congrFun h6 _).symm)

theorem claim : Cert.Claim := ⟨Cert.Kernel.Gen.facts, Cert.KernelIdeal.Gen.facts, Cert.ReferenceIdeal.Gen.facts,
  Cert.LastHop.Gen.facts, Cert.LastHopIdeal.Gen.facts, Cert.LastHopReferenceIdeal.Gen.facts,
  Cert.PatchEmbed.Gen.facts, Cert.PatchEmbedIdeal.Gen.facts, Cert.PatchEmbedReferenceIdeal.Gen.facts,
  Cert.Combine.Gen.facts, Cert.CombineIdeal.Gen.facts, Cert.CombineReferenceIdeal.Gen.facts,
  Cert.Pre_in_range.Gen.facts, Cert.Pre_finite.Gen.facts, Cert.Pre_slots.Gen.facts, Cert.Pre_finite_slots.Gen.facts, Cert.On_active.Gen.facts,
  fun m g h => Cert.Kernel.Slots.frame m g (fun c => Cert.Range.decode (h c)),
  fun m g h => Cert.KernelIdeal.Slots.frame m g (fun c => Cert.Range.decode (h c)),
  frame_reference,
  fun m g _ => frame_reference m g trivial,
  fun m g _ => Cert.LastHop.Tables.frame m g,
  fun m g _ => Cert.LastHopIdeal.Tables.frame m g,
  frame_last_reference,
  fun m g _ => Cert.PatchEmbed.Gen.frame m g,
  fun m g _ => Cert.PatchEmbedIdeal.Gen.frame m g,
  fun m g _ => Cert.PatchEmbedIdeal.Gen.frame m g,
  frame_patch_reference,
  fun m g _ => frame_patch_reference m g trivial,
  fun m g h => Cert.Combine.Gen.frame m g (Cert.Combine.Combined.ok_of_lt m fun c => Cert.Combined.slots_lt (h c)),
  fun m g h => Cert.CombineIdeal.Gen.frame m g (Cert.CombineIdeal.Combined.ok_of_lt m fun c => Cert.Combined.slots_lt (h c)),
  fun m g h => Cert.CombineIdeal.Gen.frame m g (Cert.CombineIdeal.Combined.ok_of_lt m fun c => (Cert.Combined.decode (h c)).1),
  frame_combine_reference,
  fun m g _ => frame_combine_reference m g trivial,
  preserves, algebraic, preserves_last, algebraic_last, trivial, algebraic_patch, trivial, algebraic_combine⟩

end Cert.Proof

end
